-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_KernelMlp (m : (ℓ : Loc Cert.KernelMlp.nD Cert.KernelMlp.τ Cert.KernelMlp.sig) → Buf (Elt Bits) ℓ) : Prop :=
  True

def Pre_KernelMlpIdeal (m : (ℓ : Loc Cert.KernelMlpIdeal.nD Cert.KernelMlpIdeal.τ Cert.KernelMlpIdeal.sig) → Buf (Elt Ideal) ℓ) : Prop :=
  True

def Pre_ReferenceMlpIdeal (m : (ℓ : Loc Cert.ReferenceMlpIdeal.nD Cert.ReferenceMlpIdeal.τ Cert.ReferenceMlpIdeal.sig) → Buf (Elt Ideal) ℓ) : Prop :=
  True

def Pre_KernelProj (m : (ℓ : Loc Cert.KernelProj.nD Cert.KernelProj.τ Cert.KernelProj.sig) → Buf (Elt Bits) ℓ) : Prop :=
  True

def Pre_KernelProjIdeal (m : (ℓ : Loc Cert.KernelProjIdeal.nD Cert.KernelProjIdeal.τ Cert.KernelProjIdeal.sig) → Buf (Elt Ideal) ℓ) : Prop :=
  True

def Pre_KernelProjIdeal_finite_heads [hPre_finite_heads : Cert.Pre_finite_heads.Facts] (m : (ℓ : Loc Cert.KernelProjIdeal.nD Cert.KernelProjIdeal.τ Cert.KernelProjIdeal.sig) → Buf (Elt Ideal) ℓ) : Prop :=
  ∀ c : Dev Cert.KernelProjIdeal.nD,
    (Cert.Pre_finite_heads.fn (F := Ideal) (m ((c.tc : Thread Cert.KernelProjIdeal.nD Cert.KernelProjIdeal.τ).loc Cert.KernelProjIdeal.main_arg0)) (m ((c.tc : Thread Cert.KernelProjIdeal.nD Cert.KernelProjIdeal.τ).loc Cert.KernelProjIdeal.main_arg1)) (m ((c.tc : Thread Cert.KernelProjIdeal.nD Cert.KernelProjIdeal.τ).loc Cert.KernelProjIdeal.main_arg2)) (m ((c.tc : Thread Cert.KernelProjIdeal.nD Cert.KernelProjIdeal.τ).loc Cert.KernelProjIdeal.main_arg3)) (m ((c.tc : Thread Cert.KernelProjIdeal.nD Cert.KernelProjIdeal.τ).loc Cert.KernelProjIdeal.main_arg4))) = (fun _ => 1#1)

def Pre_ReferenceProjIdeal (m : (ℓ : Loc Cert.ReferenceProjIdeal.nD Cert.ReferenceProjIdeal.τ Cert.ReferenceProjIdeal.sig) → Buf (Elt Ideal) ℓ) : Prop :=
  True

def Pre_ReferenceProjIdeal_finite_heads [hPre_finite_heads : Cert.Pre_finite_heads.Facts] (m : (ℓ : Loc Cert.ReferenceProjIdeal.nD Cert.ReferenceProjIdeal.τ Cert.ReferenceProjIdeal.sig) → Buf (Elt Ideal) ℓ) : Prop :=
  ∀ c : Dev Cert.ReferenceProjIdeal.nD,
    (Cert.Pre_finite_heads.fn (F := Ideal) (m ((c.tc : Thread Cert.ReferenceProjIdeal.nD Cert.ReferenceProjIdeal.τ).loc Cert.ReferenceProjIdeal.main_arg0)) (m ((c.tc : Thread Cert.ReferenceProjIdeal.nD Cert.ReferenceProjIdeal.τ).loc Cert.ReferenceProjIdeal.main_arg1)) (m ((c.tc : Thread Cert.ReferenceProjIdeal.nD Cert.ReferenceProjIdeal.τ).loc Cert.ReferenceProjIdeal.main_arg2)) (m ((c.tc : Thread Cert.ReferenceProjIdeal.nD Cert.ReferenceProjIdeal.τ).loc Cert.ReferenceProjIdeal.main_arg3)) (m ((c.tc : Thread Cert.ReferenceProjIdeal.nD Cert.ReferenceProjIdeal.τ).loc Cert.ReferenceProjIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_KernelMlp [hKernelMlp : Cert.KernelMlp.Facts] : Prop :=
  ∀ (m : (ℓ : Loc Cert.KernelMlp.nD Cert.KernelMlp.τ Cert.KernelMlp.sig) → Buf (Elt Bits) ℓ) (g : Dev Cert.KernelMlp.nD → PrngReg), Pre_KernelMlp m →
    θ_run (Cert.KernelMlp.defs (F := Bits)) (onTc (τ := Cert.KernelMlp.τ) (Cert.KernelMlp.main (F := Bits))) ⟨m, fun _ => 0, g⟩ (fun r => (∀ c : Dev Cert.KernelMlp.nD,
      r.2.mem ((c.tc : Thread Cert.KernelMlp.nD Cert.KernelMlp.τ).loc Cert.KernelMlp.main_arg0) = m ((c.tc : Thread Cert.KernelMlp.nD Cert.KernelMlp.τ).loc Cert.KernelMlp.main_arg0)
      ∧ r.2.mem ((c.tc : Thread Cert.KernelMlp.nD Cert.KernelMlp.τ).loc Cert.KernelMlp.main_arg1) = m ((c.tc : Thread Cert.KernelMlp.nD Cert.KernelMlp.τ).loc Cert.KernelMlp.main_arg1)
      ∧ r.2.mem ((c.tc : Thread Cert.KernelMlp.nD Cert.KernelMlp.τ).loc Cert.KernelMlp.main_arg2) = m ((c.tc : Thread Cert.KernelMlp.nD Cert.KernelMlp.τ).loc Cert.KernelMlp.main_arg2)
      ∧ r.2.mem ((c.tc : Thread Cert.KernelMlp.nD Cert.KernelMlp.τ).loc Cert.KernelMlp.main_arg3) = m ((c.tc : Thread Cert.KernelMlp.nD Cert.KernelMlp.τ).loc Cert.KernelMlp.main_arg3)
      ∧ r.2.mem ((c.tc : Thread Cert.KernelMlp.nD Cert.KernelMlp.τ).loc Cert.KernelMlp.main_arg4) = m ((c.tc : Thread Cert.KernelMlp.nD Cert.KernelMlp.τ).loc Cert.KernelMlp.main_arg4)
      ∧ r.2.mem ((c.tc : Thread Cert.KernelMlp.nD Cert.KernelMlp.τ).loc Cert.KernelMlp.main_arg5) = m ((c.tc : Thread Cert.KernelMlp.nD Cert.KernelMlp.τ).loc Cert.KernelMlp.main_arg5)
      ∧ r.2.mem ((c.tc : Thread Cert.KernelMlp.nD Cert.KernelMlp.τ).loc Cert.KernelMlp.main_arg6) = m ((c.tc : Thread Cert.KernelMlp.nD Cert.KernelMlp.τ).loc Cert.KernelMlp.main_arg6)
      ∧ r.2.mem ((c.tc : Thread Cert.KernelMlp.nD Cert.KernelMlp.τ).loc Cert.KernelMlp.main_arg7) = m ((c.tc : Thread Cert.KernelMlp.nD Cert.KernelMlp.τ).loc Cert.KernelMlp.main_arg7))
      ∧ r.2.sem = fun _ => 0)

def quiescent_KernelMlpIdeal [hKernelMlpIdeal : Cert.KernelMlpIdeal.Facts] : Prop :=
  ∀ (m : (ℓ : Loc Cert.KernelMlpIdeal.nD Cert.KernelMlpIdeal.τ Cert.KernelMlpIdeal.sig) → Buf (Elt Ideal) ℓ) (g : Dev Cert.KernelMlpIdeal.nD → PrngReg), Pre_KernelMlpIdeal m →
    θ_run (Cert.KernelMlpIdeal.defs (F := Ideal)) (onTc (τ := Cert.KernelMlpIdeal.τ) (Cert.KernelMlpIdeal.main (F := Ideal))) ⟨m, fun _ => 0, g⟩ (fun r => (∀ c : Dev Cert.KernelMlpIdeal.nD,
      r.2.mem ((c.tc : Thread Cert.KernelMlpIdeal.nD Cert.KernelMlpIdeal.τ).loc Cert.KernelMlpIdeal.main_arg0) = m ((c.tc : Thread Cert.KernelMlpIdeal.nD Cert.KernelMlpIdeal.τ).loc Cert.KernelMlpIdeal.main_arg0)
      ∧ r.2.mem ((c.tc : Thread Cert.KernelMlpIdeal.nD Cert.KernelMlpIdeal.τ).loc Cert.KernelMlpIdeal.main_arg1) = m ((c.tc : Thread Cert.KernelMlpIdeal.nD Cert.KernelMlpIdeal.τ).loc Cert.KernelMlpIdeal.main_arg1)
      ∧ r.2.mem ((c.tc : Thread Cert.KernelMlpIdeal.nD Cert.KernelMlpIdeal.τ).loc Cert.KernelMlpIdeal.main_arg2) = m ((c.tc : Thread Cert.KernelMlpIdeal.nD Cert.KernelMlpIdeal.τ).loc Cert.KernelMlpIdeal.main_arg2)
      ∧ r.2.mem ((c.tc : Thread Cert.KernelMlpIdeal.nD Cert.KernelMlpIdeal.τ).loc Cert.KernelMlpIdeal.main_arg3) = m ((c.tc : Thread Cert.KernelMlpIdeal.nD Cert.KernelMlpIdeal.τ).loc Cert.KernelMlpIdeal.main_arg3)
      ∧ r.2.mem ((c.tc : Thread Cert.KernelMlpIdeal.nD Cert.KernelMlpIdeal.τ).loc Cert.KernelMlpIdeal.main_arg4) = m ((c.tc : Thread Cert.KernelMlpIdeal.nD Cert.KernelMlpIdeal.τ).loc Cert.KernelMlpIdeal.main_arg4)
      ∧ r.2.mem ((c.tc : Thread Cert.KernelMlpIdeal.nD Cert.KernelMlpIdeal.τ).loc Cert.KernelMlpIdeal.main_arg5) = m ((c.tc : Thread Cert.KernelMlpIdeal.nD Cert.KernelMlpIdeal.τ).loc Cert.KernelMlpIdeal.main_arg5)
      ∧ r.2.mem ((c.tc : Thread Cert.KernelMlpIdeal.nD Cert.KernelMlpIdeal.τ).loc Cert.KernelMlpIdeal.main_arg6) = m ((c.tc : Thread Cert.KernelMlpIdeal.nD Cert.KernelMlpIdeal.τ).loc Cert.KernelMlpIdeal.main_arg6)
      ∧ r.2.mem ((c.tc : Thread Cert.KernelMlpIdeal.nD Cert.KernelMlpIdeal.τ).loc Cert.KernelMlpIdeal.main_arg7) = m ((c.tc : Thread Cert.KernelMlpIdeal.nD Cert.KernelMlpIdeal.τ).loc Cert.KernelMlpIdeal.main_arg7))
      ∧ r.2.sem = fun _ => 0)

def quiescent_ReferenceMlpIdeal [hReferenceMlpIdeal : Cert.ReferenceMlpIdeal.Facts] : Prop :=
  ∀ (m : (ℓ : Loc Cert.ReferenceMlpIdeal.nD Cert.ReferenceMlpIdeal.τ Cert.ReferenceMlpIdeal.sig) → Buf (Elt Ideal) ℓ) (g : Dev Cert.ReferenceMlpIdeal.nD → PrngReg), Pre_ReferenceMlpIdeal m →
    θ_run (Cert.ReferenceMlpIdeal.defs (F := Ideal)) (onTc (τ := Cert.ReferenceMlpIdeal.τ) (Cert.ReferenceMlpIdeal.main (F := Ideal))) ⟨m, fun _ => 0, g⟩ (fun r => (∀ c : Dev Cert.ReferenceMlpIdeal.nD,
      r.2.mem ((c.tc : Thread Cert.ReferenceMlpIdeal.nD Cert.ReferenceMlpIdeal.τ).loc Cert.ReferenceMlpIdeal.main_arg0) = m ((c.tc : Thread Cert.ReferenceMlpIdeal.nD Cert.ReferenceMlpIdeal.τ).loc Cert.ReferenceMlpIdeal.main_arg0)
      ∧ r.2.mem ((c.tc : Thread Cert.ReferenceMlpIdeal.nD Cert.ReferenceMlpIdeal.τ).loc Cert.ReferenceMlpIdeal.main_arg1) = m ((c.tc : Thread Cert.ReferenceMlpIdeal.nD Cert.ReferenceMlpIdeal.τ).loc Cert.ReferenceMlpIdeal.main_arg1)
      ∧ r.2.mem ((c.tc : Thread Cert.ReferenceMlpIdeal.nD Cert.ReferenceMlpIdeal.τ).loc Cert.ReferenceMlpIdeal.main_arg2) = m ((c.tc : Thread Cert.ReferenceMlpIdeal.nD Cert.ReferenceMlpIdeal.τ).loc Cert.ReferenceMlpIdeal.main_arg2)
      ∧ r.2.mem ((c.tc : Thread Cert.ReferenceMlpIdeal.nD Cert.ReferenceMlpIdeal.τ).loc Cert.ReferenceMlpIdeal.main_arg3) = m ((c.tc : Thread Cert.ReferenceMlpIdeal.nD Cert.ReferenceMlpIdeal.τ).loc Cert.ReferenceMlpIdeal.main_arg3)
      ∧ r.2.mem ((c.tc : Thread Cert.ReferenceMlpIdeal.nD Cert.ReferenceMlpIdeal.τ).loc Cert.ReferenceMlpIdeal.main_arg4) = m ((c.tc : Thread Cert.ReferenceMlpIdeal.nD Cert.ReferenceMlpIdeal.τ).loc Cert.ReferenceMlpIdeal.main_arg4)
      ∧ r.2.mem ((c.tc : Thread Cert.ReferenceMlpIdeal.nD Cert.ReferenceMlpIdeal.τ).loc Cert.ReferenceMlpIdeal.main_arg5) = m ((c.tc : Thread Cert.ReferenceMlpIdeal.nD Cert.ReferenceMlpIdeal.τ).loc Cert.ReferenceMlpIdeal.main_arg5)
      ∧ r.2.mem ((c.tc : Thread Cert.ReferenceMlpIdeal.nD Cert.ReferenceMlpIdeal.τ).loc Cert.ReferenceMlpIdeal.main_arg6) = m ((c.tc : Thread Cert.ReferenceMlpIdeal.nD Cert.ReferenceMlpIdeal.τ).loc Cert.ReferenceMlpIdeal.main_arg6)
      ∧ r.2.mem ((c.tc : Thread Cert.ReferenceMlpIdeal.nD Cert.ReferenceMlpIdeal.τ).loc Cert.ReferenceMlpIdeal.main_arg7) = m ((c.tc : Thread Cert.ReferenceMlpIdeal.nD Cert.ReferenceMlpIdeal.τ).loc Cert.ReferenceMlpIdeal.main_arg7))
      ∧ r.2.sem = fun _ => 0)

def quiescent_KernelProj [hKernelProj : Cert.KernelProj.Facts] : Prop :=
  ∀ (m : (ℓ : Loc Cert.KernelProj.nD Cert.KernelProj.τ Cert.KernelProj.sig) → Buf (Elt Bits) ℓ) (g : Dev Cert.KernelProj.nD → PrngReg), Pre_KernelProj m →
    θ_run (Cert.KernelProj.defs (F := Bits)) (onTc (τ := Cert.KernelProj.τ) (Cert.KernelProj.main (F := Bits))) ⟨m, fun _ => 0, g⟩ (fun r => (∀ c : Dev Cert.KernelProj.nD,
      r.2.mem ((c.tc : Thread Cert.KernelProj.nD Cert.KernelProj.τ).loc Cert.KernelProj.main_arg0) = m ((c.tc : Thread Cert.KernelProj.nD Cert.KernelProj.τ).loc Cert.KernelProj.main_arg0)
      ∧ r.2.mem ((c.tc : Thread Cert.KernelProj.nD Cert.KernelProj.τ).loc Cert.KernelProj.main_arg1) = m ((c.tc : Thread Cert.KernelProj.nD Cert.KernelProj.τ).loc Cert.KernelProj.main_arg1)
      ∧ r.2.mem ((c.tc : Thread Cert.KernelProj.nD Cert.KernelProj.τ).loc Cert.KernelProj.main_arg2) = m ((c.tc : Thread Cert.KernelProj.nD Cert.KernelProj.τ).loc Cert.KernelProj.main_arg2)
      ∧ r.2.mem ((c.tc : Thread Cert.KernelProj.nD Cert.KernelProj.τ).loc Cert.KernelProj.main_arg3) = m ((c.tc : Thread Cert.KernelProj.nD Cert.KernelProj.τ).loc Cert.KernelProj.main_arg3)
      ∧ r.2.mem ((c.tc : Thread Cert.KernelProj.nD Cert.KernelProj.τ).loc Cert.KernelProj.main_arg4) = m ((c.tc : Thread Cert.KernelProj.nD Cert.KernelProj.τ).loc Cert.KernelProj.main_arg4))
      ∧ r.2.sem = fun _ => 0)

def quiescent_KernelProjIdeal [hKernelProjIdeal : Cert.KernelProjIdeal.Facts] : Prop :=
  ∀ (m : (ℓ : Loc Cert.KernelProjIdeal.nD Cert.KernelProjIdeal.τ Cert.KernelProjIdeal.sig) → Buf (Elt Ideal) ℓ) (g : Dev Cert.KernelProjIdeal.nD → PrngReg), Pre_KernelProjIdeal m →
    θ_run (Cert.KernelProjIdeal.defs (F := Ideal)) (onTc (τ := Cert.KernelProjIdeal.τ) (Cert.KernelProjIdeal.main (F := Ideal))) ⟨m, fun _ => 0, g⟩ (fun r => (∀ c : Dev Cert.KernelProjIdeal.nD,
      r.2.mem ((c.tc : Thread Cert.KernelProjIdeal.nD Cert.KernelProjIdeal.τ).loc Cert.KernelProjIdeal.main_arg0) = m ((c.tc : Thread Cert.KernelProjIdeal.nD Cert.KernelProjIdeal.τ).loc Cert.KernelProjIdeal.main_arg0)
      ∧ r.2.mem ((c.tc : Thread Cert.KernelProjIdeal.nD Cert.KernelProjIdeal.τ).loc Cert.KernelProjIdeal.main_arg1) = m ((c.tc : Thread Cert.KernelProjIdeal.nD Cert.KernelProjIdeal.τ).loc Cert.KernelProjIdeal.main_arg1)
      ∧ r.2.mem ((c.tc : Thread Cert.KernelProjIdeal.nD Cert.KernelProjIdeal.τ).loc Cert.KernelProjIdeal.main_arg2) = m ((c.tc : Thread Cert.KernelProjIdeal.nD Cert.KernelProjIdeal.τ).loc Cert.KernelProjIdeal.main_arg2)
      ∧ r.2.mem ((c.tc : Thread Cert.KernelProjIdeal.nD Cert.KernelProjIdeal.τ).loc Cert.KernelProjIdeal.main_arg3) = m ((c.tc : Thread Cert.KernelProjIdeal.nD Cert.KernelProjIdeal.τ).loc Cert.KernelProjIdeal.main_arg3)
      ∧ r.2.mem ((c.tc : Thread Cert.KernelProjIdeal.nD Cert.KernelProjIdeal.τ).loc Cert.KernelProjIdeal.main_arg4) = m ((c.tc : Thread Cert.KernelProjIdeal.nD Cert.KernelProjIdeal.τ).loc Cert.KernelProjIdeal.main_arg4))
      ∧ r.2.sem = fun _ => 0)

def quiescent_KernelProjIdeal_pre_finite_heads [hKernelProjIdeal : Cert.KernelProjIdeal.Facts] [hPre_finite_heads : Cert.Pre_finite_heads.Facts] : Prop :=
  ∀ (m : (ℓ : Loc Cert.KernelProjIdeal.nD Cert.KernelProjIdeal.τ Cert.KernelProjIdeal.sig) → Buf (Elt Ideal) ℓ) (g : Dev Cert.KernelProjIdeal.nD → PrngReg), Pre_KernelProjIdeal_finite_heads m →
    θ_run (Cert.KernelProjIdeal.defs (F := Ideal)) (onTc (τ := Cert.KernelProjIdeal.τ) (Cert.KernelProjIdeal.main (F := Ideal))) ⟨m, fun _ => 0, g⟩ (fun r => (∀ c : Dev Cert.KernelProjIdeal.nD,
      r.2.mem ((c.tc : Thread Cert.KernelProjIdeal.nD Cert.KernelProjIdeal.τ).loc Cert.KernelProjIdeal.main_arg0) = m ((c.tc : Thread Cert.KernelProjIdeal.nD Cert.KernelProjIdeal.τ).loc Cert.KernelProjIdeal.main_arg0)
      ∧ r.2.mem ((c.tc : Thread Cert.KernelProjIdeal.nD Cert.KernelProjIdeal.τ).loc Cert.KernelProjIdeal.main_arg1) = m ((c.tc : Thread Cert.KernelProjIdeal.nD Cert.KernelProjIdeal.τ).loc Cert.KernelProjIdeal.main_arg1)
      ∧ r.2.mem ((c.tc : Thread Cert.KernelProjIdeal.nD Cert.KernelProjIdeal.τ).loc Cert.KernelProjIdeal.main_arg2) = m ((c.tc : Thread Cert.KernelProjIdeal.nD Cert.KernelProjIdeal.τ).loc Cert.KernelProjIdeal.main_arg2)
      ∧ r.2.mem ((c.tc : Thread Cert.KernelProjIdeal.nD Cert.KernelProjIdeal.τ).loc Cert.KernelProjIdeal.main_arg3) = m ((c.tc : Thread Cert.KernelProjIdeal.nD Cert.KernelProjIdeal.τ).loc Cert.KernelProjIdeal.main_arg3)
      ∧ r.2.mem ((c.tc : Thread Cert.KernelProjIdeal.nD Cert.KernelProjIdeal.τ).loc Cert.KernelProjIdeal.main_arg4) = m ((c.tc : Thread Cert.KernelProjIdeal.nD Cert.KernelProjIdeal.τ).loc Cert.KernelProjIdeal.main_arg4))
      ∧ r.2.sem = fun _ => 0)

def quiescent_ReferenceProjIdeal [hReferenceProjIdeal : Cert.ReferenceProjIdeal.Facts] : Prop :=
  ∀ (m : (ℓ : Loc Cert.ReferenceProjIdeal.nD Cert.ReferenceProjIdeal.τ Cert.ReferenceProjIdeal.sig) → Buf (Elt Ideal) ℓ) (g : Dev Cert.ReferenceProjIdeal.nD → PrngReg), Pre_ReferenceProjIdeal m →
    θ_run (Cert.ReferenceProjIdeal.defs (F := Ideal)) (onTc (τ := Cert.ReferenceProjIdeal.τ) (Cert.ReferenceProjIdeal.main (F := Ideal))) ⟨m, fun _ => 0, g⟩ (fun r => (∀ c : Dev Cert.ReferenceProjIdeal.nD,
      r.2.mem ((c.tc : Thread Cert.ReferenceProjIdeal.nD Cert.ReferenceProjIdeal.τ).loc Cert.ReferenceProjIdeal.main_arg0) = m ((c.tc : Thread Cert.ReferenceProjIdeal.nD Cert.ReferenceProjIdeal.τ).loc Cert.ReferenceProjIdeal.main_arg0)
      ∧ r.2.mem ((c.tc : Thread Cert.ReferenceProjIdeal.nD Cert.ReferenceProjIdeal.τ).loc Cert.ReferenceProjIdeal.main_arg1) = m ((c.tc : Thread Cert.ReferenceProjIdeal.nD Cert.ReferenceProjIdeal.τ).loc Cert.ReferenceProjIdeal.main_arg1)
      ∧ r.2.mem ((c.tc : Thread Cert.ReferenceProjIdeal.nD Cert.ReferenceProjIdeal.τ).loc Cert.ReferenceProjIdeal.main_arg2) = m ((c.tc : Thread Cert.ReferenceProjIdeal.nD Cert.ReferenceProjIdeal.τ).loc Cert.ReferenceProjIdeal.main_arg2)
      ∧ r.2.mem ((c.tc : Thread Cert.ReferenceProjIdeal.nD Cert.ReferenceProjIdeal.τ).loc Cert.ReferenceProjIdeal.main_arg3) = m ((c.tc : Thread Cert.ReferenceProjIdeal.nD Cert.ReferenceProjIdeal.τ).loc Cert.ReferenceProjIdeal.main_arg3)
      ∧ r.2.mem ((c.tc : Thread Cert.ReferenceProjIdeal.nD Cert.ReferenceProjIdeal.τ).loc Cert.ReferenceProjIdeal.main_arg4) = m ((c.tc : Thread Cert.ReferenceProjIdeal.nD Cert.ReferenceProjIdeal.τ).loc Cert.ReferenceProjIdeal.main_arg4))
      ∧ r.2.sem = fun _ => 0)

def quiescent_ReferenceProjIdeal_pre_finite_heads [hReferenceProjIdeal : Cert.ReferenceProjIdeal.Facts] [hPre_finite_heads : Cert.Pre_finite_heads.Facts] : Prop :=
  ∀ (m : (ℓ : Loc Cert.ReferenceProjIdeal.nD Cert.ReferenceProjIdeal.τ Cert.ReferenceProjIdeal.sig) → Buf (Elt Ideal) ℓ) (g : Dev Cert.ReferenceProjIdeal.nD → PrngReg), Pre_ReferenceProjIdeal_finite_heads m →
    θ_run (Cert.ReferenceProjIdeal.defs (F := Ideal)) (onTc (τ := Cert.ReferenceProjIdeal.τ) (Cert.ReferenceProjIdeal.main (F := Ideal))) ⟨m, fun _ => 0, g⟩ (fun r => (∀ c : Dev Cert.ReferenceProjIdeal.nD,
      r.2.mem ((c.tc : Thread Cert.ReferenceProjIdeal.nD Cert.ReferenceProjIdeal.τ).loc Cert.ReferenceProjIdeal.main_arg0) = m ((c.tc : Thread Cert.ReferenceProjIdeal.nD Cert.ReferenceProjIdeal.τ).loc Cert.ReferenceProjIdeal.main_arg0)
      ∧ r.2.mem ((c.tc : Thread Cert.ReferenceProjIdeal.nD Cert.ReferenceProjIdeal.τ).loc Cert.ReferenceProjIdeal.main_arg1) = m ((c.tc : Thread Cert.ReferenceProjIdeal.nD Cert.ReferenceProjIdeal.τ).loc Cert.ReferenceProjIdeal.main_arg1)
      ∧ r.2.mem ((c.tc : Thread Cert.ReferenceProjIdeal.nD Cert.ReferenceProjIdeal.τ).loc Cert.ReferenceProjIdeal.main_arg2) = m ((c.tc : Thread Cert.ReferenceProjIdeal.nD Cert.ReferenceProjIdeal.τ).loc Cert.ReferenceProjIdeal.main_arg2)
      ∧ r.2.mem ((c.tc : Thread Cert.ReferenceProjIdeal.nD Cert.ReferenceProjIdeal.τ).loc Cert.ReferenceProjIdeal.main_arg3) = m ((c.tc : Thread Cert.ReferenceProjIdeal.nD Cert.ReferenceProjIdeal.τ).loc Cert.ReferenceProjIdeal.main_arg3)
      ∧ r.2.mem ((c.tc : Thread Cert.ReferenceProjIdeal.nD Cert.ReferenceProjIdeal.τ).loc Cert.ReferenceProjIdeal.main_arg4) = m ((c.tc : Thread Cert.ReferenceProjIdeal.nD Cert.ReferenceProjIdeal.τ).loc Cert.ReferenceProjIdeal.main_arg4))
      ∧ r.2.sem = fun _ => 0)

def preserves_Kernel_KernelIdeal : Prop :=
  IdealRules.named_const.Statement Cert.KernelIdeal.κ "qscale" .f32 0x3E38AA3B#32 ((8⁻¹ * (Real.log 2)⁻¹ : ℝ) : EReal)

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_KernelMlp_KernelMlpIdeal : Prop :=
  True

def algebraic_KernelMlpIdeal_ReferenceMlpIdeal [hKernelMlpIdeal : Cert.KernelMlpIdeal.Facts] [hReferenceMlpIdeal : Cert.ReferenceMlpIdeal.Facts] : Prop :=
  ∀ (m : (ℓ : Loc Cert.KernelMlpIdeal.nD Cert.KernelMlpIdeal.τ Cert.KernelMlpIdeal.sig) → Buf (Elt Ideal) ℓ) (g : Dev Cert.KernelMlpIdeal.nD → PrngReg)
    (m' : (ℓ : Loc Cert.ReferenceMlpIdeal.nD Cert.ReferenceMlpIdeal.τ Cert.ReferenceMlpIdeal.sig) → Buf (Elt Ideal) ℓ) (g' : Dev Cert.ReferenceMlpIdeal.nD → PrngReg), Pre_KernelMlpIdeal m →
    (∀ c : Dev Cert.KernelMlpIdeal.nD,
      m' ((c.tc : Thread Cert.ReferenceMlpIdeal.nD Cert.ReferenceMlpIdeal.τ).loc Cert.ReferenceMlpIdeal.main_arg0) = m ((c.tc : Thread Cert.KernelMlpIdeal.nD Cert.KernelMlpIdeal.τ).loc Cert.KernelMlpIdeal.main_arg0)
      ∧ m' ((c.tc : Thread Cert.ReferenceMlpIdeal.nD Cert.ReferenceMlpIdeal.τ).loc Cert.ReferenceMlpIdeal.main_arg1) = m ((c.tc : Thread Cert.KernelMlpIdeal.nD Cert.KernelMlpIdeal.τ).loc Cert.KernelMlpIdeal.main_arg1)
      ∧ m' ((c.tc : Thread Cert.ReferenceMlpIdeal.nD Cert.ReferenceMlpIdeal.τ).loc Cert.ReferenceMlpIdeal.main_arg2) = m ((c.tc : Thread Cert.KernelMlpIdeal.nD Cert.KernelMlpIdeal.τ).loc Cert.KernelMlpIdeal.main_arg2)
      ∧ m' ((c.tc : Thread Cert.ReferenceMlpIdeal.nD Cert.ReferenceMlpIdeal.τ).loc Cert.ReferenceMlpIdeal.main_arg3) = m ((c.tc : Thread Cert.KernelMlpIdeal.nD Cert.KernelMlpIdeal.τ).loc Cert.KernelMlpIdeal.main_arg3)
      ∧ m' ((c.tc : Thread Cert.ReferenceMlpIdeal.nD Cert.ReferenceMlpIdeal.τ).loc Cert.ReferenceMlpIdeal.main_arg4) = m ((c.tc : Thread Cert.KernelMlpIdeal.nD Cert.KernelMlpIdeal.τ).loc Cert.KernelMlpIdeal.main_arg4)
      ∧ m' ((c.tc : Thread Cert.ReferenceMlpIdeal.nD Cert.ReferenceMlpIdeal.τ).loc Cert.ReferenceMlpIdeal.main_arg5) = m ((c.tc : Thread Cert.KernelMlpIdeal.nD Cert.KernelMlpIdeal.τ).loc Cert.KernelMlpIdeal.main_arg5)
      ∧ m' ((c.tc : Thread Cert.ReferenceMlpIdeal.nD Cert.ReferenceMlpIdeal.τ).loc Cert.ReferenceMlpIdeal.main_arg6) = m ((c.tc : Thread Cert.KernelMlpIdeal.nD Cert.KernelMlpIdeal.τ).loc Cert.KernelMlpIdeal.main_arg6)
      ∧ m' ((c.tc : Thread Cert.ReferenceMlpIdeal.nD Cert.ReferenceMlpIdeal.τ).loc Cert.ReferenceMlpIdeal.main_arg7) = m ((c.tc : Thread Cert.KernelMlpIdeal.nD Cert.KernelMlpIdeal.τ).loc Cert.KernelMlpIdeal.main_arg7)) →
    ∃ (v0 : (c : Dev Cert.KernelMlpIdeal.nD) → Buf (Elt Ideal) ((c.tc : Thread Cert.KernelMlpIdeal.nD Cert.KernelMlpIdeal.τ).loc Cert.KernelMlpIdeal.main_v14)),
      θ_run (Cert.KernelMlpIdeal.defs (F := Ideal)) (onTc (τ := Cert.KernelMlpIdeal.τ) (Cert.KernelMlpIdeal.main (F := Ideal))) ⟨m, fun _ => 0, g⟩ (fun r => ∀ c : Dev Cert.KernelMlpIdeal.nD,
          r.2.mem ((c.tc : Thread Cert.KernelMlpIdeal.nD Cert.KernelMlpIdeal.τ).loc Cert.KernelMlpIdeal.main_v14) = v0 c
          ∧ r.2.mem ((c.tc : Thread Cert.KernelMlpIdeal.nD Cert.KernelMlpIdeal.τ).loc Cert.KernelMlpIdeal.main_arg0) = m ((c.tc : Thread Cert.KernelMlpIdeal.nD Cert.KernelMlpIdeal.τ).loc Cert.KernelMlpIdeal.main_arg0)
          ∧ r.2.mem ((c.tc : Thread Cert.KernelMlpIdeal.nD Cert.KernelMlpIdeal.τ).loc Cert.KernelMlpIdeal.main_arg1) = m ((c.tc : Thread Cert.KernelMlpIdeal.nD Cert.KernelMlpIdeal.τ).loc Cert.KernelMlpIdeal.main_arg1)
          ∧ r.2.mem ((c.tc : Thread Cert.KernelMlpIdeal.nD Cert.KernelMlpIdeal.τ).loc Cert.KernelMlpIdeal.main_arg2) = m ((c.tc : Thread Cert.KernelMlpIdeal.nD Cert.KernelMlpIdeal.τ).loc Cert.KernelMlpIdeal.main_arg2)
          ∧ r.2.mem ((c.tc : Thread Cert.KernelMlpIdeal.nD Cert.KernelMlpIdeal.τ).loc Cert.KernelMlpIdeal.main_arg3) = m ((c.tc : Thread Cert.KernelMlpIdeal.nD Cert.KernelMlpIdeal.τ).loc Cert.KernelMlpIdeal.main_arg3)
          ∧ r.2.mem ((c.tc : Thread Cert.KernelMlpIdeal.nD Cert.KernelMlpIdeal.τ).loc Cert.KernelMlpIdeal.main_arg4) = m ((c.tc : Thread Cert.KernelMlpIdeal.nD Cert.KernelMlpIdeal.τ).loc Cert.KernelMlpIdeal.main_arg4)
          ∧ r.2.mem ((c.tc : Thread Cert.KernelMlpIdeal.nD Cert.KernelMlpIdeal.τ).loc Cert.KernelMlpIdeal.main_arg5) = m ((c.tc : Thread Cert.KernelMlpIdeal.nD Cert.KernelMlpIdeal.τ).loc Cert.KernelMlpIdeal.main_arg5)
          ∧ r.2.mem ((c.tc : Thread Cert.KernelMlpIdeal.nD Cert.KernelMlpIdeal.τ).loc Cert.KernelMlpIdeal.main_arg6) = m ((c.tc : Thread Cert.KernelMlpIdeal.nD Cert.KernelMlpIdeal.τ).loc Cert.KernelMlpIdeal.main_arg6)
          ∧ r.2.mem ((c.tc : Thread Cert.KernelMlpIdeal.nD Cert.KernelMlpIdeal.τ).loc Cert.KernelMlpIdeal.main_arg7) = m ((c.tc : Thread Cert.KernelMlpIdeal.nD Cert.KernelMlpIdeal.τ).loc Cert.KernelMlpIdeal.main_arg7))
      ∧ θ_run (Cert.ReferenceMlpIdeal.defs (F := Ideal)) (onTc (τ := Cert.ReferenceMlpIdeal.τ) (Cert.ReferenceMlpIdeal.main (F := Ideal))) ⟨m', fun _ => 0, g'⟩ (fun r => ∀ c : Dev Cert.ReferenceMlpIdeal.nD,
          r.2.mem ((c.tc : Thread Cert.ReferenceMlpIdeal.nD Cert.ReferenceMlpIdeal.τ).loc Cert.ReferenceMlpIdeal.main_v38) = v0 c
          ∧ r.2.mem ((c.tc : Thread Cert.ReferenceMlpIdeal.nD Cert.ReferenceMlpIdeal.τ).loc Cert.ReferenceMlpIdeal.main_arg0) = m' ((c.tc : Thread Cert.ReferenceMlpIdeal.nD Cert.ReferenceMlpIdeal.τ).loc Cert.ReferenceMlpIdeal.main_arg0)
          ∧ r.2.mem ((c.tc : Thread Cert.ReferenceMlpIdeal.nD Cert.ReferenceMlpIdeal.τ).loc Cert.ReferenceMlpIdeal.main_arg1) = m' ((c.tc : Thread Cert.ReferenceMlpIdeal.nD Cert.ReferenceMlpIdeal.τ).loc Cert.ReferenceMlpIdeal.main_arg1)
          ∧ r.2.mem ((c.tc : Thread Cert.ReferenceMlpIdeal.nD Cert.ReferenceMlpIdeal.τ).loc Cert.ReferenceMlpIdeal.main_arg2) = m' ((c.tc : Thread Cert.ReferenceMlpIdeal.nD Cert.ReferenceMlpIdeal.τ).loc Cert.ReferenceMlpIdeal.main_arg2)
          ∧ r.2.mem ((c.tc : Thread Cert.ReferenceMlpIdeal.nD Cert.ReferenceMlpIdeal.τ).loc Cert.ReferenceMlpIdeal.main_arg3) = m' ((c.tc : Thread Cert.ReferenceMlpIdeal.nD Cert.ReferenceMlpIdeal.τ).loc Cert.ReferenceMlpIdeal.main_arg3)
          ∧ r.2.mem ((c.tc : Thread Cert.ReferenceMlpIdeal.nD Cert.ReferenceMlpIdeal.τ).loc Cert.ReferenceMlpIdeal.main_arg4) = m' ((c.tc : Thread Cert.ReferenceMlpIdeal.nD Cert.ReferenceMlpIdeal.τ).loc Cert.ReferenceMlpIdeal.main_arg4)
          ∧ r.2.mem ((c.tc : Thread Cert.ReferenceMlpIdeal.nD Cert.ReferenceMlpIdeal.τ).loc Cert.ReferenceMlpIdeal.main_arg5) = m' ((c.tc : Thread Cert.ReferenceMlpIdeal.nD Cert.ReferenceMlpIdeal.τ).loc Cert.ReferenceMlpIdeal.main_arg5)
          ∧ r.2.mem ((c.tc : Thread Cert.ReferenceMlpIdeal.nD Cert.ReferenceMlpIdeal.τ).loc Cert.ReferenceMlpIdeal.main_arg6) = m' ((c.tc : Thread Cert.ReferenceMlpIdeal.nD Cert.ReferenceMlpIdeal.τ).loc Cert.ReferenceMlpIdeal.main_arg6)
          ∧ r.2.mem ((c.tc : Thread Cert.ReferenceMlpIdeal.nD Cert.ReferenceMlpIdeal.τ).loc Cert.ReferenceMlpIdeal.main_arg7) = m' ((c.tc : Thread Cert.ReferenceMlpIdeal.nD Cert.ReferenceMlpIdeal.τ).loc Cert.ReferenceMlpIdeal.main_arg7))

def preserves_KernelProj_KernelProjIdeal : Prop :=
  IdealRules.named_const.Statement Cert.KernelProjIdeal.κ "qscale" .f32 0x3E38AA3B#32 ((8⁻¹ * (Real.log 2)⁻¹ : ℝ) : EReal)

def algebraic_KernelProjIdeal_ReferenceProjIdeal_pre_finite_heads [hKernelProjIdeal : Cert.KernelProjIdeal.Facts] [hReferenceProjIdeal : Cert.ReferenceProjIdeal.Facts] [hPre_finite_heads : Cert.Pre_finite_heads.Facts] : Prop :=
  ∀ (m : (ℓ : Loc Cert.KernelProjIdeal.nD Cert.KernelProjIdeal.τ Cert.KernelProjIdeal.sig) → Buf (Elt Ideal) ℓ) (g : Dev Cert.KernelProjIdeal.nD → PrngReg)
    (m' : (ℓ : Loc Cert.ReferenceProjIdeal.nD Cert.ReferenceProjIdeal.τ Cert.ReferenceProjIdeal.sig) → Buf (Elt Ideal) ℓ) (g' : Dev Cert.ReferenceProjIdeal.nD → PrngReg), Pre_KernelProjIdeal_finite_heads m →
    (∀ c : Dev Cert.KernelProjIdeal.nD,
      m' ((c.tc : Thread Cert.ReferenceProjIdeal.nD Cert.ReferenceProjIdeal.τ).loc Cert.ReferenceProjIdeal.main_arg0) = m ((c.tc : Thread Cert.KernelProjIdeal.nD Cert.KernelProjIdeal.τ).loc Cert.KernelProjIdeal.main_arg0)
      ∧ m' ((c.tc : Thread Cert.ReferenceProjIdeal.nD Cert.ReferenceProjIdeal.τ).loc Cert.ReferenceProjIdeal.main_arg1) = m ((c.tc : Thread Cert.KernelProjIdeal.nD Cert.KernelProjIdeal.τ).loc Cert.KernelProjIdeal.main_arg1)
      ∧ m' ((c.tc : Thread Cert.ReferenceProjIdeal.nD Cert.ReferenceProjIdeal.τ).loc Cert.ReferenceProjIdeal.main_arg2) = m ((c.tc : Thread Cert.KernelProjIdeal.nD Cert.KernelProjIdeal.τ).loc Cert.KernelProjIdeal.main_arg2)
      ∧ m' ((c.tc : Thread Cert.ReferenceProjIdeal.nD Cert.ReferenceProjIdeal.τ).loc Cert.ReferenceProjIdeal.main_arg3) = m ((c.tc : Thread Cert.KernelProjIdeal.nD Cert.KernelProjIdeal.τ).loc Cert.KernelProjIdeal.main_arg3)
      ∧ m' ((c.tc : Thread Cert.ReferenceProjIdeal.nD Cert.ReferenceProjIdeal.τ).loc Cert.ReferenceProjIdeal.main_arg4) = m ((c.tc : Thread Cert.KernelProjIdeal.nD Cert.KernelProjIdeal.τ).loc Cert.KernelProjIdeal.main_arg4)) →
    ∃ (v0 : (c : Dev Cert.KernelProjIdeal.nD) → Buf (Elt Ideal) ((c.tc : Thread Cert.KernelProjIdeal.nD Cert.KernelProjIdeal.τ).loc Cert.KernelProjIdeal.main_v63_0)) (v1 : (c : Dev Cert.KernelProjIdeal.nD) → Buf (Elt Ideal) ((c.tc : Thread Cert.KernelProjIdeal.nD Cert.KernelProjIdeal.τ).loc Cert.KernelProjIdeal.main_v63_1)) (v2 : (c : Dev Cert.KernelProjIdeal.nD) → Buf (Elt Ideal) ((c.tc : Thread Cert.KernelProjIdeal.nD Cert.KernelProjIdeal.τ).loc Cert.KernelProjIdeal.main_v63_2)) (v3 : (c : Dev Cert.KernelProjIdeal.nD) → Buf (Elt Ideal) ((c.tc : Thread Cert.KernelProjIdeal.nD Cert.KernelProjIdeal.τ).loc Cert.KernelProjIdeal.main_v63_3)) (v4 : (c : Dev Cert.KernelProjIdeal.nD) → Buf (Elt Ideal) ((c.tc : Thread Cert.KernelProjIdeal.nD Cert.KernelProjIdeal.τ).loc Cert.KernelProjIdeal.main_v63_4)) (v5 : (c : Dev Cert.KernelProjIdeal.nD) → Buf (Elt Ideal) ((c.tc : Thread Cert.KernelProjIdeal.nD Cert.KernelProjIdeal.τ).loc Cert.KernelProjIdeal.main_v63_5)) (v6 : (c : Dev Cert.KernelProjIdeal.nD) → Buf (Elt Ideal) ((c.tc : Thread Cert.KernelProjIdeal.nD Cert.KernelProjIdeal.τ).loc Cert.KernelProjIdeal.main_v63_6)) (v7 : (c : Dev Cert.KernelProjIdeal.nD) → Buf (Elt Ideal) ((c.tc : Thread Cert.KernelProjIdeal.nD Cert.KernelProjIdeal.τ).loc Cert.KernelProjIdeal.main_v63_7)) (v8 : (c : Dev Cert.KernelProjIdeal.nD) → Buf (Elt Ideal) ((c.tc : Thread Cert.KernelProjIdeal.nD Cert.KernelProjIdeal.τ).loc Cert.KernelProjIdeal.main_v63_8)) (v9 : (c : Dev Cert.KernelProjIdeal.nD) → Buf (Elt Ideal) ((c.tc : Thread Cert.KernelProjIdeal.nD Cert.KernelProjIdeal.τ).loc Cert.KernelProjIdeal.main_v63_9)) (v10 : (c : Dev Cert.KernelProjIdeal.nD) → Buf (Elt Ideal) ((c.tc : Thread Cert.KernelProjIdeal.nD Cert.KernelProjIdeal.τ).loc Cert.KernelProjIdeal.main_v63_10)) (v11 : (c : Dev Cert.KernelProjIdeal.nD) → Buf (Elt Ideal) ((c.tc : Thread Cert.KernelProjIdeal.nD Cert.KernelProjIdeal.τ).loc Cert.KernelProjIdeal.main_v63_11)),
      θ_run (Cert.KernelProjIdeal.defs (F := Ideal)) (onTc (τ := Cert.KernelProjIdeal.τ) (Cert.KernelProjIdeal.main (F := Ideal))) ⟨m, fun _ => 0, g⟩ (fun r => ∀ c : Dev Cert.KernelProjIdeal.nD,
          r.2.mem ((c.tc : Thread Cert.KernelProjIdeal.nD Cert.KernelProjIdeal.τ).loc Cert.KernelProjIdeal.main_v63_0) = v0 c
          ∧ r.2.mem ((c.tc : Thread Cert.KernelProjIdeal.nD Cert.KernelProjIdeal.τ).loc Cert.KernelProjIdeal.main_v63_1) = v1 c
          ∧ r.2.mem ((c.tc : Thread Cert.KernelProjIdeal.nD Cert.KernelProjIdeal.τ).loc Cert.KernelProjIdeal.main_v63_2) = v2 c
          ∧ r.2.mem ((c.tc : Thread Cert.KernelProjIdeal.nD Cert.KernelProjIdeal.τ).loc Cert.KernelProjIdeal.main_v63_3) = v3 c
          ∧ r.2.mem ((c.tc : Thread Cert.KernelProjIdeal.nD Cert.KernelProjIdeal.τ).loc Cert.KernelProjIdeal.main_v63_4) = v4 c
          ∧ r.2.mem ((c.tc : Thread Cert.KernelProjIdeal.nD Cert.KernelProjIdeal.τ).loc Cert.KernelProjIdeal.main_v63_5) = v5 c
          ∧ r.2.mem ((c.tc : Thread Cert.KernelProjIdeal.nD Cert.KernelProjIdeal.τ).loc Cert.KernelProjIdeal.main_v63_6) = v6 c
          ∧ r.2.mem ((c.tc : Thread Cert.KernelProjIdeal.nD Cert.KernelProjIdeal.τ).loc Cert.KernelProjIdeal.main_v63_7) = v7 c
          ∧ r.2.mem ((c.tc : Thread Cert.KernelProjIdeal.nD Cert.KernelProjIdeal.τ).loc Cert.KernelProjIdeal.main_v63_8) = v8 c
          ∧ r.2.mem ((c.tc : Thread Cert.KernelProjIdeal.nD Cert.KernelProjIdeal.τ).loc Cert.KernelProjIdeal.main_v63_9) = v9 c
          ∧ r.2.mem ((c.tc : Thread Cert.KernelProjIdeal.nD Cert.KernelProjIdeal.τ).loc Cert.KernelProjIdeal.main_v63_10) = v10 c
          ∧ r.2.mem ((c.tc : Thread Cert.KernelProjIdeal.nD Cert.KernelProjIdeal.τ).loc Cert.KernelProjIdeal.main_v63_11) = v11 c
          ∧ r.2.mem ((c.tc : Thread Cert.KernelProjIdeal.nD Cert.KernelProjIdeal.τ).loc Cert.KernelProjIdeal.main_arg0) = m ((c.tc : Thread Cert.KernelProjIdeal.nD Cert.KernelProjIdeal.τ).loc Cert.KernelProjIdeal.main_arg0)
          ∧ r.2.mem ((c.tc : Thread Cert.KernelProjIdeal.nD Cert.KernelProjIdeal.τ).loc Cert.KernelProjIdeal.main_arg1) = m ((c.tc : Thread Cert.KernelProjIdeal.nD Cert.KernelProjIdeal.τ).loc Cert.KernelProjIdeal.main_arg1)
          ∧ r.2.mem ((c.tc : Thread Cert.KernelProjIdeal.nD Cert.KernelProjIdeal.τ).loc Cert.KernelProjIdeal.main_arg2) = m ((c.tc : Thread Cert.KernelProjIdeal.nD Cert.KernelProjIdeal.τ).loc Cert.KernelProjIdeal.main_arg2)
          ∧ r.2.mem ((c.tc : Thread Cert.KernelProjIdeal.nD Cert.KernelProjIdeal.τ).loc Cert.KernelProjIdeal.main_arg3) = m ((c.tc : Thread Cert.KernelProjIdeal.nD Cert.KernelProjIdeal.τ).loc Cert.KernelProjIdeal.main_arg3)
          ∧ r.2.mem ((c.tc : Thread Cert.KernelProjIdeal.nD Cert.KernelProjIdeal.τ).loc Cert.KernelProjIdeal.main_arg4) = m ((c.tc : Thread Cert.KernelProjIdeal.nD Cert.KernelProjIdeal.τ).loc Cert.KernelProjIdeal.main_arg4))
      ∧ θ_run (Cert.ReferenceProjIdeal.defs (F := Ideal)) (onTc (τ := Cert.ReferenceProjIdeal.τ) (Cert.ReferenceProjIdeal.main (F := Ideal))) ⟨m', fun _ => 0, g'⟩ (fun r => ∀ c : Dev Cert.ReferenceProjIdeal.nD,
          r.2.mem ((c.tc : Thread Cert.ReferenceProjIdeal.nD Cert.ReferenceProjIdeal.τ).loc Cert.ReferenceProjIdeal.main_v192) = v0 c
          ∧ r.2.mem ((c.tc : Thread Cert.ReferenceProjIdeal.nD Cert.ReferenceProjIdeal.τ).loc Cert.ReferenceProjIdeal.main_v194) = v1 c
          ∧ r.2.mem ((c.tc : Thread Cert.ReferenceProjIdeal.nD Cert.ReferenceProjIdeal.τ).loc Cert.ReferenceProjIdeal.main_v197) = v2 c
          ∧ r.2.mem ((c.tc : Thread Cert.ReferenceProjIdeal.nD Cert.ReferenceProjIdeal.τ).loc Cert.ReferenceProjIdeal.main_v198) = v3 c
          ∧ r.2.mem ((c.tc : Thread Cert.ReferenceProjIdeal.nD Cert.ReferenceProjIdeal.τ).loc Cert.ReferenceProjIdeal.main_v201) = v4 c
          ∧ r.2.mem ((c.tc : Thread Cert.ReferenceProjIdeal.nD Cert.ReferenceProjIdeal.τ).loc Cert.ReferenceProjIdeal.main_v204) = v5 c
          ∧ r.2.mem ((c.tc : Thread Cert.ReferenceProjIdeal.nD Cert.ReferenceProjIdeal.τ).loc Cert.ReferenceProjIdeal.main_v206) = v6 c
          ∧ r.2.mem ((c.tc : Thread Cert.ReferenceProjIdeal.nD Cert.ReferenceProjIdeal.τ).loc Cert.ReferenceProjIdeal.main_v209) = v7 c
          ∧ r.2.mem ((c.tc : Thread Cert.ReferenceProjIdeal.nD Cert.ReferenceProjIdeal.τ).loc Cert.ReferenceProjIdeal.main_v212) = v8 c
          ∧ r.2.mem ((c.tc : Thread Cert.ReferenceProjIdeal.nD Cert.ReferenceProjIdeal.τ).loc Cert.ReferenceProjIdeal.main_v214) = v9 c
          ∧ r.2.mem ((c.tc : Thread Cert.ReferenceProjIdeal.nD Cert.ReferenceProjIdeal.τ).loc Cert.ReferenceProjIdeal.main_v217) = v10 c
          ∧ r.2.mem ((c.tc : Thread Cert.ReferenceProjIdeal.nD Cert.ReferenceProjIdeal.τ).loc Cert.ReferenceProjIdeal.main_v220) = v11 c
          ∧ r.2.mem ((c.tc : Thread Cert.ReferenceProjIdeal.nD Cert.ReferenceProjIdeal.τ).loc Cert.ReferenceProjIdeal.main_arg0) = m' ((c.tc : Thread Cert.ReferenceProjIdeal.nD Cert.ReferenceProjIdeal.τ).loc Cert.ReferenceProjIdeal.main_arg0)
          ∧ r.2.mem ((c.tc : Thread Cert.ReferenceProjIdeal.nD Cert.ReferenceProjIdeal.τ).loc Cert.ReferenceProjIdeal.main_arg1) = m' ((c.tc : Thread Cert.ReferenceProjIdeal.nD Cert.ReferenceProjIdeal.τ).loc Cert.ReferenceProjIdeal.main_arg1)
          ∧ r.2.mem ((c.tc : Thread Cert.ReferenceProjIdeal.nD Cert.ReferenceProjIdeal.τ).loc Cert.ReferenceProjIdeal.main_arg2) = m' ((c.tc : Thread Cert.ReferenceProjIdeal.nD Cert.ReferenceProjIdeal.τ).loc Cert.ReferenceProjIdeal.main_arg2)
          ∧ r.2.mem ((c.tc : Thread Cert.ReferenceProjIdeal.nD Cert.ReferenceProjIdeal.τ).loc Cert.ReferenceProjIdeal.main_arg3) = m' ((c.tc : Thread Cert.ReferenceProjIdeal.nD Cert.ReferenceProjIdeal.τ).loc Cert.ReferenceProjIdeal.main_arg3)
          ∧ r.2.mem ((c.tc : Thread Cert.ReferenceProjIdeal.nD Cert.ReferenceProjIdeal.τ).loc Cert.ReferenceProjIdeal.main_arg4) = m' ((c.tc : Thread Cert.ReferenceProjIdeal.nD Cert.ReferenceProjIdeal.τ).loc Cert.ReferenceProjIdeal.main_arg4))

def Claim : Prop :=
  ∃ (hKernel : Cert.Kernel.Facts) (hKernelIdeal : Cert.KernelIdeal.Facts) (hReferenceIdeal : Cert.ReferenceIdeal.Facts) (hKernelMlp : Cert.KernelMlp.Facts) (hKernelMlpIdeal : Cert.KernelMlpIdeal.Facts) (hReferenceMlpIdeal : Cert.ReferenceMlpIdeal.Facts) (hKernelProj : Cert.KernelProj.Facts) (hKernelProjIdeal : Cert.KernelProjIdeal.Facts) (hReferenceProjIdeal : Cert.ReferenceProjIdeal.Facts) (hPre_finite_scores : Cert.Pre_finite_scores.Facts) (hPre_finite_heads : Cert.Pre_finite_heads.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_KernelMlp (hKernelMlp := hKernelMlp)
    ∧ quiescent_KernelMlpIdeal (hKernelMlpIdeal := hKernelMlpIdeal)
    ∧ quiescent_ReferenceMlpIdeal (hReferenceMlpIdeal := hReferenceMlpIdeal)
    ∧ quiescent_KernelProj (hKernelProj := hKernelProj)
    ∧ quiescent_KernelProjIdeal (hKernelProjIdeal := hKernelProjIdeal)
    ∧ quiescent_KernelProjIdeal_pre_finite_heads (hKernelProjIdeal := hKernelProjIdeal) (hPre_finite_heads := hPre_finite_heads)
    ∧ quiescent_ReferenceProjIdeal (hReferenceProjIdeal := hReferenceProjIdeal)
    ∧ quiescent_ReferenceProjIdeal_pre_finite_heads (hReferenceProjIdeal := hReferenceProjIdeal) (hPre_finite_heads := hPre_finite_heads)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_KernelMlp_KernelMlpIdeal
    ∧ algebraic_KernelMlpIdeal_ReferenceMlpIdeal (hKernelMlpIdeal := hKernelMlpIdeal) (hReferenceMlpIdeal := hReferenceMlpIdeal)
    ∧ preserves_KernelProj_KernelProjIdeal
    ∧ algebraic_KernelProjIdeal_ReferenceProjIdeal_pre_finite_heads (hKernelProjIdeal := hKernelProjIdeal) (hReferenceProjIdeal := hReferenceProjIdeal) (hPre_finite_heads := hPre_finite_heads)
-- ==== Pre_finite_heads.lean ====
abbrev S16x2048x1024 : Shape := ⟨3, ![16, 2048, 1024]⟩
abbrev S1x1024 : Shape := ⟨2, ![1, 1024]⟩
abbrev S1x1024x2304 : Shape := ⟨3, ![1, 1024, 2304]⟩
abbrev S1x64 : Shape := ⟨2, ![1, 64]⟩
abbrev S1024 : Shape := ⟨1, ![1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S1024x2304 : Shape := ⟨2, ![1024, 2304]⟩
abbrev S16x2048x2304 : Shape := ⟨3, ![16, 2048, 2304]⟩
abbrev S16x2048x640 : Shape := ⟨3, ![16, 2048, 640]⟩

class Facts : Prop where
  shapeCasts_S1x1024_S1024 : S1x1024.ShapeCasts S1024
  reducesTo_S16x2048x1024_S16x2048_d2 : S16x2048x1024.ReducesTo [2] S16x2048
  h_S_ : 0 < S_.numel
  bcast_S16x2048_S16x2048x1_0_1 : S16x2048.BroadcastsInDim S16x2048x1 (![0, 1] : Fin 2 → Fin S16x2048x1.rank)
  bcast_S_S16x2048x1 : S_.BroadcastsInDim S16x2048x1 (![] : Fin 0 → Fin S16x2048x1.rank)
  bcast_S16x2048x1_S16x2048x1024_0_1_2 : S16x2048x1.BroadcastsInDim S16x2048x1024 (![0, 1, 2] : Fin 3 → Fin S16x2048x1024.rank)
  bcast_S1024_S1x1x1024_2 : S1024.BroadcastsInDim S1x1x1024 (![2] : Fin 1 → Fin S1x1x1024.rank)
  bcast_S1x1x1024_S16x2048x1024_0_1_2 : S1x1x1024.BroadcastsInDim S16x2048x1024 (![0, 1, 2] : Fin 3 → Fin S16x2048x1024.rank)
  shapeCasts_S1x1024x2304_S1024x2304 : S1x1024x2304.ShapeCasts S1024x2304
  slices_S16x2048x2304_S16x2048x640_0_0_0 : S16x2048x2304.Slices ![0, 0, 0] S16x2048x640
  bcast_S_S16x2048x640 : S_.BroadcastsInDim S16x2048x640 (![] : Fin 0 → Fin S16x2048x640.rank)
  dot_S16x2048x1024_S1024x2304_S16x2048x2304_2_0_01_1_n_n_wf : DotDims.WF S16x2048x1024 S1024x2304 S16x2048x2304 [2] [0] [0, 1] [1] [] []

variable [Facts]

def dot_S16x2048x1024_S1024x2304_S16x2048x2304_2_0_01_1_n_n : DotDims S16x2048x1024 S1024x2304 S16x2048x2304 where
  lhsContracting := [2]
  rhsContracting := [0]
  lhsNonContracting := [0, 1]
  rhsNonContracting := [1]
  lhsBatch := []
  rhsBatch := []
  wf := dot_S16x2048x1024_S1024x2304_S16x2048x2304_2_0_01_1_n_n_wf
def fn {F : FTy → Type} [FloatOps F] (main_arg0 : FVec F S16x2048x1024 .f32) (main_arg1 : FVec F S1x1024 .f32) (main_arg2 : FVec F S1x1024x2304 .f32) (main_arg3 : FVec F S1x64 .f32) (main_arg4 : FVec F S1x64 .f32) : IVec S16x2048x640 1 :=
  let main_v0 : FVec F S1024 .f32 := shapeCast S1024 main_arg1 shapeCasts_S1x1024_S1024
  let main_v1 : FVec F S16x2048x1024 .f32 := mulf main_arg0 main_arg0
  let main_cst : FVec F S_ .f32 := constant S_ .f32 0x00000000#32
  let main_v2 : FVec F S16x2048 .f32 := (fun x v => Host.reduceAdd x v reducesTo_S16x2048x1024_S16x2048_d2 h_S_) main_v1 main_cst
  let main_v3 : FVec F S16x2048x1 .f32 := broadcastInDim S16x2048x1 ![0, 1] bcast_S16x2048_S16x2048x1_0_1 main_v2
  let main_cst_0 : FVec F S_ .f32 := constant S_ .f32 0x44800000#32
  let main_v4 : FVec F S16x2048x1 .f32 := broadcastInDim S16x2048x1 ![] bcast_S_S16x2048x1 main_cst_0
  let main_v5 : FVec F S16x2048x1 .f32 := Host.divf main_v3 main_v4
  let main_cst_1 : FVec F S_ .f32 := constant S_ .f32 0x358637BD#32
  let main_v6 : FVec F S16x2048x1 .f32 := broadcastInDim S16x2048x1 ![] bcast_S_S16x2048x1 main_cst_1
  let main_v7 : FVec F S16x2048x1 .f32 := addf main_v5 main_v6
  let main_v8 : FVec F S16x2048x1 .f32 := Host.rsqrt main_v7
  let main_v9 : FVec F S16x2048x1024 .f32 := broadcastInDim S16x2048x1024 ![0, 1, 2] bcast_S16x2048x1_S16x2048x1024_0_1_2 main_v8
  let main_v10 : FVec F S16x2048x1024 .f32 := mulf main_arg0 main_v9
  let main_v11 : FVec F S1x1x1024 .f32 := broadcastInDim S1x1x1024 ![2] bcast_S1024_S1x1x1024_2 main_v0
  let main_v12 : FVec F S16x2048x1024 .f32 := broadcastInDim S16x2048x1024 ![0, 1, 2] bcast_S1x1x1024_S16x2048x1024_0_1_2 main_v11
  let main_v13 : FVec F S16x2048x1024 .f32 := mulf main_v10 main_v12
  let main_v14 : FVec F S1024x2304 .f32 := shapeCast S1024x2304 main_arg2 shapeCasts_S1x1024x2304_S1024x2304
  let main_v15 : FVec F S16x2048x2304 .f32 := (fun l r => Host.dotGeneral dot_S16x2048x1024_S1024x2304_S16x2048x2304_2_0_01_1_n_n none l r) main_v13 main_v14
  let main_v16 : FVec F S16x2048x640 .f32 := (extractStridedSlice S16x2048x640 ![0, 0, 0] · slices_S16x2048x2304_S16x2048x640_0_0_0) main_v15
  let main_v17 : FVec F S16x2048x640 .f32 := Host.absf main_v16
  let main_cst_2 : FVec F S_ .f32 := constant S_ .f32 0x7F800000#32
  let main_v18 : FVec F S16x2048x640 .f32 := broadcastInDim S16x2048x640 ![] bcast_S_S16x2048x640 main_cst_2
  let main_v19 : IVec S16x2048x640 1 := cmpf .olt main_v17 main_v18
  main_v19
-- ==== Pre_finite_scores.lean ====
abbrev S16x2048x8x64 : Shape := ⟨4, ![16, 2048, 8, 64]⟩
abbrev S16x2048x2x64 : Shape := ⟨4, ![16, 2048, 2, 64]⟩
abbrev S1x512 : Shape := ⟨2, ![1, 512]⟩
abbrev S_ : Shape := ⟨0, ![]⟩
abbrev S16777216 : Shape := ⟨1, ![16777216]⟩
abbrev S4194304 : Shape := ⟨1, ![4194304]⟩
abbrev S20971520 : Shape := ⟨1, ![20971520]⟩

class Facts : Prop where
  bcast_S_S16x2048x8x64 : S_.BroadcastsInDim S16x2048x8x64 (![] : Fin 0 → Fin S16x2048x8x64.rank)
  shapeCasts_S16x2048x8x64_S16777216 : S16x2048x8x64.ShapeCasts S16777216
  bcast_S_S16x2048x2x64 : S_.BroadcastsInDim S16x2048x2x64 (![] : Fin 0 → Fin S16x2048x2x64.rank)
  shapeCasts_S16x2048x2x64_S4194304 : S16x2048x2x64.ShapeCasts S4194304
  concatenates_S16777216_S4194304_S20971520_d0 : Shape.Concatenates [S16777216, S4194304] S20971520 0

variable [Facts]

def fn {F : FTy → Type} [FloatOps F] (main_arg0 : FVec F S16x2048x8x64 .f32) (main_arg1 : FVec F S16x2048x2x64 .f32) (main_arg2 : FVec F S16x2048x2x64 .f32) (main_arg3 : FVec F S1x512 .f32) : IVec S20971520 1 :=
  let main_v0 : FVec F S16x2048x8x64 .f32 := Host.absf main_arg0
  let main_cst : FVec F S_ .f32 := constant S_ .f32 0x7F800000#32
  let main_v1 : FVec F S16x2048x8x64 .f32 := broadcastInDim S16x2048x8x64 ![] bcast_S_S16x2048x8x64 main_cst
  let main_v2 : IVec S16x2048x8x64 1 := cmpf .olt main_v0 main_v1
  let main_v3 : IVec S16777216 1 := shapeCast S16777216 main_v2 shapeCasts_S16x2048x8x64_S16777216
  let main_v4 : FVec F S16x2048x2x64 .f32 := Host.absf main_arg1
  let main_cst_0 : FVec F S_ .f32 := constant S_ .f32 0x7F800000#32
  let main_v5 : FVec F S16x2048x2x64 .f32 := broadcastInDim S16x2048x2x64 ![] bcast_S_S16x2048x2x64 main_cst_0
  let main_v6 : IVec S16x2048x2x64 1 := cmpf .olt main_v4 main_v5
  let main_v7 : IVec S4194304 1 := shapeCast S4194304 main_v6 shapeCasts_S16x2048x2x64_S4194304
  let main_v8 : IVec S20971520 1 := (fun a b => concatenate S20971520 0 [⟨S16777216, a⟩, ⟨S4194304, b⟩] concatenates_S16777216_S4194304_S20971520_d0) main_v3 main_v7
  main_v8
-- ==== Kernel.lean ====
abbrev S16x2048x8x64 : Shape := ⟨4, ![16, 2048, 8, 64]⟩
abbrev S16x2048x2x64 : Shape := ⟨4, ![16, 2048, 2, 64]⟩
abbrev S1x512 : Shape := ⟨2, ![1, 512]⟩
abbrev S16x2048x512 : Shape := ⟨3, ![16, 2048, 512]⟩
abbrev S16x512x2048 : Shape := ⟨3, ![16, 512, 2048]⟩
abbrev S16x2048x2x1x64 : Shape := ⟨5, ![16, 2048, 2, 1, 64]⟩
abbrev S16x2048x2x2x64 : Shape := ⟨5, ![16, 2048, 2, 2, 64]⟩
abbrev S16x2048x256 : Shape := ⟨3, ![16, 2048, 256]⟩
abbrev S16x2048x128 : Shape := ⟨3, ![16, 2048, 128]⟩
abbrev S16x128x2048 : Shape := ⟨3, ![16, 128, 2048]⟩
abbrev S512 : Shape := ⟨1, ![512]⟩
abbrev S1x512x256 : Shape := ⟨3, ![1, 512, 256]⟩
abbrev S1x2048x256 : Shape := ⟨3, ![1, 2048, 256]⟩
abbrev S1x64x2048 : Shape := ⟨3, ![1, 64, 2048]⟩
abbrev S1x256x512 : Shape := ⟨3, ![1, 256, 512]⟩
abbrev S2048x1024 : Shape := ⟨2, ![2048, 1024]⟩
abbrev S1x1024 : Shape := ⟨2, ![1, 1024]⟩
abbrev S64x1024 : Shape := ⟨2, ![64, 1024]⟩
abbrev S128x256 : Shape := ⟨2, ![128, 256]⟩
abbrev S16x256 : Shape := ⟨2, ![16, 256]⟩
abbrev S1x128x256 : Shape := ⟨3, ![1, 128, 256]⟩
abbrev S128x1024 : Shape := ⟨2, ![128, 1024]⟩
abbrev S8x1024 : Shape := ⟨2, ![8, 1024]⟩
abbrev S80x1024 : Shape := ⟨2, ![80, 1024]⟩
abbrev S1x256x128 : Shape := ⟨3, ![1, 256, 128]⟩
abbrev S256x128 : Shape := ⟨2, ![256, 128]⟩
abbrev S256x1024 : Shape := ⟨2, ![256, 1024]⟩
abbrev S1x64x256 : Shape := ⟨3, ![1, 64, 256]⟩
abbrev S64x256 : Shape := ⟨2, ![64, 256]⟩
abbrev S80x256 : Shape := ⟨2, ![80, 256]⟩
abbrev S32x8x1024 : Shape := ⟨3, ![32, 8, 1024]⟩
abbrev S1024 : Shape := ⟨1, ![1024]⟩
abbrev S256x512 : Shape := ⟨2, ![256, 512]⟩
abbrev S256 : Shape := ⟨1, ![256]⟩
abbrev S256x1 : Shape := ⟨2, ![256, 1]⟩

abbrev nBuf : Space → Nat
  | .hbm => 16
  | .vmem => 15
  | .smem => 0
  | _ => 0

abbrev bufTy : (tb : Table) → Fin (tcTables nBuf tb) → BufTy
  | .hbm, ⟨0, _⟩ => ⟨S16x2048x8x64, .f32⟩
  | .hbm, ⟨1, _⟩ => ⟨S16x2048x2x64, .f32⟩
  | .hbm, ⟨2, _⟩ => ⟨S16x2048x2x64, .f32⟩
  | .hbm, ⟨3, _⟩ => ⟨S1x512, .f32⟩
  | .hbm, ⟨4, _⟩ => ⟨S16x2048x512, .f32⟩
  | .hbm, ⟨5, _⟩ => ⟨S16x512x2048, .f32⟩
  | .hbm, ⟨6, _⟩ => ⟨S16x2048x2x1x64, .f32⟩
  | .hbm, ⟨7, _⟩ => ⟨S16x2048x2x2x64, .f32⟩
  | .hbm, ⟨8, _⟩ => ⟨S16x2048x256, .f32⟩
  | .hbm, ⟨9, _⟩ => ⟨S16x2048x256, .bf16⟩
  | .hbm, ⟨10, _⟩ => ⟨S16x2048x128, .f32⟩
  | .hbm, ⟨11, _⟩ => ⟨S16x128x2048, .f32⟩
  | .hbm, ⟨12, _⟩ => ⟨S16x128x2048, .bf16⟩
  | .hbm, ⟨13, _⟩ => ⟨S512, .f32⟩
  | .hbm, ⟨14, _⟩ => ⟨S1x512, .f32⟩
  | .hbm, ⟨15, _⟩ => ⟨S16x2048x512, .bf16⟩
  | .local _ .vmem, ⟨0, _⟩ => ⟨S1x512x256, .f32⟩
  | .local _ .vmem, ⟨1, _⟩ => ⟨S1x512x256, .f32⟩
  | .local _ .vmem, ⟨2, _⟩ => ⟨S1x2048x256, .bf16⟩
  | .local _ .vmem, ⟨3, _⟩ => ⟨S1x2048x256, .bf16⟩
  | .local _ .vmem, ⟨4, _⟩ => ⟨S1x64x2048, .bf16⟩
  | .local _ .vmem, ⟨5, _⟩ => ⟨S1x64x2048, .bf16⟩
  | .local _ .vmem, ⟨6, _⟩ => ⟨S1x64x2048, .bf16⟩
  | .local _ .vmem, ⟨7, _⟩ => ⟨S1x64x2048, .bf16⟩
  | .local _ .vmem, ⟨8, _⟩ => ⟨S1x512, .f32⟩
  | .local _ .vmem, ⟨9, _⟩ => ⟨S1x256x512, .bf16⟩
  | .local _ .vmem, ⟨10, _⟩ => ⟨S1x256x512, .bf16⟩
  | .local _ .vmem, ⟨11, _⟩ => ⟨S2048x1024, .f32⟩
  | .local _ .vmem, ⟨12, _⟩ => ⟨S2048x1024, .f32⟩
  | .local _ .vmem, ⟨13, _⟩ => ⟨S1x1024, .f32⟩
  | .local _ .vmem, ⟨14, _⟩ => ⟨S64x1024, .f32⟩
  | _, _ => ⟨S16x2048x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![129], ![false]⟩

def cc0_transform_0 (i : grid0.Coords) : Fin 3 → Nat :=
  let arg0 : BitVec 32 := BitVec.ofNat 32 (i 0).val
  let c127_i32 : BitVec 32 := 127#32
  let v0 : BitVec 32 := Scalar.minsi arg0 c127_i32
  let c8_i32 : BitVec 32 := 8#32
  let v1 : BitVec 32 := Scalar.divsi v0 c8_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c127_i32_4 : BitVec 32 := 127#32
  let v18 : BitVec 32 := Scalar.minsi arg0 c127_i32_4
  let c8_i32_5 : BitVec 32 := 8#32
  let c0_i32_6 : BitVec 32 := 0#32
  let v19 : BitVec 1 := Scalar.cmpi .eq c8_i32_5 c0_i32_6
  let c1_i32_7 : BitVec 32 := 1#32
  let v20 : BitVec 32 := Scalar.select v19 c1_i32_7 c8_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let c0_i32_12 : BitVec 32 := 0#32
  ![v17.toNat, c0_i32_11.toNat, v28.toNat]

def cc0_transform_1 (i : grid0.Coords) : Fin 3 → Nat :=
  let arg0 : BitVec 32 := BitVec.ofNat 32 (i 0).val
  let c127_i32 : BitVec 32 := 127#32
  let v0 : BitVec 32 := Scalar.minsi arg0 c127_i32
  let c8_i32 : BitVec 32 := 8#32
  let v1 : BitVec 32 := Scalar.divsi v0 c8_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_2 (i : grid0.Coords) : Fin 3 → Nat :=
  let arg0 : BitVec 32 := BitVec.ofNat 32 (i 0).val
  let c127_i32 : BitVec 32 := 127#32
  let v0 : BitVec 32 := Scalar.minsi arg0 c127_i32
  let c8_i32 : BitVec 32 := 8#32
  let v1 : BitVec 32 := Scalar.divsi v0 c8_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_3 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c8_i32 : BitVec 32 := 8#32
  let v2 : BitVec 32 := Scalar.divsi v1 c8_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c8_i32 c0_i32_2
  let v9 : BitVec 32 := Scalar.extui v8
  let c0_i32_3 : BitVec 32 := 0#32
  let v10 : BitVec 1 := Scalar.cmpi .slt c8_i32 c0_i32_3
  let v11 : BitVec 32 := Scalar.extui v10
  let v12 : BitVec 32 := Scalar.subi v9 v11
  let v13 : BitVec 1 := Scalar.cmpi .ne v7 v12
  let v14 : BitVec 32 := Scalar.remsi v1 c8_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c1_i32_6 : BitVec 32 := 1#32
  let c0_i32_7 : BitVec 32 := 0#32
  let c0_i32_8 : BitVec 32 := 0#32
  ![v18.toNat, c1_i32_6.toNat, c0_i32_7.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c8_i32 : BitVec 32 := 8#32
  let v2 : BitVec 32 := Scalar.divsi v1 c8_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c8_i32 c0_i32_2
  let v9 : BitVec 32 := Scalar.extui v8
  let c0_i32_3 : BitVec 32 := 0#32
  let v10 : BitVec 1 := Scalar.cmpi .slt c8_i32 c0_i32_3
  let v11 : BitVec 32 := Scalar.extui v10
  let v12 : BitVec 32 := Scalar.subi v9 v11
  let v13 : BitVec 1 := Scalar.cmpi .ne v7 v12
  let v14 : BitVec 32 := Scalar.remsi v1 c8_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c1_i32_6 : BitVec 32 := 1#32
  let v19 : BitVec 32 := Scalar.subi arg0 c1_i32_6
  let c0_i32_7 : BitVec 32 := 0#32
  let v20 : BitVec 32 := Scalar.maxsi v19 c0_i32_7
  let c8_i32_8 : BitVec 32 := 8#32
  let c0_i32_9 : BitVec 32 := 0#32
  let v21 : BitVec 1 := Scalar.cmpi .eq c8_i32_8 c0_i32_9
  let c1_i32_10 : BitVec 32 := 1#32
  let v22 : BitVec 32 := Scalar.select v21 c1_i32_10 c8_i32_8
  let v23 : BitVec 32 := Scalar.remsi v20 v22
  let c0_i32_11 : BitVec 32 := 0#32
  let v24 : BitVec 1 := Scalar.cmpi .ne v23 c0_i32_11
  let c0_i32_12 : BitVec 32 := 0#32
  let v25 : BitVec 1 := Scalar.cmpi .slt v23 c0_i32_12
  let c0_i32_13 : BitVec 32 := 0#32
  let v26 : BitVec 1 := Scalar.cmpi .slt v22 c0_i32_13
  let v27 : BitVec 1 := Scalar.xori v25 v26
  let v28 : BitVec 1 := Scalar.andi v27 v24
  let v29 : BitVec 32 := Scalar.addi v23 v22
  let v30 : BitVec 32 := Scalar.select v28 v29 v23
  let c0_i32_14 : BitVec 32 := 0#32
  let c0_i32_15 : BitVec 32 := 0#32
  ![v18.toNat, v30.toNat, c0_i32_14.toNat]

abbrev stage0_0 : Fin 2 → Memref sig .tc .vmem S1x512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x64x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x64x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== KernelIdeal.lean ====
variable {F : FTy → Type} [FloatOps F] [Named F]
def κ : String → Option EReal := fun
  | "qscale" => some ((8⁻¹ * (Real.log 2)⁻¹ : ℝ) : EReal)
  | _ => none
-- ==== ReferenceIdeal.lean ====
abbrev S16x2048x8x64 : Shape := ⟨4, ![16, 2048, 8, 64]⟩
abbrev S16x2048x2x64 : Shape := ⟨4, ![16, 2048, 2, 64]⟩
abbrev S1x512 : Shape := ⟨2, ![1, 512]⟩
abbrev S16x8x2048x64 : Shape := ⟨4, ![16, 8, 2048, 64]⟩
abbrev S_ : Shape := ⟨0, ![]⟩
abbrev S16x2x2048x64 : Shape := ⟨4, ![16, 2, 2048, 64]⟩
abbrev S16x2x4x2048x64 : Shape := ⟨5, ![16, 2, 4, 2048, 64]⟩
abbrev S16x2x4x2048x2048 : Shape := ⟨5, ![16, 2, 4, 2048, 2048]⟩
abbrev S16x2x4x2048 : Shape := ⟨4, ![16, 2, 4, 2048]⟩
abbrev S16x2x4x2048x1 : Shape := ⟨5, ![16, 2, 4, 2048, 1]⟩
abbrev S16x2048x2x4x64 : Shape := ⟨5, ![16, 2048, 2, 4, 64]⟩
abbrev S16x2048x512 : Shape := ⟨3, ![16, 2048, 512]⟩
abbrev S16x2048 : Shape := ⟨2, ![16, 2048]⟩
abbrev S16x2048x1 : Shape := ⟨3, ![16, 2048, 1]⟩
abbrev S512 : Shape := ⟨1, ![512]⟩
abbrev S1x1x512 : Shape := ⟨3, ![1, 1, 512]⟩

abbrev nBuf : Space → Nat
  | .hbm => 47
  | .vmem => 0
  | .smem => 0
  | _ => 0

abbrev bufTy : (tb : Table) → Fin (tcTables nBuf tb) → BufTy
  | .hbm, ⟨0, _⟩ => ⟨S16x2048x8x64, .f32⟩
  | .hbm, ⟨1, _⟩ => ⟨S16x2048x2x64, .f32⟩
  | .hbm, ⟨2, _⟩ => ⟨S16x2048x2x64, .f32⟩
  | .hbm, ⟨3, _⟩ => ⟨S1x512, .f32⟩
  | .hbm, ⟨4, _⟩ => ⟨S16x8x2048x64, .f32⟩
  | .hbm, ⟨5, _⟩ => ⟨S_, .f32⟩
  | .hbm, ⟨6, _⟩ => ⟨S16x8x2048x64, .f32⟩
  | .hbm, ⟨7, _⟩ => ⟨S16x8x2048x64, .f32⟩
  | .hbm, ⟨8, _⟩ => ⟨S16x2x2048x64, .f32⟩
  | .hbm, ⟨9, _⟩ => ⟨S16x2x2048x64, .f32⟩
  | .hbm, ⟨10, _⟩ => ⟨S16x2x4x2048x64, .f32⟩
  | .hbm, ⟨11, _⟩ => ⟨S16x2x4x2048x2048, .f32⟩
  | .hbm, ⟨12, _⟩ => ⟨S_, .f32⟩
  | .hbm, ⟨13, _⟩ => ⟨S16x2x4x2048, .f32⟩
  | .hbm, ⟨14, _⟩ => ⟨S_, .f32⟩
  | .hbm, ⟨15, _⟩ => ⟨S16x2x4x2048, .f32⟩
  | .hbm, ⟨16, _⟩ => ⟨S16x2x4x2048, .f32⟩
  | .hbm, ⟨17, _⟩ => ⟨S16x2x4x2048x1, .f32⟩
  | .hbm, ⟨18, _⟩ => ⟨S16x2x4x2048x2048, .f32⟩
  | .hbm, ⟨19, _⟩ => ⟨S16x2x4x2048x2048, .f32⟩
  | .hbm, ⟨20, _⟩ => ⟨S16x2x4x2048x2048, .f32⟩
  | .hbm, ⟨21, _⟩ => ⟨S_, .f32⟩
  | .hbm, ⟨22, _⟩ => ⟨S16x2x4x2048, .f32⟩
  | .hbm, ⟨23, _⟩ => ⟨S16x2x4x2048x1, .f32⟩
  | .hbm, ⟨24, _⟩ => ⟨S16x2x4x2048x2048, .f32⟩
  | .hbm, ⟨25, _⟩ => ⟨S16x2x4x2048x2048, .f32⟩
  | .hbm, ⟨26, _⟩ => ⟨S16x2x4x2048x64, .f32⟩
  | .hbm, ⟨27, _⟩ => ⟨S16x2048x2x4x64, .f32⟩
  | .hbm, ⟨28, _⟩ => ⟨S16x2048x512, .f32⟩
  | .hbm, ⟨29, _⟩ => ⟨S16x2048x512, .f32⟩
  | .hbm, ⟨30, _⟩ => ⟨S_, .f32⟩
  | .hbm, ⟨31, _⟩ => ⟨S16x2048, .f32⟩
  | .hbm, ⟨32, _⟩ => ⟨S16x2048x1, .f32⟩
  | .hbm, ⟨33, _⟩ => ⟨S_, .f32⟩
  | .hbm, ⟨34, _⟩ => ⟨S16x2048x1, .f32⟩
  | .hbm, ⟨35, _⟩ => ⟨S16x2048x1, .f32⟩
  | .hbm, ⟨36, _⟩ => ⟨S_, .f32⟩
  | .hbm, ⟨37, _⟩ => ⟨S16x2048x1, .f32⟩
  | .hbm, ⟨38, _⟩ => ⟨S16x2048x1, .f32⟩
  | .hbm, ⟨39, _⟩ => ⟨S16x2048x1, .f32⟩
  | .hbm, ⟨40, _⟩ => ⟨S16x2048x512, .f32⟩
  | .hbm, ⟨41, _⟩ => ⟨S16x2048x512, .f32⟩
  | .hbm, ⟨42, _⟩ => ⟨S512, .f32⟩
  | .hbm, ⟨43, _⟩ => ⟨S1x1x512, .f32⟩
  | .hbm, ⟨44, _⟩ => ⟨S16x2048x512, .f32⟩
  | .hbm, ⟨45, _⟩ => ⟨S16x2048x512, .f32⟩
  | .hbm, ⟨46, _⟩ => ⟨S16x2048x512, .bf16⟩
  | _, _ => ⟨S16x2048x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩
abbrev main_cst_4 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩

abbrev nD : Nat := 1
abbrev τ : Topo := Topo.v7x

variable {F : FTy → Type} [FloatOps F]
-- ==== KernelMlp.lean ====
abbrev S16x2048x1024 : Shape := ⟨3, ![16, 2048, 1024]⟩
abbrev S16x2048x512 : Shape := ⟨3, ![16, 2048, 512]⟩
abbrev S1x1024x1024 : Shape := ⟨3, ![1, 1024, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S1024 : Shape := ⟨1, ![1024]⟩
abbrev S32768x1024 : Shape := ⟨2, ![32768, 1024]⟩
abbrev S32768x512 : Shape := ⟨2, ![32768, 512]⟩
abbrev S1024x1024 : Shape := ⟨2, ![1024, 1024]⟩
abbrev S1024x4096 : Shape := ⟨2, ![1024, 4096]⟩
abbrev S4096x1024 : Shape := ⟨2, ![4096, 1024]⟩
abbrev S1024x512 : Shape := ⟨2, ![1024, 512]⟩
abbrev S1024x1 : Shape := ⟨2, ![1024, 1]⟩

abbrev nBuf : Space → Nat
  | .hbm => 23
  | .vmem => 13
  | .smem => 0
  | _ => 0

abbrev bufTy : (tb : Table) → Fin (tcTables nBuf tb) → BufTy
  | .hbm, ⟨0, _⟩ => ⟨S16x2048x1024, .f32⟩
  | .hbm, ⟨1, _⟩ => ⟨S16x2048x512, .f32⟩
  | .hbm, ⟨2, _⟩ => ⟨S16x2048x512, .f32⟩
  | .hbm, ⟨3, _⟩ => ⟨S1x1024x1024, .f32⟩
  | .hbm, ⟨4, _⟩ => ⟨S1x1024, .f32⟩
  | .hbm, ⟨5, _⟩ => ⟨S1x1024x4096, .f32⟩
  | .hbm, ⟨6, _⟩ => ⟨S1x4096x1024, .f32⟩
  | .hbm, ⟨7, _⟩ => ⟨S1024, .f32⟩
  | .hbm, ⟨8, _⟩ => ⟨S32768x1024, .f32⟩
  | .hbm, ⟨9, _⟩ => ⟨S16x2048x512, .bf16⟩
  | .hbm, ⟨10, _⟩ => ⟨S32768x512, .bf16⟩
  | .hbm, ⟨11, _⟩ => ⟨S16x2048x512, .bf16⟩
  | .hbm, ⟨12, _⟩ => ⟨S32768x512, .bf16⟩
  | .hbm, ⟨13, _⟩ => ⟨S1024x1024, .f32⟩
  | .hbm, ⟨14, _⟩ => ⟨S1024x1024, .bf16⟩
  | .hbm, ⟨15, _⟩ => ⟨S1024, .f32⟩
  | .hbm, ⟨16, _⟩ => ⟨S1x1024, .f32⟩
  | .hbm, ⟨17, _⟩ => ⟨S1024x4096, .f32⟩
  | .hbm, ⟨18, _⟩ => ⟨S1024x4096, .bf16⟩
  | .hbm, ⟨19, _⟩ => ⟨S4096x1024, .f32⟩
  | .hbm, ⟨20, _⟩ => ⟨S4096x1024, .bf16⟩
  | .hbm, ⟨21, _⟩ => ⟨S1x1024, .f32⟩
  | .hbm, ⟨22, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x1024, .bf16⟩
  | .local _ .vmem, ⟨7, _⟩ => ⟨S1x1024, .f32⟩
  | .local _ .vmem, ⟨8, _⟩ => ⟨S1024x4096, .bf16⟩
  | .local _ .vmem, ⟨9, _⟩ => ⟨S4096x1024, .bf16⟩
  | .local _ .vmem, ⟨10, _⟩ => ⟨S1x1024, .f32⟩
  | .local _ .vmem, ⟨11, _⟩ => ⟨S1024x1024, .f32⟩
  | .local _ .vmem, ⟨12, _⟩ => ⟨S1024x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4096x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceMlpIdeal.lean ====
abbrev S16x2048x1024 : Shape := ⟨3, ![16, 2048, 1024]⟩
abbrev S16x2048x512 : Shape := ⟨3, ![16, 2048, 512]⟩
abbrev S1x1024x1024 : Shape := ⟨3, ![1, 1024, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S1024 : Shape := ⟨1, ![1024]⟩
abbrev S1024x1024 : Shape := ⟨2, ![1024, 1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S1024x4096 : Shape := ⟨2, ![1024, 4096]⟩
abbrev S16x2048x4096 : Shape := ⟨3, ![16, 2048, 4096]⟩
abbrev S4096x1024 : Shape := ⟨2, ![4096, 1024]⟩
abbrev S32768x1024 : Shape := ⟨2, ![32768, 1024]⟩

abbrev nBuf : Space → Nat
  | .hbm => 55
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x2048x512, .f32⟩
  | .hbm, ⟨2, _⟩ => ⟨S16x2048x512, .f32⟩
  | .hbm, ⟨3, _⟩ => ⟨S1x1024x1024, .f32⟩
  | .hbm, ⟨4, _⟩ => ⟨S1x1024, .f32⟩
  | .hbm, ⟨5, _⟩ => ⟨S1x1024x4096, .f32⟩
  | .hbm, ⟨6, _⟩ => ⟨S1x4096x1024, .f32⟩
  | .hbm, ⟨7, _⟩ => ⟨S1024, .f32⟩
  | .hbm, ⟨8, _⟩ => ⟨S16x2048x1024, .f32⟩
  | .hbm, ⟨9, _⟩ => ⟨S1024x1024, .f32⟩
  | .hbm, ⟨10, _⟩ => ⟨S16x2048x1024, .f32⟩
  | .hbm, ⟨11, _⟩ => ⟨S16x2048x1024, .f32⟩
  | .hbm, ⟨12, _⟩ => ⟨S1024, .f32⟩
  | .hbm, ⟨13, _⟩ => ⟨S16x2048x1024, .f32⟩
  | .hbm, ⟨14, _⟩ => ⟨S_, .f32⟩
  | .hbm, ⟨15, _⟩ => ⟨S16x2048, .f32⟩
  | .hbm, ⟨16, _⟩ => ⟨S16x2048x1, .f32⟩
  | .hbm, ⟨17, _⟩ => ⟨S_, .f32⟩
  | .hbm, ⟨18, _⟩ => ⟨S16x2048x1, .f32⟩
  | .hbm, ⟨19, _⟩ => ⟨S16x2048x1, .f32⟩
  | .hbm, ⟨20, _⟩ => ⟨S_, .f32⟩
  | .hbm, ⟨21, _⟩ => ⟨S16x2048x1, .f32⟩
  | .hbm, ⟨22, _⟩ => ⟨S16x2048x1, .f32⟩
  | .hbm, ⟨23, _⟩ => ⟨S16x2048x1, .f32⟩
  | .hbm, ⟨24, _⟩ => ⟨S16x2048x1024, .f32⟩
  | .hbm, ⟨25, _⟩ => ⟨S16x2048x1024, .f32⟩
  | .hbm, ⟨26, _⟩ => ⟨S1x1x1024, .f32⟩
  | .hbm, ⟨27, _⟩ => ⟨S16x2048x1024, .f32⟩
  | .hbm, ⟨28, _⟩ => ⟨S16x2048x1024, .f32⟩
  | .hbm, ⟨29, _⟩ => ⟨S1024x4096, .f32⟩
  | .hbm, ⟨30, _⟩ => ⟨S16x2048x4096, .f32⟩
  | .hbm, ⟨31, _⟩ => ⟨S_, .f32⟩
  | .hbm, ⟨32, _⟩ => ⟨S16x2048x4096, .f32⟩
  | .hbm, ⟨33, _⟩ => ⟨S16x2048x4096, .f32⟩
  | .hbm, ⟨34, _⟩ => ⟨S16x2048x4096, .f32⟩
  | .hbm, ⟨35, _⟩ => ⟨S4096x1024, .f32⟩
  | .hbm, ⟨36, _⟩ => ⟨S16x2048x1024, .f32⟩
  | .hbm, ⟨37, _⟩ => ⟨S16x2048x1024, .f32⟩
  | .hbm, ⟨38, _⟩ => ⟨S16x2048x1024, .f32⟩
  | .hbm, ⟨39, _⟩ => ⟨S_, .f32⟩
  | .hbm, ⟨40, _⟩ => ⟨S16x2048, .f32⟩
  | .hbm, ⟨41, _⟩ => ⟨S16x2048x1, .f32⟩
  | .hbm, ⟨42, _⟩ => ⟨S_, .f32⟩
  | .hbm, ⟨43, _⟩ => ⟨S16x2048x1, .f32⟩
  | .hbm, ⟨44, _⟩ => ⟨S16x2048x1, .f32⟩
  | .hbm, ⟨45, _⟩ => ⟨S_, .f32⟩
  | .hbm, ⟨46, _⟩ => ⟨S16x2048x1, .f32⟩
  | .hbm, ⟨47, _⟩ => ⟨S16x2048x1, .f32⟩
  | .hbm, ⟨48, _⟩ => ⟨S16x2048x1, .f32⟩
  | .hbm, ⟨49, _⟩ => ⟨S16x2048x1024, .f32⟩
  | .hbm, ⟨50, _⟩ => ⟨S16x2048x1024, .f32⟩
  | .hbm, ⟨51, _⟩ => ⟨S1x1x1024, .f32⟩
  | .hbm, ⟨52, _⟩ => ⟨S16x2048x1024, .f32⟩
  | .hbm, ⟨53, _⟩ => ⟨S16x2048x1024, .f32⟩
  | .hbm, ⟨54, _⟩ => ⟨S32768x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_call0_cst : Ref sig .tc := ⟨.hbm, 31, rfl⟩
abbrev main_call0_v0 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_2 : Ref sig .tc := ⟨.hbm, 39, rfl⟩
abbrev main_v26 : Ref sig .tc := ⟨.hbm, 40, rfl⟩
abbrev main_v27 : Ref sig .tc := ⟨.hbm, 41, rfl⟩
abbrev main_cst_3 : Ref sig .tc := ⟨.hbm, 42, rfl⟩
abbrev main_v28 : Ref sig .tc := ⟨.hbm, 43, rfl⟩
abbrev main_v29 : Ref sig .tc := ⟨.hbm, 44, rfl⟩
abbrev main_cst_4 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩

abbrev nD : Nat := 1
abbrev τ : Topo := Topo.v7x

variable {F : FTy → Type} [FloatOps F]
-- ==== KernelProj.lean ====
abbrev S16x2048x1024 : Shape := ⟨3, ![16, 2048, 1024]⟩
abbrev S1x1024 : Shape := ⟨2, ![1, 1024]⟩
abbrev S1x1024x2304 : Shape := ⟨3, ![1, 1024, 2304]⟩
abbrev S1x64 : Shape := ⟨2, ![1, 64]⟩
abbrev S64 : Shape := ⟨1, ![64]⟩
abbrev S2x64 : Shape := ⟨2, ![2, 64]⟩
abbrev S128 : Shape := ⟨1, ![128]⟩
abbrev S1x128 : Shape := ⟨2, ![1, 128]⟩
abbrev S1024 : Shape := ⟨1, ![1024]⟩
abbrev S1024x2304 : Shape := ⟨2, ![1024, 2304]⟩
abbrev S32 : Shape := ⟨1, ![32]⟩
abbrev S32x64 : Shape := ⟨2, ![32, 64]⟩
abbrev S2048 : Shape := ⟨1, ![2048]⟩
abbrev S16 : Shape := ⟨1, ![16]⟩
abbrev S_ : Shape := ⟨0, ![]⟩
abbrev S2048x1 : Shape := ⟨2, ![2048, 1]⟩
abbrev S1x16 : Shape := ⟨2, ![1, 16]⟩
abbrev S2048x16 : Shape := ⟨2, ![2048, 16]⟩
abbrev S2048x64 : Shape := ⟨2, ![2048, 64]⟩
abbrev S1x2048x1x64 : Shape := ⟨4, ![1, 2048, 1, 64]⟩
abbrev S1x2048x2x64 : Shape := ⟨4, ![1, 2048, 2, 64]⟩
abbrev S2048x128 : Shape := ⟨2, ![2048, 128]⟩
abbrev S256x128 : Shape := ⟨2, ![256, 128]⟩
abbrev S16x512x2048 : Shape := ⟨3, ![16, 512, 2048]⟩
abbrev S16x2048x256 : Shape := ⟨3, ![16, 2048, 256]⟩
abbrev S16x128x2048 : Shape := ⟨3, ![16, 128, 2048]⟩
abbrev S16x2048x512 : Shape := ⟨3, ![16, 2048, 512]⟩
abbrev S16x4x512x512 : Shape := ⟨4, ![16, 4, 512, 512]⟩
abbrev S16x16x128x512 : Shape := ⟨4, ![16, 16, 128, 512]⟩
abbrev S1x1024x1024 : Shape := ⟨3, ![1, 1024, 1024]⟩
abbrev S1024x128 : Shape := ⟨2, ![1024, 128]⟩
abbrev S1x512x1024 : Shape := ⟨3, ![1, 512, 1024]⟩
abbrev S1x1024x256 : Shape := ⟨3, ![1, 1024, 256]⟩
abbrev S1x128x1024 : Shape := ⟨3, ![1, 128, 1024]⟩
abbrev S1x1024x512 : Shape := ⟨3, ![1, 1024, 512]⟩
abbrev S1x4x256x512 : Shape := ⟨4, ![1, 4, 256, 512]⟩
abbrev S1x16x64x512 : Shape := ⟨4, ![1, 16, 64, 512]⟩
abbrev S4x1024x128 : Shape := ⟨3, ![4, 1024, 128]⟩
abbrev S4x4x256x128 : Shape := ⟨4, ![4, 4, 256, 128]⟩
abbrev S1024x1024 : Shape := ⟨2, ![1024, 1024]⟩
abbrev S1024x1 : Shape := ⟨2, ![1024, 1]⟩
abbrev S1024x512 : Shape := ⟨2, ![1024, 512]⟩
abbrev S1x1024x128 : Shape := ⟨3, ![1, 1024, 128]⟩
abbrev S1024x256 : Shape := ⟨2, ![1024, 256]⟩
abbrev S128x1024 : Shape := ⟨2, ![128, 1024]⟩
abbrev S1x256x128 : Shape := ⟨3, ![1, 256, 128]⟩
abbrev S1x1x256x128 : Shape := ⟨4, ![1, 1, 256, 128]⟩
abbrev S1x1x64x128 : Shape := ⟨4, ![1, 1, 64, 128]⟩
abbrev S64x128 : Shape := ⟨2, ![64, 128]⟩

abbrev nBuf : Space → Nat
  | .hbm => 85
  | .vmem => 41
  | .smem => 0
  | _ => 0

abbrev bufTy : (tb : Table) → Fin (tcTables nBuf tb) → BufTy
  | .hbm, ⟨0, _⟩ => ⟨S16x2048x1024, .f32⟩
  | .hbm, ⟨1, _⟩ => ⟨S1x1024, .f32⟩
  | .hbm, ⟨2, _⟩ => ⟨S1x1024x2304, .f32⟩
  | .hbm, ⟨3, _⟩ => ⟨S1x64, .f32⟩
  | .hbm, ⟨4, _⟩ => ⟨S1x64, .f32⟩
  | .hbm, ⟨5, _⟩ => ⟨S64, .f32⟩
  | .hbm, ⟨6, _⟩ => ⟨S1x64, .f32⟩
  | .hbm, ⟨7, _⟩ => ⟨S2x64, .f32⟩
  | .hbm, ⟨8, _⟩ => ⟨S128, .f32⟩
  | .hbm, ⟨9, _⟩ => ⟨S1x128, .f32⟩
  | .hbm, ⟨10, _⟩ => ⟨S64, .f32⟩
  | .hbm, ⟨11, _⟩ => ⟨S1x64, .f32⟩
  | .hbm, ⟨12, _⟩ => ⟨S2x64, .f32⟩
  | .hbm, ⟨13, _⟩ => ⟨S128, .f32⟩
  | .hbm, ⟨14, _⟩ => ⟨S1x128, .f32⟩
  | .hbm, ⟨15, _⟩ => ⟨S1024, .f32⟩
  | .hbm, ⟨16, _⟩ => ⟨S1x1024, .f32⟩
  | .hbm, ⟨17, _⟩ => ⟨S1024x2304, .f32⟩
  | .hbm, ⟨18, _⟩ => ⟨S1024x2304, .bf16⟩
  | .hbm, ⟨19, _⟩ => ⟨S32, .f32⟩
  | .hbm, ⟨20, _⟩ => ⟨S32x64, .f32⟩
  | .hbm, ⟨21, _⟩ => ⟨S2048, .f32⟩
  | .hbm, ⟨22, _⟩ => ⟨S64, .f32⟩
  | .hbm, ⟨23, _⟩ => ⟨S1x64, .f32⟩
  | .hbm, ⟨24, _⟩ => ⟨S32x64, .f32⟩
  | .hbm, ⟨25, _⟩ => ⟨S2048, .f32⟩
  | .hbm, ⟨26, _⟩ => ⟨S16, .f32⟩
  | .hbm, ⟨27, _⟩ => ⟨S16, .f32⟩
  | .hbm, ⟨28, _⟩ => ⟨S_, .f32⟩
  | .hbm, ⟨29, _⟩ => ⟨S16, .f32⟩
  | .hbm, ⟨30, _⟩ => ⟨S16, .f32⟩
  | .hbm, ⟨31, _⟩ => ⟨S_, .f32⟩
  | .hbm, ⟨32, _⟩ => ⟨S16, .f32⟩
  | .hbm, ⟨33, _⟩ => ⟨S16, .f32⟩
  | .hbm, ⟨34, _⟩ => ⟨S2048x1, .f32⟩
  | .hbm, ⟨35, _⟩ => ⟨S1x16, .f32⟩
  | .hbm, ⟨36, _⟩ => ⟨S2048x16, .f32⟩
  | .hbm, ⟨37, _⟩ => ⟨S2048x16, .f32⟩
  | .hbm, ⟨38, _⟩ => ⟨S2048x16, .f32⟩
  | .hbm, ⟨39, _⟩ => ⟨S2048x1, .f32⟩
  | .hbm, ⟨40, _⟩ => ⟨S1x16, .f32⟩
  | .hbm, ⟨41, _⟩ => ⟨S2048x16, .f32⟩
  | .hbm, ⟨42, _⟩ => ⟨S2048x16, .f32⟩
  | .hbm, ⟨43, _⟩ => ⟨S2048x16, .f32⟩
  | .hbm, ⟨44, _⟩ => ⟨S2048x16, .f32⟩
  | .hbm, ⟨45, _⟩ => ⟨S2048x16, .f32⟩
  | .hbm, ⟨46, _⟩ => ⟨S2048x64, .f32⟩
  | .hbm, ⟨47, _⟩ => ⟨S2048x16, .f32⟩
  | .hbm, ⟨48, _⟩ => ⟨S2048x16, .f32⟩
  | .hbm, ⟨49, _⟩ => ⟨S2048x16, .f32⟩
  | .hbm, ⟨50, _⟩ => ⟨S2048x16, .f32⟩
  | .hbm, ⟨51, _⟩ => ⟨S2048x16, .f32⟩
  | .hbm, ⟨52, _⟩ => ⟨S2048x16, .f32⟩
  | .hbm, ⟨53, _⟩ => ⟨S2048x64, .f32⟩
  | .hbm, ⟨54, _⟩ => ⟨S1x2048x1x64, .f32⟩
  | .hbm, ⟨55, _⟩ => ⟨S1x2048x2x64, .f32⟩
  | .hbm, ⟨56, _⟩ => ⟨S2048x128, .f32⟩
  | .hbm, ⟨57, _⟩ => ⟨S1x2048x1x64, .f32⟩
  | .hbm, ⟨58, _⟩ => ⟨S1x2048x2x64, .f32⟩
  | .hbm, ⟨59, _⟩ => ⟨S2048x128, .f32⟩
  | .hbm, ⟨60, _⟩ => ⟨S256x128, .i32⟩
  | .hbm, ⟨61, _⟩ => ⟨S256x128, .i32⟩
  | .hbm, ⟨62, _⟩ => ⟨S_, .i32⟩
  | .hbm, ⟨63, _⟩ => ⟨S256x128, .i32⟩
  | .hbm, ⟨64, _⟩ => ⟨S256x128, .i32⟩
  | .hbm, ⟨65, _⟩ => ⟨S_, .i32⟩
  | .hbm, ⟨66, _⟩ => ⟨S256x128, .i32⟩
  | .hbm, ⟨67, _⟩ => ⟨S256x128, .i32⟩
  | .hbm, ⟨68, _⟩ => ⟨S_, .i32⟩
  | .hbm, ⟨69, _⟩ => ⟨S256x128, .i32⟩
  | .hbm, ⟨70, _⟩ => ⟨S256x128, .i32⟩
  | .hbm, ⟨71, _⟩ => ⟨S256x128, .i1⟩
  | .hbm, ⟨72, _⟩ => ⟨S256x128, .bf16⟩
  | .hbm, ⟨73, _⟩ => ⟨S16x512x2048, .bf16⟩
  | .hbm, ⟨74, _⟩ => ⟨S16x2048x256, .bf16⟩
  | .hbm, ⟨75, _⟩ => ⟨S16x128x2048, .bf16⟩
  | .hbm, ⟨76, _⟩ => ⟨S16x2048x512, .bf16⟩
  | .hbm, ⟨77, _⟩ => ⟨S16x4x512x512, .bf16⟩
  | .hbm, ⟨78, _⟩ => ⟨S16x16x128x512, .bf16⟩
  | .hbm, ⟨79, _⟩ => ⟨S16x2048x512, .bf16⟩
  | .hbm, ⟨80, _⟩ => ⟨S16x4x512x512, .bf16⟩
  | .hbm, ⟨81, _⟩ => ⟨S16x16x128x512, .bf16⟩
  | .hbm, ⟨82, _⟩ => ⟨S16x2048x512, .bf16⟩
  | .hbm, ⟨83, _⟩ => ⟨S16x4x512x512, .bf16⟩
  | .hbm, ⟨84, _⟩ => ⟨S16x16x128x512, .bf16⟩
  | .local _ .vmem, ⟨0, _⟩ => ⟨S1x1024x1024, .f32⟩
  | .local _ .vmem, ⟨1, _⟩ => ⟨S1x1024x1024, .f32⟩
  | .local _ .vmem, ⟨2, _⟩ => ⟨S1x1024, .f32⟩
  | .local _ .vmem, ⟨3, _⟩ => ⟨S1024x2304, .bf16⟩
  | .local _ .vmem, ⟨4, _⟩ => ⟨S1x128, .f32⟩
  | .local _ .vmem, ⟨5, _⟩ => ⟨S1x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S256x128, .bf16⟩
  | .local _ .vmem, ⟨11, _⟩ => ⟨S1x512x1024, .bf16⟩
  | .local _ .vmem, ⟨12, _⟩ => ⟨S1x512x1024, .bf16⟩
  | .local _ .vmem, ⟨13, _⟩ => ⟨S1x1024x256, .bf16⟩
  | .local _ .vmem, ⟨14, _⟩ => ⟨S1x1024x256, .bf16⟩
  | .local _ .vmem, ⟨15, _⟩ => ⟨S1x128x1024, .bf16⟩
  | .local _ .vmem, ⟨16, _⟩ => ⟨S1x128x1024, .bf16⟩
  | .local _ .vmem, ⟨17, _⟩ => ⟨S1x1024x512, .bf16⟩
  | .local _ .vmem, ⟨18, _⟩ => ⟨S1x1024x512, .bf16⟩
  | .local _ .vmem, ⟨19, _⟩ => ⟨S1x4x256x512, .bf16⟩
  | .local _ .vmem, ⟨20, _⟩ => ⟨S1x4x256x512, .bf16⟩
  | .local _ .vmem, ⟨21, _⟩ => ⟨S1x16x64x512, .bf16⟩
  | .local _ .vmem, ⟨22, _⟩ => ⟨S1x16x64x512, .bf16⟩
  | .local _ .vmem, ⟨23, _⟩ => ⟨S1x1024x512, .bf16⟩
  | .local _ .vmem, ⟨24, _⟩ => ⟨S1x1024x512, .bf16⟩
  | .local _ .vmem, ⟨25, _⟩ => ⟨S1x4x256x512, .bf16⟩
  | .local _ .vmem, ⟨26, _⟩ => ⟨S1x4x256x512, .bf16⟩
  | .local _ .vmem, ⟨27, _⟩ => ⟨S1x16x64x512, .bf16⟩
  | .local _ .vmem, ⟨28, _⟩ => ⟨S1x16x64x512, .bf16⟩
  | .local _ .vmem, ⟨29, _⟩ => ⟨S1x1024x512, .bf16⟩
  | .local _ .vmem, ⟨30, _⟩ => ⟨S1x1024x512, .bf16⟩
  | .local _ .vmem, ⟨31, _⟩ => ⟨S1x4x256x512, .bf16⟩
  | .local _ .vmem, ⟨32, _⟩ => ⟨S1x4x256x512, .bf16⟩
  | .local _ .vmem, ⟨33, _⟩ => ⟨S1x16x64x512, .bf16⟩
  | .local _ .vmem, ⟨34, _⟩ => ⟨S1x16x64x512, .bf16⟩
  | .local _ .vmem, ⟨35, _⟩ => ⟨S4x1024x128, .f32⟩
  | .local _ .vmem, ⟨36, _⟩ => ⟨S4x1024x128, .f32⟩
  | .local _ .vmem, ⟨37, _⟩ => ⟨S4x1024x128, .f32⟩
  | .local _ .vmem, ⟨38, _⟩ => ⟨S4x4x256x128, .f32⟩
  | .local _ .vmem, ⟨39, _⟩ => ⟨S4x4x256x128, .f32⟩
  | .local _ .vmem, ⟨40, _⟩ => ⟨S4x4x256x128, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_cst : Ref sig .tc := ⟨.hbm, 28, rfl⟩
abbrev main_v23 : Ref sig .tc := ⟨.hbm, 29, rfl⟩
abbrev main_v24 : Ref sig .tc := ⟨.hbm, 30, rfl⟩
abbrev main_cst_0 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_c : Ref sig .tc := ⟨.hbm, 62, rfl⟩
abbrev main_v55 : Ref sig .tc := ⟨.hbm, 63, rfl⟩
abbrev main_v56 : Ref sig .tc := ⟨.hbm, 64, rfl⟩
abbrev main_c_1 : Ref sig .tc := ⟨.hbm, 65, rfl⟩
abbrev main_v57 : Ref sig .tc := ⟨.hbm, 66, rfl⟩
abbrev main_v58 : Ref sig .tc := ⟨.hbm, 67, rfl⟩
abbrev main_c_2 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63_0 : Ref sig .tc := ⟨.hbm, 73, rfl⟩
abbrev main_v63_1 : Ref sig .tc := ⟨.hbm, 74, rfl⟩
abbrev main_v63_2 : Ref sig .tc := ⟨.hbm, 75, rfl⟩
abbrev main_v63_3 : Ref sig .tc := ⟨.hbm, 76, rfl⟩
abbrev main_v63_4 : Ref sig .tc := ⟨.hbm, 77, rfl⟩
abbrev main_v63_5 : Ref sig .tc := ⟨.hbm, 78, rfl⟩
abbrev main_v63_6 : Ref sig .tc := ⟨.hbm, 79, rfl⟩
abbrev main_v63_7 : Ref sig .tc := ⟨.hbm, 80, rfl⟩
abbrev main_v63_8 : Ref sig .tc := ⟨.hbm, 81, rfl⟩
abbrev main_v63_9 : Ref sig .tc := ⟨.hbm, 82, rfl⟩
abbrev main_v63_10 : Ref sig .tc := ⟨.hbm, 83, rfl⟩
abbrev main_v63_11 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_stg17_0 : Ref sig .tc := ⟨.vmem, 29, rfl⟩
abbrev cc0_stg17_1 : Ref sig .tc := ⟨.vmem, 30, rfl⟩
abbrev cc0_stg18_0 : Ref sig .tc := ⟨.vmem, 31, rfl⟩
abbrev cc0_stg18_1 : Ref sig .tc := ⟨.vmem, 32, rfl⟩
abbrev cc0_stg19_0 : Ref sig .tc := ⟨.vmem, 33, rfl⟩
abbrev cc0_stg19_1 : Ref sig .tc := ⟨.vmem, 34, rfl⟩
abbrev cc0_scratch0 : Ref sig .tc := ⟨.vmem, 35, rfl⟩
abbrev cc0_scratch1 : Ref sig .tc := ⟨.vmem, 36, rfl⟩
abbrev cc0_scratch2 : Ref sig .tc := ⟨.vmem, 37, rfl⟩
abbrev cc0_scratch3 : Ref sig .tc := ⟨.vmem, 38, rfl⟩
abbrev cc0_scratch4 : Ref sig .tc := ⟨.vmem, 39, rfl⟩
abbrev cc0_scratch5 : Ref sig .tc := ⟨.vmem, 40, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28
abbrev cc0_sem17_0 : DmaSem sig := 29
abbrev cc0_sem17_1 : DmaSem sig := 30
abbrev cc0_sem18_0 : DmaSem sig := 31
abbrev cc0_sem18_1 : DmaSem sig := 32
abbrev cc0_sem19_0 : DmaSem sig := 33
abbrev cc0_sem19_1 : DmaSem sig := 34

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, arg0.toNat, c0_i32_0.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, arg0.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_15 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, arg0.toNat, c0_i32_0.toNat]

def cc0_transform_16 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, arg0.toNat, c0_i32_0.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_18 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, arg0.toNat, c0_i32_0.toNat]

def cc0_transform_19 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, arg0.toNat, c0_i32_0.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x2304 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S256x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1024x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x128x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1024x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x4x256x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x16x64x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x1024x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x4x256x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x16x64x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x1024x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x4x256x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x16x64x512 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]
-- ==== KernelProjIdeal.lean ====
variable {F : FTy → Type} [FloatOps F] [Named F]
def κ : String → Option EReal := fun
  | "qscale" => some ((8⁻¹ * (Real.log 2)⁻¹ : ℝ) : EReal)
  | _ => none
-- ==== ReferenceProjIdeal.lean ====
abbrev S16x2048x1024 : Shape := ⟨3, ![16, 2048, 1024]⟩
abbrev S1x1024 : Shape := ⟨2, ![1, 1024]⟩
abbrev S1x1024x2304 : Shape := ⟨3, ![1, 1024, 2304]⟩
abbrev S1x64 : Shape := ⟨2, ![1, 64]⟩
abbrev S1024 : Shape := ⟨1, ![1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S1024x2304 : Shape := ⟨2, ![1024, 2304]⟩
abbrev S16x2048x2304 : Shape := ⟨3, ![16, 2048, 2304]⟩
abbrev S16x2048x512 : Shape := ⟨3, ![16, 2048, 512]⟩
abbrev S16x2048x8x64 : Shape := ⟨4, ![16, 2048, 8, 64]⟩
abbrev S64 : Shape := ⟨1, ![64]⟩
abbrev S16x2048x8 : Shape := ⟨3, ![16, 2048, 8]⟩
abbrev S16x2048x8x1 : Shape := ⟨4, ![16, 2048, 8, 1]⟩
abbrev S1x1x1x64 : Shape := ⟨4, ![1, 1, 1, 64]⟩
abbrev S32 : Shape := ⟨1, ![32]⟩
abbrev S32x64 : Shape := ⟨2, ![32, 64]⟩
abbrev S2048 : Shape := ⟨1, ![2048]⟩
abbrev S16 : Shape := ⟨1, ![16]⟩
abbrev S16x2048x8x32 : Shape := ⟨4, ![16, 2048, 8, 32]⟩
abbrev S2048x1 : Shape := ⟨2, ![2048, 1]⟩
abbrev S1x16 : Shape := ⟨2, ![1, 16]⟩
abbrev S2048x16 : Shape := ⟨2, ![2048, 16]⟩
abbrev S2048x1x16 : Shape := ⟨3, ![2048, 1, 16]⟩
abbrev S16x2048x8x16 : Shape := ⟨4, ![16, 2048, 8, 16]⟩
abbrev S1x2048x1x16 : Shape := ⟨4, ![1, 2048, 1, 16]⟩
abbrev S16x2048x128 : Shape := ⟨3, ![16, 2048, 128]⟩
abbrev S16x2048x2x64 : Shape := ⟨4, ![16, 2048, 2, 64]⟩
abbrev S16x2048x2 : Shape := ⟨3, ![16, 2048, 2]⟩
abbrev S16x2048x2x1 : Shape := ⟨4, ![16, 2048, 2, 1]⟩
abbrev S16x2048x2x32 : Shape := ⟨4, ![16, 2048, 2, 32]⟩
abbrev S16x2048x2x16 : Shape := ⟨4, ![16, 2048, 2, 16]⟩
abbrev S16x2048x2x1x64 : Shape := ⟨5, ![16, 2048, 2, 1, 64]⟩
abbrev S16x2048x2x2x64 : Shape := ⟨5, ![16, 2048, 2, 2, 64]⟩
abbrev S16x512x2048 : Shape := ⟨3, ![16, 512, 2048]⟩
abbrev S16x2048x256 : Shape := ⟨3, ![16, 2048, 256]⟩
abbrev S16x128x2048 : Shape := ⟨3, ![16, 128, 2048]⟩
abbrev S16x512x4x512 : Shape := ⟨4, ![16, 512, 4, 512]⟩
abbrev S16x4x512x512 : Shape := ⟨4, ![16, 4, 512, 512]⟩
abbrev S16x128x16x512 : Shape := ⟨4, ![16, 128, 16, 512]⟩
abbrev S16x16x128x512 : Shape := ⟨4, ![16, 16, 128, 512]⟩

abbrev nBuf : Space → Nat
  | .hbm => 241
  | .vmem => 0
  | .smem => 0
  | _ => 0

abbrev hbmTy0_0 (i : Nat) : BufTy := match i % 128 with
  | 0 => ⟨S16x2048x1024, .f32⟩
  | 1 => ⟨S1x1024, .f32⟩
  | 2 => ⟨S1x1024x2304, .f32⟩
  | 3 => ⟨S1x64, .f32⟩
  | 4 => ⟨S1x64, .f32⟩
  | 5 => ⟨S1024, .f32⟩
  | 6 => ⟨S16x2048x1024, .f32⟩
  | 7 => ⟨S_, .f32⟩
  | 8 => ⟨S16x2048, .f32⟩
  | 9 => ⟨S16x2048x1, .f32⟩
  | 10 => ⟨S_, .f32⟩
  | 11 => ⟨S16x2048x1, .f32⟩
  | 12 => ⟨S16x2048x1, .f32⟩
  | 13 => ⟨S_, .f32⟩
  | 14 => ⟨S16x2048x1, .f32⟩
  | 15 => ⟨S16x2048x1, .f32⟩
  | 16 => ⟨S16x2048x1, .f32⟩
  | 17 => ⟨S16x2048x1024, .f32⟩
  | 18 => ⟨S16x2048x1024, .f32⟩
  | 19 => ⟨S1x1x1024, .f32⟩
  | 20 => ⟨S16x2048x1024, .f32⟩
  | 21 => ⟨S16x2048x1024, .f32⟩
  | 22 => ⟨S1024x2304, .f32⟩
  | 23 => ⟨S16x2048x2304, .f32⟩
  | 24 => ⟨S16x2048x512, .f32⟩
  | 25 => ⟨S16x2048x8x64, .f32⟩
  | 26 => ⟨S64, .f32⟩
  | 27 => ⟨S16x2048x8x64, .f32⟩
  | 28 => ⟨S_, .f32⟩
  | 29 => ⟨S16x2048x8, .f32⟩
  | 30 => ⟨S16x2048x8x1, .f32⟩
  | 31 => ⟨S_, .f32⟩
  | 32 => ⟨S16x2048x8x1, .f32⟩
  | 33 => ⟨S16x2048x8x1, .f32⟩
  | 34 => ⟨S_, .f32⟩
  | 35 => ⟨S16x2048x8x1, .f32⟩
  | 36 => ⟨S16x2048x8x1, .f32⟩
  | 37 => ⟨S16x2048x8x1, .f32⟩
  | 38 => ⟨S16x2048x8x64, .f32⟩
  | 39 => ⟨S16x2048x8x64, .f32⟩
  | 40 => ⟨S1x1x1x64, .f32⟩
  | 41 => ⟨S16x2048x8x64, .f32⟩
  | 42 => ⟨S16x2048x8x64, .f32⟩
  | 43 => ⟨S32, .f32⟩
  | 44 => ⟨S32x64, .f32⟩
  | 45 => ⟨S2048, .f32⟩
  | 46 => ⟨S64, .f32⟩
  | 47 => ⟨S1x64, .f32⟩
  | 48 => ⟨S32x64, .f32⟩
  | 49 => ⟨S2048, .f32⟩
  | 50 => ⟨S16, .f32⟩
  | 51 => ⟨S16, .f32⟩
  | 52 => ⟨S_, .f32⟩
  | 53 => ⟨S16, .f32⟩
  | 54 => ⟨S16, .f32⟩
  | 55 => ⟨S_, .f32⟩
  | 56 => ⟨S16, .f32⟩
  | 57 => ⟨S16, .f32⟩
  | 58 => ⟨S16x2048x8x32, .f32⟩
  | 59 => ⟨S2048x1, .f32⟩
  | 60 => ⟨S1x16, .f32⟩
  | 61 => ⟨S2048x16, .f32⟩
  | 62 => ⟨S2048x16, .f32⟩
  | 63 => ⟨S2048x16, .f32⟩
  | 64 => ⟨S16x2048x8x32, .f32⟩
  | 65 => ⟨S2048x1, .f32⟩
  | 66 => ⟨S1x16, .f32⟩
  | 67 => ⟨S2048x16, .f32⟩
  | 68 => ⟨S2048x16, .f32⟩
  | 69 => ⟨S2048x16, .f32⟩
  | 70 => ⟨S2048x16, .f32⟩
  | 71 => ⟨S2048x1x16, .f32⟩
  | 72 => ⟨S2048x16, .f32⟩
  | 73 => ⟨S2048x1x16, .f32⟩
  | 74 => ⟨S16x2048x8x16, .f32⟩
  | 75 => ⟨S16x2048x8x16, .f32⟩
  | 76 => ⟨S1x2048x1x16, .f32⟩
  | 77 => ⟨S16x2048x8x16, .f32⟩
  | 78 => ⟨S16x2048x8x16, .f32⟩
  | 79 => ⟨S1x2048x1x16, .f32⟩
  | 80 => ⟨S16x2048x8x16, .f32⟩
  | 81 => ⟨S16x2048x8x16, .f32⟩
  | 82 => ⟨S16x2048x8x16, .f32⟩
  | 83 => ⟨S1x2048x1x16, .f32⟩
  | 84 => ⟨S16x2048x8x16, .f32⟩
  | 85 => ⟨S16x2048x8x16, .f32⟩
  | 86 => ⟨S1x2048x1x16, .f32⟩
  | 87 => ⟨S16x2048x8x16, .f32⟩
  | 88 => ⟨S16x2048x8x16, .f32⟩
  | 89 => ⟨S16x2048x8x16, .f32⟩
  | 90 => ⟨S2048x16, .f32⟩
  | 91 => ⟨S2048x1x16, .f32⟩
  | 92 => ⟨S2048x16, .f32⟩
  | 93 => ⟨S2048x1x16, .f32⟩
  | 94 => ⟨S16x2048x8x16, .f32⟩
  | 95 => ⟨S16x2048x8x16, .f32⟩
  | 96 => ⟨S1x2048x1x16, .f32⟩
  | 97 => ⟨S16x2048x8x16, .f32⟩
  | 98 => ⟨S16x2048x8x16, .f32⟩
  | 99 => ⟨S1x2048x1x16, .f32⟩
  | 100 => ⟨S16x2048x8x16, .f32⟩
  | 101 => ⟨S16x2048x8x16, .f32⟩
  | 102 => ⟨S16x2048x8x16, .f32⟩
  | 103 => ⟨S1x2048x1x16, .f32⟩
  | 104 => ⟨S16x2048x8x16, .f32⟩
  | 105 => ⟨S16x2048x8x16, .f32⟩
  | 106 => ⟨S1x2048x1x16, .f32⟩
  | 107 => ⟨S16x2048x8x16, .f32⟩
  | 108 => ⟨S16x2048x8x16, .f32⟩
  | 109 => ⟨S16x2048x8x16, .f32⟩
  | 110 => ⟨S16x2048x8x64, .f32⟩
  | 111 => ⟨S16x2048x128, .f32⟩
  | 112 => ⟨S16x2048x2x64, .f32⟩
  | 113 => ⟨S64, .f32⟩
  | 114 => ⟨S16x2048x2x64, .f32⟩
  | 115 => ⟨S_, .f32⟩
  | 116 => ⟨S16x2048x2, .f32⟩
  | 117 => ⟨S16x2048x2x1, .f32⟩
  | 118 => ⟨S_, .f32⟩
  | 119 => ⟨S16x2048x2x1, .f32⟩
  | 120 => ⟨S16x2048x2x1, .f32⟩
  | 121 => ⟨S_, .f32⟩
  | 122 => ⟨S16x2048x2x1, .f32⟩
  | 123 => ⟨S16x2048x2x1, .f32⟩
  | 124 => ⟨S16x2048x2x1, .f32⟩
  | 125 => ⟨S16x2048x2x64, .f32⟩
  | 126 => ⟨S16x2048x2x64, .f32⟩
  | 127 => ⟨S1x1x1x64, .f32⟩
  | _ => ⟨S16x2048x1024, .f32⟩

abbrev hbmTy0_1 (i : Nat) : BufTy := match i % 128 with
  | 0 => ⟨S16x2048x2x64, .f32⟩
  | 1 => ⟨S16x2048x2x64, .f32⟩
  | 2 => ⟨S32, .f32⟩
  | 3 => ⟨S32x64, .f32⟩
  | 4 => ⟨S2048, .f32⟩
  | 5 => ⟨S64, .f32⟩
  | 6 => ⟨S1x64, .f32⟩
  | 7 => ⟨S32x64, .f32⟩
  | 8 => ⟨S2048, .f32⟩
  | 9 => ⟨S16, .f32⟩
  | 10 => ⟨S16, .f32⟩
  | 11 => ⟨S_, .f32⟩
  | 12 => ⟨S16, .f32⟩
  | 13 => ⟨S16, .f32⟩
  | 14 => ⟨S_, .f32⟩
  | 15 => ⟨S16, .f32⟩
  | 16 => ⟨S16, .f32⟩
  | 17 => ⟨S16x2048x2x32, .f32⟩
  | 18 => ⟨S2048x1, .f32⟩
  | 19 => ⟨S1x16, .f32⟩
  | 20 => ⟨S2048x16, .f32⟩
  | 21 => ⟨S2048x16, .f32⟩
  | 22 => ⟨S2048x16, .f32⟩
  | 23 => ⟨S16x2048x2x32, .f32⟩
  | 24 => ⟨S2048x1, .f32⟩
  | 25 => ⟨S1x16, .f32⟩
  | 26 => ⟨S2048x16, .f32⟩
  | 27 => ⟨S2048x16, .f32⟩
  | 28 => ⟨S2048x16, .f32⟩
  | 29 => ⟨S2048x16, .f32⟩
  | 30 => ⟨S2048x1x16, .f32⟩
  | 31 => ⟨S2048x16, .f32⟩
  | 32 => ⟨S2048x1x16, .f32⟩
  | 33 => ⟨S16x2048x2x16, .f32⟩
  | 34 => ⟨S16x2048x2x16, .f32⟩
  | 35 => ⟨S1x2048x1x16, .f32⟩
  | 36 => ⟨S16x2048x2x16, .f32⟩
  | 37 => ⟨S16x2048x2x16, .f32⟩
  | 38 => ⟨S1x2048x1x16, .f32⟩
  | 39 => ⟨S16x2048x2x16, .f32⟩
  | 40 => ⟨S16x2048x2x16, .f32⟩
  | 41 => ⟨S16x2048x2x16, .f32⟩
  | 42 => ⟨S1x2048x1x16, .f32⟩
  | 43 => ⟨S16x2048x2x16, .f32⟩
  | 44 => ⟨S16x2048x2x16, .f32⟩
  | 45 => ⟨S1x2048x1x16, .f32⟩
  | 46 => ⟨S16x2048x2x16, .f32⟩
  | 47 => ⟨S16x2048x2x16, .f32⟩
  | 48 => ⟨S16x2048x2x16, .f32⟩
  | 49 => ⟨S2048x16, .f32⟩
  | 50 => ⟨S2048x1x16, .f32⟩
  | 51 => ⟨S2048x16, .f32⟩
  | 52 => ⟨S2048x1x16, .f32⟩
  | 53 => ⟨S16x2048x2x16, .f32⟩
  | 54 => ⟨S16x2048x2x16, .f32⟩
  | 55 => ⟨S1x2048x1x16, .f32⟩
  | 56 => ⟨S16x2048x2x16, .f32⟩
  | 57 => ⟨S16x2048x2x16, .f32⟩
  | 58 => ⟨S1x2048x1x16, .f32⟩
  | 59 => ⟨S16x2048x2x16, .f32⟩
  | 60 => ⟨S16x2048x2x16, .f32⟩
  | 61 => ⟨S16x2048x2x16, .f32⟩
  | 62 => ⟨S1x2048x1x16, .f32⟩
  | 63 => ⟨S16x2048x2x16, .f32⟩
  | 64 => ⟨S16x2048x2x16, .f32⟩
  | 65 => ⟨S1x2048x1x16, .f32⟩
  | 66 => ⟨S16x2048x2x16, .f32⟩
  | 67 => ⟨S16x2048x2x16, .f32⟩
  | 68 => ⟨S16x2048x2x16, .f32⟩
  | 69 => ⟨S16x2048x2x64, .f32⟩
  | 70 => ⟨S16x2048x2x1x64, .f32⟩
  | 71 => ⟨S16x2048x2x1x64, .f32⟩
  | 72 => ⟨S16x2048x2x2x64, .f32⟩
  | 73 => ⟨S16x2048x512, .f32⟩
  | 74 => ⟨S_, .f32⟩
  | 75 => ⟨S16x2048x512, .f32⟩
  | 76 => ⟨S16x2048x512, .f32⟩
  | 77 => ⟨S_, .f32⟩
  | 78 => ⟨S_, .f32⟩
  | 79 => ⟨S_, .f32⟩
  | 80 => ⟨S16x2048x512, .f32⟩
  | 81 => ⟨S16x2048x512, .f32⟩
  | 82 => ⟨S16x2048x512, .f32⟩
  | 83 => ⟨S16x512x2048, .f32⟩
  | 84 => ⟨S16x512x2048, .bf16⟩
  | 85 => ⟨S16x2048x256, .f32⟩
  | 86 => ⟨S16x2048x256, .bf16⟩
  | 87 => ⟨S16x2048x128, .f32⟩
  | 88 => ⟨S16x128x2048, .f32⟩
  | 89 => ⟨S16x128x2048, .bf16⟩
  | 90 => ⟨S16x2048x512, .bf16⟩
  | 91 => ⟨S16x512x4x512, .f32⟩
  | 92 => ⟨S16x4x512x512, .f32⟩
  | 93 => ⟨S16x4x512x512, .bf16⟩
  | 94 => ⟨S16x128x16x512, .f32⟩
  | 95 => ⟨S16x16x128x512, .f32⟩
  | 96 => ⟨S16x16x128x512, .bf16⟩
  | 97 => ⟨S16x2048x512, .f32⟩
  | 98 => ⟨S16x2048x512, .bf16⟩
  | 99 => ⟨S16x512x4x512, .f32⟩
  | 100 => ⟨S16x4x512x512, .f32⟩
  | 101 => ⟨S16x4x512x512, .bf16⟩
  | 102 => ⟨S16x128x16x512, .f32⟩
  | 103 => ⟨S16x16x128x512, .f32⟩
  | 104 => ⟨S16x16x128x512, .bf16⟩
  | 105 => ⟨S16x2048x512, .f32⟩
  | 106 => ⟨S16x2048x512, .bf16⟩
  | 107 => ⟨S16x512x4x512, .f32⟩
  | 108 => ⟨S16x4x512x512, .f32⟩
  | 109 => ⟨S16x4x512x512, .bf16⟩
  | 110 => ⟨S16x128x16x512, .f32⟩
  | 111 => ⟨S16x16x128x512, .f32⟩
  | 112 => ⟨S16x16x128x512, .bf16⟩
  | _ => ⟨S16x2048x1024, .f32⟩

abbrev hbmTy (i : Nat) : BufTy := match i / 128 with
  | 0 => hbmTy0_0 i
  | 1 => hbmTy0_1 i
  | _ => ⟨S16x2048x1024, .f32⟩

abbrev bufTy : (tb : Table) → Fin (tcTables nBuf tb) → BufTy
  | .hbm, ⟨i, _⟩ => hbmTy i
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_cst_5 : Ref sig .tc := ⟨.hbm, 52, rfl⟩
abbrev main_v41 : Ref sig .tc := ⟨.hbm, 53, rfl⟩
abbrev main_v42 : Ref sig .tc := ⟨.hbm, 54, rfl⟩
abbrev main_cst_6 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩
abbrev main_v97 : Ref sig .tc := ⟨.hbm, 110, rfl⟩
abbrev main_v98 : Ref sig .tc := ⟨.hbm, 111, rfl⟩
abbrev main_v99 : Ref sig .tc := ⟨.hbm, 112, rfl⟩
abbrev main_v100 : Ref sig .tc := ⟨.hbm, 113, rfl⟩
abbrev main_v101 : Ref sig .tc := ⟨.hbm, 114, rfl⟩
abbrev main_cst_7 : Ref sig .tc := ⟨.hbm, 115, rfl⟩
abbrev main_v102 : Ref sig .tc := ⟨.hbm, 116, rfl⟩
abbrev main_v103 : Ref sig .tc := ⟨.hbm, 117, rfl⟩
abbrev main_cst_8 : Ref sig .tc := ⟨.hbm, 118, rfl⟩
abbrev main_v104 : Ref sig .tc := ⟨.hbm, 119, rfl⟩
abbrev main_v105 : Ref sig .tc := ⟨.hbm, 120, rfl⟩
abbrev main_cst_9 : Ref sig .tc := ⟨.hbm, 121, rfl⟩
abbrev main_v106 : Ref sig .tc := ⟨.hbm, 122, rfl⟩
abbrev main_v107 : Ref sig .tc := ⟨.hbm, 123, rfl⟩
abbrev main_v108 : Ref sig .tc := ⟨.hbm, 124, rfl⟩
abbrev main_v109 : Ref sig .tc := ⟨.hbm, 125, rfl⟩
abbrev main_v110 : Ref sig .tc := ⟨.hbm, 126, rfl⟩
abbrev main_v111 : Ref sig .tc := ⟨.hbm, 127, rfl⟩
abbrev main_v112 : Ref sig .tc := ⟨.hbm, 128, rfl⟩
abbrev main_v113 : Ref sig .tc := ⟨.hbm, 129, rfl⟩
abbrev main_v114 : Ref sig .tc := ⟨.hbm, 130, rfl⟩
abbrev main_v115 : Ref sig .tc := ⟨.hbm, 131, rfl⟩
abbrev main_v116 : Ref sig .tc := ⟨.hbm, 132, rfl⟩
abbrev main_v117 : Ref sig .tc := ⟨.hbm, 133, rfl⟩
abbrev main_v118 : Ref sig .tc := ⟨.hbm, 134, rfl⟩
abbrev main_v119 : Ref sig .tc := ⟨.hbm, 135, rfl⟩
abbrev main_v120 : Ref sig .tc := ⟨.hbm, 136, rfl⟩
abbrev main_v121 : Ref sig .tc := ⟨.hbm, 137, rfl⟩
abbrev main_v122 : Ref sig .tc := ⟨.hbm, 138, rfl⟩
abbrev main_cst_10 : Ref sig .tc := ⟨.hbm, 139, rfl⟩
abbrev main_v123 : Ref sig .tc := ⟨.hbm, 140, rfl⟩
abbrev main_v124 : Ref sig .tc := ⟨.hbm, 141, rfl⟩
abbrev main_cst_11 : Ref sig .tc := ⟨.hbm, 142, rfl⟩
abbrev main_v125 : Ref sig .tc := ⟨.hbm, 143, rfl⟩
abbrev main_v126 : Ref sig .tc := ⟨.hbm, 144, rfl⟩
abbrev main_v127 : Ref sig .tc := ⟨.hbm, 145, rfl⟩
abbrev main_v128 : Ref sig .tc := ⟨.hbm, 146, rfl⟩
abbrev main_v129 : Ref sig .tc := ⟨.hbm, 147, rfl⟩
abbrev main_v130 : Ref sig .tc := ⟨.hbm, 148, rfl⟩
abbrev main_v131 : Ref sig .tc := ⟨.hbm, 149, rfl⟩
abbrev main_v132 : Ref sig .tc := ⟨.hbm, 150, rfl⟩
abbrev main_v133 : Ref sig .tc := ⟨.hbm, 151, rfl⟩
abbrev main_v134 : Ref sig .tc := ⟨.hbm, 152, rfl⟩
abbrev main_v135 : Ref sig .tc := ⟨.hbm, 153, rfl⟩
abbrev main_v136 : Ref sig .tc := ⟨.hbm, 154, rfl⟩
abbrev main_v137 : Ref sig .tc := ⟨.hbm, 155, rfl⟩
abbrev main_v138 : Ref sig .tc := ⟨.hbm, 156, rfl⟩
abbrev main_v139 : Ref sig .tc := ⟨.hbm, 157, rfl⟩
abbrev main_v140 : Ref sig .tc := ⟨.hbm, 158, rfl⟩
abbrev main_v141 : Ref sig .tc := ⟨.hbm, 159, rfl⟩
abbrev main_v142 : Ref sig .tc := ⟨.hbm, 160, rfl⟩
abbrev main_v143 : Ref sig .tc := ⟨.hbm, 161, rfl⟩
abbrev main_v144 : Ref sig .tc := ⟨.hbm, 162, rfl⟩
abbrev main_v145 : Ref sig .tc := ⟨.hbm, 163, rfl⟩
abbrev main_v146 : Ref sig .tc := ⟨.hbm, 164, rfl⟩
abbrev main_v147 : Ref sig .tc := ⟨.hbm, 165, rfl⟩
abbrev main_v148 : Ref sig .tc := ⟨.hbm, 166, rfl⟩
abbrev main_v149 : Ref sig .tc := ⟨.hbm, 167, rfl⟩
abbrev main_v150 : Ref sig .tc := ⟨.hbm, 168, rfl⟩
abbrev main_v151 : Ref sig .tc := ⟨.hbm, 169, rfl⟩
abbrev main_v152 : Ref sig .tc := ⟨.hbm, 170, rfl⟩
abbrev main_v153 : Ref sig .tc := ⟨.hbm, 171, rfl⟩
abbrev main_v154 : Ref sig .tc := ⟨.hbm, 172, rfl⟩
abbrev main_v155 : Ref sig .tc := ⟨.hbm, 173, rfl⟩
abbrev main_v156 : Ref sig .tc := ⟨.hbm, 174, rfl⟩
abbrev main_v157 : Ref sig .tc := ⟨.hbm, 175, rfl⟩
abbrev main_v158 : Ref sig .tc := ⟨.hbm, 176, rfl⟩
abbrev main_v159 : Ref sig .tc := ⟨.hbm, 177, rfl⟩
abbrev main_v160 : Ref sig .tc := ⟨.hbm, 178, rfl⟩
abbrev main_v161 : Ref sig .tc := ⟨.hbm, 179, rfl⟩
abbrev main_v162 : Ref sig .tc := ⟨.hbm, 180, rfl⟩
abbrev main_v163 : Ref sig .tc := ⟨.hbm, 181, rfl⟩
abbrev main_v164 : Ref sig .tc := ⟨.hbm, 182, rfl⟩
abbrev main_v165 : Ref sig .tc := ⟨.hbm, 183, rfl⟩
abbrev main_v166 : Ref sig .tc := ⟨.hbm, 184, rfl⟩
abbrev main_v167 : Ref sig .tc := ⟨.hbm, 185, rfl⟩
abbrev main_v168 : Ref sig .tc := ⟨.hbm, 186, rfl⟩
abbrev main_v169 : Ref sig .tc := ⟨.hbm, 187, rfl⟩
abbrev main_v170 : Ref sig .tc := ⟨.hbm, 188, rfl⟩
abbrev main_v171 : Ref sig .tc := ⟨.hbm, 189, rfl⟩
abbrev main_v172 : Ref sig .tc := ⟨.hbm, 190, rfl⟩
abbrev main_v173 : Ref sig .tc := ⟨.hbm, 191, rfl⟩
abbrev main_v174 : Ref sig .tc := ⟨.hbm, 192, rfl⟩
abbrev main_v175 : Ref sig .tc := ⟨.hbm, 193, rfl⟩
abbrev main_v176 : Ref sig .tc := ⟨.hbm, 194, rfl⟩
abbrev main_v177 : Ref sig .tc := ⟨.hbm, 195, rfl⟩
abbrev main_v178 : Ref sig .tc := ⟨.hbm, 196, rfl⟩
abbrev main_v179 : Ref sig .tc := ⟨.hbm, 197, rfl⟩
abbrev main_v180 : Ref sig .tc := ⟨.hbm, 198, rfl⟩
abbrev main_v181 : Ref sig .tc := ⟨.hbm, 199, rfl⟩
abbrev main_v182 : Ref sig .tc := ⟨.hbm, 200, rfl⟩
abbrev main_v183 : Ref sig .tc := ⟨.hbm, 201, rfl⟩
abbrev main_cst_12 : Ref sig .tc := ⟨.hbm, 202, rfl⟩
abbrev main_v184 : Ref sig .tc := ⟨.hbm, 203, rfl⟩
abbrev main_v185 : Ref sig .tc := ⟨.hbm, 204, rfl⟩
abbrev main_cst_13 : Ref sig .tc := ⟨.hbm, 205, rfl⟩
abbrev main_v186 : Ref sig .tc := ⟨.hbm, 206, rfl⟩
abbrev main_v187 : Ref sig .tc := ⟨.hbm, 207, rfl⟩
abbrev main_v188 : Ref sig .tc := ⟨.hbm, 208, rfl⟩
abbrev main_v189 : Ref sig .tc := ⟨.hbm, 209, rfl⟩
abbrev main_v190 : Ref sig .tc := ⟨.hbm, 210, rfl⟩
abbrev main_v191 : Ref sig .tc := ⟨.hbm, 211, rfl⟩
abbrev main_v192 : Ref sig .tc := ⟨.hbm, 212, rfl⟩
abbrev main_v193 : Ref sig .tc := ⟨.hbm, 213, rfl⟩
abbrev main_v194 : Ref sig .tc := ⟨.hbm, 214, rfl⟩
abbrev main_v195 : Ref sig .tc := ⟨.hbm, 215, rfl⟩
abbrev main_v196 : Ref sig .tc := ⟨.hbm, 216, rfl⟩
abbrev main_v197 : Ref sig .tc := ⟨.hbm, 217, rfl⟩
abbrev main_v198 : Ref sig .tc := ⟨.hbm, 218, rfl⟩
abbrev main_v199 : Ref sig .tc := ⟨.hbm, 219, rfl⟩
abbrev main_v200 : Ref sig .tc := ⟨.hbm, 220, rfl⟩
abbrev main_v201 : Ref sig .tc := ⟨.hbm, 221, rfl⟩
abbrev main_v202 : Ref sig .tc := ⟨.hbm, 222, rfl⟩
abbrev main_v203 : Ref sig .tc := ⟨.hbm, 223, rfl⟩
abbrev main_v204 : Ref sig .tc := ⟨.hbm, 224, rfl⟩
abbrev main_v205 : Ref sig .tc := ⟨.hbm, 225, rfl⟩
abbrev main_v206 : Ref sig .tc := ⟨.hbm, 226, rfl⟩
abbrev main_v207 : Ref sig .tc := ⟨.hbm, 227, rfl⟩
abbrev main_v208 : Ref sig .tc := ⟨.hbm, 228, rfl⟩
abbrev main_v209 : Ref sig .tc := ⟨.hbm, 229, rfl⟩
abbrev main_v210 : Ref sig .tc := ⟨.hbm, 230, rfl⟩
abbrev main_v211 : Ref sig .tc := ⟨.hbm, 231, rfl⟩
abbrev main_v212 : Ref sig .tc := ⟨.hbm, 232, rfl⟩
abbrev main_v213 : Ref sig .tc := ⟨.hbm, 233, rfl⟩
abbrev main_v214 : Ref sig .tc := ⟨.hbm, 234, rfl⟩
abbrev main_v215 : Ref sig .tc := ⟨.hbm, 235, rfl⟩
abbrev main_v216 : Ref sig .tc := ⟨.hbm, 236, rfl⟩
abbrev main_v217 : Ref sig .tc := ⟨.hbm, 237, rfl⟩
abbrev main_v218 : Ref sig .tc := ⟨.hbm, 238, rfl⟩
abbrev main_v219 : Ref sig .tc := ⟨.hbm, 239, rfl⟩
abbrev main_v220 : Ref sig .tc := ⟨.hbm, 240, rfl⟩

abbrev nD : Nat := 1
abbrev τ : Topo := Topo.v7x

variable {F : FTy → Type} [FloatOps F]
-- ==== Proof.AttnFrames.lean ====
/- The attention programs keep their arguments and leave every semaphore at zero; the one constant that is read exactly. -/
module
public import proofs.«01_k».proof.Defs
public import proofs.«01_k».proof.Proof.Gen.Kernel.Frame
public import proofs.«01_k».proof.Proof.Gen.KernelIdeal.Frame
public import proofs.«01_k».proof.Proof.Gen.ReferenceIdeal.Run
public import Idealize.ShloMosaic.Lib.Quiescent
@[expose] public section
set_option maxRecDepth 16384
noncomputable section
namespace Cert.Proof.Attn
open Idealize.ShloMosaic Idealize.ShloMosaic.TcCoe Idealize.SL.Sem

/-- The kernel's program keeps its arguments and leaves every semaphore at zero, on any floats. -/
theorem frame_kernel : Cert.quiescent_Kernel := fun m ρ _ => Cert.Kernel.Gen.frame m ρ

/-- The same of the program read over the extended reals. -/
theorem frame_ideal : Cert.quiescent_KernelIdeal := fun m ρ _ => Cert.KernelIdeal.Gen.frame m ρ

/-- The reference keeps its arguments; it declares no semaphore. -/
theorem frame_reference : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The scale of the scores is read as the exact number `1 / (8 log 2)`, whose nearest float the kernel has. -/
theorem preserves : Cert.preserves_Kernel_KernelIdeal :=
  IdealRules.named_const.statement Cert.KernelIdeal.κ "qscale" .f32 0x3E38AA3B#32 _ rfl

end Cert.Proof.Attn
end
-- ==== Proof.AttnPay.lean ====
module
public import proofs.«01_k».proof.Proof.Gen.KernelIdeal.Value
public import Idealize.ShloMosaic.Lib.Pointwise
public import Idealize.ShloMosaic.Lib.Pipeline.ValueKit
public import Idealize.ShloMosaic.Lib.Pipeline.ReadBack

/-!
The arithmetic of one grid step of the attention kernel, piece by piece: what each store's value is
at one index, in terms of the values it was computed from.
-/

@[expose] public section
set_option maxRecDepth 16384
noncomputable section
namespace Cert.KernelIdeal.Attn
open Cert.KernelIdeal Cert.KernelIdeal.Gen Idealize.ShloMosaic Idealize.ShloMosaic.TcCoe Idealize.SL.Sem

/-- A block of 256 keys' scores at one entry: the key's 128 lanes against the column's 128 lanes. -/
theorem pay14_apply (w : FVec Ideal S128x1024 .bf16) (kk : Vec Ideal S1x256x128 .bf16) (r : Fin 256)
    (col : Fin 1024) :
    k0_pay14 w kk (ix2 r col) = ∑ x : Fin 128, kk (ix3 0 r x) * w (ix2 x col) := by
  pointwise [k0_pay14]

/-- The pattern the maxima start from is minus infinity. -/
theorem neg_inf : (Ideal.ofBits FTy.f32 4286578688#32 : EReal) = ⊥ := by
  simp only [Ideal.ofBits]
  unfold Ideal.ieee
  dsimp only
  rw [if_pos (by decide), if_pos (by decide), if_pos (by decide)]

/-- A maximum folded from minus infinity lies below a bound exactly when every entry does. -/
theorem fold_le_iff {ι : Type} [Fintype ι] (f : ι → EReal) (B : EReal) :
    Finset.fold max (Ideal.ofBits FTy.f32 4286578688#32) f Finset.univ ≤ B ↔ ∀ i, f i ≤ B := by
  rw [neg_inf, Finset.fold_max_le]
  simp

/-- The running maximum of eight rows lies below a bound after one more block of keys exactly when
it did before and the block's scores do. -/
theorem pay26_le_iff (w : FVec Ideal S128x1024 .bf16) (v : FVec Ideal S8x1024 .f32)
    (kk : Vec Ideal S1x256x128 .bf16) (col : Fin 1024) (B : EReal) :
    (∀ p : Fin 8, (k0_pay26 w v kk (ix2 p col) : EReal) ≤ B) ↔
      (∀ p : Fin 8, (v (ix2 p col) : EReal) ≤ B) ∧
        ∀ r : Fin 256, (k0_pay14 w kk (ix2 r col) : EReal) ≤ B := by
  have h : ∀ p : Fin 8, (k0_pay26 w v kk (ix2 p col) : EReal) =
      max (v (ix2 p col) : EReal) (Finset.fold max (Ideal.ofBits FTy.f32 4286578688#32)
        (fun x : Fin 32 => (k0_pay14 w kk (ix2 ⟨x.val * 8 + p.val, by omega⟩ col) : EReal))
        Finset.univ) := by
    intro p
    pointwise [k0_pay26, k0_pay24]
    simp only [pay14_apply]
  simp only [h, max_le_iff, fold_le_iff]
  constructor
  · intro H
    refine ⟨fun p => (H p).1, fun r => ?_⟩
    have := (H ⟨r.val % 8, by omega⟩).2 ⟨r.val / 8, by omega⟩
    have e : (⟨r.val / 8 * 8 + r.val % 8, by omega⟩ : Fin 256) = r := Fin.ext (by simp; omega)
    simpa only [e] using this
  · exact fun H p => ⟨H.1 p, fun x => H.2 _⟩

/-- The column maximum over the eight rows and one last block of keys. -/
theorem pay37_le_iff (w : FVec Ideal S128x1024 .bf16) (v : FVec Ideal S8x1024 .f32)
    (kk : Vec Ideal S1x256x128 .bf16) (col : Fin 1024) (B : EReal) :
    (k0_pay37 v (k0_pay14 w kk) (ix2 0 col) : EReal) ≤ B ↔
      ∀ p : Fin 8, (k0_pay26 w v kk (ix2 p col) : EReal) ≤ B := by
  have h : (k0_pay37 v (k0_pay14 w kk) (ix2 0 col) : EReal) =
      Finset.fold max (Ideal.ofBits FTy.f32 4286578688#32)
        (fun p : Fin 8 => (k0_pay26 w v kk (ix2 p col) : EReal)) Finset.univ := by
    pointwise [k0_pay37, k0_pay26, k0_pay24]
    simp only [pay14_apply]
  rw [h, fold_le_iff]

/-- The accumulator after one more block of keys: 64 rows of weighted values, then rows of the
weights themselves. -/
theorem pay31_apply (m : Vec Ideal S1x1024 .f32) (acc : FVec Ideal S80x1024 .f32)
    (s : Vec Ideal S256x1024 .f32) (v : Vec Ideal S1x64x256 .bf16) (r : Fin 80) (col : Fin 1024) :
    (k0_pay31 k0_pay4 m acc s v (ix2 r col) : EReal) =
      acc (ix2 r col) + ∑ x : Fin 256,
        (if h : r.val < 64 then (v (ix3 0 ⟨r.val, h⟩ x) : EReal) else 1) *
          Ideal.exp2 (s (ix2 x col) - m (ix2 0 col)) := by
  pointwise [k0_pay31, k0_pay4]
  rfl

/-- The weighted values over the sum of the weights. -/
theorem pay2_apply (acc : FVec Ideal S80x1024 .f32) (r : Fin 64) (col : Fin 1024) :
    (k0_pay2 acc (ix2 r col) : EReal) =
      acc (ix2 ⟨r.val, by omega⟩ col) * Ideal.div 1 (acc (ix2 64 col)) := by
  pointwise [k0_pay2]

/-- One position's 512 channels, gathered from the two groups' head outputs: channel `n` belongs to
head `n / 64`, whose first four come from the first group. -/
def cell (h0 h1 : Fin 64 → Fin 1024 → EReal) (r : Fin 256) (n : Fin 512) : EReal :=
  if n.val < 256 then h0 ⟨n.val % 64, by omega⟩ ⟨n.val / 64 % 4 * 256 + r.val, by omega⟩
  else h1 ⟨n.val % 64, by omega⟩ ⟨n.val / 64 % 4 * 256 + r.val, by omega⟩

/-- Two entries of a group's head outputs are the same when their indices are. -/
theorem same_entry (G : Fin 64 → Fin 1024 → EReal) {a a' b b' : ℕ} (ha : a < 64) (ha' : a' < 64)
    (hb : b < 1024) (hb' : b' < 1024) (e : a = a') (e' : b = b') :
    G ⟨a, ha⟩ ⟨b, hb⟩ = G ⟨a', ha'⟩ ⟨b', hb'⟩ := by
  subst e e'
  rfl

/-- A row divided by its root mean square and scaled. -/
def scaled (f g : Fin 512 → EReal) (n : Fin 512) : EReal :=
  f n * Ideal.rsqrt (Ideal.div (∑ x, f x * f x) (Ideal.ofBits FTy.f32 1140850688#32) +
    Ideal.ofBits FTy.f32 897988541#32) * g n

set_option maxHeartbeats 4000000 in
/-- The output block at one position and channel. -/
theorem pay38_apply (acc b : FVec Ideal S80x1024 .f32) (hf : Vec Ideal S64x1024 .f32)
    (g : Vec Ideal S1x512 .f32) (r : Fin 256) (n : Fin 512) :
    (k0_pay38 acc b hf g (ix2 r n) : EReal) =
      scaled (cell (fun d q => hf (ix2 d q))
        (fun d q => (acc (ix2 ⟨d.val, by omega⟩ q) + b (ix2 ⟨d.val, by omega⟩ q)) *
          Ideal.div 1 (acc (ix2 64 q) + b (ix2 64 q))) r) (fun n => g (ix2 0 n)) n := by
  pointwise [k0_pay38]
  unfold scaled
  refine congrArg₂ (· * ·) (congrArg₂ (· * ·) ?_ (congrArg _ (congrArg (· + _)
    (congrArg (Ideal.div · _) (Finset.sum_congr rfl fun x _ => congrArg₂ (· * ·) ?_ ?_))))) rfl
  all_goals
    unfold cell
    repeat' split
    all_goals first
      | omega
      | exact same_entry (fun d q => hf (ix2 d q)) (by omega) (by omega) (by omega) (by omega)
          (by omega) (by omega)
      | exact same_entry (fun d q => (acc (ix2 ⟨d.val, by omega⟩ q) +
          b (ix2 ⟨d.val, by omega⟩ q)) * Ideal.div 1 (acc (ix2 64 q) + b (ix2 64 q)))
          (by omega) (by omega) (by omega) (by omega) (by omega) (by omega)

/-- The output block keeps its values when it is given its leading axis. -/
theorem pay39_apply (v : FVec Ideal S256x512 .f32) (r : Fin 256) (n : Fin 512) :
    (k0_pay39 v (ix3 0 r n) : EReal) = v (ix2 r n) := by
  pointwise [k0_pay39]

end Cert.KernelIdeal.Attn
end
-- ==== Proof.AttnChain.lean ====
module
public import proofs.«01_k».proof.Proof.AttnPay

/-!
The eight blocks of 256 keys of one grid step put together: the scores of all 2048 keys, the
column maxima over them, and the accumulator over them.
-/

@[expose] public section
set_option maxRecDepth 16384
noncomputable section
namespace Cert.KernelIdeal.Attn
open Cert.KernelIdeal Cert.KernelIdeal.Gen Idealize.ShloMosaic Idealize.ShloMosaic.TcCoe Idealize.SL.Sem

/-- The 128 × 1024 query operand of one half step: from lane rows `o` and `o'` of the query block. -/
def wq (x0 : Vec Ideal S1x512x256 .f32) (o o' : ℕ)
    (h : ∀ a, (![0, o, 0] : Fin 3 → ℕ) a + (![1, 128, 256] : Fin 3 → ℕ) a ≤ S1x512x256.size a)
    (h' : ∀ a, (![0, o', 0] : Fin 3 → ℕ) a + (![1, 128, 256] : Fin 3 → ℕ) a ≤ S1x512x256.size a) :
    FVec Ideal S128x1024 .bf16 :=
  k0_pay8 (View.ld x0 (Rect.unit ![0, o, 0] ![1, 128, 256] h))
    (View.ld x0 (Rect.unit ![0, o', 0] ![1, 128, 256] h'))

/-- The keys `c … c + 255`, lanes `o … o + 127`, of the key block. -/
def kc (x1 : Vec Ideal S1x2048x256 .bf16) (c o : ℕ)
    (h : ∀ a, (![0, c, o] : Fin 3 → ℕ) a + (![1, 256, 128] : Fin 3 → ℕ) a ≤ S1x2048x256.size a) :
    Vec Ideal S1x256x128 .bf16 :=
  View.ld x1 (Rect.unit ![0, c, o] ![1, 256, 128] h)

/-- The keys `c … c + 255` of the value block. -/
def vc (x2 : Vec Ideal S1x64x2048 .bf16) (c : ℕ)
    (h : ∀ a, (![0, 0, c] : Fin 3 → ℕ) a + (![1, 64, 256] : Fin 3 → ℕ) a ≤ S1x64x2048.size a) :
    Vec Ideal S1x64x256 .bf16 :=
  View.ld x2 (Rect.unit ![0, 0, c] ![1, 64, 256] h)

/-- The score of one key in one column: 128 lanes of the key, starting at lane `128 * kv`. -/
def sc (w : FVec Ideal S128x1024 .bf16) (x1 : Vec Ideal S1x2048x256 .bf16) (kv : Fin 2)
    (key : Fin 2048) (col : Fin 1024) : EReal :=
  ∑ x : Fin 128, x1 (ix3 0 key ⟨128 * kv.val + x.val, by omega⟩) * w (ix2 x col)

/-- A block's scores are the scores of its keys. -/
theorem pay14_kc (w : FVec Ideal S128x1024 .bf16) (x1 : Vec Ideal S1x2048x256 .bf16) (kv : Fin 2)
    (c : ℕ) (h) (hc : c + 256 ≤ 2048) (r : Fin 256) (col : Fin 1024) :
    (k0_pay14 w (kc x1 c (128 * kv.val) h) (ix2 r col) : EReal) =
      sc w x1 kv ⟨c + r.val, by omega⟩ col := by
  rw [pay14_apply]
  unfold sc
  refine Finset.sum_congr rfl fun x _ => ?_
  congr 1
  unfold kc
  pointwise

/-- The column maxima as the kernel takes them: eight rows of running maxima, block by block. -/
def colMax (w : FVec Ideal S128x1024 .bf16) (k0 k1 k2 k3 k4 k5 k6 k7 : Vec Ideal S1x256x128 .bf16) :
    FVec Ideal S1x1024 .f32 :=
  k0_pay37 (k0_pay26 w (k0_pay26 w (k0_pay26 w (k0_pay26 w (k0_pay26 w (k0_pay26 w (k0_pay26 w
    k0_pay9 k0) k1) k2) k3) k4) k5) k6) (k0_pay14 w k7)

/-- The rows of running maxima start at minus infinity. -/
theorem pay9_le (p : Fin 8) (col : Fin 1024) (B : EReal) :
    (k0_pay9 (F := Ideal) (ix2 p col) : EReal) ≤ B := by
  have h : (k0_pay9 (F := Ideal) (ix2 p col) : EReal) = Ideal.ofBits FTy.f32 4286578688#32 := by
    pointwise [k0_pay9]
  rw [h, neg_inf]
  exact bot_le

/-- The column maximum is the maximum of the column's scores. -/
theorem colMax_apply (w : FVec Ideal S128x1024 .bf16)
    (k0 k1 k2 k3 k4 k5 k6 k7 : Vec Ideal S1x256x128 .bf16) (col : Fin 1024)
    (S : Fin 2048 → EReal)
    (h0 : ∀ r : Fin 256, (k0_pay14 w k0 (ix2 r col) : EReal) = S ⟨0 + r.val, by omega⟩)
    (h1 : ∀ r : Fin 256, (k0_pay14 w k1 (ix2 r col) : EReal) = S ⟨256 + r.val, by omega⟩)
    (h2 : ∀ r : Fin 256, (k0_pay14 w k2 (ix2 r col) : EReal) = S ⟨512 + r.val, by omega⟩)
    (h3 : ∀ r : Fin 256, (k0_pay14 w k3 (ix2 r col) : EReal) = S ⟨768 + r.val, by omega⟩)
    (h4 : ∀ r : Fin 256, (k0_pay14 w k4 (ix2 r col) : EReal) = S ⟨1024 + r.val, by omega⟩)
    (h5 : ∀ r : Fin 256, (k0_pay14 w k5 (ix2 r col) : EReal) = S ⟨1280 + r.val, by omega⟩)
    (h6 : ∀ r : Fin 256, (k0_pay14 w k6 (ix2 r col) : EReal) = S ⟨1536 + r.val, by omega⟩)
    (h7 : ∀ r : Fin 256, (k0_pay14 w k7 (ix2 r col) : EReal) = S ⟨1792 + r.val, by omega⟩) :
    (colMax w k0 k1 k2 k3 k4 k5 k6 k7 (ix2 0 col) : EReal) = Finset.univ.sup S := by
  refine eq_of_forall_ge_iff fun B => ?_
  unfold colMax
  rw [pay37_le_iff, pay26_le_iff, pay26_le_iff, pay26_le_iff, pay26_le_iff, pay26_le_iff,
    pay26_le_iff, pay26_le_iff, pay26_le_iff]
  simp only [h0, h1, h2, h3, h4, h5, h6, h7, Finset.sup_le_iff, Finset.mem_univ, true_imp_iff]
  constructor
  · rintro ⟨⟨⟨⟨⟨⟨⟨⟨-, a0⟩, a1⟩, a2⟩, a3⟩, a4⟩, a5⟩, a6⟩, a7⟩ key
    have hk := key.isLt
    rcases (by omega : key.val / 256 = 0 ∨ key.val / 256 = 1 ∨ key.val / 256 = 2 ∨
      key.val / 256 = 3 ∨ key.val / 256 = 4 ∨ key.val / 256 = 5 ∨ key.val / 256 = 6 ∨
      key.val / 256 = 7) with h | h | h | h | h | h | h | h
    · exact le_of_eq_of_le (congrArg S (Fin.ext (by simp; omega))) (a0 ⟨key.val % 256, by omega⟩)
    · exact le_of_eq_of_le (congrArg S (Fin.ext (by simp; omega))) (a1 ⟨key.val % 256, by omega⟩)
    · exact le_of_eq_of_le (congrArg S (Fin.ext (by simp; omega))) (a2 ⟨key.val % 256, by omega⟩)
    · exact le_of_eq_of_le (congrArg S (Fin.ext (by simp; omega))) (a3 ⟨key.val % 256, by omega⟩)
    · exact le_of_eq_of_le (congrArg S (Fin.ext (by simp; omega))) (a4 ⟨key.val % 256, by omega⟩)
    · exact le_of_eq_of_le (congrArg S (Fin.ext (by simp; omega))) (a5 ⟨key.val % 256, by omega⟩)
    · exact le_of_eq_of_le (congrArg S (Fin.ext (by simp; omega))) (a6 ⟨key.val % 256, by omega⟩)
    · exact le_of_eq_of_le (congrArg S (Fin.ext (by simp; omega))) (a7 ⟨key.val % 256, by omega⟩)
  · exact fun H => ⟨⟨⟨⟨⟨⟨⟨⟨fun p => pay9_le p col B, fun _ => H _⟩, fun _ => H _⟩, fun _ => H _⟩,
      fun _ => H _⟩, fun _ => H _⟩, fun _ => H _⟩, fun _ => H _⟩, fun _ => H _⟩

/-- A sum over 2048 keys, block of 256 by block. -/
theorem sum_blocks (f : Fin 2048 → EReal) :
    ∑ key, f key = (∑ r : Fin 256, f ⟨0 + r.val, by omega⟩) + (∑ r : Fin 256, f ⟨256 + r.val, by omega⟩)
      + (∑ r : Fin 256, f ⟨512 + r.val, by omega⟩) + (∑ r : Fin 256, f ⟨768 + r.val, by omega⟩)
      + (∑ r : Fin 256, f ⟨1024 + r.val, by omega⟩) + (∑ r : Fin 256, f ⟨1280 + r.val, by omega⟩)
      + (∑ r : Fin 256, f ⟨1536 + r.val, by omega⟩)
      + (∑ r : Fin 256, f ⟨1792 + r.val, by omega⟩) := by
  have e : ∑ key, f key = ∑ p : Fin 8 × Fin 256, f (finProdFinEquiv p) :=
    (Equiv.sum_comp (finProdFinEquiv (m := 8) (n := 256)) f).symm
  rw [e, Fintype.sum_prod_type, Fin.sum_univ_eight]
  have g : ∀ (k : Fin 8) (c : ℕ) (hc : c + 256 ≤ 2048), c = 256 * k.val →
      ∑ r : Fin 256, f (finProdFinEquiv (k, r)) = ∑ r : Fin 256, f ⟨c + r.val, by omega⟩ := by
    intro k c hc h
    refine Finset.sum_congr rfl fun r _ => congrArg f (Fin.ext ?_)
    simp [finProdFinEquiv, h]
    omega
  rw [g 0 0 (by omega) rfl, g 1 256 (by omega) rfl, g 2 512 (by omega) rfl,
    g 3 768 (by omega) rfl, g 4 1024 (by omega) rfl, g 5 1280 (by omega) rfl,
    g 6 1536 (by omega) rfl, g 7 1792 (by omega) rfl]

/-- One entry of the accumulator: the 64 rows of values, then ones, weighted by the powers of two. -/
def accAt (S : Fin 2048 → EReal) (m : EReal) (v : Fin 2048 → EReal) : EReal :=
  ∑ key, v key * Ideal.exp2 (S key - m)

/-- A row of the value operand: 64 rows of values, then rows of ones. -/
def vrow (x2 : Vec Ideal S1x64x2048 .bf16) (r : Fin 80) (key : Fin 2048) : EReal :=
  if h : r.val < 64 then x2 (ix3 0 ⟨r.val, h⟩ key) else 1

/-- The accumulator as the kernel builds it, block by block. -/
def acc8 (m : Vec Ideal S1x1024 .f32) (s0 s1 s2 s3 s4 s5 s6 s7 : Vec Ideal S256x1024 .f32)
    (v0 v1 v2 v3 v4 v5 v6 v7 : Vec Ideal S1x64x256 .bf16) : FVec Ideal S80x1024 .f32 :=
  k0_pay31 k0_pay4 m (k0_pay31 k0_pay4 m (k0_pay31 k0_pay4 m (k0_pay31 k0_pay4 m (k0_pay31 k0_pay4 m
    (k0_pay31 k0_pay4 m (k0_pay31 k0_pay4 m (k0_pay31 k0_pay4 m k0_pay10 s0 v0) s1 v1) s2 v2) s3 v3)
    s4 v4) s5 v5) s6 v6) s7 v7

/-- The accumulator starts at zero. -/
theorem pay10_apply (r : Fin 80) (col : Fin 1024) :
    (k0_pay10 (F := Ideal) (ix2 r col) : EReal) = 0 := by
  pointwise [k0_pay10]

/-- The last block's contribution when it is kept apart. -/
theorem pay35_apply (m : Vec Ideal S1x1024 .f32) (s : Vec Ideal S256x1024 .f32)
    (v : Vec Ideal S1x64x256 .bf16) (r : Fin 80) (col : Fin 1024) :
    (k0_pay35 k0_pay4 m s v (ix2 r col) : EReal) = ∑ x : Fin 256,
        (if h : r.val < 64 then (v (ix3 0 ⟨r.val, h⟩ x) : EReal) else 1) *
          Ideal.exp2 (s (ix2 x col) - m (ix2 0 col)) := by
  pointwise [k0_pay35, k0_pay4]
  rfl

/-- One block's contribution in terms of all the keys. -/
theorem block_sum (m : EReal) (s : Vec Ideal S256x1024 .f32) (x2 : Vec Ideal S1x64x2048 .bf16)
    (S : Fin 2048 → EReal) (c : ℕ) (h) (hc : c + 256 ≤ 2048) (r : Fin 80) (col : Fin 1024)
    (hs : ∀ x : Fin 256, (s (ix2 x col) : EReal) = S ⟨c + x.val, by omega⟩) :
    (∑ x : Fin 256, (if h' : r.val < 64 then (vc x2 c h (ix3 0 ⟨r.val, h'⟩ x) : EReal) else 1) *
      Ideal.exp2 ((s (ix2 x col) : EReal) - m)) =
    ∑ x : Fin 256, vrow x2 r ⟨c + x.val, by omega⟩ * Ideal.exp2 (S ⟨c + x.val, by omega⟩ - m) := by
  refine Finset.sum_congr rfl fun x _ => ?_
  rw [hs]
  congr 1
  unfold vrow
  split
  · unfold vc
    pointwise
  · rfl

/-- The accumulator over all the keys. -/
theorem acc8_apply (m : Vec Ideal S1x1024 .f32) (s0 s1 s2 s3 s4 s5 s6 s7 : Vec Ideal S256x1024 .f32)
    (x2 : Vec Ideal S1x64x2048 .bf16) (g0 g1 g2 g3 g4 g5 g6 g7) (S : Fin 2048 → EReal)
    (r : Fin 80) (col : Fin 1024)
    (h0 : ∀ x : Fin 256, (s0 (ix2 x col) : EReal) = S ⟨0 + x.val, by omega⟩)
    (h1 : ∀ x : Fin 256, (s1 (ix2 x col) : EReal) = S ⟨256 + x.val, by omega⟩)
    (h2 : ∀ x : Fin 256, (s2 (ix2 x col) : EReal) = S ⟨512 + x.val, by omega⟩)
    (h3 : ∀ x : Fin 256, (s3 (ix2 x col) : EReal) = S ⟨768 + x.val, by omega⟩)
    (h4 : ∀ x : Fin 256, (s4 (ix2 x col) : EReal) = S ⟨1024 + x.val, by omega⟩)
    (h5 : ∀ x : Fin 256, (s5 (ix2 x col) : EReal) = S ⟨1280 + x.val, by omega⟩)
    (h6 : ∀ x : Fin 256, (s6 (ix2 x col) : EReal) = S ⟨1536 + x.val, by omega⟩)
    (h7 : ∀ x : Fin 256, (s7 (ix2 x col) : EReal) = S ⟨1792 + x.val, by omega⟩) :
    (acc8 m s0 s1 s2 s3 s4 s5 s6 s7 (vc x2 0 g0) (vc x2 256 g1) (vc x2 512 g2) (vc x2 768 g3)
      (vc x2 1024 g4) (vc x2 1280 g5) (vc x2 1536 g6) (vc x2 1792 g7) (ix2 r col) : EReal) =
      accAt S (m (ix2 0 col)) (vrow x2 r) := by
  unfold acc8
  rw [pay31_apply, pay31_apply, pay31_apply, pay31_apply, pay31_apply, pay31_apply, pay31_apply,
    pay31_apply, pay10_apply, zero_add, block_sum _ _ _ S 0 _ (by omega) r col h0,
    block_sum _ _ _ S 256 _ (by omega) r col h1, block_sum _ _ _ S 512 _ (by omega) r col h2,
    block_sum _ _ _ S 768 _ (by omega) r col h3, block_sum _ _ _ S 1024 _ (by omega) r col h4,
    block_sum _ _ _ S 1280 _ (by omega) r col h5, block_sum _ _ _ S 1536 _ (by omega) r col h6,
    block_sum _ _ _ S 1792 _ (by omega) r col h7]
  unfold accAt
  rw [sum_blocks]

/-- The last block kept apart and then added makes the same accumulator. -/
theorem acc8_split (m : Vec Ideal S1x1024 .f32) (a : FVec Ideal S80x1024 .f32)
    (s : Vec Ideal S256x1024 .f32) (v : Vec Ideal S1x64x256 .bf16) (r : Fin 80) (col : Fin 1024) :
    (a (ix2 r col) : EReal) + k0_pay35 k0_pay4 m s v (ix2 r col) =
      k0_pay31 k0_pay4 m a s v (ix2 r col) := by
  rw [pay31_apply, pay35_apply]

end Cert.KernelIdeal.Attn
end
-- ==== Proof.AttnBlock.lean ====
module
public import proofs.«01_k».proof.Proof.AttnChain

/-!
What one grid step of the attention kernel leaves in its output block and in the scratch buffers
it hands to the next step.
-/

@[expose] public section
set_option maxRecDepth 16384
noncomputable section
namespace Cert.KernelIdeal.Attn
open Cert.KernelIdeal Cert.KernelIdeal.Gen Idealize.ShloMosaic Idealize.ShloMosaic.TcCoe Idealize.SL.Sem

/-! The scores are stored through reshapes that keep their shape: each stored value is the product
it was computed from. -/

theorem pay16_eq (w : FVec Ideal S128x1024 .bf16) (kk : Vec Ideal S1x256x128 .bf16) :
    k0_pay16 w kk = k0_pay14 w kk :=
  shapeCast_self _ _

theorem pay22_eq (w : FVec Ideal S128x1024 .bf16) (kk : Vec Ideal S1x256x128 .bf16) :
    k0_pay22 w kk = k0_pay14 w kk :=
  shapeCast_self _ _

theorem pay25_eq (w : FVec Ideal S128x1024 .bf16) (kk : Vec Ideal S1x256x128 .bf16) :
    k0_pay25 w kk = k0_pay14 w kk :=
  shapeCast_self _ _

theorem pay29_eq (w : FVec Ideal S128x1024 .bf16) (kk : Vec Ideal S1x256x128 .bf16) :
    k0_pay29 w kk = k0_pay14 w kk :=
  shapeCast_self _ _

theorem pay32_eq (w : FVec Ideal S128x1024 .bf16) (kk : Vec Ideal S1x256x128 .bf16) :
    k0_pay32 w kk = k0_pay14 w kk :=
  shapeCast_self _ _

theorem pay49_eq (w : FVec Ideal S128x1024 .bf16) (kk : Vec Ideal S1x256x128 .bf16) :
    k0_pay49 w kk = k0_pay14 w kk :=
  shapeCast_self _ _

theorem pay56_eq (w : FVec Ideal S128x1024 .bf16) (kk : Vec Ideal S1x256x128 .bf16) :
    k0_pay56 w kk = k0_pay14 w kk :=
  shapeCast_self _ _

theorem pay62_eq (w : FVec Ideal S128x1024 .bf16) (kk : Vec Ideal S1x256x128 .bf16) :
    k0_pay62 w kk = k0_pay14 w kk :=
  shapeCast_self _ _

theorem pay65_eq (w : FVec Ideal S128x1024 .bf16) (kk : Vec Ideal S1x256x128 .bf16) :
    k0_pay65 w kk = k0_pay14 w kk :=
  shapeCast_self _ _

theorem pay69_eq (w : FVec Ideal S128x1024 .bf16) (kk : Vec Ideal S1x256x128 .bf16) :
    k0_pay69 w kk = k0_pay14 w kk :=
  shapeCast_self _ _

theorem pay13_eq (v : FVec Ideal S256x1024 .f32) : k0_pay13 v = v :=
  shapeCast_self _ _

theorem pay19_eq (v : FVec Ideal S256x1024 .f32) : k0_pay19 v = v :=
  shapeCast_self _ _

theorem pay36_eq (v : FVec Ideal S256x1024 .f32) : k0_pay36 v = v :=
  shapeCast_self _ _

theorem pay46_eq (v : FVec Ideal S256x1024 .f32) : k0_pay46 v = v :=
  shapeCast_self _ _

theorem pay53_eq (v : FVec Ideal S256x1024 .f32) : k0_pay53 v = v :=
  shapeCast_self _ _

theorem pay59_eq (v : FVec Ideal S256x1024 .f32) : k0_pay59 v = v :=
  shapeCast_self _ _

theorem pay1_eq (v : FVec Ideal S8x1024 .f32) (w : FVec Ideal S128x1024 .bf16)
    (kk : Vec Ideal S1x256x128 .bf16) : k0_pay1 v (k0_pay70 w kk) = k0_pay37 v (k0_pay14 w kk) :=
  shapeCast_self _ _

/-- The first group's query operand. -/
def w0 (x0 : Vec Ideal S1x512x256 .f32) : FVec Ideal S128x1024 .bf16 :=
  wq x0 0 128 (by decide) (by decide)

/-- The second group's query operand. -/
def w1 (x0 : Vec Ideal S1x512x256 .f32) : FVec Ideal S128x1024 .bf16 :=
  wq x0 256 384 (by decide) (by decide)

/-- The first group's column maxima. -/
def max0 (x0 : Vec Ideal S1x512x256 .f32) (x1 : Vec Ideal S1x2048x256 .bf16) :
    FVec Ideal S1x1024 .f32 :=
  colMax (w0 x0)
    (kc x1 0 0 (by decide))
    (kc x1 256 0 (by decide))
    (kc x1 512 0 (by decide))
    (kc x1 768 0 (by decide))
    (kc x1 1024 0 (by decide))
    (kc x1 1280 0 (by decide))
    (kc x1 1536 0 (by decide))
    (kc x1 1792 0 (by decide))

/-- The second group's column maxima. -/
def max1 (x0 : Vec Ideal S1x512x256 .f32) (x1 : Vec Ideal S1x2048x256 .bf16) :
    FVec Ideal S1x1024 .f32 :=
  colMax (w1 x0)
    (kc x1 0 128 (by decide))
    (kc x1 256 128 (by decide))
    (kc x1 512 128 (by decide))
    (kc x1 768 128 (by decide))
    (kc x1 1024 128 (by decide))
    (kc x1 1280 128 (by decide))
    (kc x1 1536 128 (by decide))
    (kc x1 1792 128 (by decide))

/-- The first group's accumulator over scores `s`. -/
def acc0 (x0 : Vec Ideal S1x512x256 .f32) (x1 : Vec Ideal S1x2048x256 .bf16)
    (x2 : Vec Ideal S1x64x2048 .bf16) : FVec Ideal S80x1024 .f32 :=
  acc8 (max0 x0 x1)
    (k0_pay14 (w0 x0) (kc x1 0 0 (by decide)))
    (k0_pay14 (w0 x0) (kc x1 256 0 (by decide)))
    (k0_pay14 (w0 x0) (kc x1 512 0 (by decide)))
    (k0_pay14 (w0 x0) (kc x1 768 0 (by decide)))
    (k0_pay14 (w0 x0) (kc x1 1024 0 (by decide)))
    (k0_pay14 (w0 x0) (kc x1 1280 0 (by decide)))
    (k0_pay14 (w0 x0) (kc x1 1536 0 (by decide)))
    (k0_pay14 (w0 x0) (kc x1 1792 0 (by decide)))
    (vc x2 0 (by decide)) (vc x2 256 (by decide)) (vc x2 512 (by decide)) (vc x2 768 (by decide))
    (vc x2 1024 (by decide)) (vc x2 1280 (by decide)) (vc x2 1536 (by decide)) (vc x2 1792 (by decide))

/-- The 256 rows from `c` of a buffer of scores. -/
def sl (s : Vec Ideal S2048x1024 .f32) (c : ℕ)
    (h : ∀ a, (![c, 0] : Fin 2 → ℕ) a + (![256, 1024] : Fin 2 → ℕ) a ≤ S2048x1024.size a) :
    Vec Ideal S256x1024 .f32 :=
  View.ld s (Rect.unit ![c, 0] ![256, 1024] h)

/-- The second group's accumulator over the previous step's scores, all but the last block. -/
def accHead (m : Vec Ideal S1x1024 .f32) (s : Vec Ideal S2048x1024 .f32)
    (x3 : Vec Ideal S1x64x2048 .bf16) : FVec Ideal S80x1024 .f32 :=
  k0_pay31 k0_pay4 m (k0_pay31 k0_pay4 m (k0_pay31 k0_pay4 m (k0_pay31 k0_pay4 m
    (k0_pay31 k0_pay4 m (k0_pay31 k0_pay4 m (k0_pay31 k0_pay4 m k0_pay10
    (sl s 0 (by decide)) (vc x3 0 (by decide)))
    (sl s 256 (by decide)) (vc x3 256 (by decide)))
    (sl s 512 (by decide)) (vc x3 512 (by decide)))
    (sl s 768 (by decide)) (vc x3 768 (by decide)))
    (sl s 1024 (by decide)) (vc x3 1024 (by decide)))
    (sl s 1280 (by decide)) (vc x3 1280 (by decide)))
    (sl s 1536 (by decide)) (vc x3 1536 (by decide))

/-- One stored block of the second group's scores holds the scores of its keys. -/
theorem stored (w : FVec Ideal S128x1024 .bf16) (x1 : Vec Ideal S1x2048x256 .bf16) (c : ℕ) (h)
    (h' : ∀ a, (![c, 0] : Fin 2 → ℕ) a + (![256, 1024] : Fin 2 → ℕ) a ≤ S2048x1024.size a)
    (x : S256x1024.Idx) :
    k0_pay14 w (kc x1 c 128 h) x =
      (fun y : S2048x1024.Idx => sc w x1 1 (y 0) (y 1))
        ((Rect.unit (s := S2048x1024) ![c, 0] ![256, 1024] h').emb x) := by
  obtain ⟨r, d, rfl⟩ : ∃ (r : Fin 256) (d : Fin 1024), x = ix2 r d := ⟨x 0, x 1, eq_ix2 x⟩
  have hc : c + 256 ≤ 2048 := h' 0
  refine (pay14_kc w x1 1 c h hc r d).trans ?_
  refine congrArg₂ (sc w x1 1) (Fin.ext ?_) (Fin.ext ?_)
  · simp
  · simp

variable (c : Dev nD) (i : grid0.Coords) (arg1 : Memref sig .tc .vmem S1x512x256 .f32)
  (harg1 : arg1.IsWhole) (arg2 : Memref sig .tc .vmem S1x2048x256 .bf16) (harg2 : arg2.IsWhole)
  (arg3 : Memref sig .tc .vmem S1x64x2048 .bf16) (harg3 : arg3.IsWhole)
  (arg4 : Memref sig .tc .vmem S1x64x2048 .bf16) (harg4 : arg4.IsWhole)
  (arg5 : Memref sig .tc .vmem S1x512 .f32) (harg5 : arg5.IsWhole)
  (arg6 : Memref sig .tc .vmem S1x256x512 .bf16) (harg6 : arg6.IsWhole)
  (arg7 : Memref sig .tc .vmem S2048x1024 .f32) (harg7 : arg7.IsWhole)
  (arg8 : Memref sig .tc .vmem S2048x1024 .f32) (harg8 : arg8.IsWhole)
  (arg9 : Memref sig .tc .vmem S1x1024 .f32) (harg9 : arg9.IsWhole)
  (arg10 : Memref sig .tc .vmem S64x1024 .f32) (harg10 : arg10.IsWhole)
  (x0 : Vec Ideal S1x512x256 .f32) (x1 : Vec Ideal S1x2048x256 .bf16)
  (x2 x3 : Vec Ideal S1x64x2048 .bf16) (x4 : Vec Ideal S1x512 .f32)
  (xs1 : Vec Ideal S2048x1024 .f32) (xs2 : Vec Ideal S1x1024 .f32) (xs3 : Vec Ideal S64x1024 .f32)

set_option maxHeartbeats 1000000 in
/-- The second group's column maxima after a later grid step. -/
theorem maxima_B_2 (hc0 : ¬cond0_0 i) (y) :
    sout0_B_2 c i arg1 harg1 arg2 harg2 arg3 harg3 arg4 harg4 arg5 harg5 arg6 harg6 arg7 harg7
      arg8 harg8 arg9 harg9 arg10 harg10 hc0
      x0 x1 x2 x3 x4 xs1 xs2 xs3 y = max1 x0 x1 y := by
  unfold sout0_B_2
  frame_open
  simp (disch := decide) only [↓ View.readCov_skip, ↓ View.readCov_cons_toLoadRect,
    ↓ View.readCov_fill]
  frame_out
  rw [pay1_eq]
  rfl

set_option maxHeartbeats 1000000 in
/-- The first group's head outputs after a later grid step. -/
theorem heads_B_3 (hc0 : ¬cond0_0 i) (y) :
    sout0_B_3 c i arg1 harg1 arg2 harg2 arg3 harg3 arg4 harg4 arg5 harg5 arg6 harg6 arg7 harg7
      arg8 harg8 arg9 harg9 arg10 harg10 hc0
      x0 x1 x2 x3 x4 xs1 xs2 xs3 y = k0_pay2 (acc0 x0 x1 x2) y := by
  unfold sout0_B_3
  frame_open
  simp (disch := decide) only [↓ View.readCov_skip, ↓ View.readCov_cons_toLoadRect,
    ↓ View.readCov_fill]
  frame_out
  simp only [pay16_eq, pay22_eq, pay25_eq, pay29_eq, pay32_eq, pay13_eq, pay19_eq, pay36_eq]
  rfl
set_option maxHeartbeats 1000000 in
/-- The second group's column maxima after the first grid step. -/
theorem maxima_A_2 (hc0 : cond0_0 i) (y) :
    sout0_A_2 c i arg1 harg1 arg2 harg2 arg3 harg3 arg4 harg4 arg5 harg5 arg6 harg6 arg7 harg7
      arg8 harg8 arg9 harg9 arg10 harg10 hc0
      x0 x1 x2 x3 x4 y = max1 x0 x1 y := by
  unfold sout0_A_2
  frame_open
  simp (disch := decide) only [↓ View.readCov_skip, ↓ View.readCov_cons_toLoadRect,
    ↓ View.readCov_fill]
  frame_out
  rw [pay1_eq]
  rfl

set_option maxHeartbeats 1000000 in
/-- The first group's head outputs after the first grid step. -/
theorem heads_A_3 (hc0 : cond0_0 i) (y) :
    sout0_A_3 c i arg1 harg1 arg2 harg2 arg3 harg3 arg4 harg4 arg5 harg5 arg6 harg6 arg7 harg7
      arg8 harg8 arg9 harg9 arg10 harg10 hc0
      x0 x1 x2 x3 x4 y = k0_pay2 (acc0 x0 x1 x2) y := by
  unfold sout0_A_3
  frame_open
  simp (disch := decide) only [↓ View.readCov_skip, ↓ View.readCov_cons_toLoadRect,
    ↓ View.readCov_fill]
  frame_out
  simp only [pay16_eq, pay22_eq, pay25_eq, pay29_eq, pay32_eq, pay13_eq, pay19_eq, pay36_eq]
  rfl

set_option maxHeartbeats 1000000 in
/-- The output block of a later grid step: the second group's heads from the carried scores, beside the
first group's carried heads. -/
theorem out_B_5 (hc0 : ¬cond0_0 i) (y) :
    out0_B_5 c i arg1 harg1 arg2 harg2 arg3 harg3 arg4 harg4 arg5 harg5 arg6 harg6 arg7 harg7
      arg8 harg8 arg9 harg9 arg10 harg10 hc0
      x0 x1 x2 x3 x4 xs1 xs2 xs3 y = k0_pay39 (k0_pay38 (accHead xs2 xs1 x3)
        (k0_pay35 k0_pay4 xs2 (sl xs1 1792 (by decide)) (vc x3 1792 (by decide))) xs3 x4) y := by
  unfold out0_B_5
  frame_open
  simp (disch := decide) only [↓ View.readCov_skip, ↓ View.readCov_cons_toLoadRect,
    ↓ View.readCov_fill]
  frame_out
  rfl

end Cert.KernelIdeal.Attn
end
-- ==== Proof.AttnScores.lean ====
module
public import proofs.«01_k».proof.Proof.AttnBlock

/-!
The buffer of scores one grid step of the attention kernel hands to the next step: eight stores of
256 rows, which together cover it.
-/

@[expose] public section
set_option maxRecDepth 16384
noncomputable section
namespace Cert.KernelIdeal.Attn
open Cert.KernelIdeal Cert.KernelIdeal.Gen Idealize.ShloMosaic Idealize.ShloMosaic.TcCoe Idealize.SL.Sem

/-- The second group's scores, key by column. -/
def scores1 (x0 : Vec Ideal S1x512x256 .f32) (x1 : Vec Ideal S1x2048x256 .bf16) :
    Vec Ideal S2048x1024 .f32 :=
  fun y => sc (w1 x0) x1 1 (y 0) (y 1)

variable (c : Dev nD) (i : grid0.Coords) (arg1 : Memref sig .tc .vmem S1x512x256 .f32)
  (harg1 : arg1.IsWhole) (arg2 : Memref sig .tc .vmem S1x2048x256 .bf16) (harg2 : arg2.IsWhole)
  (arg3 : Memref sig .tc .vmem S1x64x2048 .bf16) (harg3 : arg3.IsWhole)
  (arg4 : Memref sig .tc .vmem S1x64x2048 .bf16) (harg4 : arg4.IsWhole)
  (arg5 : Memref sig .tc .vmem S1x512 .f32) (harg5 : arg5.IsWhole)
  (arg6 : Memref sig .tc .vmem S1x256x512 .bf16) (harg6 : arg6.IsWhole)
  (arg7 : Memref sig .tc .vmem S2048x1024 .f32) (harg7 : arg7.IsWhole)
  (arg8 : Memref sig .tc .vmem S2048x1024 .f32) (harg8 : arg8.IsWhole)
  (arg9 : Memref sig .tc .vmem S1x1024 .f32) (harg9 : arg9.IsWhole)
  (arg10 : Memref sig .tc .vmem S64x1024 .f32) (harg10 : arg10.IsWhole)
  (x0 : Vec Ideal S1x512x256 .f32) (x1 : Vec Ideal S1x2048x256 .bf16)
  (x2 x3 : Vec Ideal S1x64x2048 .bf16) (x4 : Vec Ideal S1x512 .f32)
  (xs1 : Vec Ideal S2048x1024 .f32) (xs2 : Vec Ideal S1x1024 .f32) (xs3 : Vec Ideal S64x1024 .f32)

set_option maxHeartbeats 1000000 in
/-- The second group's scores after a later grid step. -/
theorem scores_B_1 (hc0 : ¬cond0_0 i) (y) :
    sout0_B_1 c i arg1 harg1 arg2 harg2 arg3 harg3 arg4 harg4 arg5 harg5 arg6 harg6 arg7 harg7
      arg8 harg8 arg9 harg9 arg10 harg10 hc0
      x0 x1 x2 x3 x4 xs1 xs2 xs3 y = scores1 x0 x1 y := by
  unfold sout0_B_1
  frame_open
  simp (disch := decide) only [↓ View.readCov_skip, ↓ View.readCov_cons_toLoadRect,
    ↓ View.readCov_fill]
  frame_out
  refine View.canon_apply_of_pieces (Val := Elt Ideal) (e := .f32) (scores1 x0 x1)
    [_, _, _, _, _, _, _, _] (View.PiecesOf.mem ?_) y ?_
  · exact ⟨fun x => (congrFun (pay69_eq _ _) x).trans (stored (w1 x0) x1 1792 (by decide) (by decide) x),
      fun x => (congrFun (pay65_eq _ _) x).trans (stored (w1 x0) x1 1536 (by decide) (by decide) x),
      fun x => (congrFun (pay62_eq _ _) x).trans (stored (w1 x0) x1 1280 (by decide) (by decide) x),
      fun x => (congrFun (pay59_eq _) x).trans (stored (w1 x0) x1 1024 (by decide) (by decide) x),
      fun x => (congrFun (pay56_eq _ _) x).trans (stored (w1 x0) x1 768 (by decide) (by decide) x),
      fun x => (congrFun (pay53_eq _) x).trans (stored (w1 x0) x1 512 (by decide) (by decide) x),
      fun x => (congrFun (pay49_eq _ _) x).trans (stored (w1 x0) x1 256 (by decide) (by decide) x),
      fun x => (congrFun (pay46_eq _) x).trans (stored (w1 x0) x1 0 (by decide) (by decide) x), trivial⟩
  · exact View.cover_of_tiledL (s := S2048x1024) _ S256x1024.size (by sl_kernel_rfl) y

set_option maxHeartbeats 1000000 in
/-- The second group's scores after the first grid step. -/
theorem scores_A_1 (hc0 : cond0_0 i) (y) :
    sout0_A_1 c i arg1 harg1 arg2 harg2 arg3 harg3 arg4 harg4 arg5 harg5 arg6 harg6 arg7 harg7
      arg8 harg8 arg9 harg9 arg10 harg10 hc0
      x0 x1 x2 x3 x4 y = scores1 x0 x1 y := by
  unfold sout0_A_1
  frame_open
  simp (disch := decide) only [↓ View.readCov_skip, ↓ View.readCov_cons_toLoadRect,
    ↓ View.readCov_fill]
  frame_out
  refine View.canon_append_of_piecesOf (Val := Elt Ideal) (e := .f32) (scores1 x0 x1) [_]
    [_, _, _, _, _, _, _, _] ?_ y ?_
  · exact ⟨fun x => (congrFun (pay69_eq _ _) x).trans (stored (w1 x0) x1 1792 (by decide) (by decide) x),
      fun x => (congrFun (pay65_eq _ _) x).trans (stored (w1 x0) x1 1536 (by decide) (by decide) x),
      fun x => (congrFun (pay62_eq _ _) x).trans (stored (w1 x0) x1 1280 (by decide) (by decide) x),
      fun x => (congrFun (pay59_eq _) x).trans (stored (w1 x0) x1 1024 (by decide) (by decide) x),
      fun x => (congrFun (pay56_eq _ _) x).trans (stored (w1 x0) x1 768 (by decide) (by decide) x),
      fun x => (congrFun (pay53_eq _) x).trans (stored (w1 x0) x1 512 (by decide) (by decide) x),
      fun x => (congrFun (pay49_eq _ _) x).trans (stored (w1 x0) x1 256 (by decide) (by decide) x),
      fun x => (congrFun (pay46_eq _) x).trans (stored (w1 x0) x1 0 (by decide) (by decide) x), trivial⟩
  · exact View.cover_of_tiledL (s := S2048x1024) _ S256x1024.size (by sl_kernel_rfl) y

end Cert.KernelIdeal.Attn
end
-- ==== Proof.AttnStep.lean ====
module
public import proofs.«01_k».proof.Proof.AttnScores

/-!
The values of one grid step of the attention kernel: each head's output at one position and
channel, as sums over keys and channels of the blocks the step reads.
-/

@[expose] public section
set_option maxRecDepth 16384
noncomputable section
namespace Cert.KernelIdeal.Attn
open Cert.KernelIdeal Cert.KernelIdeal.Gen Idealize.ShloMosaic Idealize.ShloMosaic.TcCoe Idealize.SL.Sem

/-- The scale of the queries: an eighth, over the logarithm of two. -/
def qs : EReal := (((8 : ℝ)⁻¹ * (Real.log 2)⁻¹ : ℝ) : EReal)

/-- The named scale has its value. -/
theorem named_qscale : (Named.named (F := Ideal) (φ := .f32) κ "qscale" 1043900987#32 : EReal) = qs :=
  IdealRules.named_const.ideal_named_scalar _ _ _ _ rfl

/-- The lane mask of the query operand: set on the first 64 lanes. -/
theorem top_lanes : ∀ x : Fin 128,
    IntOp.cmpi CmpIPredicate.slt (BitVec.ofNat 32 x.val) 64#32 = if x.val < 64 then 1#1 else 0#1 := by
  decide +kernel

/-- The query operand at one lane and column, head by head: each head's queries on the lanes its half
of the mask selects, zero on the others. -/
theorem pay8_apply (v8 v16 : Vec Ideal S1x128x256 .f32) (x : Fin 128) (col : Fin 1024) :
    (k0_pay8 v8 v16 (ix2 x col) : EReal) =
      (if h : col.val < 256 then
        Scalar.select (IntOp.cmpi CmpIPredicate.slt (BitVec.ofNat 32 x.val) 64#32)
          ((v8 (ix3 0 x ⟨col.val, h⟩) : EReal) * qs) 0
      else if h : col.val - 256 < 256 then
        Scalar.select (IntOp.cmpi CmpIPredicate.slt (BitVec.ofNat 32 x.val) 64#32) 0
          ((v8 (ix3 0 x ⟨col.val - 256, h⟩) : EReal) * qs)
      else if h : col.val - 256 - 256 < 256 then
        Scalar.select (IntOp.cmpi CmpIPredicate.slt (BitVec.ofNat 32 x.val) 64#32)
          ((v16 (ix3 0 x ⟨col.val - 256 - 256, h⟩) : EReal) * qs) 0
      else
        Scalar.select (IntOp.cmpi CmpIPredicate.slt (BitVec.ofNat 32 x.val) 64#32) 0
          ((v16 (ix3 0 x ⟨col.val - 256 - 256 - 256, by omega⟩) : EReal) * qs)) := by
  rw [← named_qscale]
  pointwise [k0_pay8, k0_pay3]

/-- 128 lane rows of the query block, read at one entry. -/
theorem ldq_apply (x0 : Vec Ideal S1x512x256 .f32) (o : ℕ) (ho : o + 128 ≤ 512)
    (h : ∀ a, (![0, o, 0] : Fin 3 → ℕ) a + (![1, 128, 256] : Fin 3 → ℕ) a ≤ S1x512x256.size a)
    (x : Fin 128) (j : Fin 256) :
    View.ld x0 (Rect.unit ![0, o, 0] ![1, 128, 256] h) (ix3 0 x j) =
      x0 (ix3 0 ⟨o + x.val, by omega⟩ j) := by
  pointwise

/-- The query operand at one lane and column: column `h * 256 + i` holds query `i` of head `h` on its
own half of the lanes, and zero on the other half. -/
theorem wq_apply (x0 : Vec Ideal S1x512x256 .f32) (o : ℕ) (ho : o + 256 ≤ 512) (h h') (x : Fin 128)
    (col : Fin 1024) :
    (wq x0 o (o + 128) h h' (ix2 x col) : EReal) =
      if x.val / 64 = col.val / 256 % 2 then
        x0 (ix3 0 ⟨o + col.val / 512 * 128 + x.val, by omega⟩ ⟨col.val % 256, by omega⟩) * qs
      else 0 := by
  have hx := x.isLt
  have hcol := col.isLt
  have hc := top_lanes x
  unfold wq
  rw [pay8_apply]
  simp only [ldq_apply x0 o (by omega), ldq_apply x0 (o + 128) (by omega)]
  unfold Scalar.select
  by_cases hl : x.val < 64
  · have h1 : IntOp.cmpi CmpIPredicate.slt (BitVec.ofNat 32 x.val) 64#32 = 1 := by
      rw [hc, if_pos hl]; rfl
    split
    · rw [if_pos (by omega)]
      exact congrArg (· * qs) (congrArg₂ (fun a b => x0 (ix3 0 a b)) (Fin.ext (by simp; omega))
          (Fin.ext (by simp; omega)))
    · split
      · rw [if_neg (by omega)]
      · split
        · rw [if_pos (by omega)]
          exact congrArg (· * qs) (congrArg₂ (fun a b => x0 (ix3 0 a b)) (Fin.ext (by simp; omega))
          (Fin.ext (by simp; omega)))
        · rw [if_neg (by omega)]
  · have h1 : ¬ IntOp.cmpi CmpIPredicate.slt (BitVec.ofNat 32 x.val) 64#32 = 1 := by
      rw [hc, if_neg hl]; decide
    split
    · rw [if_neg (by omega)]
    · split
      · rw [if_pos (by omega)]
        exact congrArg (· * qs) (congrArg₂ (fun a b => x0 (ix3 0 a b)) (Fin.ext (by simp; omega))
          (Fin.ext (by simp; omega)))
      · split
        · rw [if_neg (by omega)]
        · rw [if_pos (by omega)]
          exact congrArg (· * qs) (congrArg₂ (fun a b => x0 (ix3 0 a b)) (Fin.ext (by simp; omega))
          (Fin.ext (by simp; omega)))

/-- A sum over 128 lanes of which only the half `e` counts. -/
theorem half_sum (e : ℕ) (he : e < 2) (f : Fin 128 → EReal) :
    (∑ x : Fin 128, if x.val / 64 = e then f x else 0) =
      ∑ d : Fin 64, f ⟨e * 64 + d.val, by omega⟩ := by
  have h : ∀ g : Fin 128 → EReal, ∑ x, g x = ∑ p : Fin 2 × Fin 64, g (finProdFinEquiv p) :=
    fun g => (Equiv.sum_comp (finProdFinEquiv (m := 2) (n := 64)) g).symm
  have hv : ∀ (k : Fin 2) (d : Fin 64),
      ((finProdFinEquiv (k, d) : Fin (2 * 64)) : ℕ) = d.val + 64 * k.val := fun k d => rfl
  rw [h, Fintype.sum_prod_type, Fin.sum_univ_two]
  have hk : ∀ k : Fin 2, (∑ d : Fin 64, if (finProdFinEquiv (k, d) : Fin (2 * 64)).val / 64 = e
      then f (finProdFinEquiv (k, d)) else 0) =
      if k.val = e then ∑ d : Fin 64, f ⟨k.val * 64 + d.val, by omega⟩ else 0 := by
    intro k
    by_cases hke : k.val = e
    · rw [if_pos hke]
      refine Finset.sum_congr rfl fun d _ => ?_
      rw [if_pos (by rw [hv]; omega)]
      exact congrArg f (Fin.ext (by rw [hv]; simp; omega))
    · rw [if_neg hke]
      refine Finset.sum_eq_zero fun d _ => ?_
      rw [if_neg (by rw [hv]; omega)]
  rw [hk, hk]
  rcases (by omega : e = 0 ∨ e = 1) with rfl | rfl <;> simp

/-- The score of key `key` for query `i` of head `h` of group `kv`, from the blocks a step reads:
64 channels of the key, at the lanes of the head's half, against the query's scaled channels. -/
def score (x0 : Vec Ideal S1x512x256 .f32) (x1 : Vec Ideal S1x2048x256 .bf16) (kv : Fin 2)
    (col : Fin 1024) (key : Fin 2048) : EReal :=
  ∑ d : Fin 64, x1 (ix3 0 key ⟨128 * kv.val + (col.val / 256 % 2 * 64 + d.val), by omega⟩) *
    (x0 (ix3 0 ⟨kv.val * 256 + col.val / 256 * 64 + d.val, by omega⟩ ⟨col.val % 256, by omega⟩) * qs)

/-- The 128-lane product is the 64-channel one. -/
theorem sc_eq (x0 : Vec Ideal S1x512x256 .f32) (x1 : Vec Ideal S1x2048x256 .bf16) (kv : Fin 2)
    (o : ℕ) (ho : o = kv.val * 256) (h h') (key : Fin 2048) (col : Fin 1024) :
    sc (wq x0 o (o + 128) h h') x1 kv key col = score x0 x1 kv col key := by
  unfold sc
  have e : ∀ x : Fin 128, (x1 (ix3 0 key ⟨128 * kv.val + x.val, by omega⟩) *
      wq x0 o (o + 128) h h' (ix2 x col) : EReal) =
      if x.val / 64 = col.val / 256 % 2 then
        x1 (ix3 0 key ⟨128 * kv.val + x.val, by omega⟩) *
          (x0 (ix3 0 ⟨o + col.val / 512 * 128 + x.val, by omega⟩ ⟨col.val % 256, by omega⟩) * qs)
      else 0 := by
    intro x
    rw [wq_apply x0 o (by omega) h h' x col]
    split
    · rfl
    · exact mul_zero _
  rw [Finset.sum_congr rfl fun x _ => e x, half_sum (col.val / 256 % 2) (by omega)]
  unfold score
  refine Finset.sum_congr rfl fun d _ => congrArg₂ (· * ·) rfl (congrArg (· * qs) ?_)
  exact congrArg (fun a => x0 (ix3 0 a _)) (Fin.ext (by simp; omega))

/-- The first group's scores. -/
theorem sc_w0 (x0 : Vec Ideal S1x512x256 .f32) (x1 : Vec Ideal S1x2048x256 .bf16) (key : Fin 2048)
    (col : Fin 1024) : sc (w0 x0) x1 0 key col = score x0 x1 0 col key :=
  sc_eq x0 x1 0 0 rfl _ _ key col

/-- The second group's scores. -/
theorem sc_w1 (x0 : Vec Ideal S1x512x256 .f32) (x1 : Vec Ideal S1x2048x256 .bf16) (key : Fin 2048)
    (col : Fin 1024) : sc (w1 x0) x1 1 key col = score x0 x1 1 col key :=
  sc_eq x0 x1 1 256 rfl _ _ key col

/-- The first group's column maxima. -/
theorem max0_apply (x0 : Vec Ideal S1x512x256 .f32) (x1 : Vec Ideal S1x2048x256 .bf16)
    (col : Fin 1024) :
    (max0 x0 x1 (ix2 0 col) : EReal) = Finset.univ.sup (score x0 x1 0 col) := by
  unfold max0
  refine colMax_apply _ _ _ _ _ _ _ _ _ col _ ?_ ?_ ?_ ?_ ?_ ?_ ?_ ?_
  all_goals
    intro r
    rw [← sc_w0]
    exact pay14_kc (w0 x0) x1 0 _ _ (by omega) r col

/-- The second group's column maxima. -/
theorem max1_apply (x0 : Vec Ideal S1x512x256 .f32) (x1 : Vec Ideal S1x2048x256 .bf16)
    (col : Fin 1024) :
    (max1 x0 x1 (ix2 0 col) : EReal) = Finset.univ.sup (score x0 x1 1 col) := by
  unfold max1
  refine colMax_apply _ _ _ _ _ _ _ _ _ col _ ?_ ?_ ?_ ?_ ?_ ?_ ?_ ?_
  all_goals
    intro r
    rw [← sc_w1]
    exact pay14_kc (w1 x0) x1 1 _ _ (by omega) r col

/-- A head's output at one position and channel: the values weighted by the powers of two of the
scores less their maximum, over the sum of those powers. -/
def headOut (S v : Fin 2048 → EReal) : EReal :=
  accAt S (Finset.univ.sup S) v * Ideal.div 1 (accAt S (Finset.univ.sup S) fun _ => 1)

/-- The first 64 rows of the value operand are the values. -/
theorem vrow_val (x2 : Vec Ideal S1x64x2048 .bf16) (d : Fin 64) :
    vrow x2 ⟨d.val, by omega⟩ = fun key => (x2 (ix3 0 d key) : EReal) := by
  funext key
  unfold vrow
  rw [dif_pos d.isLt]

/-- Row 64 of the value operand is ones. -/
theorem vrow_one (x2 : Vec Ideal S1x64x2048 .bf16) : vrow x2 64 = fun _ => (1 : EReal) := by
  funext key
  unfold vrow
  rw [dif_neg (by decide)]

/-- The first group's accumulator. -/
theorem acc0_apply (x0 : Vec Ideal S1x512x256 .f32) (x1 : Vec Ideal S1x2048x256 .bf16)
    (x2 : Vec Ideal S1x64x2048 .bf16) (r : Fin 80) (col : Fin 1024) :
    (acc0 x0 x1 x2 (ix2 r col) : EReal) =
      accAt (score x0 x1 0 col) (Finset.univ.sup (score x0 x1 0 col)) (vrow x2 r) := by
  unfold acc0
  rw [← max0_apply]
  refine acc8_apply _ _ _ _ _ _ _ _ _ x2 _ _ _ _ _ _ _ _ _ r col ?_ ?_ ?_ ?_ ?_ ?_ ?_ ?_
  all_goals
    intro r
    rw [← sc_w0]
    exact pay14_kc (w0 x0) x1 0 _ _ (by omega) r col

/-- The first group's heads. -/
theorem heads0_apply (x0 : Vec Ideal S1x512x256 .f32) (x1 : Vec Ideal S1x2048x256 .bf16)
    (x2 : Vec Ideal S1x64x2048 .bf16) (d : Fin 64) (col : Fin 1024) :
    (k0_pay2 (acc0 x0 x1 x2) (ix2 d col) : EReal) =
      headOut (score x0 x1 0 col) fun key => x2 (ix3 0 d key) := by
  rw [pay2_apply, acc0_apply, acc0_apply, vrow_val, vrow_one]
  rfl

/-- The second group's accumulator, from the scores the step before left. -/
theorem acc1_apply (x0 : Vec Ideal S1x512x256 .f32) (x1 : Vec Ideal S1x2048x256 .bf16)
    (x3 : Vec Ideal S1x64x2048 .bf16) (r : Fin 80) (col : Fin 1024) :
    (accHead (max1 x0 x1) (scores1 x0 x1) x3 (ix2 r col) : EReal) +
      k0_pay35 k0_pay4 (max1 x0 x1) (sl (scores1 x0 x1) 1792 (by decide))
        (vc x3 1792 (by decide)) (ix2 r col) =
      accAt (score x0 x1 1 col) (Finset.univ.sup (score x0 x1 1 col)) (vrow x3 r) := by
  rw [acc8_split, ← max1_apply]
  refine acc8_apply _ _ _ _ _ _ _ _ _ x3 _ _ _ _ _ _ _ _ _ r col ?_ ?_ ?_ ?_ ?_ ?_ ?_ ?_
  all_goals
    intro x
    rw [← sc_w1]
    unfold sl
    pointwise [scores1]

/-- The output block of a later grid step, given what the step before it left: the second group's
heads beside the first group's, each row over its root mean square. -/
theorem out_apply (y0 : Vec Ideal S1x512x256 .f32) (y1 : Vec Ideal S1x2048x256 .bf16)
    (y2 x3 : Vec Ideal S1x64x2048 .bf16) (x4 : Vec Ideal S1x512 .f32) (r : Fin 256) (n : Fin 512) :
    (k0_pay39 (k0_pay38 (accHead (max1 y0 y1) (scores1 y0 y1) x3)
        (k0_pay35 k0_pay4 (max1 y0 y1) (sl (scores1 y0 y1) 1792 (by decide))
          (vc x3 1792 (by decide))) (k0_pay2 (acc0 y0 y1 y2)) x4) (ix3 0 r n) : EReal) =
      scaled (cell (fun d q => headOut (score y0 y1 0 q) fun key => y2 (ix3 0 d key))
        (fun d q => headOut (score y0 y1 1 q) fun key => x3 (ix3 0 d key)) r)
        (fun n => x4 (ix2 0 n)) n := by
  rw [pay39_apply, pay38_apply]
  simp only [heads0_apply, acc1_apply, vrow_val, vrow_one]
  rfl

end Cert.KernelIdeal.Attn
end
-- ==== Proof.AttnRow.lean ====
module
public import proofs.«01_k».proof.Proof.AttnStep

/-!
The attention call's result as the kernel computes it, from the queries, keys and values it is given:
one entry at sequence `b`, position `i` and channel `n`.
-/

@[expose] public section
set_option maxRecDepth 16384
noncomputable section
namespace Cert.AttnRow
open Idealize.ShloMosaic Cert.KernelIdeal.Attn

/-- The queries: sequence, position, head, channel. -/
abbrev Q := FVec Ideal ⟨4, ![16, 2048, 8, 64]⟩ .f32

/-- The keys or the values: sequence, position, group, channel. -/
abbrev KV := FVec Ideal ⟨4, ![16, 2048, 2, 64]⟩ .f32

/-- The kernel's score of key `key` for the query at position `i` of head `h`. -/
def score (q : Q) (k : KV) (b : Fin 16) (i : Fin 2048) (h : Fin 8) (key : Fin 2048) : EReal :=
  ∑ d : Fin 64, k (ix4 b key ⟨h.val / 4, by omega⟩ d) * (q (ix4 b i h d) * qs)

/-- The kernel's output at position `i`, head `h`, channel `d`. -/
def head (q : Q) (k v : KV) (b : Fin 16) (i : Fin 2048) (h : Fin 8) (d : Fin 64) : EReal :=
  headOut (score q k b i h) fun key => v (ix4 b key ⟨h.val / 4, by omega⟩ d)

/-- The kernel's result at position `i` and channel `n`: the heads side by side, each row over its root
mean square. -/
def result (q : Q) (k v : KV) (g : FVec Ideal ⟨2, ![1, 512]⟩ .f32) (b : Fin 16) (i : Fin 2048)
    (n : Fin 512) : EReal :=
  scaled (fun n => head q k v b i ⟨n.val / 64, by omega⟩ ⟨n.val % 64, by omega⟩)
    (fun n => g (ix2 0 n)) n

end Cert.AttnRow
end
-- ==== Proof.AttnArray.lean ====
module
public import proofs.«01_k».proof.Proof.AttnRow
public import Idealize.ShloMosaic.Lib.Claim

/-!
What the attention call's result array holds after the run: each grid step after the first fills one
block, from what the step before it left in the scratch buffers.
-/

@[expose] public section
set_option maxRecDepth 16384
noncomputable section
namespace Cert.KernelIdeal.Attn
open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-! Which block of each array a grid step works on: step `t` takes the queries, keys and first group's
values of block `min t 127`, and the second group's values and the output of block `t - 1`. -/

theorem idx0 : ∀ t : Fin grid0.N, win0_0.index t = ![min t.val 127 / 8, 0, min t.val 127 % 8] := by
  decide +kernel
theorem idx1 : ∀ t : Fin grid0.N, win0_1.index t = ![min t.val 127 / 8, 0, 0] := by decide +kernel
theorem idx2 : ∀ t : Fin grid0.N, win0_2.index t = ![min t.val 127 / 8, 0, 0] := by decide +kernel
theorem idx3 : ∀ t : Fin grid0.N, win0_3.index t = ![(t.val - 1) / 8, 1, 0] := by decide +kernel
theorem idx4 : ∀ t : Fin grid0.N, win0_4.index t = ![0, 0] := by decide +kernel
theorem idx5 : ∀ t : Fin grid0.N, win0_5.index t = ![(t.val - 1) / 8, (t.val - 1) % 8, 0] := by
  decide +kernel

theorem lt129 (t : Fin cfg0.N) : t.val < 129 := lt_of_lt_of_eq t.isLt N_0

/-- The query block, channel by position. -/
theorem blk0 (c : Dev nD) (t : Fin cfg0.N) (e : Fin 512) (j : Fin 256) :
    iblk m c 0 t (ix3 0 e j) = m ((c.tc : Thread nD τ).loc main_arg0)
      (ix4 ⟨min t.val 127 / 8, by omega⟩ ⟨min t.val 127 % 8 * 256 + j.val, by omega⟩
        ⟨e.val / 64, by omega⟩ ⟨e.val % 64, by omega⟩) := by
  blk_simp [iblk, idx0 t]
  entry_read
  pointwise
  blk_ext [idx0 t]

/-- The key block, position by lane: each group's 64 channels twice over. -/
theorem blk1 (c : Dev nD) (t : Fin cfg0.N) (key : Fin 2048) (l : Fin 256) :
    iblk m c 1 t (ix3 0 key l) = m ((c.tc : Thread nD τ).loc main_arg1)
      (ix4 ⟨min t.val 127 / 8, by omega⟩ key ⟨l.val / 128, by omega⟩ ⟨l.val % 64, by omega⟩) := by
  blk_simp [iblk, idx1 t]
  entry_read
  pointwise
  split <;> blk_ext [idx1 t]

/-- The first group's value block, channel by position. -/
theorem blk2 (c : Dev nD) (t : Fin cfg0.N) (d : Fin 64) (key : Fin 2048) :
    iblk m c 2 t (ix3 0 d key) = m ((c.tc : Thread nD τ).loc main_arg2)
      (ix4 ⟨min t.val 127 / 8, by omega⟩ key 0 d) := by
  blk_simp [iblk, idx2 t]
  entry_read
  pointwise
  blk_ext [idx2 t]

/-- The second group's value block, channel by position. -/
theorem blk3 (c : Dev nD) (t : Fin cfg0.N) (d : Fin 64) (key : Fin 2048) :
    iblk m c 3 t (ix3 0 d key) = m ((c.tc : Thread nD τ).loc main_arg2)
      (ix4 ⟨(t.val - 1) / 8, by have := lt129 t; omega⟩ key 1 d) := by
  blk_simp [iblk, idx3 t]
  entry_read
  pointwise
  blk_ext [idx3 t]

/-- The norm's scale. -/
theorem blk4 (c : Dev nD) (t : Fin cfg0.N) (n : Fin 512) :
    iblk m c 4 t (ix2 0 n) = m ((c.tc : Thread nD τ).loc main_arg3) (ix2 0 n) := by
  blk_simp [iblk, idx4 t]
  entry_read
  pointwise
  blk_ext [idx4 t]

end Cert.KernelIdeal.Attn
end
-- ==== Proof.AttnLeft.lean ====
module
public import proofs.«01_k».proof.Proof.AttnScores
public import Idealize.ShloMosaic.Lib.Claim

/-!
What any grid step of the attention kernel leaves for the next: the second group's scores and column
maxima, and the first group's heads, all from the blocks that step read.
-/

@[expose] public section
set_option maxRecDepth 16384
noncomputable section
namespace Cert.KernelIdeal.Attn
open Cert.KernelIdeal Cert.KernelIdeal.Gen Idealize.ShloMosaic Idealize.ShloMosaic.TcCoe Idealize.SL.Sem

variable (m : (ℓ : Loc nD τ sig) → Buf (Elt Ideal) ℓ)

set_option maxHeartbeats 2000000 in
/-- The scores left after step `t`. -/
theorem left_scores (c : Dev nD) (t : Fin cfg0.N) :
    (outsAt0 m c t.val t.isLt).2.1 = scores1 (iblk m c 0 t) (iblk m c 1 t) := by
  by_cases h0 : t.val % 129 = 0
  · rw [outsAt0_A m c t h0]
    dsimp only
    exact funext fun y => scores_A_1 c (grid0.coords t)
      (ms0_0 t) (hs0_0 t) (ms0_1 t) (hs0_1 t) (ms0_2 t) (hs0_2 t) (ms0_3 t) (hs0_3 t) (ms0_4 t) (hs0_4 t)
      (ms0_5 t) (hs0_5 t) scM0_0 (Memref.isWhole_whole _) scM0_1 (Memref.isWhole_whole _) scM0_2
      (Memref.isWhole_whole _) scM0_3 (Memref.isWhole_whole _)
      (iblk m c 0 t) (iblk m c 1 t) (iblk m c 2 t) (iblk m c 3 t) (iblk m c 4 t)
      ((hcond0_0 t).mpr h0) y
  · rw [outsAt0_B m c t h0]
    dsimp only
    exact funext fun y => scores_B_1 c (grid0.coords t)
      (ms0_0 t) (hs0_0 t) (ms0_1 t) (hs0_1 t) (ms0_2 t) (hs0_2 t) (ms0_3 t) (hs0_3 t) (ms0_4 t) (hs0_4 t)
      (ms0_5 t) (hs0_5 t) scM0_0 (Memref.isWhole_whole _) scM0_1 (Memref.isWhole_whole _) scM0_2
      (Memref.isWhole_whole _) scM0_3 (Memref.isWhole_whole _)
      (iblk m c 0 t) (iblk m c 1 t) (iblk m c 2 t) (iblk m c 3 t) (iblk m c 4 t)
      (outsAt0 m c (t.val - 1) (Nat.lt_of_le_of_lt (Nat.sub_le _ _) t.isLt)).2.1 (outsAt0 m c (t.val - 1)
      (Nat.lt_of_le_of_lt (Nat.sub_le _ _) t.isLt)).2.2.1 (outsAt0 m c (t.val - 1) (Nat.lt_of_le_of_lt
      (Nat.sub_le _ _) t.isLt)).2.2.2
      (fun h => h0 ((hcond0_0 t).mp h)) y

set_option maxHeartbeats 2000000 in
/-- The column maxima left after step `t`. -/
theorem left_maxima (c : Dev nD) (t : Fin cfg0.N) :
    (outsAt0 m c t.val t.isLt).2.2.1 = max1 (iblk m c 0 t) (iblk m c 1 t) := by
  by_cases h0 : t.val % 129 = 0
  · rw [outsAt0_A m c t h0]
    dsimp only
    exact funext fun y => maxima_A_2 c (grid0.coords t)
      (ms0_0 t) (hs0_0 t) (ms0_1 t) (hs0_1 t) (ms0_2 t) (hs0_2 t) (ms0_3 t) (hs0_3 t) (ms0_4 t) (hs0_4 t)
      (ms0_5 t) (hs0_5 t) scM0_0 (Memref.isWhole_whole _) scM0_1 (Memref.isWhole_whole _) scM0_2
      (Memref.isWhole_whole _) scM0_3 (Memref.isWhole_whole _)
      (iblk m c 0 t) (iblk m c 1 t) (iblk m c 2 t) (iblk m c 3 t) (iblk m c 4 t)
      ((hcond0_0 t).mpr h0) y
  · rw [outsAt0_B m c t h0]
    dsimp only
    exact funext fun y => maxima_B_2 c (grid0.coords t)
      (ms0_0 t) (hs0_0 t) (ms0_1 t) (hs0_1 t) (ms0_2 t) (hs0_2 t) (ms0_3 t) (hs0_3 t) (ms0_4 t) (hs0_4 t)
      (ms0_5 t) (hs0_5 t) scM0_0 (Memref.isWhole_whole _) scM0_1 (Memref.isWhole_whole _) scM0_2
      (Memref.isWhole_whole _) scM0_3 (Memref.isWhole_whole _)
      (iblk m c 0 t) (iblk m c 1 t) (iblk m c 2 t) (iblk m c 3 t) (iblk m c 4 t)
      (outsAt0 m c (t.val - 1) (Nat.lt_of_le_of_lt (Nat.sub_le _ _) t.isLt)).2.1 (outsAt0 m c (t.val - 1)
      (Nat.lt_of_le_of_lt (Nat.sub_le _ _) t.isLt)).2.2.1 (outsAt0 m c (t.val - 1) (Nat.lt_of_le_of_lt
      (Nat.sub_le _ _) t.isLt)).2.2.2
      (fun h => h0 ((hcond0_0 t).mp h)) y

set_option maxHeartbeats 2000000 in
/-- The first group's heads left after step `t`. -/
theorem left_heads (c : Dev nD) (t : Fin cfg0.N) :
    (outsAt0 m c t.val t.isLt).2.2.2 = k0_pay2 (acc0 (iblk m c 0 t) (iblk m c 1 t) (iblk m c 2 t)) := by
  by_cases h0 : t.val % 129 = 0
  · rw [outsAt0_A m c t h0]
    dsimp only
    exact funext fun y => heads_A_3 c (grid0.coords t)
      (ms0_0 t) (hs0_0 t) (ms0_1 t) (hs0_1 t) (ms0_2 t) (hs0_2 t) (ms0_3 t) (hs0_3 t) (ms0_4 t) (hs0_4 t)
      (ms0_5 t) (hs0_5 t) scM0_0 (Memref.isWhole_whole _) scM0_1 (Memref.isWhole_whole _) scM0_2
      (Memref.isWhole_whole _) scM0_3 (Memref.isWhole_whole _)
      (iblk m c 0 t) (iblk m c 1 t) (iblk m c 2 t) (iblk m c 3 t) (iblk m c 4 t)
      ((hcond0_0 t).mpr h0) y
  · rw [outsAt0_B m c t h0]
    dsimp only
    exact funext fun y => heads_B_3 c (grid0.coords t)
      (ms0_0 t) (hs0_0 t) (ms0_1 t) (hs0_1 t) (ms0_2 t) (hs0_2 t) (ms0_3 t) (hs0_3 t) (ms0_4 t) (hs0_4 t)
      (ms0_5 t) (hs0_5 t) scM0_0 (Memref.isWhole_whole _) scM0_1 (Memref.isWhole_whole _) scM0_2
      (Memref.isWhole_whole _) scM0_3 (Memref.isWhole_whole _)
      (iblk m c 0 t) (iblk m c 1 t) (iblk m c 2 t) (iblk m c 3 t) (iblk m c 4 t)
      (outsAt0 m c (t.val - 1) (Nat.lt_of_le_of_lt (Nat.sub_le _ _) t.isLt)).2.1 (outsAt0 m c (t.val - 1)
      (Nat.lt_of_le_of_lt (Nat.sub_le _ _) t.isLt)).2.2.1 (outsAt0 m c (t.val - 1) (Nat.lt_of_le_of_lt
      (Nat.sub_le _ _) t.isLt)).2.2.2
      (fun h => h0 ((hcond0_0 t).mp h)) y

set_option maxHeartbeats 2000000 in
/-- The output block after a later step: the second group's heads from what the step before left, the
first group's as it left them, and the norm. -/
theorem left_out (c : Dev nD) (t : Fin cfg0.N) (h0 : ¬t.val % 129 = 0) (y) :
    (outsAt0 m c t.val t.isLt).1 y = k0_pay39 (k0_pay38
      (accHead (outsAt0 m c (t.val - 1) (Nat.lt_of_le_of_lt (Nat.sub_le _ _) t.isLt)).2.2.1
        (outsAt0 m c (t.val - 1) (Nat.lt_of_le_of_lt (Nat.sub_le _ _) t.isLt)).2.1 (iblk m c 3 t))
      (k0_pay35 k0_pay4 (outsAt0 m c (t.val - 1) (Nat.lt_of_le_of_lt (Nat.sub_le _ _) t.isLt)).2.2.1
        (sl (outsAt0 m c (t.val - 1) (Nat.lt_of_le_of_lt (Nat.sub_le _ _) t.isLt)).2.1 1792 (by decide))
        (vc (iblk m c 3 t) 1792 (by decide)))
      (outsAt0 m c (t.val - 1) (Nat.lt_of_le_of_lt (Nat.sub_le _ _) t.isLt)).2.2.2 (iblk m c 4 t)) y := by
  rw [outsAt0_B m c t h0]
  dsimp only
  exact out_B_5 c (grid0.coords t)
      (ms0_0 t) (hs0_0 t) (ms0_1 t) (hs0_1 t) (ms0_2 t) (hs0_2 t) (ms0_3 t) (hs0_3 t) (ms0_4 t) (hs0_4 t)
      (ms0_5 t) (hs0_5 t) scM0_0 (Memref.isWhole_whole _) scM0_1 (Memref.isWhole_whole _) scM0_2
      (Memref.isWhole_whole _) scM0_3 (Memref.isWhole_whole _)
      (iblk m c 0 t) (iblk m c 1 t) (iblk m c 2 t) (iblk m c 3 t) (iblk m c 4 t)
      (outsAt0 m c (t.val - 1) (Nat.lt_of_le_of_lt (Nat.sub_le _ _) t.isLt)).2.1 (outsAt0 m c (t.val - 1)
      (Nat.lt_of_le_of_lt (Nat.sub_le _ _) t.isLt)).2.2.1 (outsAt0 m c (t.val - 1) (Nat.lt_of_le_of_lt
      (Nat.sub_le _ _) t.isLt)).2.2.2
      (fun h => h0 ((hcond0_0 t).mp h)) y

end Cert.KernelIdeal.Attn
end
-- ==== Proof.AttnFinal.lean ====
module
public import proofs.«01_k».proof.Proof.AttnArray
public import proofs.«01_k».proof.Proof.AttnLeft
public import Idealize.ShloMosaic.Lib.Pipeline.ValueKit

/-!
What the attention call's result array holds after the run: at sequence `b`, position `i` and channel `n`
the entry that `AttnRow.result` names.
-/

@[expose] public section
set_option maxRecDepth 16384
noncomputable section
namespace Cert.KernelIdeal.Attn
open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- Two entries of a rank-four array are the same when their indices are. -/
theorem at4 {a b c d : ℕ} (f : (⟨4, ![a, b, c, d]⟩ : Shape).Idx → EReal) {i i' : Fin a} {j j' : Fin b}
    {k k' : Fin c} {l l' : Fin d} (hi : i = i') (hj : j = j') (hk : k = k') (hl : l = l') :
    f (ix4 i j k l) = f (ix4 i' j' k' l') := by
  subst hi hj hk hl
  rfl

section
variable (q : AttnRow.Q) (k v : AttnRow.KV) (b : Fin 16) (p : Fin 8)
  (x0 : Vec Ideal S1x512x256 .f32) (x1 : Vec Ideal S1x2048x256 .bf16)
  (h0 : ∀ (e : Fin 512) (j : Fin 256), x0 (ix3 0 e j) =
    q (ix4 b ⟨p.val * 256 + j.val, by omega⟩ ⟨e.val / 64, by omega⟩ ⟨e.val % 64, by omega⟩))
  (h1 : ∀ (key : Fin 2048) (l : Fin 256), x1 (ix3 0 key l) =
    k (ix4 b key ⟨l.val / 128, by omega⟩ ⟨l.val % 64, by omega⟩))
include h0 h1

/-- A block's score is the whole array's: column `col` of group `kv` is head `4 * kv + col / 256` at
position `col % 256` of the block. -/
theorem score_head (kv : Fin 2) (col : Fin 1024) (i : Fin 2048) (h : Fin 8)
    (hi : i.val = p.val * 256 + col.val % 256) (hh : h.val = 4 * kv.val + col.val / 256) :
    score x0 x1 kv col = AttnRow.score q k b i h := by
  funext key
  unfold score AttnRow.score
  refine Finset.sum_congr rfl fun d _ => ?_
  rw [h0, h1]
  exact congrArg₂ (· * ·)
    (at4 k rfl rfl (Fin.ext (by dsimp only; omega)) (Fin.ext (by dsimp only; omega)))
    (congrArg (· * qs) (at4 q rfl (Fin.ext (by dsimp only; omega)) (Fin.ext (by dsimp only; omega))
      (Fin.ext (by dsimp only; omega))))

/-- One channel of the output row a block holds, as the whole result's row has it: channel `n` is head
`n / 64`, channel `n % 64` of it, wherever the two groups' columns keep it. -/
theorem cell_head (r : Fin 256) (v0 v1 : Vec Ideal S1x64x2048 .bf16)
    (h2 : ∀ (d : Fin 64) (key : Fin 2048), v0 (ix3 0 d key) = v (ix4 b key 0 d))
    (h3 : ∀ (d : Fin 64) (key : Fin 2048), v1 (ix3 0 d key) = v (ix4 b key 1 d)) (n : Fin 512) :
    cell (fun d q => headOut (score x0 x1 0 q) fun key => v0 (ix3 0 d key))
      (fun d q => headOut (score x0 x1 1 q) fun key => v1 (ix3 0 d key)) r n
    = AttnRow.head q k v b ⟨p.val * 256 + r.val, by omega⟩ ⟨n.val / 64, by omega⟩
        ⟨n.val % 64, by omega⟩ := by
  unfold cell AttnRow.head
  split
  · dsimp only
    rw [score_head q k b p x0 x1 h0 h1 0 _ ⟨p.val * 256 + r.val, by omega⟩ ⟨n.val / 64, by omega⟩
      (by dsimp only; omega) (by simp; omega)]
    simp only [h2]
    exact congrArg (headOut _) (funext fun key => at4 v rfl rfl (Fin.ext (by simp; omega)) rfl)
  · dsimp only
    rw [score_head q k b p x0 x1 h0 h1 1 _ ⟨p.val * 256 + r.val, by omega⟩ ⟨n.val / 64, by omega⟩
      (by dsimp only; omega) (by simp; omega)]
    simp only [h3]
    exact congrArg (headOut _) (funext fun key => at4 v rfl rfl (Fin.ext (by simp; omega)) rfl)

end

/-- The result array, index by index. -/
def G (c : Dev nD) : Buf (Elt Ideal) ((c.tc : Thread nD τ).loc main_v11) := fun i =>
  AttnRow.result (m ((c.tc : Thread nD τ).loc main_arg0)) (m ((c.tc : Thread nD τ).loc main_arg1))
    (m ((c.tc : Thread nD τ).loc main_arg2)) (m ((c.tc : Thread nD τ).loc main_arg3))
    ⟨(i 0).val, (i 0).isLt⟩ ⟨(i 1).val, (i 1).isLt⟩ ⟨(i 2).val, (i 2).isLt⟩

/-- Every block but the one of the first step is written back. -/
theorem flush_pos : ∀ t : Fin cfg0.N, (cfg0.win 5).flush t = true → 1 ≤ t.val := by decide +kernel

/-- After the run the result array is `G`. -/
theorem final (c : Dev nD) : (dats m 0 c).arrAt 5 cfg0.N = G m c := by
  refine (dats m 0 c).arrAt_eq_of_covers 5 _ (by decide +kernel) fun t hf y => ?_
  have ht := flush_pos t hf
  have hlt := lt129 t
  have hz : ¬t.val % 129 = 0 := by omega
  blk_simp
  rw [after0_5]
  obtain ⟨z, r, n, rfl⟩ : ∃ (z : Fin 1) (r : Fin 256) (n : Fin 512), y = ix3 z r n :=
    ⟨y 0, y 1, y 2, eq_ix3 y⟩
  obtain rfl : z = 0 := Subsingleton.elim _ _
  rw [left_out m c t hz]
  have hp : t.val - 1 < cfg0.N := by omega
  have e1 := left_scores m c ⟨t.val - 1, hp⟩
  have e2 := left_maxima m c ⟨t.val - 1, hp⟩
  have e3 := left_heads m c ⟨t.val - 1, hp⟩
  dsimp only at e1 e2 e3
  rw [e1, e2, e3, out_apply]
  have hm : min (t.val - 1) 127 = t.val - 1 := by omega
  have h0 : ((win0_5.blk t).view.emb (ix3 0 r n) 0).val = (t.val - 1) / 8 := by
    blk_simp [idx5 t]
    try rfl
  have h1 : ((win0_5.blk t).view.emb (ix3 0 r n) 1).val = (t.val - 1) % 8 * 256 + r.val := by
    blk_simp [idx5 t]
    try rfl
  have h2 : ((win0_5.blk t).view.emb (ix3 0 r n) 2).val = n.val := by
    blk_simp [idx5 t]
    try rfl
  simp only [G, h0, h1, h2]
  unfold AttnRow.result
  refine congrArg₂ (fun f g => scaled f g n) (funext fun n => ?_) (funext fun n => blk4 m c t n)
  refine cell_head _ _ (m ((c.tc : Thread nD τ).loc main_arg2)) ⟨(t.val - 1) / 8, by omega⟩
    ⟨(t.val - 1) % 8, by omega⟩ _ _ (fun e j => ?_) (fun key l => ?_) r _ _ (fun d key => ?_)
    (fun d key => ?_) n
  · rw [blk0]; simp only [hm]
  · rw [blk1]; simp only [hm]
  · rw [blk2]; simp only [hm]
  · rw [blk3]

end Cert.KernelIdeal.Attn
end
-- ==== Proof.AttnReduce.lean ====
module
public import proofs.«01_k».proof.Proof.AttnPay
public import proofs.«01_k».proof.Proof.Gen.ReferenceIdeal.Read

/-!
The reference's maximum over the keys: a reduction of a rank-five array along its last axis.
-/

@[expose] public section
set_option maxRecDepth 16384
noncomputable section
namespace Cert.ReferenceIdeal.Rows
open Cert.ReferenceIdeal Idealize.ShloMosaic Idealize.ShloMosaic.TcCoe Idealize.SL.Sem

/-- The largest of finitely many values, as a fold from minus infinity. -/
theorem fold_sup {ι : Type} [Fintype ι] (f : ι → EReal) :
    Finset.fold max ⊥ f Finset.univ = Finset.univ.sup f := by
  refine le_antisymm ((Finset.fold_max_le _).2 ⟨bot_le, fun i hi => Finset.le_sup hi⟩)
    (Finset.sup_le fun i hi => ?_)
  exact ((Finset.fold_max_le _).1 le_rfl).2 i hi

/-- Where the reduction along the last axis reads its operand. -/
theorem lift_last (h : S16x2x4x2048x2048.Reduces [4] S16x2x4x2048) (b : Fin 16) (g : Fin 2) (j : Fin 4)
    (i key : Fin 2048) : h.lift (ix4 b g j i) key = ix5 b g j i key :=
  funext fun a => Fin.ext (by
    match a with
    | ⟨0, _⟩ => rfl
    | ⟨1, _⟩ => rfl
    | ⟨2, _⟩ => rfl
    | ⟨3, _⟩ => rfl
    | ⟨4, _⟩ => rfl)

/-- A maximum over the keys, started from minus infinity. -/
theorem reduce_max (y : FVec Ideal S16x2x4x2048x2048 .f32) (init : FVec Ideal S_ .f32)
    (h : S16x2x4x2048x2048.ReducesTo [4] S16x2x4x2048) (hu : 0 < S_.numel) (b : Fin 16) (g : Fin 2)
    (j : Fin 4) (i : Fin 2048) :
    Host.reduce (FloatOps.maximumf (F := Ideal) (φ := .f32)) y init h hu (ix4 b g j i) =
      Finset.fold (FloatOps.maximumf (F := Ideal) (φ := .f32)) (init (Shape.Idx.first hu))
        (fun key : Fin 2048 => y (ix5 b g j i key)) Finset.univ := by
  have hr : S16x2x4x2048x2048.Reduces [4] S16x2x4x2048 := by decide
  have e := Host.reduce_eq_fold_single (FloatOps.maximumf (F := Ideal) (φ := .f32)) y init h hr hu (ix4 b g j i)
  have e2 : (y ∘ hr.lift (ix4 b g j i)) = fun key : Fin 2048 => y (ix5 b g j i key) :=
    funext fun key => congrArg y (lift_last hr b g j i key)
  rw [e2] at e
  exact e

end Cert.ReferenceIdeal.Rows
end
-- ==== Proof.AttnRef.lean ====
module
public import proofs.«01_k».proof.Proof.AttnRow
public import proofs.«01_k».proof.Proof.AttnReduce
public import Idealize.ShloMosaic.Lib.Pointwise

/-!
The attention reference's result at an index: the softmax of the scores as the reference writes it, the
weighted sum of the values, and the norm.
-/

@[expose] public section
set_option maxRecDepth 16384
noncomputable section
namespace Cert.ReferenceIdeal.Rows
open Cert.ReferenceIdeal Cert.ReferenceIdeal.Read Idealize.ShloMosaic Idealize.ShloMosaic.TcCoe Idealize.SL.Sem
open Cert.KernelIdeal.Attn (scaled neg_inf)

variable (x0 : (⟨S16x2048x8x64, .f32⟩ : BufTy).Contents (Elt Ideal))
  (x1 x2 : (⟨S16x2048x2x64, .f32⟩ : BufTy).Contents (Elt Ideal))
  (x3 : (⟨S1x512, .f32⟩ : BufTy).Contents (Elt Ideal)) (b : Fin 16) (g : Fin 2) (j : Fin 4) (i : Fin 2048)

/-- The reference's score of key `key` for the query at position `i` of head `4 * g + j`. -/
def score (key : Fin 2048) : EReal :=
  ∑ d : Fin 64, (x0 (ix4 b i ⟨g.val * 4 + j.val, by omega⟩ d) * Ideal.ofBits .f32 0x3E000000#32) *
    x1 (ix4 b key g d)

/-- … as the reference computes it. -/
theorem score_apply (key : Fin 2048) :
    (val_main_v6 x0 x1 (ix5 b g j i key) : EReal) = score x0 x1 b g j i key := by
  pointwise [val_main_v6, val_main_v5, val_main_v3, val_main_v2, val_main_v1, val_main_v0, val_main_cst]
  rfl

/-- The largest score. -/
theorem max_apply :
    (val_main_v9 x0 x1 (ix4 b g j i) : EReal) = Finset.univ.sup (score x0 x1 b g j i) := by
  rw [val_main_v9_apply]
  unfold val_main_v7
  rw [reduce_max, val_main_v8_apply, val_main_cst_0_apply, val_main_cst_1_apply]
  have e : (fun key => val_main_v6 x0 x1 (ix5 b g j i key)) = score x0 x1 b g j i :=
    funext fun key => score_apply x0 x1 b g j i key
  rw [e]
  show max (Ideal.ofBits FTy.f32 4286578688#32) (Finset.fold max (Ideal.ofBits FTy.f32 4286578688#32)
    (score x0 x1 b g j i) Finset.univ) = _
  rw [neg_inf, fold_sup]
  exact max_eq_right bot_le

/-- One key's weight before it is divided by the sum. -/
theorem exp_apply (key : Fin 2048) :
    (val_main_v13 x0 x1 (ix5 b g j i key) : EReal) =
      Ideal.exp (score x0 x1 b g j i key - Finset.univ.sup (score x0 x1 b g j i)) := by
  rw [← score_apply, ← max_apply]
  pointwise [val_main_v13, val_main_v12, val_main_v11, val_main_v10]

/-- One head's output channel. -/
theorem head_apply (d : Fin 64) :
    (val_main_v18 x0 x1 x2 (ix5 b g j i d) : EReal) =
      ∑ key : Fin 2048, Ideal.div (val_main_v13 x0 x1 (ix5 b g j i key))
        (∑ key : Fin 2048, (val_main_v13 x0 x1 (ix5 b g j i key) : EReal)) * x2 (ix4 b key g d) := by
  pointwise [val_main_v18, val_main_v17, val_main_v16, val_main_v15, val_main_v14, val_main_v4, val_main_cst_2]

/-- The sum of the squares of a row. -/
theorem square_apply :
    (val_main_v22 x0 x1 x2 (ix2 b i) : EReal) =
      ∑ n : Fin 512, (val_main_v20 x0 x1 x2 (ix3 b i n) : EReal) * val_main_v20 x0 x1 x2 (ix3 b i n) := by
  have e : ∀ n : Fin 512, idx_main_v22 (ix2 b i) n = ix3 b i n := fun n =>
    funext fun a => Fin.ext (by
      match a with
      | ⟨0, _⟩ => rfl
      | ⟨1, _⟩ => rfl
      | ⟨2, _⟩ => rfl)
  have s : ∀ n : Fin 512, val_main_v21 x0 x1 x2 (idx_main_v22 (ix2 b i) n) =
      (val_main_v20 x0 x1 x2 (ix3 b i n) : EReal) * val_main_v20 x0 x1 x2 (ix3 b i n) := fun n => by
    rw [e, val_main_v21_apply, Ideal.mulf_def]
  have z : ∀ j, (val_main_cst_3 (F := Ideal) j : EReal) = 0 := fun _ => Ideal.ofBits_zero_f32
  have t := val_main_v22_apply x0 x1 x2 (ix2 b i)
  rw [Finset.sum_congr rfl fun n _ => s n, z] at t
  exact t.trans (zero_add _)

/-- A row's factor. -/
theorem factor_apply :
    (val_main_v28 x0 x1 x2 (ix3 b i 0) : EReal) =
      Ideal.rsqrt (Ideal.div (val_main_v22 x0 x1 x2 (ix2 b i)) (Ideal.ofBits FTy.f32 1140850688#32) +
        Ideal.ofBits FTy.f32 897988541#32) := by
  unfold val_main_v28 val_main_v27 val_main_v25 val_main_v23
  generalize val_main_v22 x0 x1 x2 = y
  pointwise [val_main_v26, val_main_v24, val_main_cst_4, val_main_cst_5]

/-- The norm's scale at a channel. -/
theorem scale_apply (n : Fin 512) :
    (val_main_v33 x3 (ix3 b i n) : EReal) = x3 (ix2 0 n) := by
  pointwise [val_main_v33, val_main_v32, val_main_v31]

/-- The result at an index. -/
theorem scaled_apply (n : Fin 512) :
    (val_main_v35 x0 x1 x2 x3 (ix3 b i n) : EReal) =
      (val_main_v20 x0 x1 x2 (ix3 b i n) : EReal) * val_main_v28 x0 x1 x2 (ix3 b i 0) * val_main_v33 x3 (ix3 b i n) := by
  rw [val_main_v35_apply, val_main_v34_apply, val_main_v30_apply, val_main_v29_apply]
  have e : idx_main_v29 (ix3 b i n) = ix3 b i 0 := funext fun a => Fin.ext (by
      match a with
      | ⟨0, _⟩ => rfl
      | ⟨1, _⟩ => rfl
      | ⟨2, _⟩ => rfl)
  simp only [e, Ideal.mulf_def, Ideal.truncf_def]

/-- The norm over the heads side by side. -/
theorem norm_apply (n : Fin 512) :
    (val_main_v35 x0 x1 x2 x3 (ix3 b i n) : EReal) =
      scaled (fun n => val_main_v20 x0 x1 x2 (ix3 b i n)) (fun n => x3 (ix2 0 n)) n := by
  rw [scaled_apply, factor_apply, square_apply, scale_apply, scaled]

/-- The heads side by side: channel `n` is channel `n % 64` of head `n / 64`. -/
theorem row_apply (n : Fin 512) :
    (val_main_v20 x0 x1 x2 (ix3 b i n) : EReal) =
      val_main_v18 x0 x1 x2 (ix5 b ⟨n.val / 256, by omega⟩ ⟨n.val / 64 % 4, by omega⟩ i ⟨n.val % 64, by omega⟩) := by
  pointwise [val_main_v20, val_main_v19]

end Cert.ReferenceIdeal.Rows
end
-- ==== Proof.AttnSoft.lean ====
module
public import proofs.«01_k».proof.Proof.AttnRow

/-!
The softmax: the kernel's base-two exponentials, whose quotient it takes once per row, against the
reference's natural ones, whose quotient it takes entry by entry. On finite scores the two are the same.
-/

@[expose] public section
set_option maxRecDepth 16384
noncomputable section
namespace Cert.AttnRow
open Idealize.ShloMosaic Cert.KernelIdeal.Attn

/-- A finite sum of reals, read as an extended real. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A nonnegative real factor goes into a sum whatever the terms are. -/
theorem sum_mul_coe {ι : Type} (s : Finset ι) (f : ι → EReal) (r : ℝ) (hr : 0 ≤ r) :
    (∑ i ∈ s, f i) * (r : EReal) = ∑ i ∈ s, f i * (r : EReal) := by
  classical
  induction s using Finset.induction_on with
  | empty => simp
  | insert a s ha ih =>
    rw [Finset.sum_insert ha, Finset.sum_insert ha, ← ih]
    exact EReal.right_distrib_of_nonneg_of_ne_top (EReal.coe_nonneg.2 hr) (EReal.coe_ne_top r) _ _

/-- The maximum of finitely many reals is one of them. -/
theorem sup_coe (s : Fin 2048 → ℝ) : ∃ i, (Finset.univ.sup fun key => (s key : EReal)) = s i ∧
    ∀ key, s key ≤ s i := by
  obtain ⟨i, -, hi⟩ := Finset.exists_mem_eq_sup (Finset.univ : Finset (Fin 2048)) ⟨0, Finset.mem_univ _⟩
    (fun key => (s key : EReal))
  refine ⟨i, hi, fun key => ?_⟩
  have := Finset.le_sup (f := fun key => (s key : EReal)) (Finset.mem_univ key)
  rw [hi] at this
  exact EReal.coe_le_coe_iff.1 this

/-- The base-two exponential of a score in units of `log 2` is the natural one. -/
theorem exp2_scaled (x : ℝ) : Ideal.exp2 ((x * (Real.log 2)⁻¹ : ℝ) : EReal) = ((Real.exp x : ℝ) : EReal) := by
  have h2 : Real.log 2 ≠ 0 := (Real.log_pos one_lt_two).ne'
  rw [Ideal.exp2_coe]
  refine congrArg _ ?_
  show (2 : ℝ) ^ (x * (Real.log 2)⁻¹) = Real.exp x
  rw [Real.rpow_def_of_pos two_pos]
  refine congrArg _ ?_
  field_simp

/-- On finite scores the kernel's head output is the reference's softmax applied to the values, which may
be any extended reals. -/
theorem headOut_softmax (s : Fin 2048 → ℝ) (v : Fin 2048 → EReal) :
    headOut (fun key => ((s key * (Real.log 2)⁻¹ : ℝ) : EReal)) v =
      ∑ key, Ideal.div (Ideal.exp ((s key : EReal) - Finset.univ.sup fun key => (s key : EReal)))
        (∑ key, Ideal.exp ((s key : EReal) - Finset.univ.sup fun key => (s key : EReal))) * v key := by
  obtain ⟨i, hi, hmax⟩ := sup_coe s
  have hl : 0 ≤ (Real.log 2)⁻¹ := inv_nonneg.2 (Real.log_pos one_lt_two).le
  have hs : (Finset.univ.sup fun key => ((s key * (Real.log 2)⁻¹ : ℝ) : EReal)) =
      ((s i * (Real.log 2)⁻¹ : ℝ) : EReal) :=
    le_antisymm (Finset.sup_le fun key _ => EReal.coe_le_coe_iff.2 (mul_le_mul_of_nonneg_right (hmax key) hl))
      (Finset.le_sup (f := fun key => ((s key * (Real.log 2)⁻¹ : ℝ) : EReal)) (Finset.mem_univ i))
  have e2 : ∀ key, Ideal.exp2 (((s key * (Real.log 2)⁻¹ : ℝ) : EReal) - ((s i * (Real.log 2)⁻¹ : ℝ) : EReal)) =
      ((Real.exp (s key - s i) : ℝ) : EReal) := fun key => by
    rw [← EReal.coe_sub, ← sub_mul, exp2_scaled]
  have e1 : ∀ key, Ideal.exp ((s key : EReal) - (s i : EReal)) = ((Real.exp (s key - s i) : ℝ) : EReal) :=
    fun key => by rw [← EReal.coe_sub, Ideal.exp_coe]
  have hD : 0 < ∑ key, Real.exp (s key - s i) :=
    Finset.sum_pos (fun key _ => Real.exp_pos _) ⟨i, Finset.mem_univ _⟩
  unfold headOut accAt
  rw [hs, hi]
  simp only [e1, e2, one_mul, ← coe_sum, Ideal.div_coe hD.ne']
  rw [sum_mul_coe _ _ _ (one_div_nonneg.2 hD.le)]
  refine Finset.sum_congr rfl fun key _ => ?_
  rw [mul_assoc, mul_comm]

/-- The scale of the reference's scores is one eighth. -/
theorem eighth : (Ideal.ofBits .f32 0x3E000000#32 : EReal) = (((8 : ℝ)⁻¹ : ℝ) : EReal) := by
  simp only [Ideal.ofBits]
  unfold Ideal.ieee
  simp
  norm_num
  exact_mod_cast congrArg (fun x : ℝ => (x : EReal)) (by norm_num : (8388608 : ℝ) * (1 / 67108864) = 1 / 8)

/-- The reference's score on real queries and keys. -/
def rscore (q k : Fin 64 → ℝ) : ℝ := ∑ d, q d * (8 : ℝ)⁻¹ * k d

/-- The reference's sum of products, on finite queries and keys. -/
theorem reference_score (q k : Fin 64 → ℝ) :
    ∑ d, ((q d : EReal) * Ideal.ofBits .f32 0x3E000000#32) * (k d : EReal) = (rscore q k : EReal) := by
  unfold rscore
  rw [coe_sum, eighth]
  simp only [EReal.coe_mul]

/-- The kernel's sum of products is the same in units of `log 2`. -/
theorem kernel_score (q k : Fin 64 → ℝ) :
    ∑ d, (k d : EReal) * ((q d : EReal) * qs) = ((rscore q k * (Real.log 2)⁻¹ : ℝ) : EReal) := by
  unfold rscore qs
  rw [Finset.sum_mul, coe_sum]
  refine Finset.sum_congr rfl fun d _ => ?_
  rw [← EReal.coe_mul, ← EReal.coe_mul]
  exact congrArg _ (by ring)

end Cert.AttnRow
end
-- ==== Proof.AttnEqual.lean ====
module
public import proofs.«01_k».proof.Proof.AttnRef
public import proofs.«01_k».proof.Proof.AttnSoft

/-!
Kernel and reference agree on finite queries and keys, entry by entry; the values and the norm's scale may be
any extended reals.
-/

@[expose] public section
set_option maxRecDepth 16384
noncomputable section
namespace Cert.AttnRow
open Cert.ReferenceIdeal Cert.ReferenceIdeal.Read Idealize.ShloMosaic Idealize.ShloMosaic.TcCoe Idealize.SL.Sem
open Cert.KernelIdeal.Attn (scaled headOut qs)

variable (q : Q) (k v : KV) (w : FVec Ideal ⟨2, ![1, 512]⟩ .f32)
  (hq : ∀ b i e d, ∃ r : ℝ, (q (ix4 b i e d) : EReal) = r)
  (hk : ∀ b i e d, ∃ r : ℝ, (k (ix4 b i e d) : EReal) = r)
include hq hk

/-- One head's output channel, the head being number `j` of group `g`. -/
theorem head_eq (b : Fin 16) (i : Fin 2048) (g : Fin 2) (j : Fin 4) (h : Fin 8)
    (hh : h.val = g.val * 4 + j.val) (d : Fin 64) :
    head q k v b i h d = val_main_v18 (F := Ideal) q k v (ix5 b g j i d) := by
  choose q' hq' using hq
  choose k' hk' using hk
  obtain ⟨h, hlt⟩ := h
  dsimp only at hh
  subst hh
  have hg : (⟨(g.val * 4 + j.val) / 4, by omega⟩ : Fin 2) = g := Fin.ext (by dsimp only; omega)
  have hK : score q k b i ⟨g.val * 4 + j.val, by omega⟩ = fun key =>
      ((rscore (q' b i ⟨g.val * 4 + j.val, by omega⟩) (k' b key g) * (Real.log 2)⁻¹ : ℝ) : EReal) := by
    funext key
    unfold score
    simp only [hg, hq', hk']
    exact kernel_score _ _
  have hR : Rows.score q k b g j i = fun key =>
      ((rscore (q' b i ⟨g.val * 4 + j.val, by omega⟩) (k' b key g) : ℝ) : EReal) := by
    funext key
    unfold Rows.score
    simp only [hq', hk']
    exact reference_score _ _
  rw [Rows.head_apply]
  simp only [Rows.exp_apply]
  unfold head
  simp only [hg]
  rw [hK, hR]
  exact headOut_softmax _ _

/-- The reference's result at sequence `b`, position `i` and channel `n` is the kernel's. -/
theorem result_eq (b : Fin 16) (i : Fin 2048) (n : Fin 512) :
    (val_main_v35 (F := Ideal) q k v w (ix3 b i n) : EReal) = result q k v w b i n := by
  rw [Rows.norm_apply]
  unfold result
  refine congrArg (fun f => scaled f (fun n => w (ix2 0 n)) n) (funext fun n => ?_)
  rw [Rows.row_apply]
  exact (head_eq q k v hq hk b i _ _ _ (by dsimp only; omega) _).symm

end Cert.AttnRow
end
-- ==== Proof.AttnPre.lean ====
module
public import proofs.«01_k».proof.Defs
public import proofs.«01_k».proof.Proof.Gen.Pre_finite_scores
public import Idealize.ShloMosaic.Lib.Pipeline.Value
public import Idealize.ShloMosaic.Lib.Pointwise

/-!
What the precondition says: every query and every key is a real number.
-/

@[expose] public section
set_option maxRecDepth 16384
noncomputable section
namespace Cert.Pre_finite_scores
open Idealize.ShloMosaic Idealize.ShloMosaic.TcCoe Idealize.SL.Sem

/-- A number whose absolute value is below infinity is real. -/
theorem real_of_abs_lt (x : EReal) (h : max x (-x) < ⊤) : ∃ r : ℝ, x = r := by
  induction x using EReal.rec with
  | bot => simp at h
  | coe r => exact ⟨r, rfl⟩
  | top => simp at h

/-- The pattern the comparison takes is infinity. -/
theorem pos_inf : (Ideal.ofBits FTy.f32 0x7F800000#32 : EReal) = ⊤ := by
  simp only [Ideal.ofBits]
  unfold Ideal.ieee
  simp

/-- The comparison's bit says that the absolute value is below infinity. -/
theorem real_of_cmp (x : EReal)
    (h : FloatOps.cmpf (F := Ideal) (φ := .f32) .olt (FloatOps.hostAbsf x)
      (FloatOps.ofBits .f32 0x7F800000#32) = 1#1) : ∃ r : ℝ, x = r := by
  refine real_of_abs_lt x ?_
  rw [← pos_inf]
  have e : Ideal.cmp .olt (max x (-x)) (Ideal.ofBits FTy.f32 0x7F800000#32) = 1#1 := h
  by_contra hn
  simp [Ideal.cmp, hn] at e

variable [Facts]
variable (q : FVec Ideal S16x2048x8x64 .f32) (k v : FVec Ideal S16x2048x2x64 .f32) (g : FVec Ideal S1x512 .f32)

/-- Under the precondition every query is real. -/
theorem q_real (h : fn q k v g = fun _ => 1#1) (b : Fin 16) (i : Fin 2048) (e : Fin 8) (d : Fin 64) :
    ∃ r : ℝ, (q (ix4 b i e d) : EReal) = r := by
  have hj := congrFun h (ix1 (⟨((b.val * 2048 + i.val) * 8 + e.val) * 64 + d.val, by omega⟩ : Fin 20971520))
  dsimp only [fn] at hj
  rw [concatenate_pair_apply_left (t := S20971520) (s₁ := S16777216) (s₂ := S4194304) 0 _ _ _ _ rfl
    (ix1 (⟨((b.val * 2048 + i.val) * 8 + e.val) * 64 + d.val, by omega⟩ : Fin 16777216))
    (fun a => by match a with | ⟨0, _⟩ => rfl)] at hj
  rw [shapeCast_apply _ _ _ (ix4 b i e d) (by
    rewrite [Shape.rowMajor_val_four, Shape.rowMajor_val_one]; rfl)] at hj
  refine real_of_cmp _ (Eq.trans (congrArg (FloatOps.cmpf (F := Ideal) (φ := .f32) .olt
    (FloatOps.hostAbsf (F := Ideal) (φ := .f32) (q (ix4 b i e d)))) ?_) hj)
  rfl

/-- Under the precondition every key is real. -/
theorem k_real (h : fn q k v g = fun _ => 1#1) (b : Fin 16) (i : Fin 2048) (e : Fin 2) (d : Fin 64) :
    ∃ r : ℝ, (k (ix4 b i e d) : EReal) = r := by
  have hj := congrFun h (ix1 (⟨((b.val * 2048 + i.val) * 2 + e.val) * 64 + d.val + 16777216, by omega⟩ : Fin 20971520))
  dsimp only [fn] at hj
  rw [concatenate_pair_apply_right (t := S20971520) (s₁ := S16777216) (s₂ := S4194304) 0 _ _ _ _ rfl rfl
    (ix1 (⟨((b.val * 2048 + i.val) * 2 + e.val) * 64 + d.val, by omega⟩ : Fin 4194304))
    (fun a ha => by match a with | ⟨0, _⟩ => exact absurd rfl ha) rfl] at hj
  rw [shapeCast_apply _ _ _ (ix4 b i e d) (by
    rewrite [Shape.rowMajor_val_four, Shape.rowMajor_val_one]; rfl)] at hj
  refine real_of_cmp _ (Eq.trans (congrArg (FloatOps.cmpf (F := Ideal) (φ := .f32) .olt
    (FloatOps.hostAbsf (F := Ideal) (φ := .f32) (k (ix4 b i e d)))) ?_) hj)
  rfl

end Cert.Pre_finite_scores
end
-- ==== Proof.AttnClaims.lean ====
module
public import proofs.«01_k».proof.Proof.AttnFrames
public import proofs.«01_k».proof.Proof.AttnFinal
public import proofs.«01_k».proof.Proof.AttnEqual
public import proofs.«01_k».proof.Proof.AttnPre

/-!
The value claim about the attention call.
-/

@[expose] public section
set_option maxRecDepth 16384
noncomputable section
namespace Cert.Proof.Attn
open Idealize.ShloMosaic Idealize.ShloMosaic.TcCoe Idealize.SL.Sem

/-- The frame of the kernel's program does not need the precondition. -/
theorem frame_ideal_pre : Cert.quiescent_KernelIdeal_pre_finite_scores := fun m ρ _ =>
  frame_ideal m ρ trivial

/-- Nor does the reference's. -/
theorem frame_reference_pre : Cert.quiescent_ReferenceIdeal_pre_finite_scores := fun m ρ _ =>
  frame_reference m ρ trivial

/-- On finite queries and keys kernel and reference give the same array of extended reals: both are
`AttnRow.result` of the arguments. -/
theorem algebraic : Cert.algebraic_KernelIdeal_ReferenceIdeal_pre_finite_scores := by
  intro m ρ m' ρ' hpre hag
  refine ⟨fun c => Cert.KernelIdeal.Attn.G m c, ?_, ?_⟩
  · exact (θ_run _ _ _).mono (fun r h c => ⟨(h c).1.trans (Cert.KernelIdeal.Attn.final m c), (h c).2⟩)
      (Cert.KernelIdeal.Value.run_blocks (F := Ideal) m ρ)
  · refine (θ_run _ _ _).mono (fun r h c => ⟨(h c).1.trans ?_, (h c).2⟩)
      (Cert.ReferenceIdeal.Value.run (F := Ideal) m' ρ')
    rw [Cert.ReferenceIdeal.Read.val_main_v35_eq]
    obtain ⟨h0, h1, h2, h3⟩ := hag c
    rw [h0, h1, h2, h3]
    funext i
    obtain ⟨b, s, n, rfl⟩ : ∃ (b : Fin 16) (s : Fin 2048) (n : Fin 512), i = ix3 b s n :=
      ⟨i 0, i 1, i 2, eq_ix3 i⟩
    exact Cert.AttnRow.result_eq _ _ _ _
      (Cert.Pre_finite_scores.q_real _ _ _ _ (hpre c)) (Cert.Pre_finite_scores.k_real _ _ _ _ (hpre c)) b s n

end Cert.Proof.Attn
end
-- ==== Proof.ProjFrames.lean ====
module
public import proofs.«01_k».proof.Defs
public import proofs.«01_k».proof.Proof.Gen.KernelProj
public import proofs.«01_k».proof.Proof.Gen.KernelProj.Frame
public import proofs.«01_k».proof.Proof.Gen.KernelProjIdeal
public import proofs.«01_k».proof.Proof.Gen.KernelProjIdeal.Frame
public import proofs.«01_k».proof.Proof.Gen.KernelProjIdeal.Value
public import proofs.«01_k».proof.Proof.Gen.ReferenceProjIdeal
public import proofs.«01_k».proof.Proof.Gen.ReferenceProjIdeal.Read
public import proofs.«01_k».proof.Proof.Gen.ReferenceProjIdeal.Run
-- ==== Proof.MlpRow.lean ====
/- The closing part of the layer on ONE token, as functions of the token's row: the output projection of the two mixers
   with the residual, the RMS norms, and the squared-relu feed-forward part. Both programs are shown to compute these
   functions row by row. -/
module
public import Idealize.ShloMosaic.Lib.Pointwise
@[expose] public section
set_option maxRecDepth 16384
noncomputable section
namespace Cert.MlpRow
open Idealize.ShloMosaic

/-- A row scaled by the reciprocal root of its mean square (plus the small constant 1e-6) and by a gain. -/
def rms (x g : Fin 1024 → EReal) (d : Fin 1024) : EReal :=
  x d * Ideal.rsqrt (Ideal.div (∑ k, x k * x k) (Ideal.ofBits FTy.f32 0x44800000#32) + Ideal.ofBits FTy.f32 0x358637BD#32) * g d

/-- The residual row plus the output projection of the two mixers' rows laid side by side. -/
def mix (x : Fin 1024 → EReal) (a b : Fin 512 → EReal) (wo : Fin 1024 → Fin 1024 → EReal) (d : Fin 1024) : EReal :=
  x d + (∑ k : Fin 512, a k * wo ⟨k.val, by omega⟩ d + ∑ k : Fin 512, b k * wo ⟨512 + k.val, by omega⟩ d)

/-- One hidden unit of the feed-forward part: the square of the positive part of its input. -/
def hidden (n : Fin 1024 → EReal) (wup : Fin 1024 → Fin 4096 → EReal) (f : Fin 4096) : EReal :=
  max (∑ k, n k * wup k f) 0 * max (∑ k, n k * wup k f) 0

/-- The feed-forward part: every hidden unit, then the product back to the row's width. -/
def ff (n : Fin 1024 → EReal) (wup : Fin 1024 → Fin 4096 → EReal) (wdn : Fin 4096 → Fin 1024 → EReal) (d : Fin 1024) : EReal :=
  ∑ f, hidden n wup f * wdn f d

/-- One token's row of the result. -/
def out (x : Fin 1024 → EReal) (a b : Fin 512 → EReal) (wo : Fin 1024 → Fin 1024 → EReal) (gm : Fin 1024 → EReal)
    (wup : Fin 1024 → Fin 4096 → EReal) (wdn : Fin 4096 → Fin 1024 → EReal) (gf : Fin 1024 → EReal) : Fin 1024 → EReal :=
  rms (fun d => mix x a b wo d + ff (rms (mix x a b wo) gm) wup wdn d) gf

/-- A sum over 4096 hidden units is the sum of its four consecutive quarters. -/
theorem sum_quarters (F : Fin 4096 → EReal) :
    ∑ f, F f = ∑ j : Fin 1024, F ⟨j.val, by omega⟩ + ∑ j : Fin 1024, F ⟨1024 + j.val, by omega⟩
      + ∑ j : Fin 1024, F ⟨2048 + j.val, by omega⟩ + ∑ j : Fin 1024, F ⟨3072 + j.val, by omega⟩ := by
  have e1 : ∑ f, F f = ∑ j : Fin 3072, F ⟨j.val, by omega⟩ + ∑ j : Fin 1024, F ⟨3072 + j.val, by omega⟩ :=
    Fin.sum_univ_add (a := 3072) (b := 1024) F
  have e2 : ∑ j : Fin 3072, F ⟨j.val, by omega⟩ = ∑ j : Fin 2048, F ⟨j.val, by omega⟩ + ∑ j : Fin 1024, F ⟨2048 + j.val, by omega⟩ :=
    Fin.sum_univ_add (a := 2048) (b := 1024) (fun j : Fin 3072 => F ⟨j.val, by omega⟩)
  have e3 : ∑ j : Fin 2048, F ⟨j.val, by omega⟩ = ∑ j : Fin 1024, F ⟨j.val, by omega⟩ + ∑ j : Fin 1024, F ⟨1024 + j.val, by omega⟩ :=
    Fin.sum_univ_add (a := 1024) (b := 1024) (fun j : Fin 2048 => F ⟨j.val, by omega⟩)
  rw [e1, e2, e3]

end Cert.MlpRow
end
-- ==== Proof.ProjRow.lean ====
/- The projection part of the layer on one token: the normed input through the projection matrix, the head norms, the
   two-axis rotation, and the layouts of the results, as functions of the arguments. Both programs are shown to compute these. -/
module
public import proofs.«01_k».proof.Proof.MlpRow
@[expose] public section
set_option maxRecDepth 16384
noncomputable section
namespace Cert.ProjRow
open Idealize.ShloMosaic

abbrev X := (⟨3, ![16, 2048, 1024]⟩ : Shape).Idx → EReal
abbrev G := (⟨2, ![1, 1024]⟩ : Shape).Idx → EReal
abbrev W := (⟨3, ![1, 1024, 2304]⟩ : Shape).Idx → EReal
abbrev N := (⟨2, ![1, 64]⟩ : Shape).Idx → EReal

/-- The constants of the head norm: the number of lanes of a head, and the small constant 1e-6. -/
def lanes : EReal := Ideal.ofBits FTy.f32 0x42800000#32
def eps : EReal := Ideal.ofBits FTy.f32 0x358637BD#32

/-- A head's lanes scaled by the reciprocal root of their mean square (plus the small constant) and by a gain. -/
def headNorm (q g : Fin 64 → EReal) (d : Fin 64) : EReal :=
  q d * Ideal.rsqrt (Ideal.div (∑ e, q e * q e) lanes + eps) * g d

/-- The frequency of lane number `f` of a quarter of a head: ten thousand to the power `-f / 16`. -/
def freq (f : Nat) : EReal :=
  Ideal.pow (Ideal.ofBits FTy.f32 0x461C4000#32)
    (Ideal.div (-FloatOps.sitofp (F := Ideal) FTy.f32 (BitVec.ofNat 32 f)) (Ideal.ofBits FTy.f32 0x41800000#32))

/-- The angle of lane `d` at token `s`: the token's row (first half of the head) or column (second half) times the lane's frequency. -/
def angle (s : Fin 2048) (d : Fin 64) : EReal :=
  FloatOps.sitofp (F := Ideal) FTy.f32 (BitVec.ofNat 32 (if d.val < 32 then s.val / 64 else s.val % 64)) * freq (d.val % 16)

/-- The rotation of a head: in each half, the first quarter's lane `x1` and the second quarter's lane `x2` become
    `x1 cos - x2 sin` and `x2 cos + x1 sin`. -/
def rope (n : Fin 64 → EReal) (s : Fin 2048) (d : Fin 64) : EReal :=
  if d.val % 32 < 16 then n d * Ideal.cos (angle s d) - n ⟨(d.val + 16) % 64, by omega⟩ * Ideal.sin (angle s d)
  else n d * Ideal.cos (angle s d) + n ⟨(d.val + 48) % 64, by omega⟩ * Ideal.sin (angle s d)

/-- Entry `e` of the projection of token `s` of sequence `b`. -/
def proj (x : X) (g : G) (w : W) (b : Fin 16) (s : Fin 2048) (e : Fin 2304) : EReal :=
  ∑ k, MlpRow.rms (fun k => x (ix3 b s k)) (fun k => g (ix2 0 k)) k * w (ix3 0 k e)

/-- A query head of the axial mixer, normed and rotated. -/
def query (x : X) (g : G) (w : W) (gq : N) (b : Fin 16) (s : Fin 2048) (h : Fin 8) (d : Fin 64) : EReal :=
  rope (headNorm (fun d => proj x g w b s ⟨h.val * 64 + d.val, by omega⟩) (fun d => gq (ix2 0 d))) s d

/-- A key head of the axial mixer, normed and rotated. -/
def key (x : X) (g : G) (w : W) (gk : N) (b : Fin 16) (s : Fin 2048) (h : Fin 2) (d : Fin 64) : EReal :=
  rope (headNorm (fun d => proj x g w b s ⟨512 + (h.val * 64 + d.val), by omega⟩) (fun d => gk (ix2 0 d))) s d

/-- The scale of the dilated mixer's queries: an eighth, over the logarithm of two. -/
def scale : EReal := (((8 : ℝ)⁻¹ * (Real.log 2)⁻¹ : ℝ) : EReal)

/-- The dilated mixer's queries, scaled; its keys; its values. -/
def queryB (x : X) (g : G) (w : W) (b : Fin 16) (s : Fin 2048) (f : Fin 512) : EReal := proj x g w b s ⟨768 + f.val, by omega⟩ * scale
def keyB (x : X) (g : G) (w : W) (b : Fin 16) (s : Fin 2048) (f : Fin 512) : EReal := proj x g w b s ⟨1280 + f.val, by omega⟩
def valueB (x : X) (g : G) (w : W) (b : Fin 16) (s : Fin 2048) (f : Fin 512) : EReal := proj x g w b s ⟨1792 + f.val, by omega⟩

/-- The axial mixer's queries, lane by lane. -/
def queries (x : X) (g : G) (w : W) (gq : N) (i : (⟨3, ![16, 512, 2048]⟩ : Shape).Idx) : EReal :=
  query x g w gq (i 0) (i 2) ⟨(i 1).val / 64, by have := (i 1).isLt; change (i 1).val < 512 at this; omega⟩ ⟨(i 1).val % 64, by omega⟩

/-- The axial mixer's keys, each head twice in a row. -/
def keys (x : X) (g : G) (w : W) (gk : N) (i : (⟨3, ![16, 2048, 256]⟩ : Shape).Idx) : EReal :=
  key x g w gk (i 0) (i 1) ⟨(i 2).val / 128, by have := (i 2).isLt; change (i 2).val < 256 at this; omega⟩ ⟨(i 2).val % 64, by omega⟩

/-- The axial mixer's values, lane by lane. -/
def values (x : X) (g : G) (w : W) (i : (⟨3, ![16, 128, 2048]⟩ : Shape).Idx) : EReal :=
  proj x g w (i 0) (i 2) ⟨640 + (i 1).val, by have := (i 1).isLt; change (i 1).val < 128 at this; omega⟩

/-- An array in token order, and phase by phase: token `m * 4 + p` or `m * 16 + p` at place `m` of phase `p`. -/
def tokens (f : Fin 16 → Fin 2048 → Fin 512 → EReal) (i : (⟨3, ![16, 2048, 512]⟩ : Shape).Idx) : EReal := f (i 0) (i 1) (i 2)
def fine (f : Fin 16 → Fin 2048 → Fin 512 → EReal) (i : (⟨4, ![16, 4, 512, 512]⟩ : Shape).Idx) : EReal :=
  f (i 0) ⟨(i 2).val * 4 + (i 1).val, by
    have h1 := (i 1).isLt; have h2 := (i 2).isLt; change (i 1).val < 4 at h1; change (i 2).val < 512 at h2; omega⟩ (i 3)
def coarse (f : Fin 16 → Fin 2048 → Fin 512 → EReal) (i : (⟨4, ![16, 16, 128, 512]⟩ : Shape).Idx) : EReal :=
  f (i 0) ⟨(i 2).val * 16 + (i 1).val, by
    have h1 := (i 1).isLt; have h2 := (i 2).isLt; change (i 1).val < 16 at h1; change (i 2).val < 128 at h2; omega⟩ (i 3)

end Cert.ProjRow
end
-- ==== Proof.ProjPre.lean ====
/- What the precondition on the heads says: the first 640 entries of every projected token are real numbers. -/
module
public import proofs.«01_k».proof.Defs
public import proofs.«01_k».proof.Proof.Gen.Pre_finite_heads
public import proofs.«01_k».proof.Proof.AttnPre
public import proofs.«01_k».proof.Proof.ProjRow
public import Idealize.ShloMosaic.Lib.Pipeline.Value
public import Idealize.ShloMosaic.Lib.Pointwise
@[expose] public section
set_option maxRecDepth 16384
noncomputable section
namespace Cert.Pre_finite_heads
open Idealize.ShloMosaic Idealize.ShloMosaic.TcCoe Idealize.SL.Sem

variable [Facts]
variable (x : FVec Ideal S16x2048x1024 .f32) (g : FVec Ideal S1x1024 .f32) (w : FVec Ideal S1x1024x2304 .f32) (gq gk : FVec Ideal S1x64 .f32)

/-- Under the precondition every entry that a query or a key head takes is real. -/
theorem head_real (h : fn x g w gq gk = fun _ => 1#1) (b : Fin 16) (s : Fin 2048) (e : Fin 640) :
    ∃ r : ℝ, ProjRow.proj x g w b s ⟨e.val, by omega⟩ = r := by
  have hj := congrFun h (ix3 b s e)
  refine Cert.Pre_finite_scores.real_of_cmp _ (Eq.trans ?_ hj)
  pointwise [fn]
  rfl

end Cert.Pre_finite_heads
end
-- ==== Proof.ProjReads.lean ====
/- Reading a buffer that was filled by several stores, and the reshapes around those reads. -/
module
public import proofs.«01_k».proof.Proof.Gen.KernelProjIdeal.Skeleton
public import Idealize.ShloMosaic.Lib.Pointwise
public import Idealize.ShloMosaic.Lib.Pipeline.ValueKit
public import Idealize.ShloMosaic.Lib.Pipeline.ReadBack
@[expose] public section
set_option maxRecDepth 16384
noncomputable section
namespace Cert.KernelProjIdeal.Out
open Cert.KernelProjIdeal Cert.KernelProjIdeal.Gen Idealize.ShloMosaic Idealize.ShloMosaic.TcCoe Idealize.SL.Sem

section
variable {sig : RefSig} {κ : Kind} {sp : Space} {s : Shape} {e : EltTy} {Val : EltTy → Type}

/-- A box lies inside a rectangle of stride one. -/
def Inside (r : Rect s) (B : LoadRect s) : Prop :=
  ∀ a, r.stride a = 1 ∧ r.off a ≤ B.off a ∧ B.off a + B.stride a * (B.size a - 1) < r.off a + r.size a

instance (r : Rect s) (B : LoadRect s) : Decidable (Inside r B) := by unfold Inside; infer_instance

theorem Inside.lt {r : Rect s} {B : LoadRect s} (h : Inside r B) (j : B.shape.Idx) (a : Fin s.rank) :
    B.off a + B.stride a * (j a).val - r.off a < r.size a := by
  obtain ⟨-, h1, h2⟩ := h a
  have hj : (j a).val < B.size a := (j a).isLt
  have : B.stride a * (j a).val ≤ B.stride a * (B.size a - 1) := Nat.mul_le_mul_left _ (by omega)
  omega

/-- Where a box that lies inside a rectangle reads it. -/
def insideIdx {r : Rect s} {B : LoadRect s} (h : Inside r B) (j : B.shape.Idx) : r.shape.Idx :=
  fun a => ⟨B.off a + B.stride a * (j a).val - r.off a, h.lt j a⟩

/-- A load inside the last store's rectangle reads that store. -/
theorem readCov_inside [∀ e, Nonempty (Val e)] (v : View sig κ sp s e) (r : Rect s) (w : r.shape.Idx → Val e)
    (L : List (View.Piece Val s e)) (B : LoadRect s) (h : Inside r B) :
    v.readCov (⟨r, w⟩ :: L) B = fun j => w (insideIdx h j) := by
  rw [View.readCov_eq_canon']
  funext j
  have : B.idx j = r.emb (insideIdx h j) := by
    funext a
    obtain ⟨h0, h1, -⟩ := h a
    refine Fin.ext ?_
    show B.off a + B.stride a * (j a).val = r.off a + r.stride a * (B.off a + B.stride a * (j a).val - r.off a)
    rw [h0]
    omega
  rw [this]
  exact View.canon_cons_emb r w L _
end

/-- A reshape to the same entries without the unit axes, and back. -/
theorem coarse_pay (V : Vec Ideal S1x1x64x128 .f32) (x : S1x1x64x128.Idx) :
    (shapeCast S1x1x64x128 (truncf (F := Ideal) .bf16 (shapeCast S64x128 V shapeCasts_S1x1x64x128_S64x128) bitsLt_bf16_f32)
      shapeCasts_S64x128_S1x1x64x128) x = V x := by
  obtain ⟨a, b, r, l, rfl⟩ : ∃ (a b : Fin 1) (r : Fin 64) (l : Fin 128), x = ix4 a b r l := ⟨x 0, x 1, x 2, x 3, eq_ix4 x⟩
  obtain rfl : a = 0 := Subsingleton.elim _ _
  obtain rfl : b = 0 := Subsingleton.elim _ _
  pointwise []

/-- One axis of a chunk's read turned into the two unit axes of a phase's part. -/
theorem mid_pay (V : Vec Ideal S1x256x128 .f32) (x : S1x1x256x128.Idx) :
    (shapeCast S1x1x256x128 (shapeCast S256x128 V shapeCasts_S1x256x128_S256x128)
      shapeCasts_S256x128_S1x1x256x128 : FVec Ideal S1x1x256x128 .f32) x = V (ix3 0 (x 2) (x 3)) := by
  obtain ⟨a, b, r, l, rfl⟩ : ∃ (a b : Fin 1) (r : Fin 256) (l : Fin 128), x = ix4 a b r l := ⟨x 0, x 1, x 2, x 3, eq_ix4 x⟩
  obtain rfl : a = 0 := Subsingleton.elim _ _
  obtain rfl : b = 0 := Subsingleton.elim _ _
  pointwise []

/-- The same with a cast, which keeps every entry. -/
theorem fine_pay (V : Vec Ideal S1x256x128 .f32) (x : S1x1x256x128.Idx) :
    (shapeCast S1x1x256x128 (truncf (F := Ideal) .bf16 (shapeCast S256x128 V shapeCasts_S1x256x128_S256x128) bitsLt_bf16_f32)
      shapeCasts_S256x128_S1x1x256x128) x = V (ix3 0 (x 2) (x 3)) := by
  obtain ⟨a, b, r, l, rfl⟩ : ∃ (a b : Fin 1) (r : Fin 256) (l : Fin 128), x = ix4 a b r l := ⟨x 0, x 1, x 2, x 3, eq_ix4 x⟩
  obtain rfl : a = 0 := Subsingleton.elim _ _
  obtain rfl : b = 0 := Subsingleton.elim _ _
  pointwise []

/-- A chunk of 128 lanes of a 512-lane array, at an index. -/
theorem chunk_pay (k : ℕ) (hk : k + 128 ≤ 512) (V : FVec Ideal S1024x512 .f32) (hs : S1024x512.Slices ![0, k] S1024x128)
    (y : S1x1024x128.Idx) (r : Fin 1024) (l : Fin 512) (hr : r.val = (y 1).val) (hl : l.val = k + (y 2).val) :
    (shapeCast S1x1024x128 (extractStridedSlice S1024x128 ![0, k] V hs) shapeCasts_S1024x128_S1x1024x128) y = V (ix2 r l) := by
  obtain ⟨a, r', l', rfl⟩ : ∃ (a : Fin 1) (r : Fin 1024) (l : Fin 128), y = ix3 a r l := ⟨y 0, y 1, y 2, eq_ix3 y⟩
  obtain rfl : a = 0 := Subsingleton.elim _ _
  obtain rfl : r = r' := Fin.ext hr
  rw [shapeCast_apply _ _ _ (ix2 r l') (by
    rewrite [Shape.rowMajor_val_two, Shape.rowMajor_val_three]
    show r.val * 128 + l'.val = (0 * 1024 + r.val) * 128 + l'.val
    omega)]
  refine congrArg V (funext fun a => Fin.ext ?_)
  fin_cases a
  · show 0 + r.val = r.val
    omega
  · exact hl.symm

/-- A 512-lane array, phase by phase of four. -/
def fineOf (V : FVec Ideal S1024x512 .f32) (y : S1x4x256x512.Idx) : EReal :=
  V (ix2 ⟨(y 2).val * 4 + (y 1).val, by have h1 := (y 1).isLt; have h2 := (y 2).isLt; change (y 1).val < 4 at h1; change (y 2).val < 256 at h2; omega⟩ (y 3))

/-- A 512-lane array, phase by phase of sixteen. -/
def coarseOf (V : FVec Ideal S1024x512 .f32) (y : S1x16x64x512.Idx) : EReal :=
  V (ix2 ⟨(y 2).val * 16 + (y 1).val, by have h1 := (y 1).isLt; have h2 := (y 2).isLt; change (y 1).val < 16 at h1; change (y 2).val < 64 at h2; omega⟩ (y 3))

/-- Lanes 0 to 127 of the queries, as a store of the chunk holds them: an entry of the four-phase array. -/
theorem fine_q0 (v : FVec Ideal S1024x1024 .bf16) (w : Vec Ideal S1024x512 .bf16) (y : S1x1024x128.Idx) (z : S1x4x256x512.Idx)
    (h1 : (y 1).val = (z 2).val * 4 + (z 1).val) (h2 : (z 3).val = 0 + (y 2).val) :
    k0_pay13 v w y = fineOf (k0_pay11 v w) z :=
  chunk_pay 0 (by decide) (k0_pay11 v w) slices_S1024x512_o0_0_S1024x128 y _ _ h1.symm h2

/-- The same chunk: an entry of the sixteen-phase array. -/
theorem coarse_q0 (v : FVec Ideal S1024x1024 .bf16) (w : Vec Ideal S1024x512 .bf16) (y : S1x1024x128.Idx) (z : S1x16x64x512.Idx)
    (h1 : (y 1).val = (z 2).val * 16 + (z 1).val) (h2 : (z 3).val = 0 + (y 2).val) :
    k0_pay13 v w y = coarseOf (k0_pay11 v w) z :=
  chunk_pay 0 (by decide) (k0_pay11 v w) slices_S1024x512_o0_0_S1024x128 y _ _ h1.symm h2

/-- Lanes 128 to 255 of the queries, as a store of the chunk holds them: an entry of the four-phase array. -/
theorem fine_q1 (v : FVec Ideal S1024x1024 .bf16) (w : Vec Ideal S1024x512 .bf16) (y : S1x1024x128.Idx) (z : S1x4x256x512.Idx)
    (h1 : (y 1).val = (z 2).val * 4 + (z 1).val) (h2 : (z 3).val = 128 + (y 2).val) :
    k0_pay14 v w y = fineOf (k0_pay11 v w) z :=
  chunk_pay 128 (by decide) (k0_pay11 v w) slices_S1024x512_o0_128_S1024x128 y _ _ h1.symm h2

/-- The same chunk: an entry of the sixteen-phase array. -/
theorem coarse_q1 (v : FVec Ideal S1024x1024 .bf16) (w : Vec Ideal S1024x512 .bf16) (y : S1x1024x128.Idx) (z : S1x16x64x512.Idx)
    (h1 : (y 1).val = (z 2).val * 16 + (z 1).val) (h2 : (z 3).val = 128 + (y 2).val) :
    k0_pay14 v w y = coarseOf (k0_pay11 v w) z :=
  chunk_pay 128 (by decide) (k0_pay11 v w) slices_S1024x512_o0_128_S1024x128 y _ _ h1.symm h2

/-- Lanes 256 to 383 of the queries, as a store of the chunk holds them: an entry of the four-phase array. -/
theorem fine_q2 (v : FVec Ideal S1024x1024 .bf16) (w : Vec Ideal S1024x512 .bf16) (y : S1x1024x128.Idx) (z : S1x4x256x512.Idx)
    (h1 : (y 1).val = (z 2).val * 4 + (z 1).val) (h2 : (z 3).val = 256 + (y 2).val) :
    k0_pay15 v w y = fineOf (k0_pay11 v w) z :=
  chunk_pay 256 (by decide) (k0_pay11 v w) slices_S1024x512_o0_256_S1024x128 y _ _ h1.symm h2

/-- The same chunk: an entry of the sixteen-phase array. -/
theorem coarse_q2 (v : FVec Ideal S1024x1024 .bf16) (w : Vec Ideal S1024x512 .bf16) (y : S1x1024x128.Idx) (z : S1x16x64x512.Idx)
    (h1 : (y 1).val = (z 2).val * 16 + (z 1).val) (h2 : (z 3).val = 256 + (y 2).val) :
    k0_pay15 v w y = coarseOf (k0_pay11 v w) z :=
  chunk_pay 256 (by decide) (k0_pay11 v w) slices_S1024x512_o0_256_S1024x128 y _ _ h1.symm h2

/-- Lanes 384 to 511 of the queries, as a store of the chunk holds them: an entry of the four-phase array. -/
theorem fine_q3 (v : FVec Ideal S1024x1024 .bf16) (w : Vec Ideal S1024x512 .bf16) (y : S1x1024x128.Idx) (z : S1x4x256x512.Idx)
    (h1 : (y 1).val = (z 2).val * 4 + (z 1).val) (h2 : (z 3).val = 384 + (y 2).val) :
    k0_pay16 v w y = fineOf (k0_pay11 v w) z :=
  chunk_pay 384 (by decide) (k0_pay11 v w) slices_S1024x512_o0_384_S1024x128 y _ _ h1.symm h2

/-- The same chunk: an entry of the sixteen-phase array. -/
theorem coarse_q3 (v : FVec Ideal S1024x1024 .bf16) (w : Vec Ideal S1024x512 .bf16) (y : S1x1024x128.Idx) (z : S1x16x64x512.Idx)
    (h1 : (y 1).val = (z 2).val * 16 + (z 1).val) (h2 : (z 3).val = 384 + (y 2).val) :
    k0_pay16 v w y = coarseOf (k0_pay11 v w) z :=
  chunk_pay 384 (by decide) (k0_pay11 v w) slices_S1024x512_o0_384_S1024x128 y _ _ h1.symm h2

/-- Lanes 0 to 127 of the keys, as a store of the chunk holds them: an entry of the four-phase array. -/
theorem fine_k0 (v : FVec Ideal S1024x1024 .bf16) (w : Vec Ideal S1024x512 .bf16) (y : S1x1024x128.Idx) (z : S1x4x256x512.Idx)
    (h1 : (y 1).val = (z 2).val * 4 + (z 1).val) (h2 : (z 3).val = 0 + (y 2).val) :
    k0_pay30 (k0_pay29 v w) y = fineOf (k0_pay27 v w) z :=
  chunk_pay 0 (by decide) (k0_pay27 v w) slices_S1024x512_o0_0_S1024x128 y _ _ h1.symm h2

/-- The same chunk: an entry of the sixteen-phase array. -/
theorem coarse_k0 (v : FVec Ideal S1024x1024 .bf16) (w : Vec Ideal S1024x512 .bf16) (y : S1x1024x128.Idx) (z : S1x16x64x512.Idx)
    (h1 : (y 1).val = (z 2).val * 16 + (z 1).val) (h2 : (z 3).val = 0 + (y 2).val) :
    k0_pay30 (k0_pay29 v w) y = coarseOf (k0_pay27 v w) z :=
  chunk_pay 0 (by decide) (k0_pay27 v w) slices_S1024x512_o0_0_S1024x128 y _ _ h1.symm h2

/-- Lanes 128 to 255 of the keys, as a store of the chunk holds them: an entry of the four-phase array. -/
theorem fine_k1 (v : FVec Ideal S1024x1024 .bf16) (w : Vec Ideal S1024x512 .bf16) (y : S1x1024x128.Idx) (z : S1x4x256x512.Idx)
    (h1 : (y 1).val = (z 2).val * 4 + (z 1).val) (h2 : (z 3).val = 128 + (y 2).val) :
    k0_pay31 (k0_pay27 v w) y = fineOf (k0_pay27 v w) z :=
  chunk_pay 128 (by decide) (k0_pay27 v w) slices_S1024x512_o0_128_S1024x128 y _ _ h1.symm h2

/-- The same chunk: an entry of the sixteen-phase array. -/
theorem coarse_k1 (v : FVec Ideal S1024x1024 .bf16) (w : Vec Ideal S1024x512 .bf16) (y : S1x1024x128.Idx) (z : S1x16x64x512.Idx)
    (h1 : (y 1).val = (z 2).val * 16 + (z 1).val) (h2 : (z 3).val = 128 + (y 2).val) :
    k0_pay31 (k0_pay27 v w) y = coarseOf (k0_pay27 v w) z :=
  chunk_pay 128 (by decide) (k0_pay27 v w) slices_S1024x512_o0_128_S1024x128 y _ _ h1.symm h2

/-- Lanes 256 to 383 of the keys, as a store of the chunk holds them: an entry of the four-phase array. -/
theorem fine_k2 (v : FVec Ideal S1024x1024 .bf16) (w : Vec Ideal S1024x512 .bf16) (y : S1x1024x128.Idx) (z : S1x4x256x512.Idx)
    (h1 : (y 1).val = (z 2).val * 4 + (z 1).val) (h2 : (z 3).val = 256 + (y 2).val) :
    k0_pay32 (k0_pay27 v w) y = fineOf (k0_pay27 v w) z :=
  chunk_pay 256 (by decide) (k0_pay27 v w) slices_S1024x512_o0_256_S1024x128 y _ _ h1.symm h2

/-- The same chunk: an entry of the sixteen-phase array. -/
theorem coarse_k2 (v : FVec Ideal S1024x1024 .bf16) (w : Vec Ideal S1024x512 .bf16) (y : S1x1024x128.Idx) (z : S1x16x64x512.Idx)
    (h1 : (y 1).val = (z 2).val * 16 + (z 1).val) (h2 : (z 3).val = 256 + (y 2).val) :
    k0_pay32 (k0_pay27 v w) y = coarseOf (k0_pay27 v w) z :=
  chunk_pay 256 (by decide) (k0_pay27 v w) slices_S1024x512_o0_256_S1024x128 y _ _ h1.symm h2

/-- Lanes 384 to 511 of the keys, as a store of the chunk holds them: an entry of the four-phase array. -/
theorem fine_k3 (v : FVec Ideal S1024x1024 .bf16) (w : Vec Ideal S1024x512 .bf16) (y : S1x1024x128.Idx) (z : S1x4x256x512.Idx)
    (h1 : (y 1).val = (z 2).val * 4 + (z 1).val) (h2 : (z 3).val = 384 + (y 2).val) :
    k0_pay33 (k0_pay27 v w) y = fineOf (k0_pay27 v w) z :=
  chunk_pay 384 (by decide) (k0_pay27 v w) slices_S1024x512_o0_384_S1024x128 y _ _ h1.symm h2

/-- The same chunk: an entry of the sixteen-phase array. -/
theorem coarse_k3 (v : FVec Ideal S1024x1024 .bf16) (w : Vec Ideal S1024x512 .bf16) (y : S1x1024x128.Idx) (z : S1x16x64x512.Idx)
    (h1 : (y 1).val = (z 2).val * 16 + (z 1).val) (h2 : (z 3).val = 384 + (y 2).val) :
    k0_pay33 (k0_pay27 v w) y = coarseOf (k0_pay27 v w) z :=
  chunk_pay 384 (by decide) (k0_pay27 v w) slices_S1024x512_o0_384_S1024x128 y _ _ h1.symm h2

/-- Lanes 0 to 127 of the values, as a store of the chunk holds them: an entry of the four-phase array. -/
theorem fine_v0 (v : FVec Ideal S1024x1024 .bf16) (w : Vec Ideal S1024x512 .bf16) (y : S1x1024x128.Idx) (z : S1x4x256x512.Idx)
    (h1 : (y 1).val = (z 2).val * 4 + (z 1).val) (h2 : (z 3).val = 0 + (y 2).val) :
    k0_pay169 v w y = fineOf (k0_pay167 v w) z :=
  chunk_pay 0 (by decide) (k0_pay167 v w) slices_S1024x512_o0_0_S1024x128 y _ _ h1.symm h2

/-- The same chunk: an entry of the sixteen-phase array. -/
theorem coarse_v0 (v : FVec Ideal S1024x1024 .bf16) (w : Vec Ideal S1024x512 .bf16) (y : S1x1024x128.Idx) (z : S1x16x64x512.Idx)
    (h1 : (y 1).val = (z 2).val * 16 + (z 1).val) (h2 : (z 3).val = 0 + (y 2).val) :
    k0_pay169 v w y = coarseOf (k0_pay167 v w) z :=
  chunk_pay 0 (by decide) (k0_pay167 v w) slices_S1024x512_o0_0_S1024x128 y _ _ h1.symm h2

/-- Lanes 128 to 255 of the values, as a store of the chunk holds them: an entry of the four-phase array. -/
theorem fine_v1 (v : FVec Ideal S1024x1024 .bf16) (w : Vec Ideal S1024x512 .bf16) (y : S1x1024x128.Idx) (z : S1x4x256x512.Idx)
    (h1 : (y 1).val = (z 2).val * 4 + (z 1).val) (h2 : (z 3).val = 128 + (y 2).val) :
    k0_pay170 v w y = fineOf (k0_pay167 v w) z :=
  chunk_pay 128 (by decide) (k0_pay167 v w) slices_S1024x512_o0_128_S1024x128 y _ _ h1.symm h2

/-- The same chunk: an entry of the sixteen-phase array. -/
theorem coarse_v1 (v : FVec Ideal S1024x1024 .bf16) (w : Vec Ideal S1024x512 .bf16) (y : S1x1024x128.Idx) (z : S1x16x64x512.Idx)
    (h1 : (y 1).val = (z 2).val * 16 + (z 1).val) (h2 : (z 3).val = 128 + (y 2).val) :
    k0_pay170 v w y = coarseOf (k0_pay167 v w) z :=
  chunk_pay 128 (by decide) (k0_pay167 v w) slices_S1024x512_o0_128_S1024x128 y _ _ h1.symm h2

/-- Lanes 256 to 383 of the values, as a store of the chunk holds them: an entry of the four-phase array. -/
theorem fine_v2 (v : FVec Ideal S1024x1024 .bf16) (w : Vec Ideal S1024x512 .bf16) (y : S1x1024x128.Idx) (z : S1x4x256x512.Idx)
    (h1 : (y 1).val = (z 2).val * 4 + (z 1).val) (h2 : (z 3).val = 256 + (y 2).val) :
    k0_pay171 v w y = fineOf (k0_pay167 v w) z :=
  chunk_pay 256 (by decide) (k0_pay167 v w) slices_S1024x512_o0_256_S1024x128 y _ _ h1.symm h2

/-- The same chunk: an entry of the sixteen-phase array. -/
theorem coarse_v2 (v : FVec Ideal S1024x1024 .bf16) (w : Vec Ideal S1024x512 .bf16) (y : S1x1024x128.Idx) (z : S1x16x64x512.Idx)
    (h1 : (y 1).val = (z 2).val * 16 + (z 1).val) (h2 : (z 3).val = 256 + (y 2).val) :
    k0_pay171 v w y = coarseOf (k0_pay167 v w) z :=
  chunk_pay 256 (by decide) (k0_pay167 v w) slices_S1024x512_o0_256_S1024x128 y _ _ h1.symm h2

/-- Lanes 384 to 511 of the values, as a store of the chunk holds them: an entry of the four-phase array. -/
theorem fine_v3 (v : FVec Ideal S1024x1024 .bf16) (w : Vec Ideal S1024x512 .bf16) (y : S1x1024x128.Idx) (z : S1x4x256x512.Idx)
    (h1 : (y 1).val = (z 2).val * 4 + (z 1).val) (h2 : (z 3).val = 384 + (y 2).val) :
    k0_pay173 (k0_pay172 v w) y = fineOf (k0_pay167 v w) z :=
  chunk_pay 384 (by decide) (k0_pay167 v w) slices_S1024x512_o0_384_S1024x128 y _ _ h1.symm h2

/-- The same chunk: an entry of the sixteen-phase array. -/
theorem coarse_v3 (v : FVec Ideal S1024x1024 .bf16) (w : Vec Ideal S1024x512 .bf16) (y : S1x1024x128.Idx) (z : S1x16x64x512.Idx)
    (h1 : (y 1).val = (z 2).val * 16 + (z 1).val) (h2 : (z 3).val = 384 + (y 2).val) :
    k0_pay173 (k0_pay172 v w) y = coarseOf (k0_pay167 v w) z :=
  chunk_pay 384 (by decide) (k0_pay167 v w) slices_S1024x512_o0_384_S1024x128 y _ _ h1.symm h2

end Cert.KernelProjIdeal.Out
end
-- ==== Proof.ProjChunk.lean ====
/- The 128-lane chunks of queries and keys that the projection call norms head by head and rotates. -/
module
public import proofs.«01_k».proof.Proof.Gen.KernelProjIdeal.Skeleton
public import Idealize.ShloMosaic.Lib.Pointwise
@[expose] public section
set_option maxRecDepth 16384
noncomputable section
namespace Cert.KernelProjIdeal.Chunk
open Cert.KernelProjIdeal Cert.KernelProjIdeal.Gen Idealize.ShloMosaic Idealize.ShloMosaic.TcCoe

/-- The squares of a chunk beside what rounding them left over. -/
def squares (h : FVec Ideal S1024x128 .f32) : FVec Ideal S1024x256 .bf16 :=
  concatenate S1024x256 1 [⟨S1024x128, truncf .bf16 (mulf h h) bitsLt_bf16_f32⟩,
    ⟨S1024x128, truncf .bf16 (subf (mulf h h) (extf .f32 (truncf .bf16 (mulf h h) bitsLt_bf16_f32) bitsLt_bf16_f32)) bitsLt_bf16_f32⟩]
    concatenates_S1024x128_S1024x128_S1024x256_d1

/-- A chunk scaled by the reciprocal root of its heads' mean squares and by a gain. -/
def normed (h : FVec Ideal S1024x128 .f32) (g : FVec Ideal S1x128 .f32) (ones : FVec Ideal S256x128 .bf16) : FVec Ideal S1024x128 .f32 :=
  mulf (mulf h (rsqrt (addf (mulf (matmul dot_S1024x256_S256x128_S1024x128_1_0_0_1_n_n none (squares h) ones (constant S1024x128 .f32 0x00000000#32))
    (broadcast S1024x128 (Scalar.ofBits .f32 0x3C800000#32))) (broadcast S1024x128 (Scalar.ofBits .f32 0x358637BD#32)))))
    (broadcastTo S1024x128 g broadcasts_S1x128_S1024x128)

/-- A chunk rotated: each lane times its cosine plus its partner lane times its signed sine. -/
def rotated (n cos sin : FVec Ideal S1024x128 .f32) (mask : IVec S1024x128 1) : FVec Ideal S1024x128 .f32 :=
  addf (mulf n cos) (mulf (select mask (dynamicRotate 1 112#32 none n rotates_S1024x128_d1) (dynamicRotate 1 16#32 none n rotates_S1024x128_d1)) sin)

/-- A chunk laid out lane by lane, as the call stores it. -/
def flipped (v : FVec Ideal S1024x128 .f32) : FVec Ideal S1x128x1024 .bf16 :=
  shapeCast S1x128x1024 (truncf .bf16 (transpose S128x1024 [1, 0] v transposes_S1024x128_p1_0_S128x1024) bitsLt_bf16_f32) shapeCasts_S128x1024_S1x128x1024

variable (v18 v20 : FVec Ideal S1024x128 .f32) (v22 : FVec Ideal S256x128 .bf16) (v41 : IVec S1024x128 1) (v44 : FVec Ideal S1024x512 .f32)
  (v70 : FVec Ideal S1x128 .f32) (v182 : FVec Ideal S1024x128 .f32)

theorem pay18_eq : k0_pay18 v18 v20 v22 v41 v44 v70
    = flipped (rotated (normed (extractStridedSlice S1024x128 ![0, 0] v44 slices_S1024x512_o0_0_S1024x128) (k0_pay17 v70) v22) v18 v20 v41) := rfl

theorem pay20_eq : k0_pay20 v18 v20 v41 (k0_pay19 v22 v44 v70) 112#32
    = flipped (rotated (normed (extractStridedSlice S1024x128 ![0, 128] v44 slices_S1024x512_o0_128_S1024x128) (k0_pay17 v70) v22) v18 v20 v41) := rfl

theorem pay21_eq : k0_pay21 v18 v20 v22 v41 v44 v70
    = flipped (rotated (normed (extractStridedSlice S1024x128 ![0, 256] v44 slices_S1024x512_o0_256_S1024x128) v70 v22) v18 v20 v41) := rfl

theorem pay24_eq : k0_pay24 v18 v20 v22 v41 v70 (k0_pay22 v44) (k0_pay23 v44) (constant S1024x128 .f32 0x00000000#32)
    = flipped (rotated (normed (extractStridedSlice S1024x128 ![0, 384] v44 slices_S1024x512_o0_384_S1024x128) v70 v22) v18 v20 v41) := rfl

theorem pay34_eq : k0_pay34 v18 v20 v22 v41 v182 v70 = rotated (normed v182 (k0_pay17 v70) v22) v18 v20 v41 := rfl

theorem pay17_eq : k0_pay17 v70 = v70 := shapeCast_self _ _

/-- One lane of the rotated chunk. -/
theorem rotated_apply (n : FVec Ideal S1024x128 .f32) (r : Fin 1024) (l : Fin 128) :
    rotated n v18 v20 v41 (ix2 r l) = n (ix2 r l) * v18 (ix2 r l)
      + (if v41 (ix2 r l) = 1#1 then n (ix2 r ⟨(l.val + 16) % 128, by omega⟩) else n (ix2 r ⟨(l.val + 112) % 128, by omega⟩)) * v20 (ix2 r l) := by
  pointwise [rotated]
  have e1 : (⟨(l.val + 128 - 112) % 128, by omega⟩ : Fin 128) = ⟨(l.val + 16) % 128, by omega⟩ := Fin.ext (by show _ % 128 = _ % 128; omega)
  have e2 : (⟨(l.val + 128 - 16) % 128, by omega⟩ : Fin 128) = ⟨(l.val + 112) % 128, by omega⟩ := Fin.ext (by show _ % 128 = _ % 128; omega)
  rw [e1, e2]
  rfl

theorem normed_apply (h : FVec Ideal S1024x128 .f32) (r : Fin 1024) (l : Fin 128) :
    normed h v70 v22 (ix2 r l) = h (ix2 r l) * Ideal.rsqrt ((∑ k : Fin 128, h (ix2 r k) * h (ix2 r k) * v22 (ix2 ⟨k.val, by omega⟩ l)
        + ∑ k : Fin 128, (h (ix2 r k) * h (ix2 r k) - h (ix2 r k) * h (ix2 r k)) * v22 (ix2 ⟨128 + k.val, by omega⟩ l)) * Ideal.ofBits FTy.f32 0x3C800000#32
        + Ideal.ofBits FTy.f32 0x358637BD#32) * v70 (ix2 0 l) := by
  pointwise [normed, squares]

/-- The second key chunk's rotation by a whole head. -/
theorem pay35_apply (r : Fin 1024) (l : Fin 128) : k0_pay35 v18 v20 v22 v41 v182 v70 (ix2 r l)
    = k0_pay34 v18 v20 v22 v41 v182 v70 (ix2 r ⟨(l.val + 64) % 128, by omega⟩) := by
  have e1 : (⟨(l.val + 128 - 64) % 128, by omega⟩ : Fin 128) = ⟨(l.val + 64) % 128, by omega⟩ := Fin.ext (by show _ % 128 = _ % 128; omega)
  pointwise [k0_pay35]
  rw [e1]

/-- Which lanes are the first head's. -/
theorem low_apply (v231 v232 : FVec Ideal S1024x128 .f32) (r : Fin 1024) (l : Fin 128) :
    k0_pay38 (iota .tc S1024x128 32 [1] iota_S1024x128_d1_w32) v231 v232 k0_pay36 (ix3 0 r l) = if l.val < 64 then v231 (ix2 r l) else v232 (ix2 r l) := by
  have e : ∀ l : Fin 128, IntOp.cmpi CmpIPredicate.slt (BitVec.ofNat 32 l.val) 64#32 = if l.val < 64 then 1#1 else 0#1 := by decide +kernel
  pointwise [k0_pay38, k0_pay37, k0_pay36]
  rw [e]
  by_cases h : l.val < 64
  · rw [if_pos h, if_pos h]; rfl
  · rw [if_neg h, if_neg h]; rfl

theorem high_apply (v231 v232 : FVec Ideal S1024x128 .f32) (r : Fin 1024) (l : Fin 128) :
    k0_pay39 (iota .tc S1024x128 32 [1] iota_S1024x128_d1_w32) v231 v232 k0_pay36 (ix3 0 r l) = if l.val < 64 then v232 (ix2 r l) else v231 (ix2 r l) := by
  have e : ∀ l : Fin 128, IntOp.cmpi CmpIPredicate.slt (BitVec.ofNat 32 l.val) 64#32 = if l.val < 64 then 1#1 else 0#1 := by decide +kernel
  pointwise [k0_pay39, k0_pay37, k0_pay36]
  rw [e]
  by_cases h : l.val < 64
  · rw [if_pos h, if_pos h]; rfl
  · rw [if_neg h, if_neg h]; rfl

theorem flipped_apply (v : FVec Ideal S1024x128 .f32) (l : Fin 128) (r : Fin 1024) : flipped v (ix3 0 l r) = v (ix2 r l) := by
  pointwise [flipped]

theorem mask_apply (r : Fin 1024) (l : Fin 128) : k0_pay9 k0_pay6 k0_pay7 k0_pay8 (ix2 r l) = if l.val % 32 < 16 then 1#1 else 0#1 := by
  pointwise [k0_pay9, k0_pay6, k0_pay7, k0_pay8]
  revert l
  decide +kernel

end Cert.KernelProjIdeal.Chunk
end
-- ==== Proof.ProjHeads.lean ====
/- The queries and keys that the projection call norms and rotates, at one grid point: row by row of the point's tokens. -/
module
public import proofs.«01_k».proof.Proof.ProjChunk
@[expose] public section
set_option maxRecDepth 16384
noncomputable section
namespace Cert.KernelProjIdeal.Out
open Cert.KernelProjIdeal Cert.KernelProjIdeal.Gen Idealize.ShloMosaic Idealize.ShloMosaic.TcCoe Idealize.SL.Sem

/-- 128 lanes of one token, scaled by the reciprocal root of what the matrix `ones` sums of their squares, and by a gain. -/
def rowNorm (h g : Fin 128 → EReal) (ones : Fin 256 → Fin 128 → EReal) (l : Fin 128) : EReal :=
  h l * Ideal.rsqrt ((∑ k : Fin 128, h k * h k * ones ⟨k.val, by omega⟩ l
    + ∑ k : Fin 128, (h k * h k - h k * h k) * ones ⟨128 + k.val, by omega⟩ l) * Ideal.ofBits FTy.f32 0x3C800000#32
    + Ideal.ofBits FTy.f32 0x358637BD#32) * g l

/-- The same lanes rotated: each times its cosine plus its partner lane times its signed sine. -/
def rowTurn (n cos sin : Fin 128 → EReal) (l : Fin 128) : EReal :=
  n l * cos l + (if l.val % 32 < 16 then n ⟨(l.val + 16) % 128, by omega⟩ else n ⟨(l.val + 112) % 128, by omega⟩) * sin l

variable (cos sin : FVec Ideal S1024x128 .f32) (ones : FVec Ideal S256x128 .bf16) (g : FVec Ideal S1x128 .f32)

/-- One lane of a chunk, normed and rotated. -/
theorem turn_apply (h : FVec Ideal S1024x128 .f32) (r : Fin 1024) (l : Fin 128) :
    Chunk.rotated (Chunk.normed h g ones) cos sin (k0_pay9 k0_pay6 k0_pay7 k0_pay8) (ix2 r l)
    = rowTurn (rowNorm (fun l => h (ix2 r l)) (fun l => g (ix2 0 l)) (fun a l => ones (ix2 a l))) (fun l => cos (ix2 r l)) (fun l => sin (ix2 r l)) l := by
  have e : (if (if l.val % 32 < 16 then 1#1 else 0#1) = 1#1 then Chunk.normed h g ones (ix2 r ⟨(l.val + 16) % 128, by omega⟩)
        else Chunk.normed h g ones (ix2 r ⟨(l.val + 112) % 128, by omega⟩))
      = if l.val % 32 < 16 then Chunk.normed h g ones (ix2 r ⟨(l.val + 16) % 128, by omega⟩)
        else Chunk.normed h g ones (ix2 r ⟨(l.val + 112) % 128, by omega⟩) := by
    by_cases h : l.val % 32 < 16
    · rw [if_pos h, if_pos h]; rfl
    · rw [if_neg h, if_neg h]; rfl
  rw [Chunk.rotated_apply, Chunk.mask_apply, e]
  simp only [Chunk.normed_apply]
  rfl

/-- The queries of a point's tokens, lane by lane. -/
def queriesOf (V : FVec Ideal S1024x512 .f32) (y : S1x512x1024.Idx) : EReal :=
  rowTurn (rowNorm (fun l => V (ix2 (y 2) ⟨(y 1).val / 128 * 128 + l.val, by have h := (y 1).isLt; change (y 1).val < 512 at h; omega⟩))
    (fun l => g (ix2 0 l)) (fun a l => ones (ix2 a l))) (fun l => cos (ix2 (y 2) l)) (fun l => sin (ix2 (y 2) l)) ⟨(y 1).val % 128, by omega⟩

/-- A chunk of the queries, as it is stored. -/
theorem query_chunk (k : ℕ) (hk : k < 4) (V : FVec Ideal S1024x512 .f32) (hs : S1024x512.Slices ![0, k * 128] S1024x128)
    (x : S1x128x1024.Idx) (z : S1x512x1024.Idx) (h1 : (z 1).val = k * 128 + (x 1).val) (h2 : (z 2).val = (x 2).val) :
    Chunk.flipped (Chunk.rotated (Chunk.normed (extractStridedSlice S1024x128 ![0, k * 128] V hs) g ones) cos sin (k0_pay9 k0_pay6 k0_pay7 k0_pay8)) x
      = queriesOf cos sin ones g V z := by
  obtain ⟨a, l, r, rfl⟩ : ∃ (a : Fin 1) (l : Fin 128) (r : Fin 1024), x = ix3 a l r := ⟨x 0, x 1, x 2, eq_ix3 x⟩
  obtain ⟨a', l', r', rfl⟩ : ∃ (a : Fin 1) (l : Fin 512) (r : Fin 1024), z = ix3 a l r := ⟨z 0, z 1, z 2, eq_ix3 z⟩
  obtain rfl : a = 0 := Subsingleton.elim _ _
  obtain rfl : r' = r := Fin.ext h2
  replace h1 : l'.val = k * 128 + l.val := h1
  rw [Chunk.flipped_apply, turn_apply]
  unfold queriesOf
  refine congr (congrArg (fun h => rowTurn (rowNorm h _ _) _ _) (funext fun j => congrArg V (funext fun a => Fin.ext ?_))) (Fin.ext ?_)
  · fin_cases a
    · show 0 + r'.val = r'.val
      omega
    · show k * 128 + j.val = l'.val / 128 * 128 + j.val
      omega
  · show l.val = l'.val % 128
    omega

/-- The keys of a point's tokens, each head twice in a row. -/
def keysOf (V : FVec Ideal S1024x128 .f32) (y : S1x1024x256.Idx) : EReal :=
  rowTurn (rowNorm (fun l => V (ix2 (y 1) l)) (fun l => g (ix2 0 l)) (fun a l => ones (ix2 a l)))
    (fun l => cos (ix2 (y 1) l)) (fun l => sin (ix2 (y 1) l)) ⟨(y 2).val / 128 * 64 + (y 2).val % 64, by have h := (y 2).isLt; change (y 2).val < 256 at h; omega⟩

/-- The first key head twice, as it is stored. -/
theorem key_low (V : FVec Ideal S1024x128 .f32) (x : S1x1024x128.Idx) (z : S1x1024x256.Idx) (h1 : (z 1).val = (x 1).val) (h2 : (z 2).val = (x 2).val) :
    k0_pay38 (iota .tc S1024x128 32 [1] iota_S1024x128_d1_w32)
      (k0_pay34 cos sin ones (k0_pay9 k0_pay6 k0_pay7 k0_pay8) V g) (k0_pay35 cos sin ones (k0_pay9 k0_pay6 k0_pay7 k0_pay8) V g) k0_pay36 x
      = keysOf cos sin ones g V z := by
  obtain ⟨a, r, l, rfl⟩ : ∃ (a : Fin 1) (r : Fin 1024) (l : Fin 128), x = ix3 a r l := ⟨x 0, x 1, x 2, eq_ix3 x⟩
  obtain ⟨a', r', l', rfl⟩ : ∃ (a : Fin 1) (r : Fin 1024) (l : Fin 256), z = ix3 a r l := ⟨z 0, z 1, z 2, eq_ix3 z⟩
  obtain rfl : a = 0 := Subsingleton.elim _ _
  obtain rfl : r' = r := Fin.ext h1
  replace h2 : l'.val = l.val := h2
  rw [Chunk.low_apply, Chunk.pay35_apply, Chunk.pay34_eq, Chunk.pay17_eq, turn_apply, turn_apply]
  unfold keysOf
  split
  · refine congrArg _ (Fin.ext ?_)
    show l.val = l'.val / 128 * 64 + l'.val % 64
    omega
  · refine congrArg _ (Fin.ext ?_)
    show (l.val + 64) % 128 = l'.val / 128 * 64 + l'.val % 64
    omega

/-- The second key head twice, as it is stored. -/
theorem key_high (V : FVec Ideal S1024x128 .f32) (x : S1x1024x128.Idx) (z : S1x1024x256.Idx) (h1 : (z 1).val = (x 1).val) (h2 : (z 2).val = 128 + (x 2).val) :
    k0_pay39 (iota .tc S1024x128 32 [1] iota_S1024x128_d1_w32)
      (k0_pay34 cos sin ones (k0_pay9 k0_pay6 k0_pay7 k0_pay8) V g) (k0_pay35 cos sin ones (k0_pay9 k0_pay6 k0_pay7 k0_pay8) V g) k0_pay36 x
      = keysOf cos sin ones g V z := by
  obtain ⟨a, r, l, rfl⟩ : ∃ (a : Fin 1) (r : Fin 1024) (l : Fin 128), x = ix3 a r l := ⟨x 0, x 1, x 2, eq_ix3 x⟩
  obtain ⟨a', r', l', rfl⟩ : ∃ (a : Fin 1) (r : Fin 1024) (l : Fin 256), z = ix3 a r l := ⟨z 0, z 1, z 2, eq_ix3 z⟩
  obtain rfl : a = 0 := Subsingleton.elim _ _
  obtain rfl : r' = r := Fin.ext h1
  replace h2 : l'.val = 128 + l.val := h2
  rw [Chunk.high_apply, Chunk.pay35_apply, Chunk.pay34_eq, Chunk.pay17_eq, turn_apply, turn_apply]
  unfold keysOf
  split
  · refine congrArg _ (Fin.ext ?_)
    show (l.val + 64) % 128 = l'.val / 128 * 64 + l'.val % 64
    omega
  · refine congrArg _ (Fin.ext ?_)
    show l.val = l'.val / 128 * 64 + l'.val % 64
    omega

end Cert.KernelProjIdeal.Out
end
-- ==== Proof.ProjOut8.lean ====
/- The axial mixer's queries at one grid point. -/
module
public import proofs.«01_k».proof.Proof.Gen.KernelProjIdeal.Frame
public import proofs.«01_k».proof.Proof.ProjReads
public import proofs.«01_k».proof.Proof.ProjHeads
public import Idealize.ShloMosaic.Lib.Pointwise
public import Idealize.ShloMosaic.Lib.Pipeline.ValueKit
public import Idealize.ShloMosaic.Lib.Pipeline.ReadBack
@[expose] public section
set_option maxRecDepth 16384
noncomputable section
namespace Cert.KernelProjIdeal.Out
open Cert.KernelProjIdeal Cert.KernelProjIdeal.Gen Idealize.ShloMosaic Idealize.ShloMosaic.TcCoe Idealize.SL.Sem
variable (c : Dev nD) (i : grid0.Coords) (arg2 : Memref sig .tc .vmem S1x1024x1024 .f32) (harg2 : arg2.IsWhole) (arg3 : Memref sig .tc .vmem S1x1024 .f32) (harg3 : arg3.IsWhole) (arg4 : Memref sig .tc .vmem S1024x2304 .bf16) (harg4 : arg4.IsWhole) (arg5 : Memref sig .tc .vmem S1x128 .f32) (harg5 : arg5.IsWhole) (arg6 : Memref sig .tc .vmem S1x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S256x128 .bf16) (harg9 : arg9.IsWhole) (arg10 : Memref sig .tc .vmem S1x512x1024 .bf16) (harg10 : arg10.IsWhole) (arg11 : Memref sig .tc .vmem S1x1024x256 .bf16) (harg11 : arg11.IsWhole) (arg12 : Memref sig .tc .vmem S1x128x1024 .bf16) (harg12 : arg12.IsWhole) (arg13 : Memref sig .tc .vmem S1x1024x512 .bf16) (harg13 : arg13.IsWhole) (arg14 : Memref sig .tc .vmem S1x4x256x512 .bf16) (harg14 : arg14.IsWhole) (arg15 : Memref sig .tc .vmem S1x16x64x512 .bf16) (harg15 : arg15.IsWhole) (arg16 : Memref sig .tc .vmem S1x1024x512 .bf16) (harg16 : arg16.IsWhole) (arg17 : Memref sig .tc .vmem S1x4x256x512 .bf16) (harg17 : arg17.IsWhole) (arg18 : Memref sig .tc .vmem S1x16x64x512 .bf16) (harg18 : arg18.IsWhole) (arg19 : Memref sig .tc .vmem S1x1024x512 .bf16) (harg19 : arg19.IsWhole) (arg20 : Memref sig .tc .vmem S1x4x256x512 .bf16) (harg20 : arg20.IsWhole) (arg21 : Memref sig .tc .vmem S1x16x64x512 .bf16) (harg21 : arg21.IsWhole) (arg22 : Memref sig .tc .vmem S4x1024x128 .f32) (harg22 : arg22.IsWhole) (arg23 : Memref sig .tc .vmem S4x1024x128 .f32) (harg23 : arg23.IsWhole) (arg24 : Memref sig .tc .vmem S4x1024x128 .f32) (harg24 : arg24.IsWhole) (arg25 : Memref sig .tc .vmem S4x4x256x128 .f32) (harg25 : arg25.IsWhole) (arg26 : Memref sig .tc .vmem S4x4x256x128 .f32) (harg26 : arg26.IsWhole) (arg27 : Memref sig .tc .vmem S4x4x256x128 .f32) (harg27 : arg27.IsWhole)     (x0 : Vec Ideal S1x1024x1024 .f32) (x1 : Vec Ideal S1x1024 .f32) (x2 : Vec Ideal S1024x2304 .bf16) (x3 : Vec Ideal S1x128 .f32) (x4 : Vec Ideal S1x128 .f32) (x5 : Vec Ideal S1024x128 .f32) (x6 : Vec Ideal S1024x128 .f32) (x7 : Vec Ideal S256x128 .bf16)

set_option maxHeartbeats 8000000 in
/-- The point's block of the queries: four chunks of two heads each. -/
theorem out8 (y) : out0_A_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 y = queriesOf (k0_pay3 x5) (k0_pay4 x6) (k0_pay5 x7) (k0_pay17 x3) (k0_pay10 (k0_pay2 x0 x1) (View.ld x2 (Rect.unit (s := S1024x2304) ![0, 0] S1024x512.size inb_S1024x2304_S1024x512_0_0))) y := by
  unfold out0_A_8
  frame_open
  rw [View.read_writes_junk_eq_canon]
  have e0 (h) : View.readAt (Elt Ideal) arg2.view (Rect.unit (s := S1x1024x1024) ![0, 0, 0] S1x1024x1024.size h).toLoadRect (harg2.unread x0) = x0 := by
    simp (disch := decide) only [View.readAt_eq_ld, Memref.IsWhole.read_unread, View.ld_unit_lit']
  have e1 (h) : View.readAt (Elt Ideal) arg3.view (Rect.unit (s := S1x1024) ![0, 0] S1x1024.size h).toLoadRect (harg3.unread x1) = x1 := by
    simp (disch := decide) only [View.readAt_eq_ld, Memref.IsWhole.read_unread, View.ld_unit_lit']
  have e3 (h) : View.readAt (Elt Ideal) arg5.view (Rect.unit (s := S1x128) ![0, 0] S1x128.size h).toLoadRect (harg5.unread x3) = x3 := by
    simp (disch := decide) only [View.readAt_eq_ld, Memref.IsWhole.read_unread, View.ld_unit_lit']
  have e5 (h) : View.readAt (Elt Ideal) arg7.view (Rect.unit (s := S1024x128) ![0, 0] S1024x128.size h).toLoadRect (harg7.unread x5) = x5 := by
    simp (disch := decide) only [View.readAt_eq_ld, Memref.IsWhole.read_unread, View.ld_unit_lit']
  have e6 (h) : View.readAt (Elt Ideal) arg8.view (Rect.unit (s := S1024x128) ![0, 0] S1024x128.size h).toLoadRect (harg8.unread x6) = x6 := by
    simp (disch := decide) only [View.readAt_eq_ld, Memref.IsWhole.read_unread, View.ld_unit_lit']
  have e7 (h) : View.readAt (Elt Ideal) arg9.view (Rect.unit (s := S256x128) ![0, 0] S256x128.size h).toLoadRect (harg9.unread x7) = x7 := by
    simp (disch := decide) only [View.readAt_eq_ld, Memref.IsWhole.read_unread, View.ld_unit_lit']
  have e2 (h) : View.readAt (Elt Ideal) arg4.view (Rect.unit (s := S1024x2304) ![0, 0] S1024x512.size h).toLoadRect (harg4.unread x2)
      = View.ld x2 (Rect.unit (s := S1024x2304) ![0, 0] S1024x512.size h) := by
    rw [View.readAt_eq_ld, Memref.IsWhole.read_unread]
  rw [e0, e1, e2, e3, e5, e6, e7]
  refine View.canon_apply_of_pieces (Val := Elt Ideal) (e := .bf16) (queriesOf (k0_pay3 x5) (k0_pay4 x6) (k0_pay5 x7) (k0_pay17 x3) (k0_pay10 (k0_pay2 x0 x1) (View.ld x2 (Rect.unit (s := S1024x2304) ![0, 0] S1024x512.size inb_S1024x2304_S1024x512_0_0)))) _ (View.PiecesOf.mem ?_) y ?_
  rotate_left
  · exact View.cover_of_tiledL (s := S1x512x1024) (Val := Elt Ideal) (e := .bf16) _ ![1, 128, 1024] (by sl_kernel_rfl) y
  simp only [View.PiecesOf]
  refine ⟨?_, ?_, ?_, ?_, trivial⟩
  · exact fun x => query_chunk _ _ _ _ 3 (by decide) (k0_pay10 (k0_pay2 x0 x1) (View.ld x2 (Rect.unit (s := S1024x2304) ![0, 0] S1024x512.size inb_S1024x2304_S1024x512_0_0))) slices_S1024x512_o0_384_S1024x128 x _
      (by
        show 384 + 1 * (x 1).val = 384 + (x 1).val
        omega)
      (by
        show 0 + 1 * (x 2).val = (x 2).val
        omega)
  · exact fun x => query_chunk _ _ _ _ 2 (by decide) (k0_pay10 (k0_pay2 x0 x1) (View.ld x2 (Rect.unit (s := S1024x2304) ![0, 0] S1024x512.size inb_S1024x2304_S1024x512_0_0))) slices_S1024x512_o0_256_S1024x128 x _
      (by
        show 256 + 1 * (x 1).val = 256 + (x 1).val
        omega)
      (by
        show 0 + 1 * (x 2).val = (x 2).val
        omega)
  · exact fun x => query_chunk _ _ _ _ 1 (by decide) (k0_pay10 (k0_pay2 x0 x1) (View.ld x2 (Rect.unit (s := S1024x2304) ![0, 0] S1024x512.size inb_S1024x2304_S1024x512_0_0))) slices_S1024x512_o0_128_S1024x128 x _
      (by
        show 128 + 1 * (x 1).val = 128 + (x 1).val
        omega)
      (by
        show 0 + 1 * (x 2).val = (x 2).val
        omega)
  · exact fun x => query_chunk _ _ _ _ 0 (by decide) (k0_pay10 (k0_pay2 x0 x1) (View.ld x2 (Rect.unit (s := S1024x2304) ![0, 0] S1024x512.size inb_S1024x2304_S1024x512_0_0))) slices_S1024x512_o0_0_S1024x128 x _
      (by
        show 0 + 1 * (x 1).val = 0 + (x 1).val
        omega)
      (by
        show 0 + 1 * (x 2).val = (x 2).val
        omega)
end Cert.KernelProjIdeal.Out
end
-- ==== Proof.ProjOut9.lean ====
/- The axial mixer's keys at one grid point. -/
module
public import proofs.«01_k».proof.Proof.Gen.KernelProjIdeal.Frame
public import proofs.«01_k».proof.Proof.ProjReads
public import proofs.«01_k».proof.Proof.ProjHeads
public import Idealize.ShloMosaic.Lib.Pointwise
public import Idealize.ShloMosaic.Lib.Pipeline.ValueKit
public import Idealize.ShloMosaic.Lib.Pipeline.ReadBack
@[expose] public section
set_option maxRecDepth 16384
noncomputable section
namespace Cert.KernelProjIdeal.Out
open Cert.KernelProjIdeal Cert.KernelProjIdeal.Gen Idealize.ShloMosaic Idealize.ShloMosaic.TcCoe Idealize.SL.Sem
variable (c : Dev nD) (i : grid0.Coords) (arg2 : Memref sig .tc .vmem S1x1024x1024 .f32) (harg2 : arg2.IsWhole) (arg3 : Memref sig .tc .vmem S1x1024 .f32) (harg3 : arg3.IsWhole) (arg4 : Memref sig .tc .vmem S1024x2304 .bf16) (harg4 : arg4.IsWhole) (arg5 : Memref sig .tc .vmem S1x128 .f32) (harg5 : arg5.IsWhole) (arg6 : Memref sig .tc .vmem S1x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S256x128 .bf16) (harg9 : arg9.IsWhole) (arg10 : Memref sig .tc .vmem S1x512x1024 .bf16) (harg10 : arg10.IsWhole) (arg11 : Memref sig .tc .vmem S1x1024x256 .bf16) (harg11 : arg11.IsWhole) (arg12 : Memref sig .tc .vmem S1x128x1024 .bf16) (harg12 : arg12.IsWhole) (arg13 : Memref sig .tc .vmem S1x1024x512 .bf16) (harg13 : arg13.IsWhole) (arg14 : Memref sig .tc .vmem S1x4x256x512 .bf16) (harg14 : arg14.IsWhole) (arg15 : Memref sig .tc .vmem S1x16x64x512 .bf16) (harg15 : arg15.IsWhole) (arg16 : Memref sig .tc .vmem S1x1024x512 .bf16) (harg16 : arg16.IsWhole) (arg17 : Memref sig .tc .vmem S1x4x256x512 .bf16) (harg17 : arg17.IsWhole) (arg18 : Memref sig .tc .vmem S1x16x64x512 .bf16) (harg18 : arg18.IsWhole) (arg19 : Memref sig .tc .vmem S1x1024x512 .bf16) (harg19 : arg19.IsWhole) (arg20 : Memref sig .tc .vmem S1x4x256x512 .bf16) (harg20 : arg20.IsWhole) (arg21 : Memref sig .tc .vmem S1x16x64x512 .bf16) (harg21 : arg21.IsWhole) (arg22 : Memref sig .tc .vmem S4x1024x128 .f32) (harg22 : arg22.IsWhole) (arg23 : Memref sig .tc .vmem S4x1024x128 .f32) (harg23 : arg23.IsWhole) (arg24 : Memref sig .tc .vmem S4x1024x128 .f32) (harg24 : arg24.IsWhole) (arg25 : Memref sig .tc .vmem S4x4x256x128 .f32) (harg25 : arg25.IsWhole) (arg26 : Memref sig .tc .vmem S4x4x256x128 .f32) (harg26 : arg26.IsWhole) (arg27 : Memref sig .tc .vmem S4x4x256x128 .f32) (harg27 : arg27.IsWhole)     (x0 : Vec Ideal S1x1024x1024 .f32) (x1 : Vec Ideal S1x1024 .f32) (x2 : Vec Ideal S1024x2304 .bf16) (x3 : Vec Ideal S1x128 .f32) (x4 : Vec Ideal S1x128 .f32) (x5 : Vec Ideal S1024x128 .f32) (x6 : Vec Ideal S1024x128 .f32) (x7 : Vec Ideal S256x128 .bf16)

set_option maxHeartbeats 8000000 in
/-- The point's block of the keys: each of the two heads twice in a row. -/
theorem out9 (y) : out0_A_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 y = keysOf (k0_pay3 x5) (k0_pay4 x6) (k0_pay5 x7) x4 (k0_pay25 (k0_pay2 x0 x1) (View.ld x2 (Rect.unit (s := S1024x2304) ![0, 512] S1024x128.size inb_S1024x2304_S1024x128_0_512))) y := by
  unfold out0_A_9
  frame_open
  rw [View.read_writes_junk_eq_canon]
  have e0 (h) : View.readAt (Elt Ideal) arg2.view (Rect.unit (s := S1x1024x1024) ![0, 0, 0] S1x1024x1024.size h).toLoadRect (harg2.unread x0) = x0 := by
    simp (disch := decide) only [View.readAt_eq_ld, Memref.IsWhole.read_unread, View.ld_unit_lit']
  have e1 (h) : View.readAt (Elt Ideal) arg3.view (Rect.unit (s := S1x1024) ![0, 0] S1x1024.size h).toLoadRect (harg3.unread x1) = x1 := by
    simp (disch := decide) only [View.readAt_eq_ld, Memref.IsWhole.read_unread, View.ld_unit_lit']
  have e4 (h) : View.readAt (Elt Ideal) arg6.view (Rect.unit (s := S1x128) ![0, 0] S1x128.size h).toLoadRect (harg6.unread x4) = x4 := by
    simp (disch := decide) only [View.readAt_eq_ld, Memref.IsWhole.read_unread, View.ld_unit_lit']
  have e5 (h) : View.readAt (Elt Ideal) arg7.view (Rect.unit (s := S1024x128) ![0, 0] S1024x128.size h).toLoadRect (harg7.unread x5) = x5 := by
    simp (disch := decide) only [View.readAt_eq_ld, Memref.IsWhole.read_unread, View.ld_unit_lit']
  have e6 (h) : View.readAt (Elt Ideal) arg8.view (Rect.unit (s := S1024x128) ![0, 0] S1024x128.size h).toLoadRect (harg8.unread x6) = x6 := by
    simp (disch := decide) only [View.readAt_eq_ld, Memref.IsWhole.read_unread, View.ld_unit_lit']
  have e7 (h) : View.readAt (Elt Ideal) arg9.view (Rect.unit (s := S256x128) ![0, 0] S256x128.size h).toLoadRect (harg9.unread x7) = x7 := by
    simp (disch := decide) only [View.readAt_eq_ld, Memref.IsWhole.read_unread, View.ld_unit_lit']
  have e2 (h) : View.readAt (Elt Ideal) arg4.view (Rect.unit (s := S1024x2304) ![0, 512] S1024x128.size h).toLoadRect (harg4.unread x2)
      = View.ld x2 (Rect.unit (s := S1024x2304) ![0, 512] S1024x128.size h) := by
    rw [View.readAt_eq_ld, Memref.IsWhole.read_unread]
  rw [e0, e1, e2, e4, e5, e6, e7]
  refine View.canon_apply_of_pieces (Val := Elt Ideal) (e := .bf16) (keysOf (k0_pay3 x5) (k0_pay4 x6) (k0_pay5 x7) x4 (k0_pay25 (k0_pay2 x0 x1) (View.ld x2 (Rect.unit (s := S1024x2304) ![0, 512] S1024x128.size inb_S1024x2304_S1024x128_0_512)))) _ (View.PiecesOf.mem ?_) y ?_
  rotate_left
  · exact View.cover_of_tiledL (s := S1x1024x256) (Val := Elt Ideal) (e := .bf16) _ ![1, 1024, 128] (by sl_kernel_rfl) y
  simp only [View.PiecesOf]
  refine ⟨?_, ?_, trivial⟩
  · exact fun x => key_high _ _ _ _ (k0_pay25 (k0_pay2 x0 x1) (View.ld x2 (Rect.unit (s := S1024x2304) ![0, 512] S1024x128.size inb_S1024x2304_S1024x128_0_512))) x _
      (by
        show 0 + 1 * (x 1).val = (x 1).val
        omega)
      (by
        show 128 + 1 * (x 2).val = 128 + (x 2).val
        omega)
  · exact fun x => key_low _ _ _ _ (k0_pay25 (k0_pay2 x0 x1) (View.ld x2 (Rect.unit (s := S1024x2304) ![0, 512] S1024x128.size inb_S1024x2304_S1024x128_0_512))) x _
      (by
        show 0 + 1 * (x 1).val = (x 1).val
        omega)
      (by
        show 0 + 1 * (x 2).val = (x 2).val
        omega)
end Cert.KernelProjIdeal.Out
end
-- ==== Proof.ProjOut10.lean ====
/- The results of the projection at one grid point that one store leaves whole: the axial mixer's values and the second mixer's arrays in token order. -/
module
public import proofs.«01_k».proof.Proof.Gen.KernelProjIdeal.Frame
public import proofs.«01_k».proof.Proof.ProjReads
public import proofs.«01_k».proof.Proof.ProjHeads
public import Idealize.ShloMosaic.Lib.Pointwise
public import Idealize.ShloMosaic.Lib.Pipeline.ValueKit
public import Idealize.ShloMosaic.Lib.Pipeline.ReadBack
@[expose] public section
set_option maxRecDepth 16384
noncomputable section
namespace Cert.KernelProjIdeal.Out
open Cert.KernelProjIdeal Cert.KernelProjIdeal.Gen Idealize.ShloMosaic Idealize.ShloMosaic.TcCoe Idealize.SL.Sem

/-- A 512-lane array under its unit axis. -/
def tokensOf (V : FVec Ideal S1024x512 .f32) (y : S1x1024x512.Idx) : EReal := V (ix2 (y 1) (y 2))

/-- A 128-lane array, lane by lane. -/
def lanesOf (V : FVec Ideal S1024x128 .f32) (y : S1x128x1024.Idx) : EReal := V (ix2 (y 2) (y 1))

theorem tokens_pay (V : FVec Ideal S1024x512 .f32) (y : S1x1024x512.Idx) :
    (shapeCast S1x1024x512 (truncf (F := Ideal) .bf16 V bitsLt_bf16_f32) shapeCasts_S1024x512_S1x1024x512) y = tokensOf V y := by
  obtain ⟨a, r, l, rfl⟩ : ∃ (a : Fin 1) (r : Fin 1024) (l : Fin 512), y = ix3 a r l := ⟨y 0, y 1, y 2, eq_ix3 y⟩
  obtain rfl : a = 0 := Subsingleton.elim _ _
  unfold tokensOf
  pointwise []

theorem lanes_pay (V : FVec Ideal S1024x128 .f32) (y : S1x128x1024.Idx) : k0_pay40 V y = lanesOf V y := by
  obtain ⟨a, l, r, rfl⟩ : ∃ (a : Fin 1) (l : Fin 128) (r : Fin 1024), y = ix3 a l r := ⟨y 0, y 1, y 2, eq_ix3 y⟩
  obtain rfl : a = 0 := Subsingleton.elim _ _
  unfold lanesOf
  pointwise [k0_pay40]

variable (c : Dev nD) (i : grid0.Coords) (arg2 : Memref sig .tc .vmem S1x1024x1024 .f32) (harg2 : arg2.IsWhole) (arg3 : Memref sig .tc .vmem S1x1024 .f32) (harg3 : arg3.IsWhole) (arg4 : Memref sig .tc .vmem S1024x2304 .bf16) (harg4 : arg4.IsWhole) (arg5 : Memref sig .tc .vmem S1x128 .f32) (harg5 : arg5.IsWhole) (arg6 : Memref sig .tc .vmem S1x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S256x128 .bf16) (harg9 : arg9.IsWhole) (arg10 : Memref sig .tc .vmem S1x512x1024 .bf16) (harg10 : arg10.IsWhole) (arg11 : Memref sig .tc .vmem S1x1024x256 .bf16) (harg11 : arg11.IsWhole) (arg12 : Memref sig .tc .vmem S1x128x1024 .bf16) (harg12 : arg12.IsWhole) (arg13 : Memref sig .tc .vmem S1x1024x512 .bf16) (harg13 : arg13.IsWhole) (arg14 : Memref sig .tc .vmem S1x4x256x512 .bf16) (harg14 : arg14.IsWhole) (arg15 : Memref sig .tc .vmem S1x16x64x512 .bf16) (harg15 : arg15.IsWhole) (arg16 : Memref sig .tc .vmem S1x1024x512 .bf16) (harg16 : arg16.IsWhole) (arg17 : Memref sig .tc .vmem S1x4x256x512 .bf16) (harg17 : arg17.IsWhole) (arg18 : Memref sig .tc .vmem S1x16x64x512 .bf16) (harg18 : arg18.IsWhole) (arg19 : Memref sig .tc .vmem S1x1024x512 .bf16) (harg19 : arg19.IsWhole) (arg20 : Memref sig .tc .vmem S1x4x256x512 .bf16) (harg20 : arg20.IsWhole) (arg21 : Memref sig .tc .vmem S1x16x64x512 .bf16) (harg21 : arg21.IsWhole) (arg22 : Memref sig .tc .vmem S4x1024x128 .f32) (harg22 : arg22.IsWhole) (arg23 : Memref sig .tc .vmem S4x1024x128 .f32) (harg23 : arg23.IsWhole) (arg24 : Memref sig .tc .vmem S4x1024x128 .f32) (harg24 : arg24.IsWhole) (arg25 : Memref sig .tc .vmem S4x4x256x128 .f32) (harg25 : arg25.IsWhole) (arg26 : Memref sig .tc .vmem S4x4x256x128 .f32) (harg26 : arg26.IsWhole) (arg27 : Memref sig .tc .vmem S4x4x256x128 .f32) (harg27 : arg27.IsWhole)     (x0 : Vec Ideal S1x1024x1024 .f32) (x1 : Vec Ideal S1x1024 .f32) (x2 : Vec Ideal S1024x2304 .bf16) (x3 : Vec Ideal S1x128 .f32) (x4 : Vec Ideal S1x128 .f32) (x5 : Vec Ideal S1024x128 .f32) (x6 : Vec Ideal S1024x128 .f32) (x7 : Vec Ideal S256x128 .bf16)

set_option maxHeartbeats 4000000 in
/-- The point's block of the axial mixer's values. -/
theorem out10 (y) : out0_A_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 y = lanesOf (k0_pay26 (k0_pay2 x0 x1) (View.ld x2 (Rect.unit (s := S1024x2304) ![0, 640] S1024x128.size inb_S1024x2304_S1024x128_0_640))) y := by
  unfold out0_A_10
  frame_out
  exact lanes_pay (k0_pay26 (k0_pay2 x0 x1) (View.ld x2 (Rect.unit (s := S1024x2304) ![0, 640] S1024x128.size inb_S1024x2304_S1024x128_0_640))) y

set_option maxHeartbeats 4000000 in
/-- The point's block of the second mixer's queries. -/
theorem out11 (y) : out0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 y = tokensOf (k0_pay11 (k0_pay2 x0 x1) (View.ld x2 (Rect.unit (s := S1024x2304) ![0, 768] S1024x512.size inb_S1024x2304_S1024x512_0_768))) y := by
  unfold out0_A_11
  frame_out
  exact tokens_pay (k0_pay11 (k0_pay2 x0 x1) (View.ld x2 (Rect.unit (s := S1024x2304) ![0, 768] S1024x512.size inb_S1024x2304_S1024x512_0_768))) y

set_option maxHeartbeats 4000000 in
/-- The point's block of the second mixer's keys. -/
theorem out14 (y) : out0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 y = tokensOf (k0_pay27 (k0_pay2 x0 x1) (View.ld x2 (Rect.unit (s := S1024x2304) ![0, 1280] S1024x512.size inb_S1024x2304_S1024x512_0_1280))) y := by
  unfold out0_A_14
  frame_out
  exact tokens_pay (k0_pay27 (k0_pay2 x0 x1) (View.ld x2 (Rect.unit (s := S1024x2304) ![0, 1280] S1024x512.size inb_S1024x2304_S1024x512_0_1280))) y

set_option maxHeartbeats 4000000 in
/-- The point's block of the second mixer's values. -/
theorem out17 (y) : out0_A_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 y = tokensOf (k0_pay167 (k0_pay2 x0 x1) (View.ld x2 (Rect.unit (s := S1024x2304) ![0, 1792] S1024x512.size inb_S1024x2304_S1024x512_0_1792))) y := by
  unfold out0_A_17
  frame_out
  exact tokens_pay (k0_pay167 (k0_pay2 x0 x1) (View.ld x2 (Rect.unit (s := S1024x2304) ![0, 1792] S1024x512.size inb_S1024x2304_S1024x512_0_1792))) y

end Cert.KernelProjIdeal.Out
end
-- ==== Proof.ProjBlocks.lean ====
/- What each grid point of the projection's call reads: point `t` works on tokens `t / 16 * 1024 ..` of sequence `t % 16`. -/
module
public import proofs.«01_k».proof.Proof.Gen.KernelProjIdeal.Value
public import proofs.«01_k».proof.Proof.ProjRow
public import Idealize.ShloMosaic.Lib.Pointwise
public import Idealize.ShloMosaic.Lib.Pipeline.ValueKit
public import Idealize.ShloMosaic.Lib.Claim
@[expose] public section
set_option maxRecDepth 16384

noncomputable section
namespace Cert.KernelProjIdeal.Arr
open Cert.KernelProjIdeal Cert.KernelProjIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- Which block of each array a point takes. -/
theorem idx0 : ∀ t : Fin grid0.N, win0_0.index t = ![t.val % 16, t.val / 16, 0] := by decide +kernel
theorem idx1 : ∀ t : Fin grid0.N, win0_1.index t = ![0, 0] := by decide +kernel
theorem idx2 : ∀ t : Fin grid0.N, win0_2.index t = ![0, 0] := by decide +kernel
theorem idx3 : ∀ t : Fin grid0.N, win0_3.index t = ![0, 0] := by decide +kernel
theorem idx4 : ∀ t : Fin grid0.N, win0_4.index t = ![0, 0] := by decide +kernel
theorem idx5 : ∀ t : Fin grid0.N, win0_5.index t = ![t.val / 16, 0] := by decide +kernel
theorem idx6 : ∀ t : Fin grid0.N, win0_6.index t = ![t.val / 16, 0] := by decide +kernel
theorem idx7 : ∀ t : Fin grid0.N, win0_7.index t = ![0, 0] := by decide +kernel

/-- There are 32 points. -/
theorem lt32 (t : Fin cfg0.N) : t.val < 32 := lt_of_lt_of_eq t.isLt N_0

/-- The sequence and the token that row `r` of point `t` is. -/
def seq (t : Fin cfg0.N) : Fin 16 := ⟨t.val % 16, by omega⟩
def tok (t : Fin cfg0.N) (r : Fin 1024) : Fin 2048 := ⟨t.val / 16 * 1024 + r.val, by have := lt32 t; omega⟩

/-- The tokens of a point. -/
theorem blk0 (c : Dev nD) (t : Fin cfg0.N) (r k : Fin 1024) : iblk m c 0 t (ix3 0 r k)
    = m ((c.tc : Thread nD τ).loc main_arg0) (ix3 (seq t) (tok t r) k) := by
  unfold seq tok
  blk_simp [iblk, idx0 t]
  entry_read
  pointwise
  blk_ext [idx0 t]

/-- The gain of the tokens' norm. -/
theorem blk1 (c : Dev nD) (t : Fin cfg0.N) (k : Fin 1024) : iblk m c 1 t (ix2 0 k)
    = m ((c.tc : Thread nD τ).loc main_arg1) (ix2 0 k) := by
  blk_simp [iblk, idx1 t]
  entry_read
  pointwise
  blk_ext [idx1 t]

/-- The matrix. -/
theorem blk2 (c : Dev nD) (t : Fin cfg0.N) (k : Fin 1024) (e : Fin 2304) : iblk m c 2 t (ix2 k e)
    = m ((c.tc : Thread nD τ).loc main_arg2) (ix3 0 k e) := by
  blk_simp [iblk, idx2 t]
  entry_read
  pointwise
  blk_ext [idx2 t]

/-- The queries' gain, twice in a row. -/
theorem blk3 (c : Dev nD) (t : Fin cfg0.N) (l : Fin 128) : iblk m c 3 t (ix2 0 l)
    = m ((c.tc : Thread nD τ).loc main_arg3) (ix2 0 ⟨l.val % 64, by omega⟩) := by
  blk_simp [iblk, idx3 t]
  entry_read
  pointwise
  blk_ext [idx3 t]

/-- The keys' gain, twice in a row. -/
theorem blk4 (c : Dev nD) (t : Fin cfg0.N) (l : Fin 128) : iblk m c 4 t (ix2 0 l)
    = m ((c.tc : Thread nD τ).loc main_arg4) (ix2 0 ⟨l.val % 64, by omega⟩) := by
  blk_simp [iblk, idx4 t]
  entry_read
  pointwise
  blk_ext [idx4 t]

/-- The bits that pick a head's lanes. -/
theorem ones_bits : ∀ (a : Fin 256) (l : Fin 128), IntOp.cmpi CmpIPredicate.eq
        (IntOp.shrsi ArithUnit.host (IntOp.andi (BitVec.ofNat 32 a.val) 127#32) 6#32)
        (IntOp.shrsi ArithUnit.host (BitVec.ofNat 32 l.val) 6#32) = if a.val % 128 / 64 = l.val / 64 then 1#1 else 0#1 := by
  decide +kernel

/-- The matrix that sums each head's lanes, entry by entry. -/
theorem ones_apply (a : Fin 256) (l : Fin 128) : (FloatOps.uitofp (F := Ideal) FTy.bf16 (IntOp.cmpi CmpIPredicate.eq
        (IntOp.shrsi ArithUnit.host (IntOp.andi (BitVec.ofNat 32 a.val) 127#32) 6#32)
        (IntOp.shrsi ArithUnit.host (BitVec.ofNat 32 l.val) 6#32)) : EReal) = if a.val % 128 / 64 = l.val / 64 then 1 else 0 := by
  rw [ones_bits]
  split
  · show (((1#1 : BitVec 1).toNat : ℝ) : EReal) = 1
    norm_num
  · show (((0#1 : BitVec 1).toNat : ℝ) : EReal) = 0
    norm_num

/-- The matrix that sums each head's lanes. -/
theorem blk7 (c : Dev nD) (t : Fin cfg0.N) (a : Fin 256) (l : Fin 128) : iblk m c 7 t (ix2 a l)
    = if a.val % 128 / 64 = l.val / 64 then (1 : EReal) else 0 := by
  blk_simp [iblk, idx7 t]
  entry_read
  pointwise
  have h0 : (((View.whole main_v62).slice (win0_7.rect t)).emb (ix2 a l) 0).val = a.val := by
    blk_simp [idx7 t]
    try rfl
  have h1 : (((View.whole main_v62).slice (win0_7.rect t)).emb (ix2 a l) 1).val = l.val := by
    blk_simp [idx7 t]
    try rfl
  rw [h0, h1]
  exact ones_apply a l

end Cert.KernelProjIdeal.Arr
end
-- ==== Proof.ProjTables.lean ====
/- The tables of the rotation, as the host leaves them: the cosine and the signed sine of every token's angles. -/
module
public import proofs.«01_k».proof.Proof.Gen.KernelProjIdeal.Value
public import proofs.«01_k».proof.Proof.ProjRow
public import Idealize.ShloMosaic.Lib.Pointwise
public import Idealize.ShloMosaic.Lib.Pipeline.ValueKit
public import Idealize.ShloMosaic.Lib.Claim
@[expose] public section
set_option maxRecDepth 16384

noncomputable section
namespace Cert.KernelProjIdeal.Arr
open Cert.KernelProjIdeal Cert.KernelProjIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- What holds after two lists of operations is what the second leaves of what the first left. -/
theorem after_two (A B : List (HloOp τ sig (Elt Ideal))) (σ : (b : DevRef τ sig) → b.ty.Contents (Elt Ideal)) :
    StableHlo.after (A ++ B) σ = StableHlo.after B (StableHlo.after A σ) := by
  induction A generalizing σ with
  | nil => rfl
  | cons a A ih => exact ih _

/-- What the host's first 39 operations leave, and what the rest leaves of it. -/
def half (c : Dev nD) : (b : DevRef τ sig) → b.ty.Contents (Elt Ideal) := StableHlo.after (hostOps0.take 39) (fun b => m (c, b))
theorem V_half (c : Dev nD) (b : Ref sig .tc) : V m c b = StableHlo.after (hostOps0.drop 39) (half m c) b := by
  unfold half
  rw [← after_two, List.take_append_drop]

/-- The angles by the row. -/
theorem row_angles (c : Dev nD) (s : Fin 2048) (f : Fin 16) : half m c main_v31 (ix2 s f)
    = FloatOps.sitofp (F := Ideal) FTy.f32 (BitVec.ofNat 32 (s.val / 64)) * ProjRow.freq f.val := by
  unfold half
  simp only [hostOps0, List.take_succ_cons, List.take_zero]
  entry_read
  pointwise
  rfl

/-- The angles by the column. -/
theorem col_angles (c : Dev nD) (s : Fin 2048) (f : Fin 16) : half m c main_v36 (ix2 s f)
    = FloatOps.sitofp (F := Ideal) FTy.f32 (BitVec.ofNat 32 (s.val % 64)) * ProjRow.freq f.val := by
  unfold half
  simp only [hostOps0, List.take_succ_cons, List.take_zero]
  entry_read
  pointwise
  rfl

/-- A table of 64 lanes laid out twice in a row. -/
theorem twice_apply (T : FVec Ideal S2048x64 .f32) (s : Fin 2048) (l : Fin 128) :
    shapeCast S2048x128 (broadcastInDim S1x2048x2x64 ![0, 1, 2, 3] bcast_S1x2048x1x64_S1x2048x2x64_0_1_2_3
      (shapeCast S1x2048x1x64 T shapeCasts_S2048x64_S1x2048x1x64)) shapeCasts_S1x2048x2x64_S2048x128 (ix2 s l) = T (ix2 s ⟨l.val % 64, by omega⟩) := by
  pointwise

/-- A list of operations may be cut anywhere. -/
theorem after_cut (l : List (HloOp τ sig (Elt Ideal))) (n k n' : ℕ) (h : n + k = n') (σ : (b : DevRef τ sig) → b.ty.Contents (Elt Ideal)) :
    StableHlo.after (l.drop n) σ = StableHlo.after (l.drop n') (StableHlo.after ((l.drop n).take k) σ) := by
  subst h
  rw [← after_two, ← List.drop_drop, List.take_append_drop]

/-- Four tables of sixteen lanes side by side. -/
def quarter (a b c e : FVec Ideal S2048x16 .f32) (s : Fin 2048) (d : Fin 64) : EReal :=
  if h1 : d.val < 16 then a (ix2 s ⟨d.val, h1⟩)
  else if h2 : d.val - 16 < 16 then b (ix2 s ⟨d.val - 16, h2⟩)
  else if h3 : d.val - 16 - 16 < 16 then c (ix2 s ⟨d.val - 16 - 16, h3⟩)
  else e (ix2 s ⟨d.val - 16 - 16 - 16, by omega⟩)

section
variable (σ : (b : DevRef τ sig) → b.ty.Contents (Elt Ideal))
/-- The cosines of the angles; the angles stay. -/
theorem cos_row (s : Fin 2048) (f : Fin 16) : StableHlo.after ((hostOps0.drop 39).take 2) σ main_v37 (ix2 s f) = Ideal.cos (σ main_v31 (ix2 s f)) := by
  simp only [hostOps0, List.drop_succ_cons, List.drop_zero, List.take_succ_cons, List.take_zero]
  entry_read
  pointwise

theorem cos_col (s : Fin 2048) (f : Fin 16) : StableHlo.after ((hostOps0.drop 39).take 2) σ main_v38 (ix2 s f) = Ideal.cos (σ main_v36 (ix2 s f)) := by
  simp only [hostOps0, List.drop_succ_cons, List.drop_zero, List.take_succ_cons, List.take_zero]
  entry_read
  pointwise

theorem keep_row1  : StableHlo.after ((hostOps0.drop 39).take 2) σ main_v31  = σ main_v31 := by
  simp only [hostOps0, List.drop_succ_cons, List.drop_zero, List.take_succ_cons, List.take_zero]
  entry_read
  rfl

theorem keep_col1  : StableHlo.after ((hostOps0.drop 39).take 2) σ main_v36  = σ main_v36 := by
  simp only [hostOps0, List.drop_succ_cons, List.drop_zero, List.take_succ_cons, List.take_zero]
  entry_read
  rfl

/-- The table of cosines; the angles stay. -/
theorem cos_table (s : Fin 2048) (d : Fin 64) : StableHlo.after ((hostOps0.drop 41).take 1) σ main_v39 (ix2 s d) = quarter (σ main_v37) (σ main_v37) (σ main_v38) (σ main_v38) s d := by
  simp only [hostOps0, List.drop_succ_cons, List.drop_zero, List.take_succ_cons, List.take_zero]
  entry_read
  pointwise
  rfl

theorem keep_row2  : StableHlo.after ((hostOps0.drop 41).take 1) σ main_v31  = σ main_v31 := by
  simp only [hostOps0, List.drop_succ_cons, List.drop_zero, List.take_succ_cons, List.take_zero]
  entry_read
  rfl

theorem keep_col2  : StableHlo.after ((hostOps0.drop 41).take 1) σ main_v36  = σ main_v36 := by
  simp only [hostOps0, List.drop_succ_cons, List.drop_zero, List.take_succ_cons, List.take_zero]
  entry_read
  rfl

/-- The sines of the angles, as they stand and negated; the cosines stay. -/
theorem neg_row (s : Fin 2048) (f : Fin 16) : StableHlo.after ((hostOps0.drop 42).take 6) σ main_v41 (ix2 s f) = -Ideal.sin (σ main_v31 (ix2 s f)) := by
  simp only [hostOps0, List.drop_succ_cons, List.drop_zero, List.take_succ_cons, List.take_zero]
  entry_read
  pointwise

theorem sin_row (s : Fin 2048) (f : Fin 16) : StableHlo.after ((hostOps0.drop 42).take 6) σ main_v42 (ix2 s f) = Ideal.sin (σ main_v31 (ix2 s f)) := by
  simp only [hostOps0, List.drop_succ_cons, List.drop_zero, List.take_succ_cons, List.take_zero]
  entry_read
  pointwise

theorem neg_col (s : Fin 2048) (f : Fin 16) : StableHlo.after ((hostOps0.drop 42).take 6) σ main_v44 (ix2 s f) = -Ideal.sin (σ main_v36 (ix2 s f)) := by
  simp only [hostOps0, List.drop_succ_cons, List.drop_zero, List.take_succ_cons, List.take_zero]
  entry_read
  pointwise

theorem sin_col (s : Fin 2048) (f : Fin 16) : StableHlo.after ((hostOps0.drop 42).take 6) σ main_v45 (ix2 s f) = Ideal.sin (σ main_v36 (ix2 s f)) := by
  simp only [hostOps0, List.drop_succ_cons, List.drop_zero, List.take_succ_cons, List.take_zero]
  entry_read
  pointwise

theorem keep_cos1  : StableHlo.after ((hostOps0.drop 42).take 6) σ main_v39  = σ main_v39 := by
  simp only [hostOps0, List.drop_succ_cons, List.drop_zero, List.take_succ_cons, List.take_zero]
  entry_read
  rfl

/-- The table of signed sines; the cosines stay. -/
theorem sin_table (s : Fin 2048) (d : Fin 64) : StableHlo.after ((hostOps0.drop 48).take 1) σ main_v46 (ix2 s d) = quarter (σ main_v41) (σ main_v42) (σ main_v44) (σ main_v45) s d := by
  simp only [hostOps0, List.drop_succ_cons, List.drop_zero, List.take_succ_cons, List.take_zero]
  entry_read
  pointwise
  rfl

theorem keep_cos2  : StableHlo.after ((hostOps0.drop 48).take 1) σ main_v39  = σ main_v39 := by
  simp only [hostOps0, List.drop_succ_cons, List.drop_zero, List.take_succ_cons, List.take_zero]
  entry_read
  rfl

/-- The tables as they are handed over, each row twice. -/
theorem cos_twice (s : Fin 2048) (l : Fin 128) : StableHlo.after ((hostOps0.drop 49).take 6) σ main_v49 (ix2 s l) = σ main_v39 (ix2 s ⟨l.val % 64, by omega⟩) := by
  simp only [hostOps0, List.drop_succ_cons, List.drop_zero, List.take_succ_cons, List.take_zero]
  entry_read
  exact twice_apply _ s l

theorem sin_twice (s : Fin 2048) (l : Fin 128) : StableHlo.after ((hostOps0.drop 49).take 6) σ main_v52 (ix2 s l) = σ main_v46 (ix2 s ⟨l.val % 64, by omega⟩) := by
  simp only [hostOps0, List.drop_succ_cons, List.drop_zero, List.take_succ_cons, List.take_zero]
  entry_read
  exact twice_apply _ s l

theorem keep_cos3  : StableHlo.after (hostOps0.drop 55) σ main_v49  = σ main_v49 := by
  simp only [hostOps0, List.drop_succ_cons, List.drop_zero, List.take_succ_cons, List.take_zero]
  entry_read
  rfl

theorem keep_sin3  : StableHlo.after (hostOps0.drop 55) σ main_v52  = σ main_v52 := by
  simp only [hostOps0, List.drop_succ_cons, List.drop_zero, List.take_succ_cons, List.take_zero]
  entry_read
  rfl

end

/-- The cosines as the call takes them. -/
theorem cosines (c : Dev nD) (s : Fin 2048) (l : Fin 128) : V m c main_v49 (ix2 s l)
    = Ideal.cos (ProjRow.angle s ⟨l.val % 64, by omega⟩) := by
  rw [V_half, after_cut _ 39 2 41 rfl, after_cut _ 41 1 42 rfl, after_cut _ 42 6 48 rfl, after_cut _ 48 1 49 rfl, after_cut _ 49 6 55 rfl, keep_cos3, cos_twice, keep_cos2, keep_cos1, cos_table]
  unfold quarter ProjRow.angle
  by_cases h1 : l.val % 64 < 16
  · simp only [dif_pos h1, if_pos (show l.val % 64 < 32 by omega), if_pos (show l.val % 32 < 16 by omega), show l.val % 64 % 16 = l.val % 64 by omega]
    exact (cos_row _ s _).trans (congrArg Ideal.cos (row_angles m c s _))
  by_cases h2 : l.val % 64 - 16 < 16
  · simp only [dif_neg h1, dif_pos h2, if_pos (show l.val % 64 < 32 by omega), if_neg (show ¬ l.val % 32 < 16 by omega), show l.val % 64 % 16 = l.val % 64 - 16 by omega]
    exact (cos_row _ s _).trans (congrArg Ideal.cos (row_angles m c s _))
  by_cases h3 : l.val % 64 - 16 - 16 < 16
  · simp only [dif_neg h1, dif_neg h2, dif_pos h3, if_neg (show ¬ l.val % 64 < 32 by omega), if_pos (show l.val % 32 < 16 by omega), show l.val % 64 % 16 = l.val % 64 - 16 - 16 by omega]
    exact (cos_col _ s _).trans (congrArg Ideal.cos (col_angles m c s _))
  · simp only [dif_neg h1, dif_neg h2, dif_neg h3, if_neg (show ¬ l.val % 64 < 32 by omega), if_neg (show ¬ l.val % 32 < 16 by omega), show l.val % 64 % 16 = l.val % 64 - 16 - 16 - 16 by omega]
    exact (cos_col _ s _).trans (congrArg Ideal.cos (col_angles m c s _))

/-- The signed sines as the call takes them. -/
theorem sines (c : Dev nD) (s : Fin 2048) (l : Fin 128) : V m c main_v52 (ix2 s l)
    = if l.val % 32 < 16 then -Ideal.sin (ProjRow.angle s ⟨l.val % 64, by omega⟩)
      else Ideal.sin (ProjRow.angle s ⟨l.val % 64, by omega⟩) := by
  rw [V_half, after_cut _ 39 2 41 rfl, after_cut _ 41 1 42 rfl, after_cut _ 42 6 48 rfl, after_cut _ 48 1 49 rfl, after_cut _ 49 6 55 rfl, keep_sin3, sin_twice, sin_table]
  unfold quarter ProjRow.angle
  by_cases h1 : l.val % 64 < 16
  · simp only [dif_pos h1, if_pos (show l.val % 64 < 32 by omega), if_pos (show l.val % 32 < 16 by omega), show l.val % 64 % 16 = l.val % 64 by omega]
    exact (neg_row _ s _).trans (congrArg (fun a => -Ideal.sin a) ((congrFun ((keep_row2 _).trans (keep_row1 _)) _).trans (row_angles m c s _)))
  by_cases h2 : l.val % 64 - 16 < 16
  · simp only [dif_neg h1, dif_pos h2, if_pos (show l.val % 64 < 32 by omega), if_neg (show ¬ l.val % 32 < 16 by omega), show l.val % 64 % 16 = l.val % 64 - 16 by omega]
    exact (sin_row _ s _).trans (congrArg Ideal.sin ((congrFun ((keep_row2 _).trans (keep_row1 _)) _).trans (row_angles m c s _)))
  by_cases h3 : l.val % 64 - 16 - 16 < 16
  · simp only [dif_neg h1, dif_neg h2, dif_pos h3, if_neg (show ¬ l.val % 64 < 32 by omega), if_pos (show l.val % 32 < 16 by omega), show l.val % 64 % 16 = l.val % 64 - 16 - 16 by omega]
    exact (neg_col _ s _).trans (congrArg (fun a => -Ideal.sin a) ((congrFun ((keep_col2 _).trans (keep_col1 _)) _).trans (col_angles m c s _)))
  · simp only [dif_neg h1, dif_neg h2, dif_neg h3, if_neg (show ¬ l.val % 64 < 32 by omega), if_neg (show ¬ l.val % 32 < 16 by omega), show l.val % 64 % 16 = l.val % 64 - 16 - 16 - 16 by omega]
    exact (sin_col _ s _).trans (congrArg Ideal.sin ((congrFun ((keep_col2 _).trans (keep_col1 _)) _).trans (col_angles m c s _)))

end Cert.KernelProjIdeal.Arr
end
-- ==== Proof.ProjTurns.lean ====
/- The tables of the rotation: what each grid point of the projection's call reads: point `t` works on tokens `t / 16 * 1024 ..` of sequence `t % 16`. -/
module
public import proofs.«01_k».proof.Proof.Gen.KernelProjIdeal.Value
public import proofs.«01_k».proof.Proof.ProjBlocks
public import proofs.«01_k».proof.Proof.ProjTables
public import Idealize.ShloMosaic.Lib.Pointwise
public import Idealize.ShloMosaic.Lib.Pipeline.ValueKit
public import Idealize.ShloMosaic.Lib.Claim
@[expose] public section
set_option maxRecDepth 16384

noncomputable section
namespace Cert.KernelProjIdeal.Arr
open Cert.KernelProjIdeal Cert.KernelProjIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The cosines of a point's tokens. -/
theorem blk5 (c : Dev nD) (t : Fin cfg0.N) (r : Fin 1024) (l : Fin 128) : iblk m c 5 t (ix2 r l)
    = Ideal.cos (ProjRow.angle (tok t r) ⟨l.val % 64, by omega⟩) := by
  refine Eq.trans ?_ (cosines m c (tok t r) l)
  unfold tok
  blk_ext [iblk, idx5 t]

/-- Their signed sines. -/
theorem blk6 (c : Dev nD) (t : Fin cfg0.N) (r : Fin 1024) (l : Fin 128) : iblk m c 6 t (ix2 r l)
    = if l.val % 32 < 16 then -Ideal.sin (ProjRow.angle (tok t r) ⟨l.val % 64, by omega⟩)
      else Ideal.sin (ProjRow.angle (tok t r) ⟨l.val % 64, by omega⟩) := by
  refine Eq.trans ?_ (sines m c (tok t r) l)
  unfold tok
  blk_ext [iblk, idx6 t]

end Cert.KernelProjIdeal.Arr
end
-- ==== Proof.ProjMath.lean ====
/- The kernel's norm and rotation of 128 lanes are, head by head, the plain ones. -/
module
public import proofs.«01_k».proof.Proof.ProjHeads
public import proofs.«01_k».proof.Proof.ProjRow
public import Idealize.ShloMosaic.Lib.Pointwise
public import Idealize.ShloMosaic.Lib.Pipeline.ValueKit
@[expose] public section
set_option maxRecDepth 16384
noncomputable section
namespace Cert.KernelProjIdeal.Out
open Cert.KernelProjIdeal Cert.KernelProjIdeal.Gen Idealize.ShloMosaic Idealize.ShloMosaic.TcCoe Idealize.SL.Sem

/-- The pattern of the number of lanes. -/
theorem lanes_eq : ProjRow.lanes = ((64 : ℝ) : EReal) := by
  unfold ProjRow.lanes
  simp only [Ideal.ofBits]
  unfold Ideal.ieee
  simp
  norm_num
  exact_mod_cast congrArg (fun x : ℝ => (x : EReal)) (by norm_num : (8388608 : ℝ) * (1 / 131072) = 64)

/-- The pattern the kernel multiplies by: one over the number of lanes. -/
theorem part_eq : (Ideal.ofBits FTy.f32 0x3C800000#32 : EReal) = (((64 : ℝ)⁻¹ : ℝ) : EReal) := by
  simp only [Ideal.ofBits]
  unfold Ideal.ieee
  simp
  norm_num
  exact_mod_cast congrArg (fun x : ℝ => (x : EReal)) (by norm_num : (8388608 : ℝ) * (1 / 536870912) = 1 / 64)

/-- To divide by the number of lanes is to multiply by one over it. -/
theorem div_lanes (x : EReal) : x * Ideal.ofBits FTy.f32 0x3C800000#32 = Ideal.div x ProjRow.lanes := by
  have h0 : ((64 : ℝ) : EReal) ≠ 0 := by exact_mod_cast (by norm_num : (64 : ℝ) ≠ 0)
  unfold Ideal.div
  rw [lanes_eq, if_neg h0, part_eq, EReal.coe_inv]

/-- A sum over the 128 lanes that only the head of lane `l` takes part in. -/
theorem sum_head (f : Fin 128 → EReal) (l : Fin 128) :
    ∑ k : Fin 128, f k * (if k.val / 64 = l.val / 64 then (1 : EReal) else 0)
      = ∑ d : Fin 64, f ⟨l.val / 64 * 64 + d.val, by omega⟩ := by
  have hs := Fin.sum_univ_add (a := 64) (b := 64) (fun k : Fin (64 + 64) => f k * (if k.val / 64 = l.val / 64 then (1 : EReal) else 0))
  refine hs.trans ?_
  by_cases hl : l.val / 64 = 0
  · have e2 : ∑ i : Fin 64, f (Fin.natAdd 64 i) * (if (Fin.natAdd 64 i : Fin (64 + 64)).val / 64 = l.val / 64 then (1 : EReal) else 0) = 0 := by
      refine Finset.sum_eq_zero fun i _ => ?_
      rw [if_neg (by rw [Fin.val_natAdd]; omega), mul_zero]
    rw [e2, add_zero]
    refine Finset.sum_congr rfl fun i _ => ?_
    rw [if_pos (by rw [Fin.val_castAdd]; omega), mul_one]
    refine congrArg f (Fin.ext ?_)
    rw [Fin.val_castAdd]
    show i.val = l.val / 64 * 64 + i.val
    omega
  · have e2 : ∑ i : Fin 64, f (Fin.castAdd 64 i) * (if (Fin.castAdd 64 i : Fin (64 + 64)).val / 64 = l.val / 64 then (1 : EReal) else 0) = 0 := by
      refine Finset.sum_eq_zero fun i _ => ?_
      rw [if_neg (by rw [Fin.val_castAdd]; omega), mul_zero]
    rw [e2, zero_add]
    refine Finset.sum_congr rfl fun i _ => ?_
    rw [if_pos (by rw [Fin.val_natAdd]; omega), mul_one]
    refine congrArg f (Fin.ext ?_)
    rw [Fin.val_natAdd]
    show 64 + i.val = l.val / 64 * 64 + i.val
    omega

/-- On real entries the kernel's norm of 128 lanes is each head's own norm. -/
theorem rowNorm_eq (h g : Fin 128 → EReal) (ones : Fin 256 → Fin 128 → EReal) (g0 : Fin 64 → EReal)
    (hr : ∀ l, ∃ r : ℝ, h l = r) (ho : ∀ a l, ones a l = if a.val % 128 / 64 = l.val / 64 then (1 : EReal) else 0)
    (hg : ∀ l, g l = g0 ⟨l.val % 64, by omega⟩) (l : Fin 128) :
    rowNorm h g ones l = ProjRow.headNorm (fun d => h ⟨l.val / 64 * 64 + d.val, by omega⟩) g0 ⟨l.val % 64, by omega⟩ := by
  have low : ∑ k : Fin 128, (h k * h k - h k * h k) * ones ⟨128 + k.val, by omega⟩ l = 0 := by
    refine Finset.sum_eq_zero fun k _ => ?_
    obtain ⟨r, e⟩ := hr k
    rw [e, ← EReal.coe_mul, ← EReal.coe_sub, sub_self, EReal.coe_zero, zero_mul]
  have high : ∑ k : Fin 128, h k * h k * ones ⟨k.val, by omega⟩ l = ∑ d : Fin 64, h ⟨l.val / 64 * 64 + d.val, by omega⟩ * h ⟨l.val / 64 * 64 + d.val, by omega⟩ := by
    refine Eq.trans (Finset.sum_congr rfl fun k _ => ?_) (sum_head (fun k => h k * h k) l)
    rw [ho]
    simp only [show k.val % 128 / 64 = k.val / 64 by omega]
  unfold rowNorm ProjRow.headNorm
  rw [low, high, add_zero, div_lanes, hg]
  have hl : (⟨l.val / 64 * 64 + l.val % 64, by omega⟩ : Fin 128) = l := Fin.ext (by show l.val / 64 * 64 + l.val % 64 = l.val; omega)
  rw [show (fun d : Fin 64 => h ⟨l.val / 64 * 64 + d.val, by omega⟩) ⟨l.val % 64, by omega⟩ = h l from congrArg h hl]
  rfl

/-- The kernel's rotation of 128 lanes is each head's own rotation. -/
theorem rowTurn_eq (n cos sin : Fin 128 → EReal) (s : Fin 2048) (n0 : Fin 2 → Fin 64 → EReal)
    (hn : ∀ l, n l = n0 ⟨l.val / 64, by omega⟩ ⟨l.val % 64, by omega⟩)
    (hc : ∀ l, cos l = Ideal.cos (ProjRow.angle s ⟨l.val % 64, by omega⟩))
    (hs : ∀ l, sin l = if l.val % 32 < 16 then -Ideal.sin (ProjRow.angle s ⟨l.val % 64, by omega⟩) else Ideal.sin (ProjRow.angle s ⟨l.val % 64, by omega⟩))
    (l : Fin 128) :
    rowTurn n cos sin l = ProjRow.rope (n0 ⟨l.val / 64, by omega⟩) s ⟨l.val % 64, by omega⟩ := by
  unfold rowTurn ProjRow.rope
  by_cases h : l.val % 32 < 16
  · rw [hs, hc, if_pos h, if_pos h, if_pos (show l.val % 64 % 32 < 16 by omega), hn l, hn ⟨(l.val + 16) % 128, by omega⟩, mul_neg, ← sub_eq_add_neg]
    simp only [show (l.val + 16) % 128 / 64 = l.val / 64 by omega, show (l.val + 16) % 128 % 64 = (l.val % 64 + 16) % 64 by omega]
  · rw [hs, hc, if_neg h, if_neg h, if_neg (show ¬ l.val % 64 % 32 < 16 by omega), hn l, hn ⟨(l.val + 112) % 128, by omega⟩]
    simp only [show (l.val + 112) % 128 / 64 = l.val / 64 by omega, show (l.val + 112) % 128 % 64 = (l.val % 64 + 48) % 64 by omega]

/-- A piece of the matrix, read from its own column on. -/
theorem ld_col {n off : ℕ} (x2 : FVec Ideal S1024x2304 .bf16) (inb) (k : Fin 1024) (f : Fin n) (e : Fin 2304) (he : e.val = off + f.val) :
    View.ld (Val := Elt Ideal) (e' := .bf16) x2 (Rect.unit (s := S1024x2304) ![0, off] ![1024, n] inb) (ix2 k f) = x2 (ix2 k e) := by
  refine congrArg x2 (funext fun a => Fin.ext ?_)
  fin_cases a
  · show 0 + 1 * k.val = k.val
    omega
  · show off + 1 * f.val = e.val
    omega

section
variable (X : ProjRow.X) (G : ProjRow.G) (W : ProjRow.W) (b : Fin 16) (s : Fin 2048)
  (x0 : FVec Ideal S1x1024x1024 .f32) (x1 : FVec Ideal S1x1024 .f32) (x2 : FVec Ideal S1024x2304 .bf16) (r : Fin 1024)
  (h0 : ∀ k : Fin 1024, x0 (ix3 0 r k) = X (ix3 b s k)) (h1 : ∀ k : Fin 1024, x1 (ix2 0 k) = G (ix2 0 k))
  (h2 : ∀ (k : Fin 1024) (e : Fin 2304), x2 (ix2 k e) = W (ix3 0 k e))

/-- A point's normed tokens. -/
theorem normed_in (k : Fin 1024) : (k0_pay2 (F := Ideal) x0 x1 (ix2 r k) : EReal) = MlpRow.rms (fun k => x0 (ix3 0 r k)) (fun k => x1 (ix2 0 k)) k := by
  pointwise [k0_pay2]
  rfl

include h0 h1 in
/-- The same, of the arrays. -/
theorem normed_eq (k : Fin 1024) : (k0_pay2 (F := Ideal) x0 x1 (ix2 r k) : EReal) = MlpRow.rms (fun k => X (ix3 b s k)) (fun k => G (ix2 0 k)) k := by
  rw [normed_in]
  simp only [h0, h1]

/-- The sums a projection's piece takes. -/
theorem queries_sum (v : FVec Ideal S1024x1024 .bf16) (w : FVec Ideal S1024x512 .bf16) (f : Fin 512) :
    k0_pay10 v w (ix2 r f) = ∑ k : Fin 1024, v (ix2 r k) * w (ix2 k f) := by pointwise [k0_pay10]
theorem queryB_sum (v : FVec Ideal S1024x1024 .bf16) (w : FVec Ideal S1024x512 .bf16) (f : Fin 512) :
    k0_pay11 v w (ix2 r f) = (∑ k : Fin 1024, v (ix2 r k) * w (ix2 k f)) * ProjRow.scale := by
  have hs : (Named.named (F := Ideal) (φ := .f32) κ "qscale" 1043900987#32 : EReal) = ProjRow.scale :=
    IdealRules.named_const.ideal_named_scalar _ _ _ _ rfl
  rw [← hs]
  pointwise [k0_pay11]
theorem keys_sum (v : FVec Ideal S1024x1024 .bf16) (w : FVec Ideal S1024x128 .bf16) (f : Fin 128) :
    k0_pay25 v w (ix2 r f) = ∑ k : Fin 1024, v (ix2 r k) * w (ix2 k f) := by pointwise [k0_pay25]
theorem values_sum (v : FVec Ideal S1024x1024 .bf16) (w : FVec Ideal S1024x128 .bf16) (f : Fin 128) :
    k0_pay26 v w (ix2 r f) = ∑ k : Fin 1024, v (ix2 r k) * w (ix2 k f) := by pointwise [k0_pay26]
theorem keyB_sum (v : FVec Ideal S1024x1024 .bf16) (w : FVec Ideal S1024x512 .bf16) (f : Fin 512) :
    k0_pay27 v w (ix2 r f) = ∑ k : Fin 1024, v (ix2 r k) * w (ix2 k f) := by pointwise [k0_pay27]
theorem valueB_sum (v : FVec Ideal S1024x1024 .bf16) (w : FVec Ideal S1024x512 .bf16) (f : Fin 512) :
    k0_pay167 v w (ix2 r f) = ∑ k : Fin 1024, v (ix2 r k) * w (ix2 k f) := by pointwise [k0_pay167]

include h0 h1 h2 in
/-- A piece of the projection. -/
theorem piece_eq {n : ℕ} (w : Vec Ideal ⟨2, ![1024, n]⟩ .bf16) (f : Fin n) (e : Fin 2304)
    (hw : ∀ k : Fin 1024, w (ix2 k f) = x2 (ix2 k e)) :
    ∑ k : Fin 1024, (k0_pay2 (F := Ideal) x0 x1 (ix2 r k) : EReal) * w (ix2 k f) = ProjRow.proj X G W b s e := by
  unfold ProjRow.proj
  refine Finset.sum_congr rfl fun k _ => ?_
  rw [normed_eq X G b s x0 x1 r h0 h1, hw, h2]

include h0 h1 h2 in
/-- The queries' piece of the projection. -/
theorem queries_piece (f : Fin 512) : (k0_pay10 (F := Ideal) (k0_pay2 x0 x1) (View.ld x2 (Rect.unit (s := S1024x2304) ![0, 0] S1024x512.size inb_S1024x2304_S1024x512_0_0)) (ix2 r f) : EReal)
    = ProjRow.proj X G W b s ⟨f.val, by omega⟩ := by
  rw [queries_sum]
  exact piece_eq X G W b s x0 x1 x2 r h0 h1 h2 _ f _ fun k => ld_col x2 _ k f _ (by simp)

include h0 h1 h2 in
/-- The keys' piece. -/
theorem keys_piece (f : Fin 128) : (k0_pay25 (F := Ideal) (k0_pay2 x0 x1) (View.ld x2 (Rect.unit (s := S1024x2304) ![0, 512] S1024x128.size inb_S1024x2304_S1024x128_0_512)) (ix2 r f) : EReal)
    = ProjRow.proj X G W b s ⟨512 + f.val, by omega⟩ := by
  rw [keys_sum]
  exact piece_eq X G W b s x0 x1 x2 r h0 h1 h2 _ f _ fun k => ld_col x2 _ k f _ (by simp)

include h0 h1 h2 in
/-- The values' piece. -/
theorem values_piece (f : Fin 128) : (k0_pay26 (F := Ideal) (k0_pay2 x0 x1) (View.ld x2 (Rect.unit (s := S1024x2304) ![0, 640] S1024x128.size inb_S1024x2304_S1024x128_0_640)) (ix2 r f) : EReal)
    = ProjRow.proj X G W b s ⟨640 + f.val, by omega⟩ := by
  rw [values_sum]
  exact piece_eq X G W b s x0 x1 x2 r h0 h1 h2 _ f _ fun k => ld_col x2 _ k f _ (by simp)

include h0 h1 h2 in
/-- The dilated mixer's queries, scaled. -/
theorem queryB_piece (f : Fin 512) : (k0_pay11 (F := Ideal) (k0_pay2 x0 x1) (View.ld x2 (Rect.unit (s := S1024x2304) ![0, 768] S1024x512.size inb_S1024x2304_S1024x512_0_768)) (ix2 r f) : EReal)
    = ProjRow.proj X G W b s ⟨768 + f.val, by omega⟩ * ProjRow.scale := by
  rw [queryB_sum]
  refine congrArg (· * ProjRow.scale) ?_
  exact piece_eq X G W b s x0 x1 x2 r h0 h1 h2 _ f _ fun k => ld_col x2 _ k f _ (by simp)

include h0 h1 h2 in
/-- The dilated mixer's keys. -/
theorem keyB_piece (f : Fin 512) : (k0_pay27 (F := Ideal) (k0_pay2 x0 x1) (View.ld x2 (Rect.unit (s := S1024x2304) ![0, 1280] S1024x512.size inb_S1024x2304_S1024x512_0_1280)) (ix2 r f) : EReal)
    = ProjRow.proj X G W b s ⟨1280 + f.val, by omega⟩ := by
  rw [keyB_sum]
  exact piece_eq X G W b s x0 x1 x2 r h0 h1 h2 _ f _ fun k => ld_col x2 _ k f _ (by simp)

include h0 h1 h2 in
/-- The dilated mixer's values. -/
theorem valueB_piece (f : Fin 512) : (k0_pay167 (F := Ideal) (k0_pay2 x0 x1) (View.ld x2 (Rect.unit (s := S1024x2304) ![0, 1792] S1024x512.size inb_S1024x2304_S1024x512_0_1792)) (ix2 r f) : EReal)
    = ProjRow.proj X G W b s ⟨1792 + f.val, by omega⟩ := by
  rw [valueB_sum]
  exact piece_eq X G W b s x0 x1 x2 r h0 h1 h2 _ f _ fun k => ld_col x2 _ k f _ (by simp)

end
end Cert.KernelProjIdeal.Out
end
-- ==== Proof.ProjPoint.lean ====
/- What a grid point's blocks hold, from what it reads: row `r` of the point is one token `s` of one sequence `b`. -/
module
public import proofs.«01_k».proof.Proof.ProjMath
public import proofs.«01_k».proof.Proof.ProjReads
public import proofs.«01_k».proof.Proof.ProjOut10
public import Idealize.ShloMosaic.Lib.Pointwise
@[expose] public section
set_option maxRecDepth 16384
noncomputable section
namespace Cert.KernelProjIdeal.Out
open Cert.KernelProjIdeal Cert.KernelProjIdeal.Gen Idealize.ShloMosaic Idealize.ShloMosaic.TcCoe Idealize.SL.Sem

/-- The tables and gains are taken as they are. -/
theorem cos_kept (x : FVec Ideal S1024x128 .f32) (r : Fin 1024) (l : Fin 128) : k0_pay3 x (ix2 r l) = x (ix2 r l) := by pointwise [k0_pay3]
theorem sin_kept (x : FVec Ideal S1024x128 .f32) (r : Fin 1024) (l : Fin 128) : k0_pay4 x (ix2 r l) = x (ix2 r l) := by pointwise [k0_pay4]
theorem ones_kept (x : FVec Ideal S256x128 .bf16) (a : Fin 256) (l : Fin 128) : k0_pay5 x (ix2 a l) = x (ix2 a l) := by pointwise [k0_pay5]
theorem gain_kept (x : FVec Ideal S1x128 .f32) (l : Fin 128) : k0_pay17 x (ix2 0 l) = x (ix2 0 l) := by pointwise [k0_pay17]

section
variable (X : ProjRow.X) (G : ProjRow.G) (W : ProjRow.W) (N : ProjRow.N) (b : Fin 16) (s : Fin 2048)
  (x0 : FVec Ideal S1x1024x1024 .f32) (x1 : FVec Ideal S1x1024 .f32) (x2 : FVec Ideal S1024x2304 .bf16) (x3 : FVec Ideal S1x128 .f32)
  (x5 x6 : FVec Ideal S1024x128 .f32) (x7 : FVec Ideal S256x128 .bf16) (r : Fin 1024)

/-- A query lane is the plain query's. -/
theorem queriesOf_eq
  (hreal : ∀ e : Fin 640, ∃ v : ℝ, ProjRow.proj X G W b s ⟨e.val, by omega⟩ = v)
  (h0 : ∀ k : Fin 1024, x0 (ix3 0 r k) = X (ix3 b s k)) (h1 : ∀ k : Fin 1024, x1 (ix2 0 k) = G (ix2 0 k))
  (h2 : ∀ (k : Fin 1024) (e : Fin 2304), x2 (ix2 k e) = W (ix3 0 k e))
  (h3 : ∀ l : Fin 128, x3 (ix2 0 l) = N (ix2 0 ⟨l.val % 64, by omega⟩))
  (h5 : ∀ l : Fin 128, x5 (ix2 r l) = Ideal.cos (ProjRow.angle s ⟨l.val % 64, by omega⟩))
  (h6 : ∀ l : Fin 128, x6 (ix2 r l) = if l.val % 32 < 16 then -Ideal.sin (ProjRow.angle s ⟨l.val % 64, by omega⟩)
      else Ideal.sin (ProjRow.angle s ⟨l.val % 64, by omega⟩))
  (h7 : ∀ (a : Fin 256) (l : Fin 128), x7 (ix2 a l) = if a.val % 128 / 64 = l.val / 64 then (1 : EReal) else 0) (l : Fin 512) :
    queriesOf (k0_pay3 x5) (k0_pay4 x6) (k0_pay5 x7) (k0_pay17 x3) (k0_pay10 (k0_pay2 x0 x1) (View.ld x2 (Rect.unit (s := S1024x2304) ![0, 0] S1024x512.size inb_S1024x2304_S1024x512_0_0))) (ix3 0 l r)
      = ProjRow.query X G W N b s ⟨l.val / 64, by omega⟩ ⟨l.val % 64, by omega⟩ := by
  have hp := fun f => queries_piece X G W b s x0 x1 x2 r h0 h1 h2 f
  refine (rowTurn_eq _ _ _ s (fun hd => ProjRow.headNorm (fun d => ProjRow.proj X G W b s ⟨l.val / 128 * 128 + (hd.val * 64 + d.val), by omega⟩) (fun d => N (ix2 0 d)))
    (fun j => ?_) (fun j => (cos_kept x5 r j).trans (h5 j)) (fun j => (sin_kept x6 r j).trans (h6 j)) ⟨l.val % 128, by omega⟩).trans ?_
  · refine (rowNorm_eq _ _ _ (fun d => N (ix2 0 d)) (fun j => ?_) (fun a j => (ones_kept x7 a j).trans (h7 a j)) (fun j => (gain_kept x3 j).trans (h3 j)) j).trans ?_
    · obtain ⟨v, hv⟩ := hreal ⟨l.val / 128 * 128 + j.val, by omega⟩
      exact ⟨v, (hp ⟨l.val / 128 * 128 + j.val, by omega⟩).trans hv⟩
    · refine congrArg (fun q => ProjRow.headNorm q _ _) (funext fun d => ?_)
      exact hp ⟨l.val / 128 * 128 + (j.val / 64 * 64 + d.val), by omega⟩
  · unfold ProjRow.query
    simp only [show l.val / 128 * 128 + (l.val % 128 / 64 * 64 + _) = _ from rfl, show l.val % 128 % 64 = l.val % 64 by omega]
    refine congrArg (fun q => ProjRow.rope (ProjRow.headNorm q _) _ _) (funext fun d => congrArg _ (Fin.ext ?_))
    show l.val / 128 * 128 + (l.val % 128 / 64 * 64 + d.val) = l.val / 64 * 64 + d.val
    omega

/-- A key lane is the plain key's. -/
theorem keysOf_eq
  (hreal : ∀ e : Fin 640, ∃ v : ℝ, ProjRow.proj X G W b s ⟨e.val, by omega⟩ = v)
  (h0 : ∀ k : Fin 1024, x0 (ix3 0 r k) = X (ix3 b s k)) (h1 : ∀ k : Fin 1024, x1 (ix2 0 k) = G (ix2 0 k))
  (h2 : ∀ (k : Fin 1024) (e : Fin 2304), x2 (ix2 k e) = W (ix3 0 k e))
  (h3 : ∀ l : Fin 128, x3 (ix2 0 l) = N (ix2 0 ⟨l.val % 64, by omega⟩))
  (h5 : ∀ l : Fin 128, x5 (ix2 r l) = Ideal.cos (ProjRow.angle s ⟨l.val % 64, by omega⟩))
  (h6 : ∀ l : Fin 128, x6 (ix2 r l) = if l.val % 32 < 16 then -Ideal.sin (ProjRow.angle s ⟨l.val % 64, by omega⟩)
      else Ideal.sin (ProjRow.angle s ⟨l.val % 64, by omega⟩))
  (h7 : ∀ (a : Fin 256) (l : Fin 128), x7 (ix2 a l) = if a.val % 128 / 64 = l.val / 64 then (1 : EReal) else 0) (l : Fin 256) :
    keysOf (k0_pay3 x5) (k0_pay4 x6) (k0_pay5 x7) x3 (k0_pay25 (k0_pay2 x0 x1) (View.ld x2 (Rect.unit (s := S1024x2304) ![0, 512] S1024x128.size inb_S1024x2304_S1024x128_0_512))) (ix3 0 r l)
      = ProjRow.key X G W N b s ⟨l.val / 128, by omega⟩ ⟨l.val % 64, by omega⟩ := by
  have hp := fun f => keys_piece X G W b s x0 x1 x2 r h0 h1 h2 f
  refine (rowTurn_eq _ _ _ s (fun hd => ProjRow.headNorm (fun d => ProjRow.proj X G W b s ⟨512 + (hd.val * 64 + d.val), by omega⟩) (fun d => N (ix2 0 d)))
    (fun j => ?_) (fun j => (cos_kept x5 r j).trans (h5 j)) (fun j => (sin_kept x6 r j).trans (h6 j)) ⟨l.val / 128 * 64 + l.val % 64, by omega⟩).trans ?_
  · refine (rowNorm_eq _ _ _ (fun d => N (ix2 0 d)) (fun j => ?_) (fun a j => (ones_kept x7 a j).trans (h7 a j)) h3 j).trans ?_
    · obtain ⟨v, hv⟩ := hreal ⟨512 + j.val, by omega⟩
      exact ⟨v, (hp j).trans hv⟩
    · refine congrArg (fun q => ProjRow.headNorm q _ _) (funext fun d => ?_)
      exact hp ⟨j.val / 64 * 64 + d.val, by omega⟩
  · unfold ProjRow.key
    simp only [show (l.val / 128 * 64 + l.val % 64) / 64 = l.val / 128 by omega, show (l.val / 128 * 64 + l.val % 64) % 64 = l.val % 64 by omega]

end
end Cert.KernelProjIdeal.Out
end
-- ==== Proof.ProjFinalA.lean ====
/- What the axial mixer's three arrays hold after the run. -/
module
public import proofs.«01_k».proof.Proof.ProjOut8
public import proofs.«01_k».proof.Proof.ProjOut9
public import proofs.«01_k».proof.Proof.ProjOut10
public import proofs.«01_k».proof.Proof.ProjTurns
public import proofs.«01_k».proof.Proof.ProjPoint
public import Idealize.ShloMosaic.Lib.Pipeline.ValueKit
public import Idealize.ShloMosaic.Lib.Claim
@[expose] public section
set_option maxRecDepth 16384
noncomputable section
namespace Cert.KernelProjIdeal.Arr
open Cert.KernelProjIdeal Cert.KernelProjIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The axial mixer's queries, index by index. -/
def G8 (c : Dev nD) : Buf (Elt Ideal) ((c.tc : Thread nD τ).loc main_v63_0) := fun i => ProjRow.queries (m ((c.tc : Thread nD τ).loc main_arg0)) (m ((c.tc : Thread nD τ).loc main_arg1)) (m ((c.tc : Thread nD τ).loc main_arg2)) (m ((c.tc : Thread nD τ).loc main_arg3)) i
theorem idx8 : ∀ t : Fin grid0.N, win0_8.index t = ![t.val % 16, 0, t.val / 16] := by decide +kernel

/-- After the run that is what the array holds; the entries that the heads take are real. -/
theorem final8 (c : Dev nD)
    (hreal : ∀ (b : Fin 16) (s : Fin 2048) (e : Fin 640), ∃ v : ℝ, ProjRow.proj (m ((c.tc : Thread nD τ).loc main_arg0)) (m ((c.tc : Thread nD τ).loc main_arg1)) (m ((c.tc : Thread nD τ).loc main_arg2)) b s ⟨e.val, by omega⟩ = v) :
    (dats m 0 c).arrAt 8 cfg0.N = G8 m c := by
  refine (dats m 0 c).arrAt_eq_of_covers 8 _ (by decide +kernel) fun t hf y => ?_
  have ht := lt32 t
  blk_simp
  rw [after0_8]
  unfold outsAt0
  dsimp only
  obtain ⟨z, l, r, rfl⟩ : ∃ (z : Fin 1) (l : Fin 512) (r : Fin 1024), y = ix3 z l r := ⟨y 0, y 1, y 2, eq_ix3 y⟩
  obtain rfl : z = 0 := Subsingleton.elim _ _
  rw [Out.out8]
  have e : (win0_8.blk t).view.emb (ix3 0 l r) = ix3 (seq t) l (tok t r) := by
    unfold seq tok
    funext a
    refine Fin.ext ?_
    fin_cases a <;> (blk_simp [idx8 t]; try rfl)
  rw [e]
  exact Out.queriesOf_eq (m ((c.tc : Thread nD τ).loc main_arg0)) (m ((c.tc : Thread nD τ).loc main_arg1)) (m ((c.tc : Thread nD τ).loc main_arg2)) (m ((c.tc : Thread nD τ).loc main_arg3)) (seq t) (tok t r) _ _ _ _ _ _ _ r (hreal _ _) (blk0 m c t r) (blk1 m c t) (blk2 m c t) (blk3 m c t) (blk5 m c t r) (blk6 m c t r) (blk7 m c t) l

/-- The axial mixer's keys, index by index. -/
def G9 (c : Dev nD) : Buf (Elt Ideal) ((c.tc : Thread nD τ).loc main_v63_1) := fun i => ProjRow.keys (m ((c.tc : Thread nD τ).loc main_arg0)) (m ((c.tc : Thread nD τ).loc main_arg1)) (m ((c.tc : Thread nD τ).loc main_arg2)) (m ((c.tc : Thread nD τ).loc main_arg4)) i
theorem idx9 : ∀ t : Fin grid0.N, win0_9.index t = ![t.val % 16, t.val / 16, 0] := by decide +kernel

/-- After the run that is what the array holds; the entries that the heads take are real. -/
theorem final9 (c : Dev nD)
    (hreal : ∀ (b : Fin 16) (s : Fin 2048) (e : Fin 640), ∃ v : ℝ, ProjRow.proj (m ((c.tc : Thread nD τ).loc main_arg0)) (m ((c.tc : Thread nD τ).loc main_arg1)) (m ((c.tc : Thread nD τ).loc main_arg2)) b s ⟨e.val, by omega⟩ = v) :
    (dats m 0 c).arrAt 9 cfg0.N = G9 m c := by
  refine (dats m 0 c).arrAt_eq_of_covers 9 _ (by decide +kernel) fun t hf y => ?_
  have ht := lt32 t
  blk_simp
  rw [after0_9]
  unfold outsAt0
  dsimp only
  obtain ⟨z, r, l, rfl⟩ : ∃ (z : Fin 1) (r : Fin 1024) (l : Fin 256), y = ix3 z r l := ⟨y 0, y 1, y 2, eq_ix3 y⟩
  obtain rfl : z = 0 := Subsingleton.elim _ _
  rw [Out.out9]
  have e : (win0_9.blk t).view.emb (ix3 0 r l) = ix3 (seq t) (tok t r) l := by
    unfold seq tok
    funext a
    refine Fin.ext ?_
    fin_cases a <;> (blk_simp [idx9 t]; try rfl)
  rw [e]
  exact Out.keysOf_eq (m ((c.tc : Thread nD τ).loc main_arg0)) (m ((c.tc : Thread nD τ).loc main_arg1)) (m ((c.tc : Thread nD τ).loc main_arg2)) (m ((c.tc : Thread nD τ).loc main_arg4)) (seq t) (tok t r) _ _ _ _ _ _ _ r (hreal _ _) (blk0 m c t r) (blk1 m c t) (blk2 m c t) (blk4 m c t) (blk5 m c t r) (blk6 m c t r) (blk7 m c t) l

/-- The axial mixer's values, index by index. -/
def G10 (c : Dev nD) : Buf (Elt Ideal) ((c.tc : Thread nD τ).loc main_v63_2) := fun i => ProjRow.values (m ((c.tc : Thread nD τ).loc main_arg0)) (m ((c.tc : Thread nD τ).loc main_arg1)) (m ((c.tc : Thread nD τ).loc main_arg2)) i
theorem idx10 : ∀ t : Fin grid0.N, win0_10.index t = ![t.val % 16, 0, t.val / 16] := by decide +kernel

/-- After the run that is what the array holds. -/
theorem final10 (c : Dev nD) :
    (dats m 0 c).arrAt 10 cfg0.N = G10 m c := by
  refine (dats m 0 c).arrAt_eq_of_covers 10 _ (by decide +kernel) fun t hf y => ?_
  have ht := lt32 t
  blk_simp
  rw [after0_10]
  unfold outsAt0
  dsimp only
  obtain ⟨z, l, r, rfl⟩ : ∃ (z : Fin 1) (l : Fin 128) (r : Fin 1024), y = ix3 z l r := ⟨y 0, y 1, y 2, eq_ix3 y⟩
  obtain rfl : z = 0 := Subsingleton.elim _ _
  rw [Out.out10]
  have e : (win0_10.blk t).view.emb (ix3 0 l r) = ix3 (seq t) l (tok t r) := by
    unfold seq tok
    funext a
    refine Fin.ext ?_
    fin_cases a <;> (blk_simp [idx10 t]; try rfl)
  rw [e]
  exact Out.values_piece (m ((c.tc : Thread nD τ).loc main_arg0)) (m ((c.tc : Thread nD τ).loc main_arg1)) (m ((c.tc : Thread nD τ).loc main_arg2)) (seq t) (tok t r) _ _ _ r (blk0 m c t r) (blk1 m c t) (blk2 m c t) l

end Cert.KernelProjIdeal.Arr
end
-- ==== Proof.ProjFinalB.lean ====
/- What the dilated mixer's arrays in token order hold after the run. -/
module
public import proofs.«01_k».proof.Proof.ProjOut10
public import proofs.«01_k».proof.Proof.ProjTurns
public import proofs.«01_k».proof.Proof.ProjPoint
public import Idealize.ShloMosaic.Lib.Pipeline.ValueKit
public import Idealize.ShloMosaic.Lib.Claim
@[expose] public section
set_option maxRecDepth 16384
noncomputable section
namespace Cert.KernelProjIdeal.Arr
open Cert.KernelProjIdeal Cert.KernelProjIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The dilated mixer's queries, in token order, index by index. -/
def G11 (c : Dev nD) : Buf (Elt Ideal) ((c.tc : Thread nD τ).loc main_v63_3) := fun i => ProjRow.tokens (ProjRow.queryB (m ((c.tc : Thread nD τ).loc main_arg0)) (m ((c.tc : Thread nD τ).loc main_arg1)) (m ((c.tc : Thread nD τ).loc main_arg2))) i
theorem idx11 : ∀ t : Fin grid0.N, win0_11.index t = ![t.val % 16, t.val / 16, 0] := by decide +kernel

/-- After the run that is what the array holds. -/
theorem final11 (c : Dev nD) :
    (dats m 0 c).arrAt 11 cfg0.N = G11 m c := by
  refine (dats m 0 c).arrAt_eq_of_covers 11 _ (by decide +kernel) fun t hf y => ?_
  have ht := lt32 t
  blk_simp
  rw [after0_11]
  unfold outsAt0
  dsimp only
  obtain ⟨z, r, l, rfl⟩ : ∃ (z : Fin 1) (r : Fin 1024) (l : Fin 512), y = ix3 z r l := ⟨y 0, y 1, y 2, eq_ix3 y⟩
  obtain rfl : z = 0 := Subsingleton.elim _ _
  rw [Out.out11]
  have e : (win0_11.blk t).view.emb (ix3 0 r l) = ix3 (seq t) (tok t r) l := by
    unfold seq tok
    funext a
    refine Fin.ext ?_
    fin_cases a <;> (blk_simp [idx11 t]; try rfl)
  rw [e]
  exact Out.queryB_piece (m ((c.tc : Thread nD τ).loc main_arg0)) (m ((c.tc : Thread nD τ).loc main_arg1)) (m ((c.tc : Thread nD τ).loc main_arg2)) (seq t) (tok t r) _ _ _ r (blk0 m c t r) (blk1 m c t) (blk2 m c t) l

/-- The dilated mixer's keys, in token order, index by index. -/
def G14 (c : Dev nD) : Buf (Elt Ideal) ((c.tc : Thread nD τ).loc main_v63_6) := fun i => ProjRow.tokens (ProjRow.keyB (m ((c.tc : Thread nD τ).loc main_arg0)) (m ((c.tc : Thread nD τ).loc main_arg1)) (m ((c.tc : Thread nD τ).loc main_arg2))) i
theorem idx14 : ∀ t : Fin grid0.N, win0_14.index t = ![t.val % 16, t.val / 16, 0] := by decide +kernel

/-- After the run that is what the array holds. -/
theorem final14 (c : Dev nD) :
    (dats m 0 c).arrAt 14 cfg0.N = G14 m c := by
  refine (dats m 0 c).arrAt_eq_of_covers 14 _ (by decide +kernel) fun t hf y => ?_
  have ht := lt32 t
  blk_simp
  rw [after0_14]
  unfold outsAt0
  dsimp only
  obtain ⟨z, r, l, rfl⟩ : ∃ (z : Fin 1) (r : Fin 1024) (l : Fin 512), y = ix3 z r l := ⟨y 0, y 1, y 2, eq_ix3 y⟩
  obtain rfl : z = 0 := Subsingleton.elim _ _
  rw [Out.out14]
  have e : (win0_14.blk t).view.emb (ix3 0 r l) = ix3 (seq t) (tok t r) l := by
    unfold seq tok
    funext a
    refine Fin.ext ?_
    fin_cases a <;> (blk_simp [idx14 t]; try rfl)
  rw [e]
  exact Out.keyB_piece (m ((c.tc : Thread nD τ).loc main_arg0)) (m ((c.tc : Thread nD τ).loc main_arg1)) (m ((c.tc : Thread nD τ).loc main_arg2)) (seq t) (tok t r) _ _ _ r (blk0 m c t r) (blk1 m c t) (blk2 m c t) l

/-- The dilated mixer's values, in token order, index by index. -/
def G17 (c : Dev nD) : Buf (Elt Ideal) ((c.tc : Thread nD τ).loc main_v63_9) := fun i => ProjRow.tokens (ProjRow.valueB (m ((c.tc : Thread nD τ).loc main_arg0)) (m ((c.tc : Thread nD τ).loc main_arg1)) (m ((c.tc : Thread nD τ).loc main_arg2))) i
theorem idx17 : ∀ t : Fin grid0.N, win0_17.index t = ![t.val % 16, t.val / 16, 0] := by decide +kernel

/-- After the run that is what the array holds. -/
theorem final17 (c : Dev nD) :
    (dats m 0 c).arrAt 17 cfg0.N = G17 m c := by
  refine (dats m 0 c).arrAt_eq_of_covers 17 _ (by decide +kernel) fun t hf y => ?_
  have ht := lt32 t
  blk_simp
  rw [after0_17]
  unfold outsAt0
  dsimp only
  obtain ⟨z, r, l, rfl⟩ : ∃ (z : Fin 1) (r : Fin 1024) (l : Fin 512), y = ix3 z r l := ⟨y 0, y 1, y 2, eq_ix3 y⟩
  obtain rfl : z = 0 := Subsingleton.elim _ _
  rw [Out.out17]
  have e : (win0_17.blk t).view.emb (ix3 0 r l) = ix3 (seq t) (tok t r) l := by
    unfold seq tok
    funext a
    refine Fin.ext ?_
    fin_cases a <;> (blk_simp [idx17 t]; try rfl)
  rw [e]
  exact Out.valueB_piece (m ((c.tc : Thread nD τ).loc main_arg0)) (m ((c.tc : Thread nD τ).loc main_arg1)) (m ((c.tc : Thread nD τ).loc main_arg2)) (seq t) (tok t r) _ _ _ r (blk0 m c t r) (blk1 m c t) (blk2 m c t) l

end Cert.KernelProjIdeal.Arr
end
-- ==== Proof.ProjOut12.lean ====
/- The queries of the projection's second mixer at one grid point, phase by phase of four. -/
module
public import proofs.«01_k».proof.Proof.Gen.KernelProjIdeal.Frame
public import proofs.«01_k».proof.Proof.ProjReads
public import Idealize.ShloMosaic.Lib.Pointwise
public import Idealize.ShloMosaic.Lib.Pipeline.ValueKit
public import Idealize.ShloMosaic.Lib.Pipeline.ReadBack
@[expose] public section
set_option maxRecDepth 16384
noncomputable section
namespace Cert.KernelProjIdeal.Out
open Cert.KernelProjIdeal Cert.KernelProjIdeal.Gen Idealize.ShloMosaic Idealize.ShloMosaic.TcCoe Idealize.SL.Sem
variable (c : Dev nD) (i : grid0.Coords) (arg2 : Memref sig .tc .vmem S1x1024x1024 .f32) (harg2 : arg2.IsWhole) (arg3 : Memref sig .tc .vmem S1x1024 .f32) (harg3 : arg3.IsWhole) (arg4 : Memref sig .tc .vmem S1024x2304 .bf16) (harg4 : arg4.IsWhole) (arg5 : Memref sig .tc .vmem S1x128 .f32) (harg5 : arg5.IsWhole) (arg6 : Memref sig .tc .vmem S1x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S256x128 .bf16) (harg9 : arg9.IsWhole) (arg10 : Memref sig .tc .vmem S1x512x1024 .bf16) (harg10 : arg10.IsWhole) (arg11 : Memref sig .tc .vmem S1x1024x256 .bf16) (harg11 : arg11.IsWhole) (arg12 : Memref sig .tc .vmem S1x128x1024 .bf16) (harg12 : arg12.IsWhole) (arg13 : Memref sig .tc .vmem S1x1024x512 .bf16) (harg13 : arg13.IsWhole) (arg14 : Memref sig .tc .vmem S1x4x256x512 .bf16) (harg14 : arg14.IsWhole) (arg15 : Memref sig .tc .vmem S1x16x64x512 .bf16) (harg15 : arg15.IsWhole) (arg16 : Memref sig .tc .vmem S1x1024x512 .bf16) (harg16 : arg16.IsWhole) (arg17 : Memref sig .tc .vmem S1x4x256x512 .bf16) (harg17 : arg17.IsWhole) (arg18 : Memref sig .tc .vmem S1x16x64x512 .bf16) (harg18 : arg18.IsWhole) (arg19 : Memref sig .tc .vmem S1x1024x512 .bf16) (harg19 : arg19.IsWhole) (arg20 : Memref sig .tc .vmem S1x4x256x512 .bf16) (harg20 : arg20.IsWhole) (arg21 : Memref sig .tc .vmem S1x16x64x512 .bf16) (harg21 : arg21.IsWhole) (arg22 : Memref sig .tc .vmem S4x1024x128 .f32) (harg22 : arg22.IsWhole) (arg23 : Memref sig .tc .vmem S4x1024x128 .f32) (harg23 : arg23.IsWhole) (arg24 : Memref sig .tc .vmem S4x1024x128 .f32) (harg24 : arg24.IsWhole) (arg25 : Memref sig .tc .vmem S4x4x256x128 .f32) (harg25 : arg25.IsWhole) (arg26 : Memref sig .tc .vmem S4x4x256x128 .f32) (harg26 : arg26.IsWhole) (arg27 : Memref sig .tc .vmem S4x4x256x128 .f32) (harg27 : arg27.IsWhole)     (x0 : Vec Ideal S1x1024x1024 .f32) (x1 : Vec Ideal S1x1024 .f32) (x2 : Vec Ideal S1024x2304 .bf16) (x3 : Vec Ideal S1x128 .f32) (x4 : Vec Ideal S1x128 .f32) (x5 : Vec Ideal S1024x128 .f32) (x6 : Vec Ideal S1024x128 .f32) (x7 : Vec Ideal S256x128 .bf16)

set_option maxHeartbeats 8000000 in
/-- The point's block of the four-phase array: each piece is a strided read of a stored chunk. -/
theorem out12 (y) : out0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 y = fineOf (k0_pay11 (k0_pay2 x0 x1) (View.ld x2 (Rect.unit ![0, 768] ![1024, 512] inb_S1024x2304_S1024x512_0_768))) y := by
  unfold out0_A_12
  frame_open
  rw [View.read_writes_junk_eq_canon]
  simp (disch := decide) only [↓ View.readCov_skip, ↓ readCov_inside]
  simp (disch := decide) only [View.readAt_eq_ld, Memref.IsWhole.read_unread, View.ld_unit_lit']
  refine View.canon_apply_of_pieces (Val := Elt Ideal) (e := .bf16) (fineOf (k0_pay11 (k0_pay2 x0 x1) (View.ld x2 (Rect.unit ![0, 768] ![1024, 512] inb_S1024x2304_S1024x512_0_768)))) _ (View.PiecesOf.mem ?_) y ?_
  rotate_left
  · exact View.cover_of_tiledL (s := S1x4x256x512) (Val := Elt Ideal) (e := .bf16) _ ![1, 1, 256, 128] (by sl_kernel_rfl) y
  simp only [View.PiecesOf]
  refine ⟨?_, ?_, ?_, ?_, ?_, ?_, ?_, ?_, ?_, ?_, ?_, ?_, ?_, ?_, ?_, ?_, trivial⟩
  · exact fun x => (fine_pay _ _).trans (fine_q3 _ _ _ _
      (by
        have h : (x 1).val < 1 := (x 1).isLt
        show 3 + 4 * (x 2).val - 0 = (0 + 1 * (x 2).val) * 4 + (3 + 1 * (x 1).val)
        omega)
      (by
        show 384 + 1 * (x 3).val = 384 + (0 + 1 * (x 3).val - 0)
        omega))
  · exact fun x => (fine_pay _ _).trans (fine_q3 _ _ _ _
      (by
        have h : (x 1).val < 1 := (x 1).isLt
        show 2 + 4 * (x 2).val - 0 = (0 + 1 * (x 2).val) * 4 + (2 + 1 * (x 1).val)
        omega)
      (by
        show 384 + 1 * (x 3).val = 384 + (0 + 1 * (x 3).val - 0)
        omega))
  · exact fun x => (fine_pay _ _).trans (fine_q3 _ _ _ _
      (by
        have h : (x 1).val < 1 := (x 1).isLt
        show 1 + 4 * (x 2).val - 0 = (0 + 1 * (x 2).val) * 4 + (1 + 1 * (x 1).val)
        omega)
      (by
        show 384 + 1 * (x 3).val = 384 + (0 + 1 * (x 3).val - 0)
        omega))
  · exact fun x => (fine_pay _ _).trans (fine_q3 _ _ _ _
      (by
        have h : (x 1).val < 1 := (x 1).isLt
        show 0 + 4 * (x 2).val - 0 = (0 + 1 * (x 2).val) * 4 + (0 + 1 * (x 1).val)
        omega)
      (by
        show 384 + 1 * (x 3).val = 384 + (0 + 1 * (x 3).val - 0)
        omega))
  · exact fun x => (fine_pay _ _).trans (fine_q2 _ _ _ _
      (by
        have h : (x 1).val < 1 := (x 1).isLt
        show 3 + 4 * (x 2).val - 0 = (0 + 1 * (x 2).val) * 4 + (3 + 1 * (x 1).val)
        omega)
      (by
        show 256 + 1 * (x 3).val = 256 + (0 + 1 * (x 3).val - 0)
        omega))
  · exact fun x => (fine_pay _ _).trans (fine_q2 _ _ _ _
      (by
        have h : (x 1).val < 1 := (x 1).isLt
        show 2 + 4 * (x 2).val - 0 = (0 + 1 * (x 2).val) * 4 + (2 + 1 * (x 1).val)
        omega)
      (by
        show 256 + 1 * (x 3).val = 256 + (0 + 1 * (x 3).val - 0)
        omega))
  · exact fun x => (fine_pay _ _).trans (fine_q2 _ _ _ _
      (by
        have h : (x 1).val < 1 := (x 1).isLt
        show 1 + 4 * (x 2).val - 0 = (0 + 1 * (x 2).val) * 4 + (1 + 1 * (x 1).val)
        omega)
      (by
        show 256 + 1 * (x 3).val = 256 + (0 + 1 * (x 3).val - 0)
        omega))
  · exact fun x => (fine_pay _ _).trans (fine_q2 _ _ _ _
      (by
        have h : (x 1).val < 1 := (x 1).isLt
        show 0 + 4 * (x 2).val - 0 = (0 + 1 * (x 2).val) * 4 + (0 + 1 * (x 1).val)
        omega)
      (by
        show 256 + 1 * (x 3).val = 256 + (0 + 1 * (x 3).val - 0)
        omega))
  · exact fun x => (fine_pay _ _).trans (fine_q1 _ _ _ _
      (by
        have h : (x 1).val < 1 := (x 1).isLt
        show 3 + 4 * (x 2).val - 0 = (0 + 1 * (x 2).val) * 4 + (3 + 1 * (x 1).val)
        omega)
      (by
        show 128 + 1 * (x 3).val = 128 + (0 + 1 * (x 3).val - 0)
        omega))
  · exact fun x => (fine_pay _ _).trans (fine_q1 _ _ _ _
      (by
        have h : (x 1).val < 1 := (x 1).isLt
        show 2 + 4 * (x 2).val - 0 = (0 + 1 * (x 2).val) * 4 + (2 + 1 * (x 1).val)
        omega)
      (by
        show 128 + 1 * (x 3).val = 128 + (0 + 1 * (x 3).val - 0)
        omega))
  · exact fun x => (fine_pay _ _).trans (fine_q1 _ _ _ _
      (by
        have h : (x 1).val < 1 := (x 1).isLt
        show 1 + 4 * (x 2).val - 0 = (0 + 1 * (x 2).val) * 4 + (1 + 1 * (x 1).val)
        omega)
      (by
        show 128 + 1 * (x 3).val = 128 + (0 + 1 * (x 3).val - 0)
        omega))
  · exact fun x => (fine_pay _ _).trans (fine_q1 _ _ _ _
      (by
        have h : (x 1).val < 1 := (x 1).isLt
        show 0 + 4 * (x 2).val - 0 = (0 + 1 * (x 2).val) * 4 + (0 + 1 * (x 1).val)
        omega)
      (by
        show 128 + 1 * (x 3).val = 128 + (0 + 1 * (x 3).val - 0)
        omega))
  · exact fun x => (fine_pay _ _).trans (fine_q0 _ _ _ _
      (by
        have h : (x 1).val < 1 := (x 1).isLt
        show 3 + 4 * (x 2).val - 0 = (0 + 1 * (x 2).val) * 4 + (3 + 1 * (x 1).val)
        omega)
      (by
        show 0 + 1 * (x 3).val = 0 + (0 + 1 * (x 3).val - 0)
        omega))
  · exact fun x => (fine_pay _ _).trans (fine_q0 _ _ _ _
      (by
        have h : (x 1).val < 1 := (x 1).isLt
        show 2 + 4 * (x 2).val - 0 = (0 + 1 * (x 2).val) * 4 + (2 + 1 * (x 1).val)
        omega)
      (by
        show 0 + 1 * (x 3).val = 0 + (0 + 1 * (x 3).val - 0)
        omega))
  · exact fun x => (fine_pay _ _).trans (fine_q0 _ _ _ _
      (by
        have h : (x 1).val < 1 := (x 1).isLt
        show 1 + 4 * (x 2).val - 0 = (0 + 1 * (x 2).val) * 4 + (1 + 1 * (x 1).val)
        omega)
      (by
        show 0 + 1 * (x 3).val = 0 + (0 + 1 * (x 3).val - 0)
        omega))
  · exact fun x => (fine_pay _ _).trans (fine_q0 _ _ _ _
      (by
        have h : (x 1).val < 1 := (x 1).isLt
        show 0 + 4 * (x 2).val - 0 = (0 + 1 * (x 2).val) * 4 + (0 + 1 * (x 1).val)
        omega)
      (by
        show 0 + 1 * (x 3).val = 0 + (0 + 1 * (x 3).val - 0)
        omega))
end Cert.KernelProjIdeal.Out
end
-- ==== Proof.ProjOut15.lean ====
/- The keys of the projection's second mixer at one grid point, phase by phase of four. -/
module
public import proofs.«01_k».proof.Proof.Gen.KernelProjIdeal.Frame
public import proofs.«01_k».proof.Proof.ProjReads
public import Idealize.ShloMosaic.Lib.Pointwise
public import Idealize.ShloMosaic.Lib.Pipeline.ValueKit
public import Idealize.ShloMosaic.Lib.Pipeline.ReadBack
@[expose] public section
set_option maxRecDepth 16384
noncomputable section
namespace Cert.KernelProjIdeal.Out
open Cert.KernelProjIdeal Cert.KernelProjIdeal.Gen Idealize.ShloMosaic Idealize.ShloMosaic.TcCoe Idealize.SL.Sem
variable (c : Dev nD) (i : grid0.Coords) (arg2 : Memref sig .tc .vmem S1x1024x1024 .f32) (harg2 : arg2.IsWhole) (arg3 : Memref sig .tc .vmem S1x1024 .f32) (harg3 : arg3.IsWhole) (arg4 : Memref sig .tc .vmem S1024x2304 .bf16) (harg4 : arg4.IsWhole) (arg5 : Memref sig .tc .vmem S1x128 .f32) (harg5 : arg5.IsWhole) (arg6 : Memref sig .tc .vmem S1x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S256x128 .bf16) (harg9 : arg9.IsWhole) (arg10 : Memref sig .tc .vmem S1x512x1024 .bf16) (harg10 : arg10.IsWhole) (arg11 : Memref sig .tc .vmem S1x1024x256 .bf16) (harg11 : arg11.IsWhole) (arg12 : Memref sig .tc .vmem S1x128x1024 .bf16) (harg12 : arg12.IsWhole) (arg13 : Memref sig .tc .vmem S1x1024x512 .bf16) (harg13 : arg13.IsWhole) (arg14 : Memref sig .tc .vmem S1x4x256x512 .bf16) (harg14 : arg14.IsWhole) (arg15 : Memref sig .tc .vmem S1x16x64x512 .bf16) (harg15 : arg15.IsWhole) (arg16 : Memref sig .tc .vmem S1x1024x512 .bf16) (harg16 : arg16.IsWhole) (arg17 : Memref sig .tc .vmem S1x4x256x512 .bf16) (harg17 : arg17.IsWhole) (arg18 : Memref sig .tc .vmem S1x16x64x512 .bf16) (harg18 : arg18.IsWhole) (arg19 : Memref sig .tc .vmem S1x1024x512 .bf16) (harg19 : arg19.IsWhole) (arg20 : Memref sig .tc .vmem S1x4x256x512 .bf16) (harg20 : arg20.IsWhole) (arg21 : Memref sig .tc .vmem S1x16x64x512 .bf16) (harg21 : arg21.IsWhole) (arg22 : Memref sig .tc .vmem S4x1024x128 .f32) (harg22 : arg22.IsWhole) (arg23 : Memref sig .tc .vmem S4x1024x128 .f32) (harg23 : arg23.IsWhole) (arg24 : Memref sig .tc .vmem S4x1024x128 .f32) (harg24 : arg24.IsWhole) (arg25 : Memref sig .tc .vmem S4x4x256x128 .f32) (harg25 : arg25.IsWhole) (arg26 : Memref sig .tc .vmem S4x4x256x128 .f32) (harg26 : arg26.IsWhole) (arg27 : Memref sig .tc .vmem S4x4x256x128 .f32) (harg27 : arg27.IsWhole)     (x0 : Vec Ideal S1x1024x1024 .f32) (x1 : Vec Ideal S1x1024 .f32) (x2 : Vec Ideal S1024x2304 .bf16) (x3 : Vec Ideal S1x128 .f32) (x4 : Vec Ideal S1x128 .f32) (x5 : Vec Ideal S1024x128 .f32) (x6 : Vec Ideal S1024x128 .f32) (x7 : Vec Ideal S256x128 .bf16)

set_option maxHeartbeats 8000000 in
/-- The point's block of the four-phase array: each piece is a strided read of a stored chunk. -/
theorem out15 (y) : out0_A_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 y = fineOf (k0_pay27 (k0_pay2 x0 x1) (View.ld x2 (Rect.unit ![0, 1280] ![1024, 512] inb_S1024x2304_S1024x512_0_1280))) y := by
  unfold out0_A_15
  frame_open
  rw [View.read_writes_junk_eq_canon]
  simp (disch := decide) only [↓ View.readCov_skip, ↓ readCov_inside]
  simp (disch := decide) only [View.readAt_eq_ld, Memref.IsWhole.read_unread, View.ld_unit_lit']
  refine View.canon_apply_of_pieces (Val := Elt Ideal) (e := .bf16) (fineOf (k0_pay27 (k0_pay2 x0 x1) (View.ld x2 (Rect.unit ![0, 1280] ![1024, 512] inb_S1024x2304_S1024x512_0_1280)))) _ (View.PiecesOf.mem ?_) y ?_
  rotate_left
  · exact View.cover_of_tiledL (s := S1x4x256x512) (Val := Elt Ideal) (e := .bf16) _ ![1, 1, 256, 128] (by sl_kernel_rfl) y
  simp only [View.PiecesOf]
  refine ⟨?_, ?_, ?_, ?_, ?_, ?_, ?_, ?_, ?_, ?_, ?_, ?_, ?_, ?_, ?_, ?_, trivial⟩
  · exact fun x => (fine_pay _ _).trans (fine_k3 _ _ _ _
      (by
        have h : (x 1).val < 1 := (x 1).isLt
        show 3 + 4 * (x 2).val - 0 = (0 + 1 * (x 2).val) * 4 + (3 + 1 * (x 1).val)
        omega)
      (by
        show 384 + 1 * (x 3).val = 384 + (0 + 1 * (x 3).val - 0)
        omega))
  · exact fun x => (fine_pay _ _).trans (fine_k3 _ _ _ _
      (by
        have h : (x 1).val < 1 := (x 1).isLt
        show 2 + 4 * (x 2).val - 0 = (0 + 1 * (x 2).val) * 4 + (2 + 1 * (x 1).val)
        omega)
      (by
        show 384 + 1 * (x 3).val = 384 + (0 + 1 * (x 3).val - 0)
        omega))
  · exact fun x => (fine_pay _ _).trans (fine_k3 _ _ _ _
      (by
        have h : (x 1).val < 1 := (x 1).isLt
        show 1 + 4 * (x 2).val - 0 = (0 + 1 * (x 2).val) * 4 + (1 + 1 * (x 1).val)
        omega)
      (by
        show 384 + 1 * (x 3).val = 384 + (0 + 1 * (x 3).val - 0)
        omega))
  · exact fun x => (fine_pay _ _).trans (fine_k3 _ _ _ _
      (by
        have h : (x 1).val < 1 := (x 1).isLt
        show 0 + 4 * (x 2).val - 0 = (0 + 1 * (x 2).val) * 4 + (0 + 1 * (x 1).val)
        omega)
      (by
        show 384 + 1 * (x 3).val = 384 + (0 + 1 * (x 3).val - 0)
        omega))
  · exact fun x => (fine_pay _ _).trans (fine_k2 _ _ _ _
      (by
        have h : (x 1).val < 1 := (x 1).isLt
        show 3 + 4 * (x 2).val - 0 = (0 + 1 * (x 2).val) * 4 + (3 + 1 * (x 1).val)
        omega)
      (by
        show 256 + 1 * (x 3).val = 256 + (0 + 1 * (x 3).val - 0)
        omega))
  · exact fun x => (fine_pay _ _).trans (fine_k2 _ _ _ _
      (by
        have h : (x 1).val < 1 := (x 1).isLt
        show 2 + 4 * (x 2).val - 0 = (0 + 1 * (x 2).val) * 4 + (2 + 1 * (x 1).val)
        omega)
      (by
        show 256 + 1 * (x 3).val = 256 + (0 + 1 * (x 3).val - 0)
        omega))
  · exact fun x => (fine_pay _ _).trans (fine_k2 _ _ _ _
      (by
        have h : (x 1).val < 1 := (x 1).isLt
        show 1 + 4 * (x 2).val - 0 = (0 + 1 * (x 2).val) * 4 + (1 + 1 * (x 1).val)
        omega)
      (by
        show 256 + 1 * (x 3).val = 256 + (0 + 1 * (x 3).val - 0)
        omega))
  · exact fun x => (fine_pay _ _).trans (fine_k2 _ _ _ _
      (by
        have h : (x 1).val < 1 := (x 1).isLt
        show 0 + 4 * (x 2).val - 0 = (0 + 1 * (x 2).val) * 4 + (0 + 1 * (x 1).val)
        omega)
      (by
        show 256 + 1 * (x 3).val = 256 + (0 + 1 * (x 3).val - 0)
        omega))
  · exact fun x => (fine_pay _ _).trans (fine_k1 _ _ _ _
      (by
        have h : (x 1).val < 1 := (x 1).isLt
        show 3 + 4 * (x 2).val - 0 = (0 + 1 * (x 2).val) * 4 + (3 + 1 * (x 1).val)
        omega)
      (by
        show 128 + 1 * (x 3).val = 128 + (0 + 1 * (x 3).val - 0)
        omega))
  · exact fun x => (fine_pay _ _).trans (fine_k1 _ _ _ _
      (by
        have h : (x 1).val < 1 := (x 1).isLt
        show 2 + 4 * (x 2).val - 0 = (0 + 1 * (x 2).val) * 4 + (2 + 1 * (x 1).val)
        omega)
      (by
        show 128 + 1 * (x 3).val = 128 + (0 + 1 * (x 3).val - 0)
        omega))
  · exact fun x => (fine_pay _ _).trans (fine_k1 _ _ _ _
      (by
        have h : (x 1).val < 1 := (x 1).isLt
        show 1 + 4 * (x 2).val - 0 = (0 + 1 * (x 2).val) * 4 + (1 + 1 * (x 1).val)
        omega)
      (by
        show 128 + 1 * (x 3).val = 128 + (0 + 1 * (x 3).val - 0)
        omega))
  · exact fun x => (fine_pay _ _).trans (fine_k1 _ _ _ _
      (by
        have h : (x 1).val < 1 := (x 1).isLt
        show 0 + 4 * (x 2).val - 0 = (0 + 1 * (x 2).val) * 4 + (0 + 1 * (x 1).val)
        omega)
      (by
        show 128 + 1 * (x 3).val = 128 + (0 + 1 * (x 3).val - 0)
        omega))
  · exact fun x => (fine_pay _ _).trans (fine_k0 _ _ _ _
      (by
        have h : (x 1).val < 1 := (x 1).isLt
        show 3 + 4 * (x 2).val - 0 = (0 + 1 * (x 2).val) * 4 + (3 + 1 * (x 1).val)
        omega)
      (by
        show 0 + 1 * (x 3).val = 0 + (0 + 1 * (x 3).val - 0)
        omega))
  · exact fun x => (fine_pay _ _).trans (fine_k0 _ _ _ _
      (by
        have h : (x 1).val < 1 := (x 1).isLt
        show 2 + 4 * (x 2).val - 0 = (0 + 1 * (x 2).val) * 4 + (2 + 1 * (x 1).val)
        omega)
      (by
        show 0 + 1 * (x 3).val = 0 + (0 + 1 * (x 3).val - 0)
        omega))
  · exact fun x => (fine_pay _ _).trans (fine_k0 _ _ _ _
      (by
        have h : (x 1).val < 1 := (x 1).isLt
        show 1 + 4 * (x 2).val - 0 = (0 + 1 * (x 2).val) * 4 + (1 + 1 * (x 1).val)
        omega)
      (by
        show 0 + 1 * (x 3).val = 0 + (0 + 1 * (x 3).val - 0)
        omega))
  · exact fun x => (fine_pay _ _).trans (fine_k0 _ _ _ _
      (by
        have h : (x 1).val < 1 := (x 1).isLt
        show 0 + 4 * (x 2).val - 0 = (0 + 1 * (x 2).val) * 4 + (0 + 1 * (x 1).val)
        omega)
      (by
        show 0 + 1 * (x 3).val = 0 + (0 + 1 * (x 3).val - 0)
        omega))
end Cert.KernelProjIdeal.Out
end
-- ==== Proof.ProjOut18.lean ====
/- The values of the projection's second mixer at one grid point, phase by phase of four. -/
module
public import proofs.«01_k».proof.Proof.Gen.KernelProjIdeal.Frame
public import proofs.«01_k».proof.Proof.ProjReads
public import Idealize.ShloMosaic.Lib.Pointwise
public import Idealize.ShloMosaic.Lib.Pipeline.ValueKit
public import Idealize.ShloMosaic.Lib.Pipeline.ReadBack
@[expose] public section
set_option maxRecDepth 16384
noncomputable section
namespace Cert.KernelProjIdeal.Out
open Cert.KernelProjIdeal Cert.KernelProjIdeal.Gen Idealize.ShloMosaic Idealize.ShloMosaic.TcCoe Idealize.SL.Sem
variable (c : Dev nD) (i : grid0.Coords) (arg2 : Memref sig .tc .vmem S1x1024x1024 .f32) (harg2 : arg2.IsWhole) (arg3 : Memref sig .tc .vmem S1x1024 .f32) (harg3 : arg3.IsWhole) (arg4 : Memref sig .tc .vmem S1024x2304 .bf16) (harg4 : arg4.IsWhole) (arg5 : Memref sig .tc .vmem S1x128 .f32) (harg5 : arg5.IsWhole) (arg6 : Memref sig .tc .vmem S1x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S256x128 .bf16) (harg9 : arg9.IsWhole) (arg10 : Memref sig .tc .vmem S1x512x1024 .bf16) (harg10 : arg10.IsWhole) (arg11 : Memref sig .tc .vmem S1x1024x256 .bf16) (harg11 : arg11.IsWhole) (arg12 : Memref sig .tc .vmem S1x128x1024 .bf16) (harg12 : arg12.IsWhole) (arg13 : Memref sig .tc .vmem S1x1024x512 .bf16) (harg13 : arg13.IsWhole) (arg14 : Memref sig .tc .vmem S1x4x256x512 .bf16) (harg14 : arg14.IsWhole) (arg15 : Memref sig .tc .vmem S1x16x64x512 .bf16) (harg15 : arg15.IsWhole) (arg16 : Memref sig .tc .vmem S1x1024x512 .bf16) (harg16 : arg16.IsWhole) (arg17 : Memref sig .tc .vmem S1x4x256x512 .bf16) (harg17 : arg17.IsWhole) (arg18 : Memref sig .tc .vmem S1x16x64x512 .bf16) (harg18 : arg18.IsWhole) (arg19 : Memref sig .tc .vmem S1x1024x512 .bf16) (harg19 : arg19.IsWhole) (arg20 : Memref sig .tc .vmem S1x4x256x512 .bf16) (harg20 : arg20.IsWhole) (arg21 : Memref sig .tc .vmem S1x16x64x512 .bf16) (harg21 : arg21.IsWhole) (arg22 : Memref sig .tc .vmem S4x1024x128 .f32) (harg22 : arg22.IsWhole) (arg23 : Memref sig .tc .vmem S4x1024x128 .f32) (harg23 : arg23.IsWhole) (arg24 : Memref sig .tc .vmem S4x1024x128 .f32) (harg24 : arg24.IsWhole) (arg25 : Memref sig .tc .vmem S4x4x256x128 .f32) (harg25 : arg25.IsWhole) (arg26 : Memref sig .tc .vmem S4x4x256x128 .f32) (harg26 : arg26.IsWhole) (arg27 : Memref sig .tc .vmem S4x4x256x128 .f32) (harg27 : arg27.IsWhole)     (x0 : Vec Ideal S1x1024x1024 .f32) (x1 : Vec Ideal S1x1024 .f32) (x2 : Vec Ideal S1024x2304 .bf16) (x3 : Vec Ideal S1x128 .f32) (x4 : Vec Ideal S1x128 .f32) (x5 : Vec Ideal S1024x128 .f32) (x6 : Vec Ideal S1024x128 .f32) (x7 : Vec Ideal S256x128 .bf16)

set_option maxHeartbeats 8000000 in
/-- The point's block of the four-phase array: each piece is a strided read of a stored chunk. -/
theorem out18 (y) : out0_A_18 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 y = fineOf (k0_pay167 (k0_pay2 x0 x1) (View.ld x2 (Rect.unit ![0, 1792] ![1024, 512] inb_S1024x2304_S1024x512_0_1792))) y := by
  unfold out0_A_18
  frame_open
  rw [View.read_writes_junk_eq_canon]
  simp (disch := decide) only [↓ View.readCov_skip, ↓ readCov_inside]
  simp (disch := decide) only [View.readAt_eq_ld, Memref.IsWhole.read_unread, View.ld_unit_lit']
  refine View.canon_apply_of_pieces (Val := Elt Ideal) (e := .bf16) (fineOf (k0_pay167 (k0_pay2 x0 x1) (View.ld x2 (Rect.unit ![0, 1792] ![1024, 512] inb_S1024x2304_S1024x512_0_1792)))) _ (View.PiecesOf.mem ?_) y ?_
  rotate_left
  · exact View.cover_of_tiledL (s := S1x4x256x512) (Val := Elt Ideal) (e := .bf16) _ ![1, 1, 256, 128] (by sl_kernel_rfl) y
  simp only [View.PiecesOf]
  refine ⟨?_, ?_, ?_, ?_, ?_, ?_, ?_, ?_, ?_, ?_, ?_, ?_, ?_, ?_, ?_, ?_, trivial⟩
  · exact fun x => (fine_pay _ _).trans (fine_v3 _ _ _ _
      (by
        have h : (x 1).val < 1 := (x 1).isLt
        show 3 + 4 * (x 2).val - 0 = (0 + 1 * (x 2).val) * 4 + (3 + 1 * (x 1).val)
        omega)
      (by
        show 384 + 1 * (x 3).val = 384 + (0 + 1 * (x 3).val - 0)
        omega))
  · exact fun x => (fine_pay _ _).trans (fine_v3 _ _ _ _
      (by
        have h : (x 1).val < 1 := (x 1).isLt
        show 2 + 4 * (x 2).val - 0 = (0 + 1 * (x 2).val) * 4 + (2 + 1 * (x 1).val)
        omega)
      (by
        show 384 + 1 * (x 3).val = 384 + (0 + 1 * (x 3).val - 0)
        omega))
  · exact fun x => (fine_pay _ _).trans (fine_v3 _ _ _ _
      (by
        have h : (x 1).val < 1 := (x 1).isLt
        show 1 + 4 * (x 2).val - 0 = (0 + 1 * (x 2).val) * 4 + (1 + 1 * (x 1).val)
        omega)
      (by
        show 384 + 1 * (x 3).val = 384 + (0 + 1 * (x 3).val - 0)
        omega))
  · exact fun x => (fine_pay _ _).trans (fine_v3 _ _ _ _
      (by
        have h : (x 1).val < 1 := (x 1).isLt
        show 0 + 4 * (x 2).val - 0 = (0 + 1 * (x 2).val) * 4 + (0 + 1 * (x 1).val)
        omega)
      (by
        show 384 + 1 * (x 3).val = 384 + (0 + 1 * (x 3).val - 0)
        omega))
  · exact fun x => (fine_pay _ _).trans (fine_v2 _ _ _ _
      (by
        have h : (x 1).val < 1 := (x 1).isLt
        show 3 + 4 * (x 2).val - 0 = (0 + 1 * (x 2).val) * 4 + (3 + 1 * (x 1).val)
        omega)
      (by
        show 256 + 1 * (x 3).val = 256 + (0 + 1 * (x 3).val - 0)
        omega))
  · exact fun x => (fine_pay _ _).trans (fine_v2 _ _ _ _
      (by
        have h : (x 1).val < 1 := (x 1).isLt
        show 2 + 4 * (x 2).val - 0 = (0 + 1 * (x 2).val) * 4 + (2 + 1 * (x 1).val)
        omega)
      (by
        show 256 + 1 * (x 3).val = 256 + (0 + 1 * (x 3).val - 0)
        omega))
  · exact fun x => (fine_pay _ _).trans (fine_v2 _ _ _ _
      (by
        have h : (x 1).val < 1 := (x 1).isLt
        show 1 + 4 * (x 2).val - 0 = (0 + 1 * (x 2).val) * 4 + (1 + 1 * (x 1).val)
        omega)
      (by
        show 256 + 1 * (x 3).val = 256 + (0 + 1 * (x 3).val - 0)
        omega))
  · exact fun x => (fine_pay _ _).trans (fine_v2 _ _ _ _
      (by
        have h : (x 1).val < 1 := (x 1).isLt
        show 0 + 4 * (x 2).val - 0 = (0 + 1 * (x 2).val) * 4 + (0 + 1 * (x 1).val)
        omega)
      (by
        show 256 + 1 * (x 3).val = 256 + (0 + 1 * (x 3).val - 0)
        omega))
  · exact fun x => (fine_pay _ _).trans (fine_v1 _ _ _ _
      (by
        have h : (x 1).val < 1 := (x 1).isLt
        show 3 + 4 * (x 2).val - 0 = (0 + 1 * (x 2).val) * 4 + (3 + 1 * (x 1).val)
        omega)
      (by
        show 128 + 1 * (x 3).val = 128 + (0 + 1 * (x 3).val - 0)
        omega))
  · exact fun x => (fine_pay _ _).trans (fine_v1 _ _ _ _
      (by
        have h : (x 1).val < 1 := (x 1).isLt
        show 2 + 4 * (x 2).val - 0 = (0 + 1 * (x 2).val) * 4 + (2 + 1 * (x 1).val)
        omega)
      (by
        show 128 + 1 * (x 3).val = 128 + (0 + 1 * (x 3).val - 0)
        omega))
  · exact fun x => (fine_pay _ _).trans (fine_v1 _ _ _ _
      (by
        have h : (x 1).val < 1 := (x 1).isLt
        show 1 + 4 * (x 2).val - 0 = (0 + 1 * (x 2).val) * 4 + (1 + 1 * (x 1).val)
        omega)
      (by
        show 128 + 1 * (x 3).val = 128 + (0 + 1 * (x 3).val - 0)
        omega))
  · exact fun x => (fine_pay _ _).trans (fine_v1 _ _ _ _
      (by
        have h : (x 1).val < 1 := (x 1).isLt
        show 0 + 4 * (x 2).val - 0 = (0 + 1 * (x 2).val) * 4 + (0 + 1 * (x 1).val)
        omega)
      (by
        show 128 + 1 * (x 3).val = 128 + (0 + 1 * (x 3).val - 0)
        omega))
  · exact fun x => (fine_pay _ _).trans (fine_v0 _ _ _ _
      (by
        have h : (x 1).val < 1 := (x 1).isLt
        show 3 + 4 * (x 2).val - 0 = (0 + 1 * (x 2).val) * 4 + (3 + 1 * (x 1).val)
        omega)
      (by
        show 0 + 1 * (x 3).val = 0 + (0 + 1 * (x 3).val - 0)
        omega))
  · exact fun x => (fine_pay _ _).trans (fine_v0 _ _ _ _
      (by
        have h : (x 1).val < 1 := (x 1).isLt
        show 2 + 4 * (x 2).val - 0 = (0 + 1 * (x 2).val) * 4 + (2 + 1 * (x 1).val)
        omega)
      (by
        show 0 + 1 * (x 3).val = 0 + (0 + 1 * (x 3).val - 0)
        omega))
  · exact fun x => (fine_pay _ _).trans (fine_v0 _ _ _ _
      (by
        have h : (x 1).val < 1 := (x 1).isLt
        show 1 + 4 * (x 2).val - 0 = (0 + 1 * (x 2).val) * 4 + (1 + 1 * (x 1).val)
        omega)
      (by
        show 0 + 1 * (x 3).val = 0 + (0 + 1 * (x 3).val - 0)
        omega))
  · exact fun x => (fine_pay _ _).trans (fine_v0 _ _ _ _
      (by
        have h : (x 1).val < 1 := (x 1).isLt
        show 0 + 4 * (x 2).val - 0 = (0 + 1 * (x 2).val) * 4 + (0 + 1 * (x 1).val)
        omega)
      (by
        show 0 + 1 * (x 3).val = 0 + (0 + 1 * (x 3).val - 0)
        omega))
end Cert.KernelProjIdeal.Out
end
-- ==== Proof.ProjFinalC.lean ====
/- What the dilated mixer's arrays by fours hold after the run. -/
module
public import proofs.«01_k».proof.Proof.ProjOut12
public import proofs.«01_k».proof.Proof.ProjOut15
public import proofs.«01_k».proof.Proof.ProjOut18
public import proofs.«01_k».proof.Proof.ProjTurns
public import proofs.«01_k».proof.Proof.ProjPoint
public import Idealize.ShloMosaic.Lib.Pipeline.ValueKit
public import Idealize.ShloMosaic.Lib.Claim
@[expose] public section
set_option maxRecDepth 16384
noncomputable section
namespace Cert.KernelProjIdeal.Arr
open Cert.KernelProjIdeal Cert.KernelProjIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The dilated mixer's queries, by fours, index by index. -/
def G12 (c : Dev nD) : Buf (Elt Ideal) ((c.tc : Thread nD τ).loc main_v63_4) := fun i => ProjRow.fine (ProjRow.queryB (m ((c.tc : Thread nD τ).loc main_arg0)) (m ((c.tc : Thread nD τ).loc main_arg1)) (m ((c.tc : Thread nD τ).loc main_arg2))) i
theorem idx12 : ∀ t : Fin grid0.N, win0_12.index t = ![t.val % 16, 0, t.val / 16, 0] := by decide +kernel

/-- After the run that is what the array holds. -/
theorem final12 (c : Dev nD) :
    (dats m 0 c).arrAt 12 cfg0.N = G12 m c := by
  refine (dats m 0 c).arrAt_eq_of_covers 12 _ (by decide +kernel) fun t hf y => ?_
  have ht := lt32 t
  blk_simp
  rw [after0_12]
  unfold outsAt0
  dsimp only
  obtain ⟨z, p, q, l, rfl⟩ : ∃ (z : Fin 1) (p : Fin 4) (q : Fin 256) (l : Fin 512), y = ix4 z p q l := ⟨y 0, y 1, y 2, y 3, eq_ix4 y⟩
  obtain rfl : z = 0 := Subsingleton.elim _ _
  rw [Out.out12]
  have e : (win0_12.blk t).view.emb (ix4 0 p q l) = ix4 (seq t) p ⟨t.val / 16 * 256 + q.val, by omega⟩ l := by
    unfold seq
    funext a
    refine Fin.ext ?_
    fin_cases a <;> (blk_simp [idx12 t]; try rfl)
  rw [e]
  refine (Out.queryB_piece (m ((c.tc : Thread nD τ).loc main_arg0)) (m ((c.tc : Thread nD τ).loc main_arg1)) (m ((c.tc : Thread nD τ).loc main_arg2)) (seq t) (tok t ⟨q.val * 4 + p.val, by omega⟩) _ _ _ ⟨q.val * 4 + p.val, by omega⟩ (blk0 m c t ⟨q.val * 4 + p.val, by omega⟩) (blk1 m c t) (blk2 m c t) l).trans ?_
  refine congrArg (fun s => ProjRow.queryB (m ((c.tc : Thread nD τ).loc main_arg0)) (m ((c.tc : Thread nD τ).loc main_arg1)) (m ((c.tc : Thread nD τ).loc main_arg2)) (seq t) s l) (Fin.ext ?_)
  show t.val / 16 * 1024 + (q.val * 4 + p.val) = (t.val / 16 * 256 + q.val) * 4 + p.val
  omega

/-- The dilated mixer's keys, by fours, index by index. -/
def G15 (c : Dev nD) : Buf (Elt Ideal) ((c.tc : Thread nD τ).loc main_v63_7) := fun i => ProjRow.fine (ProjRow.keyB (m ((c.tc : Thread nD τ).loc main_arg0)) (m ((c.tc : Thread nD τ).loc main_arg1)) (m ((c.tc : Thread nD τ).loc main_arg2))) i
theorem idx15 : ∀ t : Fin grid0.N, win0_15.index t = ![t.val % 16, 0, t.val / 16, 0] := by decide +kernel

/-- After the run that is what the array holds. -/
theorem final15 (c : Dev nD) :
    (dats m 0 c).arrAt 15 cfg0.N = G15 m c := by
  refine (dats m 0 c).arrAt_eq_of_covers 15 _ (by decide +kernel) fun t hf y => ?_
  have ht := lt32 t
  blk_simp
  rw [after0_15]
  unfold outsAt0
  dsimp only
  obtain ⟨z, p, q, l, rfl⟩ : ∃ (z : Fin 1) (p : Fin 4) (q : Fin 256) (l : Fin 512), y = ix4 z p q l := ⟨y 0, y 1, y 2, y 3, eq_ix4 y⟩
  obtain rfl : z = 0 := Subsingleton.elim _ _
  rw [Out.out15]
  have e : (win0_15.blk t).view.emb (ix4 0 p q l) = ix4 (seq t) p ⟨t.val / 16 * 256 + q.val, by omega⟩ l := by
    unfold seq
    funext a
    refine Fin.ext ?_
    fin_cases a <;> (blk_simp [idx15 t]; try rfl)
  rw [e]
  refine (Out.keyB_piece (m ((c.tc : Thread nD τ).loc main_arg0)) (m ((c.tc : Thread nD τ).loc main_arg1)) (m ((c.tc : Thread nD τ).loc main_arg2)) (seq t) (tok t ⟨q.val * 4 + p.val, by omega⟩) _ _ _ ⟨q.val * 4 + p.val, by omega⟩ (blk0 m c t ⟨q.val * 4 + p.val, by omega⟩) (blk1 m c t) (blk2 m c t) l).trans ?_
  refine congrArg (fun s => ProjRow.keyB (m ((c.tc : Thread nD τ).loc main_arg0)) (m ((c.tc : Thread nD τ).loc main_arg1)) (m ((c.tc : Thread nD τ).loc main_arg2)) (seq t) s l) (Fin.ext ?_)
  show t.val / 16 * 1024 + (q.val * 4 + p.val) = (t.val / 16 * 256 + q.val) * 4 + p.val
  omega

/-- The dilated mixer's values, by fours, index by index. -/
def G18 (c : Dev nD) : Buf (Elt Ideal) ((c.tc : Thread nD τ).loc main_v63_10) := fun i => ProjRow.fine (ProjRow.valueB (m ((c.tc : Thread nD τ).loc main_arg0)) (m ((c.tc : Thread nD τ).loc main_arg1)) (m ((c.tc : Thread nD τ).loc main_arg2))) i
theorem idx18 : ∀ t : Fin grid0.N, win0_18.index t = ![t.val % 16, 0, t.val / 16, 0] := by decide +kernel

/-- After the run that is what the array holds. -/
theorem final18 (c : Dev nD) :
    (dats m 0 c).arrAt 18 cfg0.N = G18 m c := by
  refine (dats m 0 c).arrAt_eq_of_covers 18 _ (by decide +kernel) fun t hf y => ?_
  have ht := lt32 t
  blk_simp
  rw [after0_18]
  unfold outsAt0
  dsimp only
  obtain ⟨z, p, q, l, rfl⟩ : ∃ (z : Fin 1) (p : Fin 4) (q : Fin 256) (l : Fin 512), y = ix4 z p q l := ⟨y 0, y 1, y 2, y 3, eq_ix4 y⟩
  obtain rfl : z = 0 := Subsingleton.elim _ _
  rw [Out.out18]
  have e : (win0_18.blk t).view.emb (ix4 0 p q l) = ix4 (seq t) p ⟨t.val / 16 * 256 + q.val, by omega⟩ l := by
    unfold seq
    funext a
    refine Fin.ext ?_
    fin_cases a <;> (blk_simp [idx18 t]; try rfl)
  rw [e]
  refine (Out.valueB_piece (m ((c.tc : Thread nD τ).loc main_arg0)) (m ((c.tc : Thread nD τ).loc main_arg1)) (m ((c.tc : Thread nD τ).loc main_arg2)) (seq t) (tok t ⟨q.val * 4 + p.val, by omega⟩) _ _ _ ⟨q.val * 4 + p.val, by omega⟩ (blk0 m c t ⟨q.val * 4 + p.val, by omega⟩) (blk1 m c t) (blk2 m c t) l).trans ?_
  refine congrArg (fun s => ProjRow.valueB (m ((c.tc : Thread nD τ).loc main_arg0)) (m ((c.tc : Thread nD τ).loc main_arg1)) (m ((c.tc : Thread nD τ).loc main_arg2)) (seq t) s l) (Fin.ext ?_)
  show t.val / 16 * 1024 + (q.val * 4 + p.val) = (t.val / 16 * 256 + q.val) * 4 + p.val
  omega

end Cert.KernelProjIdeal.Arr
end
-- ==== Proof.ProjOut13.lean ====
/- The queries of the projection's second mixer at one grid point, phase by phase of sixteen. -/
module
public import proofs.«01_k».proof.Proof.Gen.KernelProjIdeal.Frame
public import proofs.«01_k».proof.Proof.ProjReads
public import Idealize.ShloMosaic.Lib.Pointwise
public import Idealize.ShloMosaic.Lib.Pipeline.ValueKit
public import Idealize.ShloMosaic.Lib.Pipeline.ReadBack
@[expose] public section
set_option maxRecDepth 16384
noncomputable section
namespace Cert.KernelProjIdeal.Out
open Cert.KernelProjIdeal Cert.KernelProjIdeal.Gen Idealize.ShloMosaic Idealize.ShloMosaic.TcCoe Idealize.SL.Sem
variable (c : Dev nD) (i : grid0.Coords) (arg2 : Memref sig .tc .vmem S1x1024x1024 .f32) (harg2 : arg2.IsWhole) (arg3 : Memref sig .tc .vmem S1x1024 .f32) (harg3 : arg3.IsWhole) (arg4 : Memref sig .tc .vmem S1024x2304 .bf16) (harg4 : arg4.IsWhole) (arg5 : Memref sig .tc .vmem S1x128 .f32) (harg5 : arg5.IsWhole) (arg6 : Memref sig .tc .vmem S1x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S256x128 .bf16) (harg9 : arg9.IsWhole) (arg10 : Memref sig .tc .vmem S1x512x1024 .bf16) (harg10 : arg10.IsWhole) (arg11 : Memref sig .tc .vmem S1x1024x256 .bf16) (harg11 : arg11.IsWhole) (arg12 : Memref sig .tc .vmem S1x128x1024 .bf16) (harg12 : arg12.IsWhole) (arg13 : Memref sig .tc .vmem S1x1024x512 .bf16) (harg13 : arg13.IsWhole) (arg14 : Memref sig .tc .vmem S1x4x256x512 .bf16) (harg14 : arg14.IsWhole) (arg15 : Memref sig .tc .vmem S1x16x64x512 .bf16) (harg15 : arg15.IsWhole) (arg16 : Memref sig .tc .vmem S1x1024x512 .bf16) (harg16 : arg16.IsWhole) (arg17 : Memref sig .tc .vmem S1x4x256x512 .bf16) (harg17 : arg17.IsWhole) (arg18 : Memref sig .tc .vmem S1x16x64x512 .bf16) (harg18 : arg18.IsWhole) (arg19 : Memref sig .tc .vmem S1x1024x512 .bf16) (harg19 : arg19.IsWhole) (arg20 : Memref sig .tc .vmem S1x4x256x512 .bf16) (harg20 : arg20.IsWhole) (arg21 : Memref sig .tc .vmem S1x16x64x512 .bf16) (harg21 : arg21.IsWhole) (arg22 : Memref sig .tc .vmem S4x1024x128 .f32) (harg22 : arg22.IsWhole) (arg23 : Memref sig .tc .vmem S4x1024x128 .f32) (harg23 : arg23.IsWhole) (arg24 : Memref sig .tc .vmem S4x1024x128 .f32) (harg24 : arg24.IsWhole) (arg25 : Memref sig .tc .vmem S4x4x256x128 .f32) (harg25 : arg25.IsWhole) (arg26 : Memref sig .tc .vmem S4x4x256x128 .f32) (harg26 : arg26.IsWhole) (arg27 : Memref sig .tc .vmem S4x4x256x128 .f32) (harg27 : arg27.IsWhole)     (x0 : Vec Ideal S1x1024x1024 .f32) (x1 : Vec Ideal S1x1024 .f32) (x2 : Vec Ideal S1024x2304 .bf16) (x3 : Vec Ideal S1x128 .f32) (x4 : Vec Ideal S1x128 .f32) (x5 : Vec Ideal S1024x128 .f32) (x6 : Vec Ideal S1024x128 .f32) (x7 : Vec Ideal S256x128 .bf16)

set_option maxHeartbeats 16000000 in
/-- The point's block of the sixteen-phase array: each piece is a strided read of a phase of four. -/
theorem out13 (y) : out0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 y = coarseOf (k0_pay11 (k0_pay2 x0 x1) (View.ld x2 (Rect.unit ![0, 768] ![1024, 512] inb_S1024x2304_S1024x512_0_768))) y := by
  unfold out0_A_13
  frame_open
  rw [View.read_writes_junk_eq_canon]
  simp (disch := decide) only [↓ View.readCov_skip, ↓ readCov_inside]
  simp (disch := decide) only [View.readAt_eq_ld, Memref.IsWhole.read_unread, View.ld_unit_lit']
  refine View.canon_apply_of_pieces (Val := Elt Ideal) (e := .bf16) (coarseOf (k0_pay11 (k0_pay2 x0 x1) (View.ld x2 (Rect.unit ![0, 768] ![1024, 512] inb_S1024x2304_S1024x512_0_768)))) _ (View.PiecesOf.mem ?_) y ?_
  rotate_left
  · exact View.cover_of_tiledL (s := S1x16x64x512) (Val := Elt Ideal) (e := .bf16) _ ![1, 1, 64, 128] (by sl_kernel_rfl) y
  simp only [View.PiecesOf]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, trivial⟩
  · exact fun x => (coarse_pay _ _).trans ((mid_pay _ _).trans (coarse_q3 _ _ _ _
      (by
        have h : (x 1).val < 1 := (x 1).isLt
        show 3 + 4 * (3 + 4 * (x 2).val - 0) - 0 = (0 + 1 * (x 2).val) * 16 + (15 + 1 * (x 1).val)
        omega)
      (by
        show 384 + 1 * (x 3).val = 384 + (0 + 1 * (0 + 1 * (x 3).val - 0) - 0)
        omega)))
  · exact fun x => (coarse_pay _ _).trans ((mid_pay _ _).trans (coarse_q3 _ _ _ _
      (by
        have h : (x 1).val < 1 := (x 1).isLt
        show 3 + 4 * (2 + 4 * (x 2).val - 0) - 0 = (0 + 1 * (x 2).val) * 16 + (11 + 1 * (x 1).val)
        omega)
      (by
        show 384 + 1 * (x 3).val = 384 + (0 + 1 * (0 + 1 * (x 3).val - 0) - 0)
        omega)))
  · exact fun x => (coarse_pay _ _).trans ((mid_pay _ _).trans (coarse_q3 _ _ _ _
      (by
        have h : (x 1).val < 1 := (x 1).isLt
        show 3 + 4 * (1 + 4 * (x 2).val - 0) - 0 = (0 + 1 * (x 2).val) * 16 + (7 + 1 * (x 1).val)
        omega)
      (by
        show 384 + 1 * (x 3).val = 384 + (0 + 1 * (0 + 1 * (x 3).val - 0) - 0)
        omega)))
  · exact fun x => (coarse_pay _ _).trans ((mid_pay _ _).trans (coarse_q3 _ _ _ _
      (by
        have h : (x 1).val < 1 := (x 1).isLt
        show 3 + 4 * (0 + 4 * (x 2).val - 0) - 0 = (0 + 1 * (x 2).val) * 16 + (3 + 1 * (x 1).val)
        omega)
      (by
        show 384 + 1 * (x 3).val = 384 + (0 + 1 * (0 + 1 * (x 3).val - 0) - 0)
        omega)))
  · exact fun x => (coarse_pay _ _).trans ((mid_pay _ _).trans (coarse_q3 _ _ _ _
      (by
        have h : (x 1).val < 1 := (x 1).isLt
        show 2 + 4 * (3 + 4 * (x 2).val - 0) - 0 = (0 + 1 * (x 2).val) * 16 + (14 + 1 * (x 1).val)
        omega)
      (by
        show 384 + 1 * (x 3).val = 384 + (0 + 1 * (0 + 1 * (x 3).val - 0) - 0)
        omega)))
  · exact fun x => (coarse_pay _ _).trans ((mid_pay _ _).trans (coarse_q3 _ _ _ _
      (by
        have h : (x 1).val < 1 := (x 1).isLt
        show 2 + 4 * (2 + 4 * (x 2).val - 0) - 0 = (0 + 1 * (x 2).val) * 16 + (10 + 1 * (x 1).val)
        omega)
      (by
        show 384 + 1 * (x 3).val = 384 + (0 + 1 * (0 + 1 * (x 3).val - 0) - 0)
        omega)))
  · exact fun x => (coarse_pay _ _).trans ((mid_pay _ _).trans (coarse_q3 _ _ _ _
      (by
        have h : (x 1).val < 1 := (x 1).isLt
        show 2 + 4 * (1 + 4 * (x 2).val - 0) - 0 = (0 + 1 * (x 2).val) * 16 + (6 + 1 * (x 1).val)
        omega)
      (by
        show 384 + 1 * (x 3).val = 384 + (0 + 1 * (0 + 1 * (x 3).val - 0) - 0)
        omega)))
  · exact fun x => (coarse_pay _ _).trans ((mid_pay _ _).trans (coarse_q3 _ _ _ _
      (by
        have h : (x 1).val < 1 := (x 1).isLt
        show 2 + 4 * (0 + 4 * (x 2).val - 0) - 0 = (0 + 1 * (x 2).val) * 16 + (2 + 1 * (x 1).val)
        omega)
      (by
        show 384 + 1 * (x 3).val = 384 + (0 + 1 * (0 + 1 * (x 3).val - 0) - 0)
        omega)))
  · exact fun x => (coarse_pay _ _).trans ((mid_pay _ _).trans (coarse_q3 _ _ _ _
      (by
        have h : (x 1).val < 1 := (x 1).isLt
        show 1 + 4 * (3 + 4 * (x 2).val - 0) - 0 = (0 + 1 * (x 2).val) * 16 + (13 + 1 * (x 1).val)
        omega)
      (by
        show 384 + 1 * (x 3).val = 384 + (0 + 1 * (0 + 1 * (x 3).val - 0) - 0)
        omega)))
  · exact fun x => (coarse_pay _ _).trans ((mid_pay _ _).trans (coarse_q3 _ _ _ _
      (by
        have h : (x 1).val < 1 := (x 1).isLt
        show 1 + 4 * (2 + 4 * (x 2).val - 0) - 0 = (0 + 1 * (x 2).val) * 16 + (9 + 1 * (x 1).val)
        omega)
      (by
        show 384 + 1 * (x 3).val = 384 + (0 + 1 * (0 + 1 * (x 3).val - 0) - 0)
        omega)))
  · exact fun x => (coarse_pay _ _).trans ((mid_pay _ _).trans (coarse_q3 _ _ _ _
      (by
        have h : (x 1).val < 1 := (x 1).isLt
        show 1 + 4 * (1 + 4 * (x 2).val - 0) - 0 = (0 + 1 * (x 2).val) * 16 + (5 + 1 * (x 1).val)
        omega)
      (by
        show 384 + 1 * (x 3).val = 384 + (0 + 1 * (0 + 1 * (x 3).val - 0) - 0)
        omega)))
  · exact fun x => (coarse_pay _ _).trans ((mid_pay _ _).trans (coarse_q3 _ _ _ _
      (by
        have h : (x 1).val < 1 := (x 1).isLt
        show 1 + 4 * (0 + 4 * (x 2).val - 0) - 0 = (0 + 1 * (x 2).val) * 16 + (1 + 1 * (x 1).val)
        omega)
      (by
        show 384 + 1 * (x 3).val = 384 + (0 + 1 * (0 + 1 * (x 3).val - 0) - 0)
        omega)))
  · exact fun x => (coarse_pay _ _).trans ((mid_pay _ _).trans (coarse_q3 _ _ _ _
      (by
        have h : (x 1).val < 1 := (x 1).isLt
        show 0 + 4 * (3 + 4 * (x 2).val - 0) - 0 = (0 + 1 * (x 2).val) * 16 + (12 + 1 * (x 1).val)
        omega)
      (by
        show 384 + 1 * (x 3).val = 384 + (0 + 1 * (0 + 1 * (x 3).val - 0) - 0)
        omega)))
  · exact fun x => (coarse_pay _ _).trans ((mid_pay _ _).trans (coarse_q3 _ _ _ _
      (by
        have h : (x 1).val < 1 := (x 1).isLt
        show 0 + 4 * (2 + 4 * (x 2).val - 0) - 0 = (0 + 1 * (x 2).val) * 16 + (8 + 1 * (x 1).val)
        omega)
      (by
        show 384 + 1 * (x 3).val = 384 + (0 + 1 * (0 + 1 * (x 3).val - 0) - 0)
        omega)))
  · exact fun x => (coarse_pay _ _).trans ((mid_pay _ _).trans (coarse_q3 _ _ _ _
      (by
        have h : (x 1).val < 1 := (x 1).isLt
        show 0 + 4 * (1 + 4 * (x 2).val - 0) - 0 = (0 + 1 * (x 2).val) * 16 + (4 + 1 * (x 1).val)
        omega)
      (by
        show 384 + 1 * (x 3).val = 384 + (0 + 1 * (0 + 1 * (x 3).val - 0) - 0)
        omega)))
  · exact fun x => (coarse_pay _ _).trans ((mid_pay _ _).trans (coarse_q3 _ _ _ _
      (by
        have h : (x 1).val < 1 := (x 1).isLt
        show 0 + 4 * (0 + 4 * (x 2).val - 0) - 0 = (0 + 1 * (x 2).val) * 16 + (0 + 1 * (x 1).val)
        omega)
      (by
        show 384 + 1 * (x 3).val = 384 + (0 + 1 * (0 + 1 * (x 3).val - 0) - 0)
        omega)))
  · exact fun x => (coarse_pay _ _).trans ((mid_pay _ _).trans (coarse_q2 _ _ _ _
      (by
        have h : (x 1).val < 1 := (x 1).isLt
        show 3 + 4 * (3 + 4 * (x 2).val - 0) - 0 = (0 + 1 * (x 2).val) * 16 + (15 + 1 * (x 1).val)
        omega)
      (by
        show 256 + 1 * (x 3).val = 256 + (0 + 1 * (0 + 1 * (x 3).val - 0) - 0)
        omega)))
  · exact fun x => (coarse_pay _ _).trans ((mid_pay _ _).trans (coarse_q2 _ _ _ _
      (by
        have h : (x 1).val < 1 := (x 1).isLt
        show 3 + 4 * (2 + 4 * (x 2).val - 0) - 0 = (0 + 1 * (x 2).val) * 16 + (11 + 1 * (x 1).val)
        omega)
      (by
        show 256 + 1 * (x 3).val = 256 + (0 + 1 * (0 + 1 * (x 3).val - 0) - 0)
        omega)))
  · exact fun x => (coarse_pay _ _).trans ((mid_pay _ _).trans (coarse_q2 _ _ _ _
      (by
        have h : (x 1).val < 1 := (x 1).isLt
        show 3 + 4 * (1 + 4 * (x 2).val - 0) - 0 = (0 + 1 * (x 2).val) * 16 + (7 + 1 * (x 1).val)
        omega)
      (by
        show 256 + 1 * (x 3).val = 256 + (0 + 1 * (0 + 1 * (x 3).val - 0) - 0)
        omega)))
  · exact fun x => (coarse_pay _ _).trans ((mid_pay _ _).trans (coarse_q2 _ _ _ _
      (by
        have h : (x 1).val < 1 := (x 1).isLt
        show 3 + 4 * (0 + 4 * (x 2).val - 0) - 0 = (0 + 1 * (x 2).val) * 16 + (3 + 1 * (x 1).val)
        omega)
      (by
        show 256 + 1 * (x 3).val = 256 + (0 + 1 * (0 + 1 * (x 3).val - 0) - 0)
        omega)))
  · exact fun x => (coarse_pay _ _).trans ((mid_pay _ _).trans (coarse_q2 _ _ _ _
      (by
        have h : (x 1).val < 1 := (x 1).isLt
        show 2 + 4 * (3 + 4 * (x 2).val - 0) - 0 = (0 + 1 * (x 2).val) * 16 + (14 + 1 * (x 1).val)
        omega)
      (by
        show 256 + 1 * (x 3).val = 256 + (0 + 1 * (0 + 1 * (x 3).val - 0) - 0)
        omega)))
  · exact fun x => (coarse_pay _ _).trans ((mid_pay _ _).trans (coarse_q2 _ _ _ _
      (by
        have h : (x 1).val < 1 := (x 1).isLt
        show 2 + 4 * (2 + 4 * (x 2).val - 0) - 0 = (0 + 1 * (x 2).val) * 16 + (10 + 1 * (x 1).val)
        omega)
      (by
        show 256 + 1 * (x 3).val = 256 + (0 + 1 * (0 + 1 * (x 3).val - 0) - 0)
        omega)))
  · exact fun x => (coarse_pay _ _).trans ((mid_pay _ _).trans (coarse_q2 _ _ _ _
      (by
        have h : (x 1).val < 1 := (x 1).isLt
        show 2 + 4 * (1 + 4 * (x 2).val - 0) - 0 = (0 + 1 * (x 2).val) * 16 + (6 + 1 * (x 1).val)
        omega)
      (by
        show 256 + 1 * (x 3).val = 256 + (0 + 1 * (0 + 1 * (x 3).val - 0) - 0)
        omega)))
  · exact fun x => (coarse_pay _ _).trans ((mid_pay _ _).trans (coarse_q2 _ _ _ _
      (by
        have h : (x 1).val < 1 := (x 1).isLt
        show 2 + 4 * (0 + 4 * (x 2).val - 0) - 0 = (0 + 1 * (x 2).val) * 16 + (2 + 1 * (x 1).val)
        omega)
      (by
        show 256 + 1 * (x 3).val = 256 + (0 + 1 * (0 + 1 * (x 3).val - 0) - 0)
        omega)))
  · exact fun x => (coarse_pay _ _).trans ((mid_pay _ _).trans (coarse_q2 _ _ _ _
      (by
        have h : (x 1).val < 1 := (x 1).isLt
        show 1 + 4 * (3 + 4 * (x 2).val - 0) - 0 = (0 + 1 * (x 2).val) * 16 + (13 + 1 * (x 1).val)
        omega)
      (by
        show 256 + 1 * (x 3).val = 256 + (0 + 1 * (0 + 1 * (x 3).val - 0) - 0)
        omega)))
  · exact fun x => (coarse_pay _ _).trans ((mid_pay _ _).trans (coarse_q2 _ _ _ _
      (by
        have h : (x 1).val < 1 := (x 1).isLt
        show 1 + 4 * (2 + 4 * (x 2).val - 0) - 0 = (0 + 1 * (x 2).val) * 16 + (9 + 1 * (x 1).val)
        omega)
      (by
        show 256 + 1 * (x 3).val = 256 + (0 + 1 * (0 + 1 * (x 3).val - 0) - 0)
        omega)))
  · exact fun x => (coarse_pay _ _).trans ((mid_pay _ _).trans (coarse_q2 _ _ _ _
      (by
        have h : (x 1).val < 1 := (x 1).isLt
        show 1 + 4 * (1 + 4 * (x 2).val - 0) - 0 = (0 + 1 * (x 2).val) * 16 + (5 + 1 * (x 1).val)
        omega)
      (by
        show 256 + 1 * (x 3).val = 256 + (0 + 1 * (0 + 1 * (x 3).val - 0) - 0)
        omega)))
  · exact fun x => (coarse_pay _ _).trans ((mid_pay _ _).trans (coarse_q2 _ _ _ _
      (by
        have h : (x 1).val < 1 := (x 1).isLt
        show 1 + 4 * (0 + 4 * (x 2).val - 0) - 0 = (0 + 1 * (x 2).val) * 16 + (1 + 1 * (x 1).val)
        omega)
      (by
        show 256 + 1 * (x 3).val = 256 + (0 + 1 * (0 + 1 * (x 3).val - 0) - 0)
        omega)))
  · exact fun x => (coarse_pay _ _).trans ((mid_pay _ _).trans (coarse_q2 _ _ _ _
      (by
        have h : (x 1).val < 1 := (x 1).isLt
        show 0 + 4 * (3 + 4 * (x 2).val - 0) - 0 = (0 + 1 * (x 2).val) * 16 + (12 + 1 * (x 1).val)
        omega)
      (by
        show 256 + 1 * (x 3).val = 256 + (0 + 1 * (0 + 1 * (x 3).val - 0) - 0)
        omega)))
  · exact fun x => (coarse_pay _ _).trans ((mid_pay _ _).trans (coarse_q2 _ _ _ _
      (by
        have h : (x 1).val < 1 := (x 1).isLt
        show 0 + 4 * (2 + 4 * (x 2).val - 0) - 0 = (0 + 1 * (x 2).val) * 16 + (8 + 1 * (x 1).val)
        omega)
      (by
        show 256 + 1 * (x 3).val = 256 + (0 + 1 * (0 + 1 * (x 3).val - 0) - 0)
        omega)))
  · exact fun x => (coarse_pay _ _).trans ((mid_pay _ _).trans (coarse_q2 _ _ _ _
      (by
        have h : (x 1).val < 1 := (x 1).isLt
        show 0 + 4 * (1 + 4 * (x 2).val - 0) - 0 = (0 + 1 * (x 2).val) * 16 + (4 + 1 * (x 1).val)
        omega)
      (by
        show 256 + 1 * (x 3).val = 256 + (0 + 1 * (0 + 1 * (x 3).val - 0) - 0)
        omega)))
  · exact fun x => (coarse_pay _ _).trans ((mid_pay _ _).trans (coarse_q2 _ _ _ _
      (by
        have h : (x 1).val < 1 := (x 1).isLt
        show 0 + 4 * (0 + 4 * (x 2).val - 0) - 0 = (0 + 1 * (x 2).val) * 16 + (0 + 1 * (x 1).val)
        omega)
      (by
        show 256 + 1 * (x 3).val = 256 + (0 + 1 * (0 + 1 * (x 3).val - 0) - 0)
        omega)))
  · exact fun x => (coarse_pay _ _).trans ((mid_pay _ _).trans (coarse_q1 _ _ _ _
      (by
        have h : (x 1).val < 1 := (x 1).isLt
        show 3 + 4 * (3 + 4 * (x 2).val - 0) - 0 = (0 + 1 * (x 2).val) * 16 + (15 + 1 * (x 1).val)
        omega)
      (by
        show 128 + 1 * (x 3).val = 128 + (0 + 1 * (0 + 1 * (x 3).val - 0) - 0)
        omega)))
  · exact fun x => (coarse_pay _ _).trans ((mid_pay _ _).trans (coarse_q1 _ _ _ _
      (by
        have h : (x 1).val < 1 := (x 1).isLt
        show 3 + 4 * (2 + 4 * (x 2).val - 0) - 0 = (0 + 1 * (x 2).val) * 16 + (11 + 1 * (x 1).val)
        omega)
      (by
        show 128 + 1 * (x 3).val = 128 + (0 + 1 * (0 + 1 * (x 3).val - 0) - 0)
        omega)))
  · exact fun x => (coarse_pay _ _).trans ((mid_pay _ _).trans (coarse_q1 _ _ _ _
      (by
        have h : (x 1).val < 1 := (x 1).isLt
        show 3 + 4 * (1 + 4 * (x 2).val - 0) - 0 = (0 + 1 * (x 2).val) * 16 + (7 + 1 * (x 1).val)
        omega)
      (by
        show 128 + 1 * (x 3).val = 128 + (0 + 1 * (0 + 1 * (x 3).val - 0) - 0)
        omega)))
  · exact fun x => (coarse_pay _ _).trans ((mid_pay _ _).trans (coarse_q1 _ _ _ _
      (by
        have h : (x 1).val < 1 := (x 1).isLt
        show 3 + 4 * (0 + 4 * (x 2).val - 0) - 0 = (0 + 1 * (x 2).val) * 16 + (3 + 1 * (x 1).val)
        omega)
      (by
        show 128 + 1 * (x 3).val = 128 + (0 + 1 * (0 + 1 * (x 3).val - 0) - 0)
        omega)))
  · exact fun x => (coarse_pay _ _).trans ((mid_pay _ _).trans (coarse_q1 _ _ _ _
      (by
        have h : (x 1).val < 1 := (x 1).isLt
        show 2 + 4 * (3 + 4 * (x 2).val - 0) - 0 = (0 + 1 * (x 2).val) * 16 + (14 + 1 * (x 1).val)
        omega)
      (by
        show 128 + 1 * (x 3).val = 128 + (0 + 1 * (0 + 1 * (x 3).val - 0) - 0)
        omega)))
  · exact fun x => (coarse_pay _ _).trans ((mid_pay _ _).trans (coarse_q1 _ _ _ _
      (by
        have h : (x 1).val < 1 := (x 1).isLt
        show 2 + 4 * (2 + 4 * (x 2).val - 0) - 0 = (0 + 1 * (x 2).val) * 16 + (10 + 1 * (x 1).val)
        omega)
      (by
        show 128 + 1 * (x 3).val = 128 + (0 + 1 * (0 + 1 * (x 3).val - 0) - 0)
        omega)))
  · exact fun x => (coarse_pay _ _).trans ((mid_pay _ _).trans (coarse_q1 _ _ _ _
      (by
        have h : (x 1).val < 1 := (x 1).isLt
        show 2 + 4 * (1 + 4 * (x 2).val - 0) - 0 = (0 + 1 * (x 2).val) * 16 + (6 + 1 * (x 1).val)
        omega)
      (by
        show 128 + 1 * (x 3).val = 128 + (0 + 1 * (0 + 1 * (x 3).val - 0) - 0)
        omega)))
  · exact fun x => (coarse_pay _ _).trans ((mid_pay _ _).trans (coarse_q1 _ _ _ _
      (by
        have h : (x 1).val < 1 := (x 1).isLt
        show 2 + 4 * (0 + 4 * (x 2).val - 0) - 0 = (0 + 1 * (x 2).val) * 16 + (2 + 1 * (x 1).val)
        omega)
      (by
        show 128 + 1 * (x 3).val = 128 + (0 + 1 * (0 + 1 * (x 3).val - 0) - 0)
        omega)))
  · exact fun x => (coarse_pay _ _).trans ((mid_pay _ _).trans (coarse_q1 _ _ _ _
      (by
        have h : (x 1).val < 1 := (x 1).isLt
        show 1 + 4 * (3 + 4 * (x 2).val - 0) - 0 = (0 + 1 * (x 2).val) * 16 + (13 + 1 * (x 1).val)
        omega)
      (by
        show 128 + 1 * (x 3).val = 128 + (0 + 1 * (0 + 1 * (x 3).val - 0) - 0)
        omega)))
  · exact fun x => (coarse_pay _ _).trans ((mid_pay _ _).trans (coarse_q1 _ _ _ _
      (by
        have h : (x 1).val < 1 := (x 1).isLt
        show 1 + 4 * (2 + 4 * (x 2).val - 0) - 0 = (0 + 1 * (x 2).val) * 16 + (9 + 1 * (x 1).val)
        omega)
      (by
        show 128 + 1 * (x 3).val = 128 + (0 + 1 * (0 + 1 * (x 3).val - 0) - 0)
        omega)))
  · exact fun x => (coarse_pay _ _).trans ((mid_pay _ _).trans (coarse_q1 _ _ _ _
      (by
        have h : (x 1).val < 1 := (x 1).isLt
        show 1 + 4 * (1 + 4 * (x 2).val - 0) - 0 = (0 + 1 * (x 2).val) * 16 + (5 + 1 * (x 1).val)
        omega)
      (by
        show 128 + 1 * (x 3).val = 128 + (0 + 1 * (0 + 1 * (x 3).val - 0) - 0)
        omega)))
  · exact fun x => (coarse_pay _ _).trans ((mid_pay _ _).trans (coarse_q1 _ _ _ _
      (by
        have h : (x 1).val < 1 := (x 1).isLt
        show 1 + 4 * (0 + 4 * (x 2).val - 0) - 0 = (0 + 1 * (x 2).val) * 16 + (1 + 1 * (x 1).val)
        omega)
      (by
        show 128 + 1 * (x 3).val = 128 + (0 + 1 * (0 + 1 * (x 3).val - 0) - 0)
        omega)))
  · exact fun x => (coarse_pay _ _).trans ((mid_pay _ _).trans (coarse_q1 _ _ _ _
      (by
        have h : (x 1).val < 1 := (x 1).isLt
        show 0 + 4 * (3 + 4 * (x 2).val - 0) - 0 = (0 + 1 * (x 2).val) * 16 + (12 + 1 * (x 1).val)
        omega)
      (by
        show 128 + 1 * (x 3).val = 128 + (0 + 1 * (0 + 1 * (x 3).val - 0) - 0)
        omega)))
  · exact fun x => (coarse_pay _ _).trans ((mid_pay _ _).trans (coarse_q1 _ _ _ _
      (by
        have h : (x 1).val < 1 := (x 1).isLt
        show 0 + 4 * (2 + 4 * (x 2).val - 0) - 0 = (0 + 1 * (x 2).val) * 16 + (8 + 1 * (x 1).val)
        omega)
      (by
        show 128 + 1 * (x 3).val = 128 + (0 + 1 * (0 + 1 * (x 3).val - 0) - 0)
        omega)))
  · exact fun x => (coarse_pay _ _).trans ((mid_pay _ _).trans (coarse_q1 _ _ _ _
      (by
        have h : (x 1).val < 1 := (x 1).isLt
        show 0 + 4 * (1 + 4 * (x 2).val - 0) - 0 = (0 + 1 * (x 2).val) * 16 + (4 + 1 * (x 1).val)
        omega)
      (by
        show 128 + 1 * (x 3).val = 128 + (0 + 1 * (0 + 1 * (x 3).val - 0) - 0)
        omega)))
  · exact fun x => (coarse_pay _ _).trans ((mid_pay _ _).trans (coarse_q1 _ _ _ _
      (by
        have h : (x 1).val < 1 := (x 1).isLt
        show 0 + 4 * (0 + 4 * (x 2).val - 0) - 0 = (0 + 1 * (x 2).val) * 16 + (0 + 1 * (x 1).val)
        omega)
      (by
        show 128 + 1 * (x 3).val = 128 + (0 + 1 * (0 + 1 * (x 3).val - 0) - 0)
        omega)))
  · exact fun x => (coarse_pay _ _).trans ((mid_pay _ _).trans (coarse_q0 _ _ _ _
      (by
        have h : (x 1).val < 1 := (x 1).isLt
        show 3 + 4 * (3 + 4 * (x 2).val - 0) - 0 = (0 + 1 * (x 2).val) * 16 + (15 + 1 * (x 1).val)
        omega)
      (by
        show 0 + 1 * (x 3).val = 0 + (0 + 1 * (0 + 1 * (x 3).val - 0) - 0)
        omega)))
  · exact fun x => (coarse_pay _ _).trans ((mid_pay _ _).trans (coarse_q0 _ _ _ _
      (by
        have h : (x 1).val < 1 := (x 1).isLt
        show 3 + 4 * (2 + 4 * (x 2).val - 0) - 0 = (0 + 1 * (x 2).val) * 16 + (11 + 1 * (x 1).val)
        omega)
      (by
        show 0 + 1 * (x 3).val = 0 + (0 + 1 * (0 + 1 * (x 3).val - 0) - 0)
        omega)))
  · exact fun x => (coarse_pay _ _).trans ((mid_pay _ _).trans (coarse_q0 _ _ _ _
      (by
        have h : (x 1).val < 1 := (x 1).isLt
        show 3 + 4 * (1 + 4 * (x 2).val - 0) - 0 = (0 + 1 * (x 2).val) * 16 + (7 + 1 * (x 1).val)
        omega)
      (by
        show 0 + 1 * (x 3).val = 0 + (0 + 1 * (0 + 1 * (x 3).val - 0) - 0)
        omega)))
  · exact fun x => (coarse_pay _ _).trans ((mid_pay _ _).trans (coarse_q0 _ _ _ _
      (by
        have h : (x 1).val < 1 := (x 1).isLt
        show 3 + 4 * (0 + 4 * (x 2).val - 0) - 0 = (0 + 1 * (x 2).val) * 16 + (3 + 1 * (x 1).val)
        omega)
      (by
        show 0 + 1 * (x 3).val = 0 + (0 + 1 * (0 + 1 * (x 3).val - 0) - 0)
        omega)))
  · exact fun x => (coarse_pay _ _).trans ((mid_pay _ _).trans (coarse_q0 _ _ _ _
      (by
        have h : (x 1).val < 1 := (x 1).isLt
        show 2 + 4 * (3 + 4 * (x 2).val - 0) - 0 = (0 + 1 * (x 2).val) * 16 + (14 + 1 * (x 1).val)
        omega)
      (by
        show 0 + 1 * (x 3).val = 0 + (0 + 1 * (0 + 1 * (x 3).val - 0) - 0)
        omega)))
  · exact fun x => (coarse_pay _ _).trans ((mid_pay _ _).trans (coarse_q0 _ _ _ _
      (by
        have h : (x 1).val < 1 := (x 1).isLt
        show 2 + 4 * (2 + 4 * (x 2).val - 0) - 0 = (0 + 1 * (x 2).val) * 16 + (10 + 1 * (x 1).val)
        omega)
      (by
        show 0 + 1 * (x 3).val = 0 + (0 + 1 * (0 + 1 * (x 3).val - 0) - 0)
        omega)))
  · exact fun x => (coarse_pay _ _).trans ((mid_pay _ _).trans (coarse_q0 _ _ _ _
      (by
        have h : (x 1).val < 1 := (x 1).isLt
        show 2 + 4 * (1 + 4 * (x 2).val - 0) - 0 = (0 + 1 * (x 2).val) * 16 + (6 + 1 * (x 1).val)
        omega)
      (by
        show 0 + 1 * (x 3).val = 0 + (0 + 1 * (0 + 1 * (x 3).val - 0) - 0)
        omega)))
  · exact fun x => (coarse_pay _ _).trans ((mid_pay _ _).trans (coarse_q0 _ _ _ _
      (by
        have h : (x 1).val < 1 := (x 1).isLt
        show 2 + 4 * (0 + 4 * (x 2).val - 0) - 0 = (0 + 1 * (x 2).val) * 16 + (2 + 1 * (x 1).val)
        omega)
      (by
        show 0 + 1 * (x 3).val = 0 + (0 + 1 * (0 + 1 * (x 3).val - 0) - 0)
        omega)))
  · exact fun x => (coarse_pay _ _).trans ((mid_pay _ _).trans (coarse_q0 _ _ _ _
      (by
        have h : (x 1).val < 1 := (x 1).isLt
        show 1 + 4 * (3 + 4 * (x 2).val - 0) - 0 = (0 + 1 * (x 2).val) * 16 + (13 + 1 * (x 1).val)
        omega)
      (by
        show 0 + 1 * (x 3).val = 0 + (0 + 1 * (0 + 1 * (x 3).val - 0) - 0)
        omega)))
  · exact fun x => (coarse_pay _ _).trans ((mid_pay _ _).trans (coarse_q0 _ _ _ _
      (by
        have h : (x 1).val < 1 := (x 1).isLt
        show 1 + 4 * (2 + 4 * (x 2).val - 0) - 0 = (0 + 1 * (x 2).val) * 16 + (9 + 1 * (x 1).val)
        omega)
      (by
        show 0 + 1 * (x 3).val = 0 + (0 + 1 * (0 + 1 * (x 3).val - 0) - 0)
        omega)))
  · exact fun x => (coarse_pay _ _).trans ((mid_pay _ _).trans (coarse_q0 _ _ _ _
      (by
        have h : (x 1).val < 1 := (x 1).isLt
        show 1 + 4 * (1 + 4 * (x 2).val - 0) - 0 = (0 + 1 * (x 2).val) * 16 + (5 + 1 * (x 1).val)
        omega)
      (by
        show 0 + 1 * (x 3).val = 0 + (0 + 1 * (0 + 1 * (x 3).val - 0) - 0)
        omega)))
  · exact fun x => (coarse_pay _ _).trans ((mid_pay _ _).trans (coarse_q0 _ _ _ _
      (by
        have h : (x 1).val < 1 := (x 1).isLt
        show 1 + 4 * (0 + 4 * (x 2).val - 0) - 0 = (0 + 1 * (x 2).val) * 16 + (1 + 1 * (x 1).val)
        omega)
      (by
        show 0 + 1 * (x 3).val = 0 + (0 + 1 * (0 + 1 * (x 3).val - 0) - 0)
        omega)))
  · exact fun x => (coarse_pay _ _).trans ((mid_pay _ _).trans (coarse_q0 _ _ _ _
      (by
        have h : (x 1).val < 1 := (x 1).isLt
        show 0 + 4 * (3 + 4 * (x 2).val - 0) - 0 = (0 + 1 * (x 2).val) * 16 + (12 + 1 * (x 1).val)
        omega)
      (by
        show 0 + 1 * (x 3).val = 0 + (0 + 1 * (0 + 1 * (x 3).val - 0) - 0)
        omega)))
  · exact fun x => (coarse_pay _ _).trans ((mid_pay _ _).trans (coarse_q0 _ _ _ _
      (by
        have h : (x 1).val < 1 := (x 1).isLt
        show 0 + 4 * (2 + 4 * (x 2).val - 0) - 0 = (0 + 1 * (x 2).val) * 16 + (8 + 1 * (x 1).val)
        omega)
      (by
        show 0 + 1 * (x 3).val = 0 + (0 + 1 * (0 + 1 * (x 3).val - 0) - 0)
        omega)))
  · exact fun x => (coarse_pay _ _).trans ((mid_pay _ _).trans (coarse_q0 _ _ _ _
      (by
        have h : (x 1).val < 1 := (x 1).isLt
        show 0 + 4 * (1 + 4 * (x 2).val - 0) - 0 = (0 + 1 * (x 2).val) * 16 + (4 + 1 * (x 1).val)
        omega)
      (by
        show 0 + 1 * (x 3).val = 0 + (0 + 1 * (0 + 1 * (x 3).val - 0) - 0)
        omega)))
  · exact fun x => (coarse_pay _ _).trans ((mid_pay _ _).trans (coarse_q0 _ _ _ _
      (by
        have h : (x 1).val < 1 := (x 1).isLt
        show 0 + 4 * (0 + 4 * (x 2).val - 0) - 0 = (0 + 1 * (x 2).val) * 16 + (0 + 1 * (x 1).val)
        omega)
      (by
        show 0 + 1 * (x 3).val = 0 + (0 + 1 * (0 + 1 * (x 3).val - 0) - 0)
        omega)))
end Cert.KernelProjIdeal.Out
end
-- ==== Proof.ProjOut16.lean ====
/- The keys of the projection's second mixer at one grid point, phase by phase of sixteen. -/
module
public import proofs.«01_k».proof.Proof.Gen.KernelProjIdeal.Frame
public import proofs.«01_k».proof.Proof.ProjReads
public import Idealize.ShloMosaic.Lib.Pointwise
public import Idealize.ShloMosaic.Lib.Pipeline.ValueKit
public import Idealize.ShloMosaic.Lib.Pipeline.ReadBack
@[expose] public section
set_option maxRecDepth 16384
noncomputable section
namespace Cert.KernelProjIdeal.Out
open Cert.KernelProjIdeal Cert.KernelProjIdeal.Gen Idealize.ShloMosaic Idealize.ShloMosaic.TcCoe Idealize.SL.Sem
variable (c : Dev nD) (i : grid0.Coords) (arg2 : Memref sig .tc .vmem S1x1024x1024 .f32) (harg2 : arg2.IsWhole) (arg3 : Memref sig .tc .vmem S1x1024 .f32) (harg3 : arg3.IsWhole) (arg4 : Memref sig .tc .vmem S1024x2304 .bf16) (harg4 : arg4.IsWhole) (arg5 : Memref sig .tc .vmem S1x128 .f32) (harg5 : arg5.IsWhole) (arg6 : Memref sig .tc .vmem S1x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S256x128 .bf16) (harg9 : arg9.IsWhole) (arg10 : Memref sig .tc .vmem S1x512x1024 .bf16) (harg10 : arg10.IsWhole) (arg11 : Memref sig .tc .vmem S1x1024x256 .bf16) (harg11 : arg11.IsWhole) (arg12 : Memref sig .tc .vmem S1x128x1024 .bf16) (harg12 : arg12.IsWhole) (arg13 : Memref sig .tc .vmem S1x1024x512 .bf16) (harg13 : arg13.IsWhole) (arg14 : Memref sig .tc .vmem S1x4x256x512 .bf16) (harg14 : arg14.IsWhole) (arg15 : Memref sig .tc .vmem S1x16x64x512 .bf16) (harg15 : arg15.IsWhole) (arg16 : Memref sig .tc .vmem S1x1024x512 .bf16) (harg16 : arg16.IsWhole) (arg17 : Memref sig .tc .vmem S1x4x256x512 .bf16) (harg17 : arg17.IsWhole) (arg18 : Memref sig .tc .vmem S1x16x64x512 .bf16) (harg18 : arg18.IsWhole) (arg19 : Memref sig .tc .vmem S1x1024x512 .bf16) (harg19 : arg19.IsWhole) (arg20 : Memref sig .tc .vmem S1x4x256x512 .bf16) (harg20 : arg20.IsWhole) (arg21 : Memref sig .tc .vmem S1x16x64x512 .bf16) (harg21 : arg21.IsWhole) (arg22 : Memref sig .tc .vmem S4x1024x128 .f32) (harg22 : arg22.IsWhole) (arg23 : Memref sig .tc .vmem S4x1024x128 .f32) (harg23 : arg23.IsWhole) (arg24 : Memref sig .tc .vmem S4x1024x128 .f32) (harg24 : arg24.IsWhole) (arg25 : Memref sig .tc .vmem S4x4x256x128 .f32) (harg25 : arg25.IsWhole) (arg26 : Memref sig .tc .vmem S4x4x256x128 .f32) (harg26 : arg26.IsWhole) (arg27 : Memref sig .tc .vmem S4x4x256x128 .f32) (harg27 : arg27.IsWhole)     (x0 : Vec Ideal S1x1024x1024 .f32) (x1 : Vec Ideal S1x1024 .f32) (x2 : Vec Ideal S1024x2304 .bf16) (x3 : Vec Ideal S1x128 .f32) (x4 : Vec Ideal S1x128 .f32) (x5 : Vec Ideal S1024x128 .f32) (x6 : Vec Ideal S1024x128 .f32) (x7 : Vec Ideal S256x128 .bf16)

set_option maxHeartbeats 16000000 in
/-- The point's block of the sixteen-phase array: each piece is a strided read of a phase of four. -/
theorem out16 (y) : out0_A_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 y = coarseOf (k0_pay27 (k0_pay2 x0 x1) (View.ld x2 (Rect.unit ![0, 1280] ![1024, 512] inb_S1024x2304_S1024x512_0_1280))) y := by
  unfold out0_A_16
  frame_open
  rw [View.read_writes_junk_eq_canon]
  simp (disch := decide) only [↓ View.readCov_skip, ↓ readCov_inside]
  simp (disch := decide) only [View.readAt_eq_ld, Memref.IsWhole.read_unread, View.ld_unit_lit']
  refine View.canon_apply_of_pieces (Val := Elt Ideal) (e := .bf16) (coarseOf (k0_pay27 (k0_pay2 x0 x1) (View.ld x2 (Rect.unit ![0, 1280] ![1024, 512] inb_S1024x2304_S1024x512_0_1280)))) _ (View.PiecesOf.mem ?_) y ?_
  rotate_left
  · exact View.cover_of_tiledL (s := S1x16x64x512) (Val := Elt Ideal) (e := .bf16) _ ![1, 1, 64, 128] (by sl_kernel_rfl) y
  simp only [View.PiecesOf]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, trivial⟩
  · exact fun x => (coarse_pay _ _).trans ((mid_pay _ _).trans (coarse_k3 _ _ _ _
      (by
        have h : (x 1).val < 1 := (x 1).isLt
        show 3 + 4 * (3 + 4 * (x 2).val - 0) - 0 = (0 + 1 * (x 2).val) * 16 + (15 + 1 * (x 1).val)
        omega)
      (by
        show 384 + 1 * (x 3).val = 384 + (0 + 1 * (0 + 1 * (x 3).val - 0) - 0)
        omega)))
  · exact fun x => (coarse_pay _ _).trans ((mid_pay _ _).trans (coarse_k3 _ _ _ _
      (by
        have h : (x 1).val < 1 := (x 1).isLt
        show 3 + 4 * (2 + 4 * (x 2).val - 0) - 0 = (0 + 1 * (x 2).val) * 16 + (11 + 1 * (x 1).val)
        omega)
      (by
        show 384 + 1 * (x 3).val = 384 + (0 + 1 * (0 + 1 * (x 3).val - 0) - 0)
        omega)))
  · exact fun x => (coarse_pay _ _).trans ((mid_pay _ _).trans (coarse_k3 _ _ _ _
      (by
        have h : (x 1).val < 1 := (x 1).isLt
        show 3 + 4 * (1 + 4 * (x 2).val - 0) - 0 = (0 + 1 * (x 2).val) * 16 + (7 + 1 * (x 1).val)
        omega)
      (by
        show 384 + 1 * (x 3).val = 384 + (0 + 1 * (0 + 1 * (x 3).val - 0) - 0)
        omega)))
  · exact fun x => (coarse_pay _ _).trans ((mid_pay _ _).trans (coarse_k3 _ _ _ _
      (by
        have h : (x 1).val < 1 := (x 1).isLt
        show 3 + 4 * (0 + 4 * (x 2).val - 0) - 0 = (0 + 1 * (x 2).val) * 16 + (3 + 1 * (x 1).val)
        omega)
      (by
        show 384 + 1 * (x 3).val = 384 + (0 + 1 * (0 + 1 * (x 3).val - 0) - 0)
        omega)))
  · exact fun x => (coarse_pay _ _).trans ((mid_pay _ _).trans (coarse_k3 _ _ _ _
      (by
        have h : (x 1).val < 1 := (x 1).isLt
        show 2 + 4 * (3 + 4 * (x 2).val - 0) - 0 = (0 + 1 * (x 2).val) * 16 + (14 + 1 * (x 1).val)
        omega)
      (by
        show 384 + 1 * (x 3).val = 384 + (0 + 1 * (0 + 1 * (x 3).val - 0) - 0)
        omega)))
  · exact fun x => (coarse_pay _ _).trans ((mid_pay _ _).trans (coarse_k3 _ _ _ _
      (by
        have h : (x 1).val < 1 := (x 1).isLt
        show 2 + 4 * (2 + 4 * (x 2).val - 0) - 0 = (0 + 1 * (x 2).val) * 16 + (10 + 1 * (x 1).val)
        omega)
      (by
        show 384 + 1 * (x 3).val = 384 + (0 + 1 * (0 + 1 * (x 3).val - 0) - 0)
        omega)))
  · exact fun x => (coarse_pay _ _).trans ((mid_pay _ _).trans (coarse_k3 _ _ _ _
      (by
        have h : (x 1).val < 1 := (x 1).isLt
        show 2 + 4 * (1 + 4 * (x 2).val - 0) - 0 = (0 + 1 * (x 2).val) * 16 + (6 + 1 * (x 1).val)
        omega)
      (by
        show 384 + 1 * (x 3).val = 384 + (0 + 1 * (0 + 1 * (x 3).val - 0) - 0)
        omega)))
  · exact fun x => (coarse_pay _ _).trans ((mid_pay _ _).trans (coarse_k3 _ _ _ _
      (by
        have h : (x 1).val < 1 := (x 1).isLt
        show 2 + 4 * (0 + 4 * (x 2).val - 0) - 0 = (0 + 1 * (x 2).val) * 16 + (2 + 1 * (x 1).val)
        omega)
      (by
        show 384 + 1 * (x 3).val = 384 + (0 + 1 * (0 + 1 * (x 3).val - 0) - 0)
        omega)))
  · exact fun x => (coarse_pay _ _).trans ((mid_pay _ _).trans (coarse_k3 _ _ _ _
      (by
        have h : (x 1).val < 1 := (x 1).isLt
        show 1 + 4 * (3 + 4 * (x 2).val - 0) - 0 = (0 + 1 * (x 2).val) * 16 + (13 + 1 * (x 1).val)
        omega)
      (by
        show 384 + 1 * (x 3).val = 384 + (0 + 1 * (0 + 1 * (x 3).val - 0) - 0)
        omega)))
  · exact fun x => (coarse_pay _ _).trans ((mid_pay _ _).trans (coarse_k3 _ _ _ _
      (by
        have h : (x 1).val < 1 := (x 1).isLt
        show 1 + 4 * (2 + 4 * (x 2).val - 0) - 0 = (0 + 1 * (x 2).val) * 16 + (9 + 1 * (x 1).val)
        omega)
      (by
        show 384 + 1 * (x 3).val = 384 + (0 + 1 * (0 + 1 * (x 3).val - 0) - 0)
        omega)))
  · exact fun x => (coarse_pay _ _).trans ((mid_pay _ _).trans (coarse_k3 _ _ _ _
      (by
        have h : (x 1).val < 1 := (x 1).isLt
        show 1 + 4 * (1 + 4 * (x 2).val - 0) - 0 = (0 + 1 * (x 2).val) * 16 + (5 + 1 * (x 1).val)
        omega)
      (by
        show 384 + 1 * (x 3).val = 384 + (0 + 1 * (0 + 1 * (x 3).val - 0) - 0)
        omega)))
  · exact fun x => (coarse_pay _ _).trans ((mid_pay _ _).trans (coarse_k3 _ _ _ _
      (by
        have h : (x 1).val < 1 := (x 1).isLt
        show 1 + 4 * (0 + 4 * (x 2).val - 0) - 0 = (0 + 1 * (x 2).val) * 16 + (1 + 1 * (x 1).val)
        omega)
      (by
        show 384 + 1 * (x 3).val = 384 + (0 + 1 * (0 + 1 * (x 3).val - 0) - 0)
        omega)))
  · exact fun x => (coarse_pay _ _).trans ((mid_pay _ _).trans (coarse_k3 _ _ _ _
      (by
        have h : (x 1).val < 1 := (x 1).isLt
        show 0 + 4 * (3 + 4 * (x 2).val - 0) - 0 = (0 + 1 * (x 2).val) * 16 + (12 + 1 * (x 1).val)
        omega)
      (by
        show 384 + 1 * (x 3).val = 384 + (0 + 1 * (0 + 1 * (x 3).val - 0) - 0)
        omega)))
  · exact fun x => (coarse_pay _ _).trans ((mid_pay _ _).trans (coarse_k3 _ _ _ _
      (by
        have h : (x 1).val < 1 := (x 1).isLt
        show 0 + 4 * (2 + 4 * (x 2).val - 0) - 0 = (0 + 1 * (x 2).val) * 16 + (8 + 1 * (x 1).val)
        omega)
      (by
        show 384 + 1 * (x 3).val = 384 + (0 + 1 * (0 + 1 * (x 3).val - 0) - 0)
        omega)))
  · exact fun x => (coarse_pay _ _).trans ((mid_pay _ _).trans (coarse_k3 _ _ _ _
      (by
        have h : (x 1).val < 1 := (x 1).isLt
        show 0 + 4 * (1 + 4 * (x 2).val - 0) - 0 = (0 + 1 * (x 2).val) * 16 + (4 + 1 * (x 1).val)
        omega)
      (by
        show 384 + 1 * (x 3).val = 384 + (0 + 1 * (0 + 1 * (x 3).val - 0) - 0)
        omega)))
  · exact fun x => (coarse_pay _ _).trans ((mid_pay _ _).trans (coarse_k3 _ _ _ _
      (by
        have h : (x 1).val < 1 := (x 1).isLt
        show 0 + 4 * (0 + 4 * (x 2).val - 0) - 0 = (0 + 1 * (x 2).val) * 16 + (0 + 1 * (x 1).val)
        omega)
      (by
        show 384 + 1 * (x 3).val = 384 + (0 + 1 * (0 + 1 * (x 3).val - 0) - 0)
        omega)))
  · exact fun x => (coarse_pay _ _).trans ((mid_pay _ _).trans (coarse_k2 _ _ _ _
      (by
        have h : (x 1).val < 1 := (x 1).isLt
        show 3 + 4 * (3 + 4 * (x 2).val - 0) - 0 = (0 + 1 * (x 2).val) * 16 + (15 + 1 * (x 1).val)
        omega)
      (by
        show 256 + 1 * (x 3).val = 256 + (0 + 1 * (0 + 1 * (x 3).val - 0) - 0)
        omega)))
  · exact fun x => (coarse_pay _ _).trans ((mid_pay _ _).trans (coarse_k2 _ _ _ _
      (by
        have h : (x 1).val < 1 := (x 1).isLt
        show 3 + 4 * (2 + 4 * (x 2).val - 0) - 0 = (0 + 1 * (x 2).val) * 16 + (11 + 1 * (x 1).val)
        omega)
      (by
        show 256 + 1 * (x 3).val = 256 + (0 + 1 * (0 + 1 * (x 3).val - 0) - 0)
        omega)))
  · exact fun x => (coarse_pay _ _).trans ((mid_pay _ _).trans (coarse_k2 _ _ _ _
      (by
        have h : (x 1).val < 1 := (x 1).isLt
        show 3 + 4 * (1 + 4 * (x 2).val - 0) - 0 = (0 + 1 * (x 2).val) * 16 + (7 + 1 * (x 1).val)
        omega)
      (by
        show 256 + 1 * (x 3).val = 256 + (0 + 1 * (0 + 1 * (x 3).val - 0) - 0)
        omega)))
  · exact fun x => (coarse_pay _ _).trans ((mid_pay _ _).trans (coarse_k2 _ _ _ _
      (by
        have h : (x 1).val < 1 := (x 1).isLt
        show 3 + 4 * (0 + 4 * (x 2).val - 0) - 0 = (0 + 1 * (x 2).val) * 16 + (3 + 1 * (x 1).val)
        omega)
      (by
        show 256 + 1 * (x 3).val = 256 + (0 + 1 * (0 + 1 * (x 3).val - 0) - 0)
        omega)))
  · exact fun x => (coarse_pay _ _).trans ((mid_pay _ _).trans (coarse_k2 _ _ _ _
      (by
        have h : (x 1).val < 1 := (x 1).isLt
        show 2 + 4 * (3 + 4 * (x 2).val - 0) - 0 = (0 + 1 * (x 2).val) * 16 + (14 + 1 * (x 1).val)
        omega)
      (by
        show 256 + 1 * (x 3).val = 256 + (0 + 1 * (0 + 1 * (x 3).val - 0) - 0)
        omega)))
  · exact fun x => (coarse_pay _ _).trans ((mid_pay _ _).trans (coarse_k2 _ _ _ _
      (by
        have h : (x 1).val < 1 := (x 1).isLt
        show 2 + 4 * (2 + 4 * (x 2).val - 0) - 0 = (0 + 1 * (x 2).val) * 16 + (10 + 1 * (x 1).val)
        omega)
      (by
        show 256 + 1 * (x 3).val = 256 + (0 + 1 * (0 + 1 * (x 3).val - 0) - 0)
        omega)))
  · exact fun x => (coarse_pay _ _).trans ((mid_pay _ _).trans (coarse_k2 _ _ _ _
      (by
        have h : (x 1).val < 1 := (x 1).isLt
        show 2 + 4 * (1 + 4 * (x 2).val - 0) - 0 = (0 + 1 * (x 2).val) * 16 + (6 + 1 * (x 1).val)
        omega)
      (by
        show 256 + 1 * (x 3).val = 256 + (0 + 1 * (0 + 1 * (x 3).val - 0) - 0)
        omega)))
  · exact fun x => (coarse_pay _ _).trans ((mid_pay _ _).trans (coarse_k2 _ _ _ _
      (by
        have h : (x 1).val < 1 := (x 1).isLt
        show 2 + 4 * (0 + 4 * (x 2).val - 0) - 0 = (0 + 1 * (x 2).val) * 16 + (2 + 1 * (x 1).val)
        omega)
      (by
        show 256 + 1 * (x 3).val = 256 + (0 + 1 * (0 + 1 * (x 3).val - 0) - 0)
        omega)))
  · exact fun x => (coarse_pay _ _).trans ((mid_pay _ _).trans (coarse_k2 _ _ _ _
      (by
        have h : (x 1).val < 1 := (x 1).isLt
        show 1 + 4 * (3 + 4 * (x 2).val - 0) - 0 = (0 + 1 * (x 2).val) * 16 + (13 + 1 * (x 1).val)
        omega)
      (by
        show 256 + 1 * (x 3).val = 256 + (0 + 1 * (0 + 1 * (x 3).val - 0) - 0)
        omega)))
  · exact fun x => (coarse_pay _ _).trans ((mid_pay _ _).trans (coarse_k2 _ _ _ _
      (by
        have h : (x 1).val < 1 := (x 1).isLt
        show 1 + 4 * (2 + 4 * (x 2).val - 0) - 0 = (0 + 1 * (x 2).val) * 16 + (9 + 1 * (x 1).val)
        omega)
      (by
        show 256 + 1 * (x 3).val = 256 + (0 + 1 * (0 + 1 * (x 3).val - 0) - 0)
        omega)))
  · exact fun x => (coarse_pay _ _).trans ((mid_pay _ _).trans (coarse_k2 _ _ _ _
      (by
        have h : (x 1).val < 1 := (x 1).isLt
        show 1 + 4 * (1 + 4 * (x 2).val - 0) - 0 = (0 + 1 * (x 2).val) * 16 + (5 + 1 * (x 1).val)
        omega)
      (by
        show 256 + 1 * (x 3).val = 256 + (0 + 1 * (0 + 1 * (x 3).val - 0) - 0)
        omega)))
  · exact fun x => (coarse_pay _ _).trans ((mid_pay _ _).trans (coarse_k2 _ _ _ _
      (by
        have h : (x 1).val < 1 := (x 1).isLt
        show 1 + 4 * (0 + 4 * (x 2).val - 0) - 0 = (0 + 1 * (x 2).val) * 16 + (1 + 1 * (x 1).val)
        omega)
      (by
        show 256 + 1 * (x 3).val = 256 + (0 + 1 * (0 + 1 * (x 3).val - 0) - 0)
        omega)))
  · exact fun x => (coarse_pay _ _).trans ((mid_pay _ _).trans (coarse_k2 _ _ _ _
      (by
        have h : (x 1).val < 1 := (x 1).isLt
        show 0 + 4 * (3 + 4 * (x 2).val - 0) - 0 = (0 + 1 * (x 2).val) * 16 + (12 + 1 * (x 1).val)
        omega)
      (by
        show 256 + 1 * (x 3).val = 256 + (0 + 1 * (0 + 1 * (x 3).val - 0) - 0)
        omega)))
  · exact fun x => (coarse_pay _ _).trans ((mid_pay _ _).trans (coarse_k2 _ _ _ _
      (by
        have h : (x 1).val < 1 := (x 1).isLt
        show 0 + 4 * (2 + 4 * (x 2).val - 0) - 0 = (0 + 1 * (x 2).val) * 16 + (8 + 1 * (x 1).val)
        omega)
      (by
        show 256 + 1 * (x 3).val = 256 + (0 + 1 * (0 + 1 * (x 3).val - 0) - 0)
        omega)))
  · exact fun x => (coarse_pay _ _).trans ((mid_pay _ _).trans (coarse_k2 _ _ _ _
      (by
        have h : (x 1).val < 1 := (x 1).isLt
        show 0 + 4 * (1 + 4 * (x 2).val - 0) - 0 = (0 + 1 * (x 2).val) * 16 + (4 + 1 * (x 1).val)
        omega)
      (by
        show 256 + 1 * (x 3).val = 256 + (0 + 1 * (0 + 1 * (x 3).val - 0) - 0)
        omega)))
  · exact fun x => (coarse_pay _ _).trans ((mid_pay _ _).trans (coarse_k2 _ _ _ _
      (by
        have h : (x 1).val < 1 := (x 1).isLt
        show 0 + 4 * (0 + 4 * (x 2).val - 0) - 0 = (0 + 1 * (x 2).val) * 16 + (0 + 1 * (x 1).val)
        omega)
      (by
        show 256 + 1 * (x 3).val = 256 + (0 + 1 * (0 + 1 * (x 3).val - 0) - 0)
        omega)))
  · exact fun x => (coarse_pay _ _).trans ((mid_pay _ _).trans (coarse_k1 _ _ _ _
      (by
        have h : (x 1).val < 1 := (x 1).isLt
        show 3 + 4 * (3 + 4 * (x 2).val - 0) - 0 = (0 + 1 * (x 2).val) * 16 + (15 + 1 * (x 1).val)
        omega)
      (by
        show 128 + 1 * (x 3).val = 128 + (0 + 1 * (0 + 1 * (x 3).val - 0) - 0)
        omega)))
  · exact fun x => (coarse_pay _ _).trans ((mid_pay _ _).trans (coarse_k1 _ _ _ _
      (by
        have h : (x 1).val < 1 := (x 1).isLt
        show 3 + 4 * (2 + 4 * (x 2).val - 0) - 0 = (0 + 1 * (x 2).val) * 16 + (11 + 1 * (x 1).val)
        omega)
      (by
        show 128 + 1 * (x 3).val = 128 + (0 + 1 * (0 + 1 * (x 3).val - 0) - 0)
        omega)))
  · exact fun x => (coarse_pay _ _).trans ((mid_pay _ _).trans (coarse_k1 _ _ _ _
      (by
        have h : (x 1).val < 1 := (x 1).isLt
        show 3 + 4 * (1 + 4 * (x 2).val - 0) - 0 = (0 + 1 * (x 2).val) * 16 + (7 + 1 * (x 1).val)
        omega)
      (by
        show 128 + 1 * (x 3).val = 128 + (0 + 1 * (0 + 1 * (x 3).val - 0) - 0)
        omega)))
  · exact fun x => (coarse_pay _ _).trans ((mid_pay _ _).trans (coarse_k1 _ _ _ _
      (by
        have h : (x 1).val < 1 := (x 1).isLt
        show 3 + 4 * (0 + 4 * (x 2).val - 0) - 0 = (0 + 1 * (x 2).val) * 16 + (3 + 1 * (x 1).val)
        omega)
      (by
        show 128 + 1 * (x 3).val = 128 + (0 + 1 * (0 + 1 * (x 3).val - 0) - 0)
        omega)))
  · exact fun x => (coarse_pay _ _).trans ((mid_pay _ _).trans (coarse_k1 _ _ _ _
      (by
        have h : (x 1).val < 1 := (x 1).isLt
        show 2 + 4 * (3 + 4 * (x 2).val - 0) - 0 = (0 + 1 * (x 2).val) * 16 + (14 + 1 * (x 1).val)
        omega)
      (by
        show 128 + 1 * (x 3).val = 128 + (0 + 1 * (0 + 1 * (x 3).val - 0) - 0)
        omega)))
  · exact fun x => (coarse_pay _ _).trans ((mid_pay _ _).trans (coarse_k1 _ _ _ _
      (by
        have h : (x 1).val < 1 := (x 1).isLt
        show 2 + 4 * (2 + 4 * (x 2).val - 0) - 0 = (0 + 1 * (x 2).val) * 16 + (10 + 1 * (x 1).val)
        omega)
      (by
        show 128 + 1 * (x 3).val = 128 + (0 + 1 * (0 + 1 * (x 3).val - 0) - 0)
        omega)))
  · exact fun x => (coarse_pay _ _).trans ((mid_pay _ _).trans (coarse_k1 _ _ _ _
      (by
        have h : (x 1).val < 1 := (x 1).isLt
        show 2 + 4 * (1 + 4 * (x 2).val - 0) - 0 = (0 + 1 * (x 2).val) * 16 + (6 + 1 * (x 1).val)
        omega)
      (by
        show 128 + 1 * (x 3).val = 128 + (0 + 1 * (0 + 1 * (x 3).val - 0) - 0)
        omega)))
  · exact fun x => (coarse_pay _ _).trans ((mid_pay _ _).trans (coarse_k1 _ _ _ _
      (by
        have h : (x 1).val < 1 := (x 1).isLt
        show 2 + 4 * (0 + 4 * (x 2).val - 0) - 0 = (0 + 1 * (x 2).val) * 16 + (2 + 1 * (x 1).val)
        omega)
      (by
        show 128 + 1 * (x 3).val = 128 + (0 + 1 * (0 + 1 * (x 3).val - 0) - 0)
        omega)))
  · exact fun x => (coarse_pay _ _).trans ((mid_pay _ _).trans (coarse_k1 _ _ _ _
      (by
        have h : (x 1).val < 1 := (x 1).isLt
        show 1 + 4 * (3 + 4 * (x 2).val - 0) - 0 = (0 + 1 * (x 2).val) * 16 + (13 + 1 * (x 1).val)
        omega)
      (by
        show 128 + 1 * (x 3).val = 128 + (0 + 1 * (0 + 1 * (x 3).val - 0) - 0)
        omega)))
  · exact fun x => (coarse_pay _ _).trans ((mid_pay _ _).trans (coarse_k1 _ _ _ _
      (by
        have h : (x 1).val < 1 := (x 1).isLt
        show 1 + 4 * (2 + 4 * (x 2).val - 0) - 0 = (0 + 1 * (x 2).val) * 16 + (9 + 1 * (x 1).val)
        omega)
      (by
        show 128 + 1 * (x 3).val = 128 + (0 + 1 * (0 + 1 * (x 3).val - 0) - 0)
        omega)))
  · exact fun x => (coarse_pay _ _).trans ((mid_pay _ _).trans (coarse_k1 _ _ _ _
      (by
        have h : (x 1).val < 1 := (x 1).isLt
        show 1 + 4 * (1 + 4 * (x 2).val - 0) - 0 = (0 + 1 * (x 2).val) * 16 + (5 + 1 * (x 1).val)
        omega)
      (by
        show 128 + 1 * (x 3).val = 128 + (0 + 1 * (0 + 1 * (x 3).val - 0) - 0)
        omega)))
  · exact fun x => (coarse_pay _ _).trans ((mid_pay _ _).trans (coarse_k1 _ _ _ _
      (by
        have h : (x 1).val < 1 := (x 1).isLt
        show 1 + 4 * (0 + 4 * (x 2).val - 0) - 0 = (0 + 1 * (x 2).val) * 16 + (1 + 1 * (x 1).val)
        omega)
      (by
        show 128 + 1 * (x 3).val = 128 + (0 + 1 * (0 + 1 * (x 3).val - 0) - 0)
        omega)))
  · exact fun x => (coarse_pay _ _).trans ((mid_pay _ _).trans (coarse_k1 _ _ _ _
      (by
        have h : (x 1).val < 1 := (x 1).isLt
        show 0 + 4 * (3 + 4 * (x 2).val - 0) - 0 = (0 + 1 * (x 2).val) * 16 + (12 + 1 * (x 1).val)
        omega)
      (by
        show 128 + 1 * (x 3).val = 128 + (0 + 1 * (0 + 1 * (x 3).val - 0) - 0)
        omega)))
  · exact fun x => (coarse_pay _ _).trans ((mid_pay _ _).trans (coarse_k1 _ _ _ _
      (by
        have h : (x 1).val < 1 := (x 1).isLt
        show 0 + 4 * (2 + 4 * (x 2).val - 0) - 0 = (0 + 1 * (x 2).val) * 16 + (8 + 1 * (x 1).val)
        omega)
      (by
        show 128 + 1 * (x 3).val = 128 + (0 + 1 * (0 + 1 * (x 3).val - 0) - 0)
        omega)))
  · exact fun x => (coarse_pay _ _).trans ((mid_pay _ _).trans (coarse_k1 _ _ _ _
      (by
        have h : (x 1).val < 1 := (x 1).isLt
        show 0 + 4 * (1 + 4 * (x 2).val - 0) - 0 = (0 + 1 * (x 2).val) * 16 + (4 + 1 * (x 1).val)
        omega)
      (by
        show 128 + 1 * (x 3).val = 128 + (0 + 1 * (0 + 1 * (x 3).val - 0) - 0)
        omega)))
  · exact fun x => (coarse_pay _ _).trans ((mid_pay _ _).trans (coarse_k1 _ _ _ _
      (by
        have h : (x 1).val < 1 := (x 1).isLt
        show 0 + 4 * (0 + 4 * (x 2).val - 0) - 0 = (0 + 1 * (x 2).val) * 16 + (0 + 1 * (x 1).val)
        omega)
      (by
        show 128 + 1 * (x 3).val = 128 + (0 + 1 * (0 + 1 * (x 3).val - 0) - 0)
        omega)))
  · exact fun x => (coarse_pay _ _).trans ((mid_pay _ _).trans (coarse_k0 _ _ _ _
      (by
        have h : (x 1).val < 1 := (x 1).isLt
        show 3 + 4 * (3 + 4 * (x 2).val - 0) - 0 = (0 + 1 * (x 2).val) * 16 + (15 + 1 * (x 1).val)
        omega)
      (by
        show 0 + 1 * (x 3).val = 0 + (0 + 1 * (0 + 1 * (x 3).val - 0) - 0)
        omega)))
  · exact fun x => (coarse_pay _ _).trans ((mid_pay _ _).trans (coarse_k0 _ _ _ _
      (by
        have h : (x 1).val < 1 := (x 1).isLt
        show 3 + 4 * (2 + 4 * (x 2).val - 0) - 0 = (0 + 1 * (x 2).val) * 16 + (11 + 1 * (x 1).val)
        omega)
      (by
        show 0 + 1 * (x 3).val = 0 + (0 + 1 * (0 + 1 * (x 3).val - 0) - 0)
        omega)))
  · exact fun x => (coarse_pay _ _).trans ((mid_pay _ _).trans (coarse_k0 _ _ _ _
      (by
        have h : (x 1).val < 1 := (x 1).isLt
        show 3 + 4 * (1 + 4 * (x 2).val - 0) - 0 = (0 + 1 * (x 2).val) * 16 + (7 + 1 * (x 1).val)
        omega)
      (by
        show 0 + 1 * (x 3).val = 0 + (0 + 1 * (0 + 1 * (x 3).val - 0) - 0)
        omega)))
  · exact fun x => (coarse_pay _ _).trans ((mid_pay _ _).trans (coarse_k0 _ _ _ _
      (by
        have h : (x 1).val < 1 := (x 1).isLt
        show 3 + 4 * (0 + 4 * (x 2).val - 0) - 0 = (0 + 1 * (x 2).val) * 16 + (3 + 1 * (x 1).val)
        omega)
      (by
        show 0 + 1 * (x 3).val = 0 + (0 + 1 * (0 + 1 * (x 3).val - 0) - 0)
        omega)))
  · exact fun x => (coarse_pay _ _).trans ((mid_pay _ _).trans (coarse_k0 _ _ _ _
      (by
        have h : (x 1).val < 1 := (x 1).isLt
        show 2 + 4 * (3 + 4 * (x 2).val - 0) - 0 = (0 + 1 * (x 2).val) * 16 + (14 + 1 * (x 1).val)
        omega)
      (by
        show 0 + 1 * (x 3).val = 0 + (0 + 1 * (0 + 1 * (x 3).val - 0) - 0)
        omega)))
  · exact fun x => (coarse_pay _ _).trans ((mid_pay _ _).trans (coarse_k0 _ _ _ _
      (by
        have h : (x 1).val < 1 := (x 1).isLt
        show 2 + 4 * (2 + 4 * (x 2).val - 0) - 0 = (0 + 1 * (x 2).val) * 16 + (10 + 1 * (x 1).val)
        omega)
      (by
        show 0 + 1 * (x 3).val = 0 + (0 + 1 * (0 + 1 * (x 3).val - 0) - 0)
        omega)))
  · exact fun x => (coarse_pay _ _).trans ((mid_pay _ _).trans (coarse_k0 _ _ _ _
      (by
        have h : (x 1).val < 1 := (x 1).isLt
        show 2 + 4 * (1 + 4 * (x 2).val - 0) - 0 = (0 + 1 * (x 2).val) * 16 + (6 + 1 * (x 1).val)
        omega)
      (by
        show 0 + 1 * (x 3).val = 0 + (0 + 1 * (0 + 1 * (x 3).val - 0) - 0)
        omega)))
  · exact fun x => (coarse_pay _ _).trans ((mid_pay _ _).trans (coarse_k0 _ _ _ _
      (by
        have h : (x 1).val < 1 := (x 1).isLt
        show 2 + 4 * (0 + 4 * (x 2).val - 0) - 0 = (0 + 1 * (x 2).val) * 16 + (2 + 1 * (x 1).val)
        omega)
      (by
        show 0 + 1 * (x 3).val = 0 + (0 + 1 * (0 + 1 * (x 3).val - 0) - 0)
        omega)))
  · exact fun x => (coarse_pay _ _).trans ((mid_pay _ _).trans (coarse_k0 _ _ _ _
      (by
        have h : (x 1).val < 1 := (x 1).isLt
        show 1 + 4 * (3 + 4 * (x 2).val - 0) - 0 = (0 + 1 * (x 2).val) * 16 + (13 + 1 * (x 1).val)
        omega)
      (by
        show 0 + 1 * (x 3).val = 0 + (0 + 1 * (0 + 1 * (x 3).val - 0) - 0)
        omega)))
  · exact fun x => (coarse_pay _ _).trans ((mid_pay _ _).trans (coarse_k0 _ _ _ _
      (by
        have h : (x 1).val < 1 := (x 1).isLt
        show 1 + 4 * (2 + 4 * (x 2).val - 0) - 0 = (0 + 1 * (x 2).val) * 16 + (9 + 1 * (x 1).val)
        omega)
      (by
        show 0 + 1 * (x 3).val = 0 + (0 + 1 * (0 + 1 * (x 3).val - 0) - 0)
        omega)))
  · exact fun x => (coarse_pay _ _).trans ((mid_pay _ _).trans (coarse_k0 _ _ _ _
      (by
        have h : (x 1).val < 1 := (x 1).isLt
        show 1 + 4 * (1 + 4 * (x 2).val - 0) - 0 = (0 + 1 * (x 2).val) * 16 + (5 + 1 * (x 1).val)
        omega)
      (by
        show 0 + 1 * (x 3).val = 0 + (0 + 1 * (0 + 1 * (x 3).val - 0) - 0)
        omega)))
  · exact fun x => (coarse_pay _ _).trans ((mid_pay _ _).trans (coarse_k0 _ _ _ _
      (by
        have h : (x 1).val < 1 := (x 1).isLt
        show 1 + 4 * (0 + 4 * (x 2).val - 0) - 0 = (0 + 1 * (x 2).val) * 16 + (1 + 1 * (x 1).val)
        omega)
      (by
        show 0 + 1 * (x 3).val = 0 + (0 + 1 * (0 + 1 * (x 3).val - 0) - 0)
        omega)))
  · exact fun x => (coarse_pay _ _).trans ((mid_pay _ _).trans (coarse_k0 _ _ _ _
      (by
        have h : (x 1).val < 1 := (x 1).isLt
        show 0 + 4 * (3 + 4 * (x 2).val - 0) - 0 = (0 + 1 * (x 2).val) * 16 + (12 + 1 * (x 1).val)
        omega)
      (by
        show 0 + 1 * (x 3).val = 0 + (0 + 1 * (0 + 1 * (x 3).val - 0) - 0)
        omega)))
  · exact fun x => (coarse_pay _ _).trans ((mid_pay _ _).trans (coarse_k0 _ _ _ _
      (by
        have h : (x 1).val < 1 := (x 1).isLt
        show 0 + 4 * (2 + 4 * (x 2).val - 0) - 0 = (0 + 1 * (x 2).val) * 16 + (8 + 1 * (x 1).val)
        omega)
      (by
        show 0 + 1 * (x 3).val = 0 + (0 + 1 * (0 + 1 * (x 3).val - 0) - 0)
        omega)))
  · exact fun x => (coarse_pay _ _).trans ((mid_pay _ _).trans (coarse_k0 _ _ _ _
      (by
        have h : (x 1).val < 1 := (x 1).isLt
        show 0 + 4 * (1 + 4 * (x 2).val - 0) - 0 = (0 + 1 * (x 2).val) * 16 + (4 + 1 * (x 1).val)
        omega)
      (by
        show 0 + 1 * (x 3).val = 0 + (0 + 1 * (0 + 1 * (x 3).val - 0) - 0)
        omega)))
  · exact fun x => (coarse_pay _ _).trans ((mid_pay _ _).trans (coarse_k0 _ _ _ _
      (by
        have h : (x 1).val < 1 := (x 1).isLt
        show 0 + 4 * (0 + 4 * (x 2).val - 0) - 0 = (0 + 1 * (x 2).val) * 16 + (0 + 1 * (x 1).val)
        omega)
      (by
        show 0 + 1 * (x 3).val = 0 + (0 + 1 * (0 + 1 * (x 3).val - 0) - 0)
        omega)))
end Cert.KernelProjIdeal.Out
end
-- ==== Proof.ProjOut19.lean ====
/- The values of the projection's second mixer at one grid point, phase by phase of sixteen. -/
module
public import proofs.«01_k».proof.Proof.Gen.KernelProjIdeal.Frame
public import proofs.«01_k».proof.Proof.ProjReads
public import Idealize.ShloMosaic.Lib.Pointwise
public import Idealize.ShloMosaic.Lib.Pipeline.ValueKit
public import Idealize.ShloMosaic.Lib.Pipeline.ReadBack
@[expose] public section
set_option maxRecDepth 16384
noncomputable section
namespace Cert.KernelProjIdeal.Out
open Cert.KernelProjIdeal Cert.KernelProjIdeal.Gen Idealize.ShloMosaic Idealize.ShloMosaic.TcCoe Idealize.SL.Sem
variable (c : Dev nD) (i : grid0.Coords) (arg2 : Memref sig .tc .vmem S1x1024x1024 .f32) (harg2 : arg2.IsWhole) (arg3 : Memref sig .tc .vmem S1x1024 .f32) (harg3 : arg3.IsWhole) (arg4 : Memref sig .tc .vmem S1024x2304 .bf16) (harg4 : arg4.IsWhole) (arg5 : Memref sig .tc .vmem S1x128 .f32) (harg5 : arg5.IsWhole) (arg6 : Memref sig .tc .vmem S1x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S256x128 .bf16) (harg9 : arg9.IsWhole) (arg10 : Memref sig .tc .vmem S1x512x1024 .bf16) (harg10 : arg10.IsWhole) (arg11 : Memref sig .tc .vmem S1x1024x256 .bf16) (harg11 : arg11.IsWhole) (arg12 : Memref sig .tc .vmem S1x128x1024 .bf16) (harg12 : arg12.IsWhole) (arg13 : Memref sig .tc .vmem S1x1024x512 .bf16) (harg13 : arg13.IsWhole) (arg14 : Memref sig .tc .vmem S1x4x256x512 .bf16) (harg14 : arg14.IsWhole) (arg15 : Memref sig .tc .vmem S1x16x64x512 .bf16) (harg15 : arg15.IsWhole) (arg16 : Memref sig .tc .vmem S1x1024x512 .bf16) (harg16 : arg16.IsWhole) (arg17 : Memref sig .tc .vmem S1x4x256x512 .bf16) (harg17 : arg17.IsWhole) (arg18 : Memref sig .tc .vmem S1x16x64x512 .bf16) (harg18 : arg18.IsWhole) (arg19 : Memref sig .tc .vmem S1x1024x512 .bf16) (harg19 : arg19.IsWhole) (arg20 : Memref sig .tc .vmem S1x4x256x512 .bf16) (harg20 : arg20.IsWhole) (arg21 : Memref sig .tc .vmem S1x16x64x512 .bf16) (harg21 : arg21.IsWhole) (arg22 : Memref sig .tc .vmem S4x1024x128 .f32) (harg22 : arg22.IsWhole) (arg23 : Memref sig .tc .vmem S4x1024x128 .f32) (harg23 : arg23.IsWhole) (arg24 : Memref sig .tc .vmem S4x1024x128 .f32) (harg24 : arg24.IsWhole) (arg25 : Memref sig .tc .vmem S4x4x256x128 .f32) (harg25 : arg25.IsWhole) (arg26 : Memref sig .tc .vmem S4x4x256x128 .f32) (harg26 : arg26.IsWhole) (arg27 : Memref sig .tc .vmem S4x4x256x128 .f32) (harg27 : arg27.IsWhole)     (x0 : Vec Ideal S1x1024x1024 .f32) (x1 : Vec Ideal S1x1024 .f32) (x2 : Vec Ideal S1024x2304 .bf16) (x3 : Vec Ideal S1x128 .f32) (x4 : Vec Ideal S1x128 .f32) (x5 : Vec Ideal S1024x128 .f32) (x6 : Vec Ideal S1024x128 .f32) (x7 : Vec Ideal S256x128 .bf16)

set_option maxHeartbeats 16000000 in
/-- The point's block of the sixteen-phase array: each piece is a strided read of a phase of four. -/
theorem out19 (y) : out0_A_19 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 y = coarseOf (k0_pay167 (k0_pay2 x0 x1) (View.ld x2 (Rect.unit ![0, 1792] ![1024, 512] inb_S1024x2304_S1024x512_0_1792))) y := by
  unfold out0_A_19
  frame_open
  rw [View.read_writes_junk_eq_canon]
  simp (disch := decide) only [↓ View.readCov_skip, ↓ readCov_inside]
  simp (disch := decide) only [View.readAt_eq_ld, Memref.IsWhole.read_unread, View.ld_unit_lit']
  refine View.canon_apply_of_pieces (Val := Elt Ideal) (e := .bf16) (coarseOf (k0_pay167 (k0_pay2 x0 x1) (View.ld x2 (Rect.unit ![0, 1792] ![1024, 512] inb_S1024x2304_S1024x512_0_1792)))) _ (View.PiecesOf.mem ?_) y ?_
  rotate_left
  · exact View.cover_of_tiledL (s := S1x16x64x512) (Val := Elt Ideal) (e := .bf16) _ ![1, 1, 64, 128] (by sl_kernel_rfl) y
  simp only [View.PiecesOf]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, trivial⟩
  · exact fun x => (coarse_pay _ _).trans ((mid_pay _ _).trans (coarse_v3 _ _ _ _
      (by
        have h : (x 1).val < 1 := (x 1).isLt
        show 3 + 4 * (3 + 4 * (x 2).val - 0) - 0 = (0 + 1 * (x 2).val) * 16 + (15 + 1 * (x 1).val)
        omega)
      (by
        show 384 + 1 * (x 3).val = 384 + (0 + 1 * (0 + 1 * (x 3).val - 0) - 0)
        omega)))
  · exact fun x => (coarse_pay _ _).trans ((mid_pay _ _).trans (coarse_v3 _ _ _ _
      (by
        have h : (x 1).val < 1 := (x 1).isLt
        show 3 + 4 * (2 + 4 * (x 2).val - 0) - 0 = (0 + 1 * (x 2).val) * 16 + (11 + 1 * (x 1).val)
        omega)
      (by
        show 384 + 1 * (x 3).val = 384 + (0 + 1 * (0 + 1 * (x 3).val - 0) - 0)
        omega)))
  · exact fun x => (coarse_pay _ _).trans ((mid_pay _ _).trans (coarse_v3 _ _ _ _
      (by
        have h : (x 1).val < 1 := (x 1).isLt
        show 3 + 4 * (1 + 4 * (x 2).val - 0) - 0 = (0 + 1 * (x 2).val) * 16 + (7 + 1 * (x 1).val)
        omega)
      (by
        show 384 + 1 * (x 3).val = 384 + (0 + 1 * (0 + 1 * (x 3).val - 0) - 0)
        omega)))
  · exact fun x => (coarse_pay _ _).trans ((mid_pay _ _).trans (coarse_v3 _ _ _ _
      (by
        have h : (x 1).val < 1 := (x 1).isLt
        show 3 + 4 * (0 + 4 * (x 2).val - 0) - 0 = (0 + 1 * (x 2).val) * 16 + (3 + 1 * (x 1).val)
        omega)
      (by
        show 384 + 1 * (x 3).val = 384 + (0 + 1 * (0 + 1 * (x 3).val - 0) - 0)
        omega)))
  · exact fun x => (coarse_pay _ _).trans ((mid_pay _ _).trans (coarse_v3 _ _ _ _
      (by
        have h : (x 1).val < 1 := (x 1).isLt
        show 2 + 4 * (3 + 4 * (x 2).val - 0) - 0 = (0 + 1 * (x 2).val) * 16 + (14 + 1 * (x 1).val)
        omega)
      (by
        show 384 + 1 * (x 3).val = 384 + (0 + 1 * (0 + 1 * (x 3).val - 0) - 0)
        omega)))
  · exact fun x => (coarse_pay _ _).trans ((mid_pay _ _).trans (coarse_v3 _ _ _ _
      (by
        have h : (x 1).val < 1 := (x 1).isLt
        show 2 + 4 * (2 + 4 * (x 2).val - 0) - 0 = (0 + 1 * (x 2).val) * 16 + (10 + 1 * (x 1).val)
        omega)
      (by
        show 384 + 1 * (x 3).val = 384 + (0 + 1 * (0 + 1 * (x 3).val - 0) - 0)
        omega)))
  · exact fun x => (coarse_pay _ _).trans ((mid_pay _ _).trans (coarse_v3 _ _ _ _
      (by
        have h : (x 1).val < 1 := (x 1).isLt
        show 2 + 4 * (1 + 4 * (x 2).val - 0) - 0 = (0 + 1 * (x 2).val) * 16 + (6 + 1 * (x 1).val)
        omega)
      (by
        show 384 + 1 * (x 3).val = 384 + (0 + 1 * (0 + 1 * (x 3).val - 0) - 0)
        omega)))
  · exact fun x => (coarse_pay _ _).trans ((mid_pay _ _).trans (coarse_v3 _ _ _ _
      (by
        have h : (x 1).val < 1 := (x 1).isLt
        show 2 + 4 * (0 + 4 * (x 2).val - 0) - 0 = (0 + 1 * (x 2).val) * 16 + (2 + 1 * (x 1).val)
        omega)
      (by
        show 384 + 1 * (x 3).val = 384 + (0 + 1 * (0 + 1 * (x 3).val - 0) - 0)
        omega)))
  · exact fun x => (coarse_pay _ _).trans ((mid_pay _ _).trans (coarse_v3 _ _ _ _
      (by
        have h : (x 1).val < 1 := (x 1).isLt
        show 1 + 4 * (3 + 4 * (x 2).val - 0) - 0 = (0 + 1 * (x 2).val) * 16 + (13 + 1 * (x 1).val)
        omega)
      (by
        show 384 + 1 * (x 3).val = 384 + (0 + 1 * (0 + 1 * (x 3).val - 0) - 0)
        omega)))
  · exact fun x => (coarse_pay _ _).trans ((mid_pay _ _).trans (coarse_v3 _ _ _ _
      (by
        have h : (x 1).val < 1 := (x 1).isLt
        show 1 + 4 * (2 + 4 * (x 2).val - 0) - 0 = (0 + 1 * (x 2).val) * 16 + (9 + 1 * (x 1).val)
        omega)
      (by
        show 384 + 1 * (x 3).val = 384 + (0 + 1 * (0 + 1 * (x 3).val - 0) - 0)
        omega)))
  · exact fun x => (coarse_pay _ _).trans ((mid_pay _ _).trans (coarse_v3 _ _ _ _
      (by
        have h : (x 1).val < 1 := (x 1).isLt
        show 1 + 4 * (1 + 4 * (x 2).val - 0) - 0 = (0 + 1 * (x 2).val) * 16 + (5 + 1 * (x 1).val)
        omega)
      (by
        show 384 + 1 * (x 3).val = 384 + (0 + 1 * (0 + 1 * (x 3).val - 0) - 0)
        omega)))
  · exact fun x => (coarse_pay _ _).trans ((mid_pay _ _).trans (coarse_v3 _ _ _ _
      (by
        have h : (x 1).val < 1 := (x 1).isLt
        show 1 + 4 * (0 + 4 * (x 2).val - 0) - 0 = (0 + 1 * (x 2).val) * 16 + (1 + 1 * (x 1).val)
        omega)
      (by
        show 384 + 1 * (x 3).val = 384 + (0 + 1 * (0 + 1 * (x 3).val - 0) - 0)
        omega)))
  · exact fun x => (coarse_pay _ _).trans ((mid_pay _ _).trans (coarse_v3 _ _ _ _
      (by
        have h : (x 1).val < 1 := (x 1).isLt
        show 0 + 4 * (3 + 4 * (x 2).val - 0) - 0 = (0 + 1 * (x 2).val) * 16 + (12 + 1 * (x 1).val)
        omega)
      (by
        show 384 + 1 * (x 3).val = 384 + (0 + 1 * (0 + 1 * (x 3).val - 0) - 0)
        omega)))
  · exact fun x => (coarse_pay _ _).trans ((mid_pay _ _).trans (coarse_v3 _ _ _ _
      (by
        have h : (x 1).val < 1 := (x 1).isLt
        show 0 + 4 * (2 + 4 * (x 2).val - 0) - 0 = (0 + 1 * (x 2).val) * 16 + (8 + 1 * (x 1).val)
        omega)
      (by
        show 384 + 1 * (x 3).val = 384 + (0 + 1 * (0 + 1 * (x 3).val - 0) - 0)
        omega)))
  · exact fun x => (coarse_pay _ _).trans ((mid_pay _ _).trans (coarse_v3 _ _ _ _
      (by
        have h : (x 1).val < 1 := (x 1).isLt
        show 0 + 4 * (1 + 4 * (x 2).val - 0) - 0 = (0 + 1 * (x 2).val) * 16 + (4 + 1 * (x 1).val)
        omega)
      (by
        show 384 + 1 * (x 3).val = 384 + (0 + 1 * (0 + 1 * (x 3).val - 0) - 0)
        omega)))
  · exact fun x => (coarse_pay _ _).trans ((mid_pay _ _).trans (coarse_v3 _ _ _ _
      (by
        have h : (x 1).val < 1 := (x 1).isLt
        show 0 + 4 * (0 + 4 * (x 2).val - 0) - 0 = (0 + 1 * (x 2).val) * 16 + (0 + 1 * (x 1).val)
        omega)
      (by
        show 384 + 1 * (x 3).val = 384 + (0 + 1 * (0 + 1 * (x 3).val - 0) - 0)
        omega)))
  · exact fun x => (coarse_pay _ _).trans ((mid_pay _ _).trans (coarse_v2 _ _ _ _
      (by
        have h : (x 1).val < 1 := (x 1).isLt
        show 3 + 4 * (3 + 4 * (x 2).val - 0) - 0 = (0 + 1 * (x 2).val) * 16 + (15 + 1 * (x 1).val)
        omega)
      (by
        show 256 + 1 * (x 3).val = 256 + (0 + 1 * (0 + 1 * (x 3).val - 0) - 0)
        omega)))
  · exact fun x => (coarse_pay _ _).trans ((mid_pay _ _).trans (coarse_v2 _ _ _ _
      (by
        have h : (x 1).val < 1 := (x 1).isLt
        show 3 + 4 * (2 + 4 * (x 2).val - 0) - 0 = (0 + 1 * (x 2).val) * 16 + (11 + 1 * (x 1).val)
        omega)
      (by
        show 256 + 1 * (x 3).val = 256 + (0 + 1 * (0 + 1 * (x 3).val - 0) - 0)
        omega)))
  · exact fun x => (coarse_pay _ _).trans ((mid_pay _ _).trans (coarse_v2 _ _ _ _
      (by
        have h : (x 1).val < 1 := (x 1).isLt
        show 3 + 4 * (1 + 4 * (x 2).val - 0) - 0 = (0 + 1 * (x 2).val) * 16 + (7 + 1 * (x 1).val)
        omega)
      (by
        show 256 + 1 * (x 3).val = 256 + (0 + 1 * (0 + 1 * (x 3).val - 0) - 0)
        omega)))
  · exact fun x => (coarse_pay _ _).trans ((mid_pay _ _).trans (coarse_v2 _ _ _ _
      (by
        have h : (x 1).val < 1 := (x 1).isLt
        show 3 + 4 * (0 + 4 * (x 2).val - 0) - 0 = (0 + 1 * (x 2).val) * 16 + (3 + 1 * (x 1).val)
        omega)
      (by
        show 256 + 1 * (x 3).val = 256 + (0 + 1 * (0 + 1 * (x 3).val - 0) - 0)
        omega)))
  · exact fun x => (coarse_pay _ _).trans ((mid_pay _ _).trans (coarse_v2 _ _ _ _
      (by
        have h : (x 1).val < 1 := (x 1).isLt
        show 2 + 4 * (3 + 4 * (x 2).val - 0) - 0 = (0 + 1 * (x 2).val) * 16 + (14 + 1 * (x 1).val)
        omega)
      (by
        show 256 + 1 * (x 3).val = 256 + (0 + 1 * (0 + 1 * (x 3).val - 0) - 0)
        omega)))
  · exact fun x => (coarse_pay _ _).trans ((mid_pay _ _).trans (coarse_v2 _ _ _ _
      (by
        have h : (x 1).val < 1 := (x 1).isLt
        show 2 + 4 * (2 + 4 * (x 2).val - 0) - 0 = (0 + 1 * (x 2).val) * 16 + (10 + 1 * (x 1).val)
        omega)
      (by
        show 256 + 1 * (x 3).val = 256 + (0 + 1 * (0 + 1 * (x 3).val - 0) - 0)
        omega)))
  · exact fun x => (coarse_pay _ _).trans ((mid_pay _ _).trans (coarse_v2 _ _ _ _
      (by
        have h : (x 1).val < 1 := (x 1).isLt
        show 2 + 4 * (1 + 4 * (x 2).val - 0) - 0 = (0 + 1 * (x 2).val) * 16 + (6 + 1 * (x 1).val)
        omega)
      (by
        show 256 + 1 * (x 3).val = 256 + (0 + 1 * (0 + 1 * (x 3).val - 0) - 0)
        omega)))
  · exact fun x => (coarse_pay _ _).trans ((mid_pay _ _).trans (coarse_v2 _ _ _ _
      (by
        have h : (x 1).val < 1 := (x 1).isLt
        show 2 + 4 * (0 + 4 * (x 2).val - 0) - 0 = (0 + 1 * (x 2).val) * 16 + (2 + 1 * (x 1).val)
        omega)
      (by
        show 256 + 1 * (x 3).val = 256 + (0 + 1 * (0 + 1 * (x 3).val - 0) - 0)
        omega)))
  · exact fun x => (coarse_pay _ _).trans ((mid_pay _ _).trans (coarse_v2 _ _ _ _
      (by
        have h : (x 1).val < 1 := (x 1).isLt
        show 1 + 4 * (3 + 4 * (x 2).val - 0) - 0 = (0 + 1 * (x 2).val) * 16 + (13 + 1 * (x 1).val)
        omega)
      (by
        show 256 + 1 * (x 3).val = 256 + (0 + 1 * (0 + 1 * (x 3).val - 0) - 0)
        omega)))
  · exact fun x => (coarse_pay _ _).trans ((mid_pay _ _).trans (coarse_v2 _ _ _ _
      (by
        have h : (x 1).val < 1 := (x 1).isLt
        show 1 + 4 * (2 + 4 * (x 2).val - 0) - 0 = (0 + 1 * (x 2).val) * 16 + (9 + 1 * (x 1).val)
        omega)
      (by
        show 256 + 1 * (x 3).val = 256 + (0 + 1 * (0 + 1 * (x 3).val - 0) - 0)
        omega)))
  · exact fun x => (coarse_pay _ _).trans ((mid_pay _ _).trans (coarse_v2 _ _ _ _
      (by
        have h : (x 1).val < 1 := (x 1).isLt
        show 1 + 4 * (1 + 4 * (x 2).val - 0) - 0 = (0 + 1 * (x 2).val) * 16 + (5 + 1 * (x 1).val)
        omega)
      (by
        show 256 + 1 * (x 3).val = 256 + (0 + 1 * (0 + 1 * (x 3).val - 0) - 0)
        omega)))
  · exact fun x => (coarse_pay _ _).trans ((mid_pay _ _).trans (coarse_v2 _ _ _ _
      (by
        have h : (x 1).val < 1 := (x 1).isLt
        show 1 + 4 * (0 + 4 * (x 2).val - 0) - 0 = (0 + 1 * (x 2).val) * 16 + (1 + 1 * (x 1).val)
        omega)
      (by
        show 256 + 1 * (x 3).val = 256 + (0 + 1 * (0 + 1 * (x 3).val - 0) - 0)
        omega)))
  · exact fun x => (coarse_pay _ _).trans ((mid_pay _ _).trans (coarse_v2 _ _ _ _
      (by
        have h : (x 1).val < 1 := (x 1).isLt
        show 0 + 4 * (3 + 4 * (x 2).val - 0) - 0 = (0 + 1 * (x 2).val) * 16 + (12 + 1 * (x 1).val)
        omega)
      (by
        show 256 + 1 * (x 3).val = 256 + (0 + 1 * (0 + 1 * (x 3).val - 0) - 0)
        omega)))
  · exact fun x => (coarse_pay _ _).trans ((mid_pay _ _).trans (coarse_v2 _ _ _ _
      (by
        have h : (x 1).val < 1 := (x 1).isLt
        show 0 + 4 * (2 + 4 * (x 2).val - 0) - 0 = (0 + 1 * (x 2).val) * 16 + (8 + 1 * (x 1).val)
        omega)
      (by
        show 256 + 1 * (x 3).val = 256 + (0 + 1 * (0 + 1 * (x 3).val - 0) - 0)
        omega)))
  · exact fun x => (coarse_pay _ _).trans ((mid_pay _ _).trans (coarse_v2 _ _ _ _
      (by
        have h : (x 1).val < 1 := (x 1).isLt
        show 0 + 4 * (1 + 4 * (x 2).val - 0) - 0 = (0 + 1 * (x 2).val) * 16 + (4 + 1 * (x 1).val)
        omega)
      (by
        show 256 + 1 * (x 3).val = 256 + (0 + 1 * (0 + 1 * (x 3).val - 0) - 0)
        omega)))
  · exact fun x => (coarse_pay _ _).trans ((mid_pay _ _).trans (coarse_v2 _ _ _ _
      (by
        have h : (x 1).val < 1 := (x 1).isLt
        show 0 + 4 * (0 + 4 * (x 2).val - 0) - 0 = (0 + 1 * (x 2).val) * 16 + (0 + 1 * (x 1).val)
        omega)
      (by
        show 256 + 1 * (x 3).val = 256 + (0 + 1 * (0 + 1 * (x 3).val - 0) - 0)
        omega)))
  · exact fun x => (coarse_pay _ _).trans ((mid_pay _ _).trans (coarse_v1 _ _ _ _
      (by
        have h : (x 1).val < 1 := (x 1).isLt
        show 3 + 4 * (3 + 4 * (x 2).val - 0) - 0 = (0 + 1 * (x 2).val) * 16 + (15 + 1 * (x 1).val)
        omega)
      (by
        show 128 + 1 * (x 3).val = 128 + (0 + 1 * (0 + 1 * (x 3).val - 0) - 0)
        omega)))
  · exact fun x => (coarse_pay _ _).trans ((mid_pay _ _).trans (coarse_v1 _ _ _ _
      (by
        have h : (x 1).val < 1 := (x 1).isLt
        show 3 + 4 * (2 + 4 * (x 2).val - 0) - 0 = (0 + 1 * (x 2).val) * 16 + (11 + 1 * (x 1).val)
        omega)
      (by
        show 128 + 1 * (x 3).val = 128 + (0 + 1 * (0 + 1 * (x 3).val - 0) - 0)
        omega)))
  · exact fun x => (coarse_pay _ _).trans ((mid_pay _ _).trans (coarse_v1 _ _ _ _
      (by
        have h : (x 1).val < 1 := (x 1).isLt
        show 3 + 4 * (1 + 4 * (x 2).val - 0) - 0 = (0 + 1 * (x 2).val) * 16 + (7 + 1 * (x 1).val)
        omega)
      (by
        show 128 + 1 * (x 3).val = 128 + (0 + 1 * (0 + 1 * (x 3).val - 0) - 0)
        omega)))
  · exact fun x => (coarse_pay _ _).trans ((mid_pay _ _).trans (coarse_v1 _ _ _ _
      (by
        have h : (x 1).val < 1 := (x 1).isLt
        show 3 + 4 * (0 + 4 * (x 2).val - 0) - 0 = (0 + 1 * (x 2).val) * 16 + (3 + 1 * (x 1).val)
        omega)
      (by
        show 128 + 1 * (x 3).val = 128 + (0 + 1 * (0 + 1 * (x 3).val - 0) - 0)
        omega)))
  · exact fun x => (coarse_pay _ _).trans ((mid_pay _ _).trans (coarse_v1 _ _ _ _
      (by
        have h : (x 1).val < 1 := (x 1).isLt
        show 2 + 4 * (3 + 4 * (x 2).val - 0) - 0 = (0 + 1 * (x 2).val) * 16 + (14 + 1 * (x 1).val)
        omega)
      (by
        show 128 + 1 * (x 3).val = 128 + (0 + 1 * (0 + 1 * (x 3).val - 0) - 0)
        omega)))
  · exact fun x => (coarse_pay _ _).trans ((mid_pay _ _).trans (coarse_v1 _ _ _ _
      (by
        have h : (x 1).val < 1 := (x 1).isLt
        show 2 + 4 * (2 + 4 * (x 2).val - 0) - 0 = (0 + 1 * (x 2).val) * 16 + (10 + 1 * (x 1).val)
        omega)
      (by
        show 128 + 1 * (x 3).val = 128 + (0 + 1 * (0 + 1 * (x 3).val - 0) - 0)
        omega)))
  · exact fun x => (coarse_pay _ _).trans ((mid_pay _ _).trans (coarse_v1 _ _ _ _
      (by
        have h : (x 1).val < 1 := (x 1).isLt
        show 2 + 4 * (1 + 4 * (x 2).val - 0) - 0 = (0 + 1 * (x 2).val) * 16 + (6 + 1 * (x 1).val)
        omega)
      (by
        show 128 + 1 * (x 3).val = 128 + (0 + 1 * (0 + 1 * (x 3).val - 0) - 0)
        omega)))
  · exact fun x => (coarse_pay _ _).trans ((mid_pay _ _).trans (coarse_v1 _ _ _ _
      (by
        have h : (x 1).val < 1 := (x 1).isLt
        show 2 + 4 * (0 + 4 * (x 2).val - 0) - 0 = (0 + 1 * (x 2).val) * 16 + (2 + 1 * (x 1).val)
        omega)
      (by
        show 128 + 1 * (x 3).val = 128 + (0 + 1 * (0 + 1 * (x 3).val - 0) - 0)
        omega)))
  · exact fun x => (coarse_pay _ _).trans ((mid_pay _ _).trans (coarse_v1 _ _ _ _
      (by
        have h : (x 1).val < 1 := (x 1).isLt
        show 1 + 4 * (3 + 4 * (x 2).val - 0) - 0 = (0 + 1 * (x 2).val) * 16 + (13 + 1 * (x 1).val)
        omega)
      (by
        show 128 + 1 * (x 3).val = 128 + (0 + 1 * (0 + 1 * (x 3).val - 0) - 0)
        omega)))
  · exact fun x => (coarse_pay _ _).trans ((mid_pay _ _).trans (coarse_v1 _ _ _ _
      (by
        have h : (x 1).val < 1 := (x 1).isLt
        show 1 + 4 * (2 + 4 * (x 2).val - 0) - 0 = (0 + 1 * (x 2).val) * 16 + (9 + 1 * (x 1).val)
        omega)
      (by
        show 128 + 1 * (x 3).val = 128 + (0 + 1 * (0 + 1 * (x 3).val - 0) - 0)
        omega)))
  · exact fun x => (coarse_pay _ _).trans ((mid_pay _ _).trans (coarse_v1 _ _ _ _
      (by
        have h : (x 1).val < 1 := (x 1).isLt
        show 1 + 4 * (1 + 4 * (x 2).val - 0) - 0 = (0 + 1 * (x 2).val) * 16 + (5 + 1 * (x 1).val)
        omega)
      (by
        show 128 + 1 * (x 3).val = 128 + (0 + 1 * (0 + 1 * (x 3).val - 0) - 0)
        omega)))
  · exact fun x => (coarse_pay _ _).trans ((mid_pay _ _).trans (coarse_v1 _ _ _ _
      (by
        have h : (x 1).val < 1 := (x 1).isLt
        show 1 + 4 * (0 + 4 * (x 2).val - 0) - 0 = (0 + 1 * (x 2).val) * 16 + (1 + 1 * (x 1).val)
        omega)
      (by
        show 128 + 1 * (x 3).val = 128 + (0 + 1 * (0 + 1 * (x 3).val - 0) - 0)
        omega)))
  · exact fun x => (coarse_pay _ _).trans ((mid_pay _ _).trans (coarse_v1 _ _ _ _
      (by
        have h : (x 1).val < 1 := (x 1).isLt
        show 0 + 4 * (3 + 4 * (x 2).val - 0) - 0 = (0 + 1 * (x 2).val) * 16 + (12 + 1 * (x 1).val)
        omega)
      (by
        show 128 + 1 * (x 3).val = 128 + (0 + 1 * (0 + 1 * (x 3).val - 0) - 0)
        omega)))
  · exact fun x => (coarse_pay _ _).trans ((mid_pay _ _).trans (coarse_v1 _ _ _ _
      (by
        have h : (x 1).val < 1 := (x 1).isLt
        show 0 + 4 * (2 + 4 * (x 2).val - 0) - 0 = (0 + 1 * (x 2).val) * 16 + (8 + 1 * (x 1).val)
        omega)
      (by
        show 128 + 1 * (x 3).val = 128 + (0 + 1 * (0 + 1 * (x 3).val - 0) - 0)
        omega)))
  · exact fun x => (coarse_pay _ _).trans ((mid_pay _ _).trans (coarse_v1 _ _ _ _
      (by
        have h : (x 1).val < 1 := (x 1).isLt
        show 0 + 4 * (1 + 4 * (x 2).val - 0) - 0 = (0 + 1 * (x 2).val) * 16 + (4 + 1 * (x 1).val)
        omega)
      (by
        show 128 + 1 * (x 3).val = 128 + (0 + 1 * (0 + 1 * (x 3).val - 0) - 0)
        omega)))
  · exact fun x => (coarse_pay _ _).trans ((mid_pay _ _).trans (coarse_v1 _ _ _ _
      (by
        have h : (x 1).val < 1 := (x 1).isLt
        show 0 + 4 * (0 + 4 * (x 2).val - 0) - 0 = (0 + 1 * (x 2).val) * 16 + (0 + 1 * (x 1).val)
        omega)
      (by
        show 128 + 1 * (x 3).val = 128 + (0 + 1 * (0 + 1 * (x 3).val - 0) - 0)
        omega)))
  · exact fun x => (coarse_pay _ _).trans ((mid_pay _ _).trans (coarse_v0 _ _ _ _
      (by
        have h : (x 1).val < 1 := (x 1).isLt
        show 3 + 4 * (3 + 4 * (x 2).val - 0) - 0 = (0 + 1 * (x 2).val) * 16 + (15 + 1 * (x 1).val)
        omega)
      (by
        show 0 + 1 * (x 3).val = 0 + (0 + 1 * (0 + 1 * (x 3).val - 0) - 0)
        omega)))
  · exact fun x => (coarse_pay _ _).trans ((mid_pay _ _).trans (coarse_v0 _ _ _ _
      (by
        have h : (x 1).val < 1 := (x 1).isLt
        show 3 + 4 * (2 + 4 * (x 2).val - 0) - 0 = (0 + 1 * (x 2).val) * 16 + (11 + 1 * (x 1).val)
        omega)
      (by
        show 0 + 1 * (x 3).val = 0 + (0 + 1 * (0 + 1 * (x 3).val - 0) - 0)
        omega)))
  · exact fun x => (coarse_pay _ _).trans ((mid_pay _ _).trans (coarse_v0 _ _ _ _
      (by
        have h : (x 1).val < 1 := (x 1).isLt
        show 3 + 4 * (1 + 4 * (x 2).val - 0) - 0 = (0 + 1 * (x 2).val) * 16 + (7 + 1 * (x 1).val)
        omega)
      (by
        show 0 + 1 * (x 3).val = 0 + (0 + 1 * (0 + 1 * (x 3).val - 0) - 0)
        omega)))
  · exact fun x => (coarse_pay _ _).trans ((mid_pay _ _).trans (coarse_v0 _ _ _ _
      (by
        have h : (x 1).val < 1 := (x 1).isLt
        show 3 + 4 * (0 + 4 * (x 2).val - 0) - 0 = (0 + 1 * (x 2).val) * 16 + (3 + 1 * (x 1).val)
        omega)
      (by
        show 0 + 1 * (x 3).val = 0 + (0 + 1 * (0 + 1 * (x 3).val - 0) - 0)
        omega)))
  · exact fun x => (coarse_pay _ _).trans ((mid_pay _ _).trans (coarse_v0 _ _ _ _
      (by
        have h : (x 1).val < 1 := (x 1).isLt
        show 2 + 4 * (3 + 4 * (x 2).val - 0) - 0 = (0 + 1 * (x 2).val) * 16 + (14 + 1 * (x 1).val)
        omega)
      (by
        show 0 + 1 * (x 3).val = 0 + (0 + 1 * (0 + 1 * (x 3).val - 0) - 0)
        omega)))
  · exact fun x => (coarse_pay _ _).trans ((mid_pay _ _).trans (coarse_v0 _ _ _ _
      (by
        have h : (x 1).val < 1 := (x 1).isLt
        show 2 + 4 * (2 + 4 * (x 2).val - 0) - 0 = (0 + 1 * (x 2).val) * 16 + (10 + 1 * (x 1).val)
        omega)
      (by
        show 0 + 1 * (x 3).val = 0 + (0 + 1 * (0 + 1 * (x 3).val - 0) - 0)
        omega)))
  · exact fun x => (coarse_pay _ _).trans ((mid_pay _ _).trans (coarse_v0 _ _ _ _
      (by
        have h : (x 1).val < 1 := (x 1).isLt
        show 2 + 4 * (1 + 4 * (x 2).val - 0) - 0 = (0 + 1 * (x 2).val) * 16 + (6 + 1 * (x 1).val)
        omega)
      (by
        show 0 + 1 * (x 3).val = 0 + (0 + 1 * (0 + 1 * (x 3).val - 0) - 0)
        omega)))
  · exact fun x => (coarse_pay _ _).trans ((mid_pay _ _).trans (coarse_v0 _ _ _ _
      (by
        have h : (x 1).val < 1 := (x 1).isLt
        show 2 + 4 * (0 + 4 * (x 2).val - 0) - 0 = (0 + 1 * (x 2).val) * 16 + (2 + 1 * (x 1).val)
        omega)
      (by
        show 0 + 1 * (x 3).val = 0 + (0 + 1 * (0 + 1 * (x 3).val - 0) - 0)
        omega)))
  · exact fun x => (coarse_pay _ _).trans ((mid_pay _ _).trans (coarse_v0 _ _ _ _
      (by
        have h : (x 1).val < 1 := (x 1).isLt
        show 1 + 4 * (3 + 4 * (x 2).val - 0) - 0 = (0 + 1 * (x 2).val) * 16 + (13 + 1 * (x 1).val)
        omega)
      (by
        show 0 + 1 * (x 3).val = 0 + (0 + 1 * (0 + 1 * (x 3).val - 0) - 0)
        omega)))
  · exact fun x => (coarse_pay _ _).trans ((mid_pay _ _).trans (coarse_v0 _ _ _ _
      (by
        have h : (x 1).val < 1 := (x 1).isLt
        show 1 + 4 * (2 + 4 * (x 2).val - 0) - 0 = (0 + 1 * (x 2).val) * 16 + (9 + 1 * (x 1).val)
        omega)
      (by
        show 0 + 1 * (x 3).val = 0 + (0 + 1 * (0 + 1 * (x 3).val - 0) - 0)
        omega)))
  · exact fun x => (coarse_pay _ _).trans ((mid_pay _ _).trans (coarse_v0 _ _ _ _
      (by
        have h : (x 1).val < 1 := (x 1).isLt
        show 1 + 4 * (1 + 4 * (x 2).val - 0) - 0 = (0 + 1 * (x 2).val) * 16 + (5 + 1 * (x 1).val)
        omega)
      (by
        show 0 + 1 * (x 3).val = 0 + (0 + 1 * (0 + 1 * (x 3).val - 0) - 0)
        omega)))
  · exact fun x => (coarse_pay _ _).trans ((mid_pay _ _).trans (coarse_v0 _ _ _ _
      (by
        have h : (x 1).val < 1 := (x 1).isLt
        show 1 + 4 * (0 + 4 * (x 2).val - 0) - 0 = (0 + 1 * (x 2).val) * 16 + (1 + 1 * (x 1).val)
        omega)
      (by
        show 0 + 1 * (x 3).val = 0 + (0 + 1 * (0 + 1 * (x 3).val - 0) - 0)
        omega)))
  · exact fun x => (coarse_pay _ _).trans ((mid_pay _ _).trans (coarse_v0 _ _ _ _
      (by
        have h : (x 1).val < 1 := (x 1).isLt
        show 0 + 4 * (3 + 4 * (x 2).val - 0) - 0 = (0 + 1 * (x 2).val) * 16 + (12 + 1 * (x 1).val)
        omega)
      (by
        show 0 + 1 * (x 3).val = 0 + (0 + 1 * (0 + 1 * (x 3).val - 0) - 0)
        omega)))
  · exact fun x => (coarse_pay _ _).trans ((mid_pay _ _).trans (coarse_v0 _ _ _ _
      (by
        have h : (x 1).val < 1 := (x 1).isLt
        show 0 + 4 * (2 + 4 * (x 2).val - 0) - 0 = (0 + 1 * (x 2).val) * 16 + (8 + 1 * (x 1).val)
        omega)
      (by
        show 0 + 1 * (x 3).val = 0 + (0 + 1 * (0 + 1 * (x 3).val - 0) - 0)
        omega)))
  · exact fun x => (coarse_pay _ _).trans ((mid_pay _ _).trans (coarse_v0 _ _ _ _
      (by
        have h : (x 1).val < 1 := (x 1).isLt
        show 0 + 4 * (1 + 4 * (x 2).val - 0) - 0 = (0 + 1 * (x 2).val) * 16 + (4 + 1 * (x 1).val)
        omega)
      (by
        show 0 + 1 * (x 3).val = 0 + (0 + 1 * (0 + 1 * (x 3).val - 0) - 0)
        omega)))
  · exact fun x => (coarse_pay _ _).trans ((mid_pay _ _).trans (coarse_v0 _ _ _ _
      (by
        have h : (x 1).val < 1 := (x 1).isLt
        show 0 + 4 * (0 + 4 * (x 2).val - 0) - 0 = (0 + 1 * (x 2).val) * 16 + (0 + 1 * (x 1).val)
        omega)
      (by
        show 0 + 1 * (x 3).val = 0 + (0 + 1 * (0 + 1 * (x 3).val - 0) - 0)
        omega)))
end Cert.KernelProjIdeal.Out
end
-- ==== Proof.ProjFinalD.lean ====
/- What the dilated mixer's arrays by sixteens hold after the run. -/
module
public import proofs.«01_k».proof.Proof.ProjOut13
public import proofs.«01_k».proof.Proof.ProjOut16
public import proofs.«01_k».proof.Proof.ProjOut19
public import proofs.«01_k».proof.Proof.ProjTurns
public import proofs.«01_k».proof.Proof.ProjPoint
public import Idealize.ShloMosaic.Lib.Pipeline.ValueKit
public import Idealize.ShloMosaic.Lib.Claim
@[expose] public section
set_option maxRecDepth 16384
noncomputable section
namespace Cert.KernelProjIdeal.Arr
open Cert.KernelProjIdeal Cert.KernelProjIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The dilated mixer's queries, by sixteens, index by index. -/
def G13 (c : Dev nD) : Buf (Elt Ideal) ((c.tc : Thread nD τ).loc main_v63_5) := fun i => ProjRow.coarse (ProjRow.queryB (m ((c.tc : Thread nD τ).loc main_arg0)) (m ((c.tc : Thread nD τ).loc main_arg1)) (m ((c.tc : Thread nD τ).loc main_arg2))) i
theorem idx13 : ∀ t : Fin grid0.N, win0_13.index t = ![t.val % 16, 0, t.val / 16, 0] := by decide +kernel

/-- After the run that is what the array holds. -/
theorem final13 (c : Dev nD) :
    (dats m 0 c).arrAt 13 cfg0.N = G13 m c := by
  refine (dats m 0 c).arrAt_eq_of_covers 13 _ (by decide +kernel) fun t hf y => ?_
  have ht := lt32 t
  blk_simp
  rw [after0_13]
  unfold outsAt0
  dsimp only
  obtain ⟨z, p, q, l, rfl⟩ : ∃ (z : Fin 1) (p : Fin 16) (q : Fin 64) (l : Fin 512), y = ix4 z p q l := ⟨y 0, y 1, y 2, y 3, eq_ix4 y⟩
  obtain rfl : z = 0 := Subsingleton.elim _ _
  rw [Out.out13]
  have e : (win0_13.blk t).view.emb (ix4 0 p q l) = ix4 (seq t) p ⟨t.val / 16 * 64 + q.val, by omega⟩ l := by
    unfold seq
    funext a
    refine Fin.ext ?_
    fin_cases a <;> (blk_simp [idx13 t]; try rfl)
  rw [e]
  refine (Out.queryB_piece (m ((c.tc : Thread nD τ).loc main_arg0)) (m ((c.tc : Thread nD τ).loc main_arg1)) (m ((c.tc : Thread nD τ).loc main_arg2)) (seq t) (tok t ⟨q.val * 16 + p.val, by omega⟩) _ _ _ ⟨q.val * 16 + p.val, by omega⟩ (blk0 m c t ⟨q.val * 16 + p.val, by omega⟩) (blk1 m c t) (blk2 m c t) l).trans ?_
  refine congrArg (fun s => ProjRow.queryB (m ((c.tc : Thread nD τ).loc main_arg0)) (m ((c.tc : Thread nD τ).loc main_arg1)) (m ((c.tc : Thread nD τ).loc main_arg2)) (seq t) s l) (Fin.ext ?_)
  show t.val / 16 * 1024 + (q.val * 16 + p.val) = (t.val / 16 * 64 + q.val) * 16 + p.val
  omega

/-- The dilated mixer's keys, by sixteens, index by index. -/
def G16 (c : Dev nD) : Buf (Elt Ideal) ((c.tc : Thread nD τ).loc main_v63_8) := fun i => ProjRow.coarse (ProjRow.keyB (m ((c.tc : Thread nD τ).loc main_arg0)) (m ((c.tc : Thread nD τ).loc main_arg1)) (m ((c.tc : Thread nD τ).loc main_arg2))) i
theorem idx16 : ∀ t : Fin grid0.N, win0_16.index t = ![t.val % 16, 0, t.val / 16, 0] := by decide +kernel

/-- After the run that is what the array holds. -/
theorem final16 (c : Dev nD) :
    (dats m 0 c).arrAt 16 cfg0.N = G16 m c := by
  refine (dats m 0 c).arrAt_eq_of_covers 16 _ (by decide +kernel) fun t hf y => ?_
  have ht := lt32 t
  blk_simp
  rw [after0_16]
  unfold outsAt0
  dsimp only
  obtain ⟨z, p, q, l, rfl⟩ : ∃ (z : Fin 1) (p : Fin 16) (q : Fin 64) (l : Fin 512), y = ix4 z p q l := ⟨y 0, y 1, y 2, y 3, eq_ix4 y⟩
  obtain rfl : z = 0 := Subsingleton.elim _ _
  rw [Out.out16]
  have e : (win0_16.blk t).view.emb (ix4 0 p q l) = ix4 (seq t) p ⟨t.val / 16 * 64 + q.val, by omega⟩ l := by
    unfold seq
    funext a
    refine Fin.ext ?_
    fin_cases a <;> (blk_simp [idx16 t]; try rfl)
  rw [e]
  refine (Out.keyB_piece (m ((c.tc : Thread nD τ).loc main_arg0)) (m ((c.tc : Thread nD τ).loc main_arg1)) (m ((c.tc : Thread nD τ).loc main_arg2)) (seq t) (tok t ⟨q.val * 16 + p.val, by omega⟩) _ _ _ ⟨q.val * 16 + p.val, by omega⟩ (blk0 m c t ⟨q.val * 16 + p.val, by omega⟩) (blk1 m c t) (blk2 m c t) l).trans ?_
  refine congrArg (fun s => ProjRow.keyB (m ((c.tc : Thread nD τ).loc main_arg0)) (m ((c.tc : Thread nD τ).loc main_arg1)) (m ((c.tc : Thread nD τ).loc main_arg2)) (seq t) s l) (Fin.ext ?_)
  show t.val / 16 * 1024 + (q.val * 16 + p.val) = (t.val / 16 * 64 + q.val) * 16 + p.val
  omega

/-- The dilated mixer's values, by sixteens, index by index. -/
def G19 (c : Dev nD) : Buf (Elt Ideal) ((c.tc : Thread nD τ).loc main_v63_11) := fun i => ProjRow.coarse (ProjRow.valueB (m ((c.tc : Thread nD τ).loc main_arg0)) (m ((c.tc : Thread nD τ).loc main_arg1)) (m ((c.tc : Thread nD τ).loc main_arg2))) i
theorem idx19 : ∀ t : Fin grid0.N, win0_19.index t = ![t.val % 16, 0, t.val / 16, 0] := by decide +kernel

/-- After the run that is what the array holds. -/
theorem final19 (c : Dev nD) :
    (dats m 0 c).arrAt 19 cfg0.N = G19 m c := by
  refine (dats m 0 c).arrAt_eq_of_covers 19 _ (by decide +kernel) fun t hf y => ?_
  have ht := lt32 t
  blk_simp
  rw [after0_19]
  unfold outsAt0
  dsimp only
  obtain ⟨z, p, q, l, rfl⟩ : ∃ (z : Fin 1) (p : Fin 16) (q : Fin 64) (l : Fin 512), y = ix4 z p q l := ⟨y 0, y 1, y 2, y 3, eq_ix4 y⟩
  obtain rfl : z = 0 := Subsingleton.elim _ _
  rw [Out.out19]
  have e : (win0_19.blk t).view.emb (ix4 0 p q l) = ix4 (seq t) p ⟨t.val / 16 * 64 + q.val, by omega⟩ l := by
    unfold seq
    funext a
    refine Fin.ext ?_
    fin_cases a <;> (blk_simp [idx19 t]; try rfl)
  rw [e]
  refine (Out.valueB_piece (m ((c.tc : Thread nD τ).loc main_arg0)) (m ((c.tc : Thread nD τ).loc main_arg1)) (m ((c.tc : Thread nD τ).loc main_arg2)) (seq t) (tok t ⟨q.val * 16 + p.val, by omega⟩) _ _ _ ⟨q.val * 16 + p.val, by omega⟩ (blk0 m c t ⟨q.val * 16 + p.val, by omega⟩) (blk1 m c t) (blk2 m c t) l).trans ?_
  refine congrArg (fun s => ProjRow.valueB (m ((c.tc : Thread nD τ).loc main_arg0)) (m ((c.tc : Thread nD τ).loc main_arg1)) (m ((c.tc : Thread nD τ).loc main_arg2)) (seq t) s l) (Fin.ext ?_)
  show t.val / 16 * 1024 + (q.val * 16 + p.val) = (t.val / 16 * 64 + q.val) * 16 + p.val
  omega

end Cert.KernelProjIdeal.Arr
end
-- ==== Proof.ProjRef.lean ====
/- The reference's results of the projection part: the functions of `ProjRow`. -/
module
public import proofs.«01_k».proof.Proof.Gen.ReferenceProjIdeal.Run
public import proofs.«01_k».proof.Proof.Gen.ReferenceProjIdeal.Read
public import proofs.«01_k».proof.Proof.ProjRow
public import Idealize.ShloMosaic.Lib.Pointwise
@[expose] public section
set_option maxRecDepth 16384
noncomputable section
namespace Cert.ReferenceProjIdeal.Rows
open Cert.ReferenceProjIdeal Cert.ReferenceProjIdeal.Read Idealize.ShloMosaic Idealize.ShloMosaic.TcCoe Idealize.SL.Sem

variable (x0 : (⟨S16x2048x1024, .f32⟩ : BufTy).Contents (Elt Ideal)) (x1 : (⟨S1x1024, .f32⟩ : BufTy).Contents (Elt Ideal))
  (x2 : (⟨S1x1024x2304, .f32⟩ : BufTy).Contents (Elt Ideal)) (x3 x4 : (⟨S1x64, .f32⟩ : BufTy).Contents (Elt Ideal)) (b : Fin 16) (s : Fin 2048)

/-- The projection. -/
theorem proj_apply (e : Fin 2304) : val_main_v15 x0 x1 x2 (ix3 b s e) = ProjRow.proj x0 x1 x2 b s e := by
  have hn : ∀ k : Fin 1024, val_main_v13 x0 x1 (ix3 b s k) = MlpRow.rms (fun k => x0 (ix3 b s k)) (fun k => x1 (ix2 0 k)) k := by
    intro k
    pointwise [val_main_v13, val_main_v12, val_main_v11, val_main_v10, val_main_v9, val_main_v8, val_main_v7, val_main_v6, val_main_v5, val_main_v4, val_main_v3, val_main_v2, val_main_v1, val_main_v0, val_main_cst, val_main_cst_0, val_main_cst_1]
    rfl
  pointwise [val_main_v15, val_main_v14]
  simp only [hn]
  rfl

/-- The angles by the row. -/
theorem row_angle (f : Fin 16) : val_main_v50 (F := Ideal) (ix2 s f)
    = FloatOps.sitofp (F := Ideal) FTy.f32 (BitVec.ofNat 32 (s.val / 64)) * ProjRow.freq f.val := by
  pointwise [val_main_v50, val_main_v48, val_main_v46, val_main_v34, val_main_v33, val_main_v32, val_main_v49, val_main_v47, val_main_v44, val_main_v43, val_main_v42, val_main_v41, val_main_v40, val_main_v39, val_main_cst_5, val_main_cst_6]
  rfl

/-- The angles by the column. -/
theorem col_angle (f : Fin 16) : val_main_v56 (F := Ideal) (ix2 s f)
    = FloatOps.sitofp (F := Ideal) FTy.f32 (BitVec.ofNat 32 (s.val % 64)) * ProjRow.freq f.val := by
  pointwise [val_main_v56, val_main_v54, val_main_v52, val_main_v38, val_main_v37, val_main_v36, val_main_v35,val_main_v55, val_main_v53, val_main_v44, val_main_v43, val_main_v42, val_main_v41, val_main_v40, val_main_v39, val_main_cst_5, val_main_cst_6]
  rfl

/-- The keys' angles are the queries'. -/
theorem key_row_angle (f : Fin 16) : val_main_v132 (F := Ideal) (ix2 s f) = val_main_v50 (F := Ideal) (ix2 s f) := rfl
theorem key_col_angle (f : Fin 16) : val_main_v138 (F := Ideal) (ix2 s f) = val_main_v56 (F := Ideal) (ix2 s f) := rfl

/-- A query head after its norm. -/
theorem query_norm (h : Fin 8) (d : Fin 64) : val_main_v31 x0 x1 x2 x3 (ix4 b s h d)
    = ProjRow.headNorm (fun d => ProjRow.proj x0 x1 x2 b s ⟨h.val * 64 + d.val, by omega⟩) (fun d => x3 (ix2 0 d)) d := by
  have hq : ∀ d : Fin 64, val_main_v17 x0 x1 x2 (ix4 b s h d) = ProjRow.proj x0 x1 x2 b s ⟨h.val * 64 + d.val, by omega⟩ := by
    intro d
    pointwise [val_main_v17, val_main_v16]
    exact proj_apply _ _ _ _ _ _
  pointwise [val_main_v31, val_main_v30, val_main_v29, val_main_v28, val_main_v27, val_main_v26, val_main_v25, val_main_v24, val_main_v23, val_main_v22, val_main_v21, val_main_v20, val_main_v19, val_main_v18, val_main_cst_2, val_main_cst_3, val_main_cst_4]
  simp only [hq]
  rfl

/-- A key head after its norm. -/
theorem key_norm (h : Fin 2) (d : Fin 64) : val_main_v113 x0 x1 x2 x4 (ix4 b s h d)
    = ProjRow.headNorm (fun d => ProjRow.proj x0 x1 x2 b s ⟨512 + (h.val * 64 + d.val), by omega⟩) (fun d => x4 (ix2 0 d)) d := by
  have hq : ∀ d : Fin 64, val_main_v99 x0 x1 x2 (ix4 b s h d) = ProjRow.proj x0 x1 x2 b s ⟨512 + (h.val * 64 + d.val), by omega⟩ := by
    intro d
    pointwise [val_main_v99, val_main_v98]
    exact proj_apply _ _ _ _ _ _
  pointwise [val_main_v113, val_main_v112, val_main_v111, val_main_v110, val_main_v109, val_main_v108, val_main_v107, val_main_v106, val_main_v105, val_main_v104, val_main_v103, val_main_v102, val_main_v101, val_main_v100, val_main_cst_7, val_main_cst_8, val_main_cst_9]
  simp only [hq]
  rfl

/-- The rotation, quarter by quarter, is `ProjRow.rope`. -/
theorem rope_quarters (n : Fin 64 → EReal) (A B : Fin 16 → EReal) (d : Fin 64)
    (hA : ∀ f : Fin 16, A f = FloatOps.sitofp (F := Ideal) FTy.f32 (BitVec.ofNat 32 (s.val / 64)) * ProjRow.freq f.val)
    (hB : ∀ f : Fin 16, B f = FloatOps.sitofp (F := Ideal) FTy.f32 (BitVec.ofNat 32 (s.val % 64)) * ProjRow.freq f.val) :
    (if h1 : d.val < 16 then n d * Ideal.cos (A ⟨d.val, h1⟩) - n ⟨16 + d.val, by omega⟩ * Ideal.sin (A ⟨d.val, h1⟩)
     else if h2 : d.val - 16 < 16 then n ⟨16 + (d.val - 16), by omega⟩ * Ideal.cos (A ⟨d.val - 16, h2⟩) + n ⟨d.val - 16, by omega⟩ * Ideal.sin (A ⟨d.val - 16, h2⟩)
     else if h3 : d.val - 16 - 16 < 16 then n ⟨32 + (d.val - 16 - 16), by omega⟩ * Ideal.cos (B ⟨d.val - 16 - 16, h3⟩)
        - n ⟨32 + (16 + (d.val - 16 - 16)), by omega⟩ * Ideal.sin (B ⟨d.val - 16 - 16, h3⟩)
     else n ⟨32 + (16 + (d.val - 16 - 16 - 16)), by omega⟩ * Ideal.cos (B ⟨d.val - 16 - 16 - 16, by omega⟩)
        + n ⟨32 + (d.val - 16 - 16 - 16), by omega⟩ * Ideal.sin (B ⟨d.val - 16 - 16 - 16, by omega⟩))
      = ProjRow.rope n s d := by
  unfold ProjRow.rope ProjRow.angle
  simp only [hA, hB]
  by_cases h1 : d.val < 16
  · rw [dif_pos h1, if_pos (show d.val % 32 < 16 by omega), if_pos (show d.val < 32 by omega)]
    simp only [show (d.val + 16) % 64 = 16 + d.val by omega, show d.val % 16 = d.val by omega]
  rw [dif_neg h1]
  by_cases h2 : d.val - 16 < 16
  · rw [dif_pos h2, if_neg (show ¬ d.val % 32 < 16 by omega), if_pos (show d.val < 32 by omega)]
    simp only [show (d.val + 48) % 64 = d.val - 16 by omega, show d.val % 16 = d.val - 16 by omega, show 16 + (d.val - 16) = d.val by omega, Fin.eta]
  rw [dif_neg h2]
  by_cases h3 : d.val - 16 - 16 < 16
  · rw [dif_pos h3, if_pos (show d.val % 32 < 16 by omega), if_neg (show ¬ d.val < 32 by omega)]
    simp only [show (d.val + 16) % 64 = 32 + (16 + (d.val - 16 - 16)) by omega, show d.val % 16 = d.val - 16 - 16 by omega,
      show 32 + (d.val - 16 - 16) = d.val by omega, Fin.eta]
  · rw [dif_neg h3, if_neg (show ¬ d.val % 32 < 16 by omega), if_neg (show ¬ d.val < 32 by omega)]
    simp only [show (d.val + 48) % 64 = 32 + (d.val - 16 - 16 - 16) by omega, show d.val % 16 = d.val - 16 - 16 - 16 by omega,
      show 32 + (16 + (d.val - 16 - 16 - 16)) = d.val by omega, Fin.eta]

/-- A rotated query head. -/
theorem query_apply (h : Fin 8) (d : Fin 64) : val_main_v97 x0 x1 x2 x3 (ix4 b s h d) = ProjRow.query x0 x1 x2 x3 b s h d := by
  pointwise [val_main_v97, val_main_v96, val_main_v95, val_main_v94, val_main_v93, val_main_v92, val_main_v91, val_main_v90, val_main_v89, val_main_v88, val_main_v87, val_main_v86, val_main_v85, val_main_v84, val_main_v83, val_main_v82, val_main_v81, val_main_v80, val_main_v79, val_main_v78, val_main_v77, val_main_v76, val_main_v75, val_main_v74, val_main_v73, val_main_v72, val_main_v71, val_main_v70, val_main_v69, val_main_v68, val_main_v67, val_main_v66, val_main_v65, val_main_v64, val_main_v63, val_main_v62, val_main_v61, val_main_v60, val_main_v59, val_main_v58, val_main_v57, val_main_v51, val_main_v45]
  refine (rope_quarters s (fun d => val_main_v31 x0 x1 x2 x3 (ix4 b s h d)) _ _ d (row_angle s) (col_angle s)).trans ?_
  simp only [query_norm]
  rfl

/-- A rotated key head. -/
theorem key_apply (h : Fin 2) (d : Fin 64) : val_main_v179 x0 x1 x2 x4 (ix4 b s h d) = ProjRow.key x0 x1 x2 x4 b s h d := by
  pointwise [val_main_v179, val_main_v178, val_main_v177, val_main_v176, val_main_v175, val_main_v174, val_main_v173, val_main_v172, val_main_v171, val_main_v170, val_main_v169, val_main_v168, val_main_v167, val_main_v166, val_main_v165, val_main_v164, val_main_v163, val_main_v162, val_main_v161, val_main_v160, val_main_v159, val_main_v158, val_main_v157, val_main_v156, val_main_v155, val_main_v154, val_main_v153, val_main_v152, val_main_v151, val_main_v150, val_main_v149, val_main_v148, val_main_v147, val_main_v146, val_main_v145, val_main_v144, val_main_v143, val_main_v142, val_main_v141, val_main_v140, val_main_v139, val_main_v133, val_main_v127]
  refine (rope_quarters s (fun d => val_main_v113 x0 x1 x2 x4 (ix4 b s h d)) _ _ d (row_angle s) (col_angle s)).trans ?_
  simp only [key_norm]
  rfl

/-- The scaled queries of the dilated mixer. -/
theorem queryB_apply (f : Fin 512) : val_main_v189 x0 x1 x2 (ix3 b s f) = ProjRow.queryB x0 x1 x2 b s f := by
  have hl : (id (Host.log (constant (F := Ideal) S_ FTy.f32 1073741824#32)) ix0 : EReal) = ((Real.log 2 : ℝ) : EReal) := by
    have h2 : (Ideal.ofBits FTy.f32 1073741824#32 : EReal) = ((2 : ℝ) : EReal) := by
      simp only [Ideal.ofBits]
      unfold Ideal.ieee
      simp
      norm_num
      exact_mod_cast congrArg (fun x : ℝ => (x : EReal)) (by norm_num : (8388608 : ℝ) * (1 / 4194304) = 2)
    show Ideal.log (Ideal.ofBits FTy.f32 1073741824#32) = _
    rw [h2, Ideal.log_coe]
    norm_num
  have hdiv : ∀ x : EReal, Ideal.div (x * Ideal.ofBits FTy.f32 1040187392#32) ((Real.log 2 : ℝ) : EReal) = x * ProjRow.scale := by
    intro x
    have h0 : ((Real.log 2 : ℝ) : EReal) ≠ 0 := by
      exact_mod_cast (Real.log_pos one_lt_two).ne'
    have h8 : (Ideal.ofBits FTy.f32 1040187392#32 : EReal) = (((8 : ℝ)⁻¹ : ℝ) : EReal) := by
      simp only [Ideal.ofBits]
      unfold Ideal.ieee
      simp
      norm_num
      exact_mod_cast congrArg (fun x : ℝ => (x : EReal)) (by norm_num : (8388608 : ℝ) * (1 / 67108864) = 1 / 8)
    unfold Ideal.div ProjRow.scale
    rw [if_neg h0, h8, mul_assoc, ← EReal.coe_inv, ← EReal.coe_mul]
  pointwise [val_main_v189, val_main_v188, val_main_v187, val_main_v186, val_main_v185, val_main_v184, val_main_v183, val_main_cst_12, val_main_cst_13]
  rw [hl, hdiv, proj_apply]
  rfl

/-- The dilated mixer's keys and values. -/
theorem keyB_apply (f : Fin 512) : val_main_v205 x0 x1 x2 (ix3 b s f) = ProjRow.keyB x0 x1 x2 b s f := by
  pointwise [val_main_v205]
  exact proj_apply _ _ _ _ _ _

theorem valueB_apply (f : Fin 512) : val_main_v213 x0 x1 x2 (ix3 b s f) = ProjRow.valueB x0 x1 x2 b s f := by
  pointwise [val_main_v213]
  exact proj_apply _ _ _ _ _ _

end Cert.ReferenceProjIdeal.Rows
end
-- ==== Proof.ProjRefOut.lean ====
/- The reference's results of the projection part as whole arrays: the arrays of `ProjRow`. -/
module
public import proofs.«01_k».proof.Proof.Gen.ReferenceProjIdeal.Run
public import proofs.«01_k».proof.Proof.Gen.ReferenceProjIdeal.Read
public import proofs.«01_k».proof.Proof.ProjRef
public import Idealize.ShloMosaic.Lib.Pointwise
public import Idealize.ShloMosaic.Lib.Pipeline.ValueKit
@[expose] public section
set_option maxRecDepth 16384
noncomputable section
namespace Cert.ReferenceProjIdeal.Rows
open Cert.ReferenceProjIdeal Cert.ReferenceProjIdeal.Read Idealize.ShloMosaic Idealize.ShloMosaic.TcCoe Idealize.SL.Sem

variable (x0 : (⟨S16x2048x1024, .f32⟩ : BufTy).Contents (Elt Ideal)) (x1 : (⟨S1x1024, .f32⟩ : BufTy).Contents (Elt Ideal))
  (x2 : (⟨S1x1024x2304, .f32⟩ : BufTy).Contents (Elt Ideal)) (x3 x4 : (⟨S1x64, .f32⟩ : BufTy).Contents (Elt Ideal))

/-- The results, array by array. -/
theorem queries_eq : val_main_v192 x0 x1 x2 x3 = ProjRow.queries x0 x1 x2 x3 := by
  funext i
  obtain ⟨b, l, s, rfl⟩ : ∃ (b : Fin 16) (l : Fin 512) (s : Fin 2048), i = ix3 b l s := ⟨i 0, i 1, i 2, eq_ix3 i⟩
  refine Eq.trans ?_ (query_apply x0 x1 x2 x3 b s ⟨l.val / 64, by omega⟩ ⟨l.val % 64, by omega⟩)
  have h1 : val_main_v192 x0 x1 x2 x3 (ix3 b l s) = val_main_v190 x0 x1 x2 x3 (ix3 b s l) := by
    pointwise [val_main_v192, val_main_v191]
  rw [h1]
  unfold val_main_v190
  rw [shapeCast_apply _ _ _ (ix4 b s (⟨l.val / 64, by omega⟩ : Fin 8) (⟨l.val % 64, by omega⟩ : Fin 64)) (by
    rewrite [Shape.rowMajor_val_four, Shape.rowMajor_val_three]
    show ((b.val * 2048 + s.val) * 8 + l.val / 64) * 64 + l.val % 64 = (b.val * 2048 + s.val) * 512 + l.val
    omega)]

theorem keys_eq : val_main_v194 x0 x1 x2 x4 = ProjRow.keys x0 x1 x2 x4 := by
  funext i
  obtain ⟨b, s, l, rfl⟩ : ∃ (b : Fin 16) (s : Fin 2048) (l : Fin 256), i = ix3 b s l := ⟨i 0, i 1, i 2, eq_ix3 i⟩
  refine Eq.trans ?_ (key_apply x0 x1 x2 x4 b s ⟨l.val / 128, by omega⟩ ⟨l.val % 64, by omega⟩)
  pointwise [val_main_v194, val_main_v193, val_main_v182, val_main_v181, val_main_v180]
  split <;> blk_ext []

theorem values_eq : val_main_v197 x0 x1 x2 = ProjRow.values x0 x1 x2 := by
  funext i
  obtain ⟨b, l, s, rfl⟩ : ∃ (b : Fin 16) (l : Fin 128) (s : Fin 2048), i = ix3 b l s := ⟨i 0, i 1, i 2, eq_ix3 i⟩
  refine Eq.trans ?_ (proj_apply x0 x1 x2 b s ⟨640 + l.val, by omega⟩)
  pointwise [val_main_v197, val_main_v196, val_main_v195]

theorem queryB_tokens : val_main_v198 x0 x1 x2 = ProjRow.tokens (ProjRow.queryB x0 x1 x2) := by
  funext i
  rw [eq_ix3 i]
  exact queryB_apply x0 x1 x2 (i 0) (i 1) (i 2)
theorem keyB_tokens : val_main_v206 x0 x1 x2 = ProjRow.tokens (ProjRow.keyB x0 x1 x2) := by
  funext i
  rw [eq_ix3 i]
  exact keyB_apply x0 x1 x2 (i 0) (i 1) (i 2)
theorem valueB_tokens : val_main_v214 x0 x1 x2 = ProjRow.tokens (ProjRow.valueB x0 x1 x2) := by
  funext i
  rw [eq_ix3 i]
  exact valueB_apply x0 x1 x2 (i 0) (i 1) (i 2)

theorem queryB_fine : val_main_v201 x0 x1 x2 = ProjRow.fine (ProjRow.queryB x0 x1 x2) := by
  funext i
  obtain ⟨b, p, m, f, rfl⟩ : ∃ (b : Fin 16) (p : Fin 4) (m f : Fin 512), i = ix4 b p m f := ⟨i 0, i 1, i 2, i 3, eq_ix4 i⟩
  refine Eq.trans ?_ (queryB_apply x0 x1 x2 b ⟨m.val * 4 + p.val, by omega⟩ f)
  pointwise [val_main_v201, val_main_v200, val_main_v199]

theorem queryB_coarse : val_main_v204 x0 x1 x2 = ProjRow.coarse (ProjRow.queryB x0 x1 x2) := by
  funext i
  obtain ⟨b, p, m, f, rfl⟩ : ∃ (b : Fin 16) (p : Fin 16) (m : Fin 128) (f : Fin 512), i = ix4 b p m f := ⟨i 0, i 1, i 2, i 3, eq_ix4 i⟩
  refine Eq.trans ?_ (queryB_apply x0 x1 x2 b ⟨m.val * 16 + p.val, by omega⟩ f)
  pointwise [val_main_v204, val_main_v203, val_main_v202]

theorem keyB_fine : val_main_v209 x0 x1 x2 = ProjRow.fine (ProjRow.keyB x0 x1 x2) := by
  funext i
  obtain ⟨b, p, m, f, rfl⟩ : ∃ (b : Fin 16) (p : Fin 4) (m f : Fin 512), i = ix4 b p m f := ⟨i 0, i 1, i 2, i 3, eq_ix4 i⟩
  refine Eq.trans ?_ (keyB_apply x0 x1 x2 b ⟨m.val * 4 + p.val, by omega⟩ f)
  pointwise [val_main_v209, val_main_v208, val_main_v207]

theorem keyB_coarse : val_main_v212 x0 x1 x2 = ProjRow.coarse (ProjRow.keyB x0 x1 x2) := by
  funext i
  obtain ⟨b, p, m, f, rfl⟩ : ∃ (b : Fin 16) (p : Fin 16) (m : Fin 128) (f : Fin 512), i = ix4 b p m f := ⟨i 0, i 1, i 2, i 3, eq_ix4 i⟩
  refine Eq.trans ?_ (keyB_apply x0 x1 x2 b ⟨m.val * 16 + p.val, by omega⟩ f)
  pointwise [val_main_v212, val_main_v211, val_main_v210]

theorem valueB_fine : val_main_v217 x0 x1 x2 = ProjRow.fine (ProjRow.valueB x0 x1 x2) := by
  funext i
  obtain ⟨b, p, m, f, rfl⟩ : ∃ (b : Fin 16) (p : Fin 4) (m f : Fin 512), i = ix4 b p m f := ⟨i 0, i 1, i 2, i 3, eq_ix4 i⟩
  refine Eq.trans ?_ (valueB_apply x0 x1 x2 b ⟨m.val * 4 + p.val, by omega⟩ f)
  pointwise [val_main_v217, val_main_v216, val_main_v215]

theorem valueB_coarse : val_main_v220 x0 x1 x2 = ProjRow.coarse (ProjRow.valueB x0 x1 x2) := by
  funext i
  obtain ⟨b, p, m, f, rfl⟩ : ∃ (b : Fin 16) (p : Fin 16) (m : Fin 128) (f : Fin 512), i = ix4 b p m f := ⟨i 0, i 1, i 2, i 3, eq_ix4 i⟩
  refine Eq.trans ?_ (valueB_apply x0 x1 x2 b ⟨m.val * 16 + p.val, by omega⟩ f)
  pointwise [val_main_v220, val_main_v219, val_main_v218]

end Cert.ReferenceProjIdeal.Rows
end
-- ==== Proof.ProjClaims.lean ====
/- The claims about the projection's call. -/
module
public import proofs.«01_k».proof.Defs
public import proofs.«01_k».proof.Proof.Gen.KernelProj.Frame
public import proofs.«01_k».proof.Proof.Gen.ReferenceProjIdeal.Run
public import proofs.«01_k».proof.Proof.ProjPre
public import proofs.«01_k».proof.Proof.ProjFinalA
public import proofs.«01_k».proof.Proof.ProjFinalB
public import proofs.«01_k».proof.Proof.ProjFinalC
public import proofs.«01_k».proof.Proof.ProjFinalD
public import proofs.«01_k».proof.Proof.ProjRefOut
public import Idealize.ShloMosaic.Lib.Quiescent
@[expose] public section
set_option maxRecDepth 16384
set_option maxHeartbeats 2000000
noncomputable section
namespace Cert.Proof.Proj
open Idealize.ShloMosaic Idealize.ShloMosaic.TcCoe Idealize.SL.Sem

/-- The kernel's program keeps its arguments and leaves every semaphore at zero, on any floats. -/
theorem frame_kernel : Cert.quiescent_KernelProj := fun m ρ _ => Cert.KernelProj.Gen.frame m ρ

/-- The same of the program read over the extended reals. -/
theorem frame_ideal : Cert.quiescent_KernelProjIdeal := fun m ρ _ => Cert.KernelProjIdeal.Gen.frame m ρ

/-- The precondition is not needed for it. -/
theorem frame_ideal_pre : Cert.quiescent_KernelProjIdeal_pre_finite_heads := fun m ρ _ => frame_ideal m ρ trivial

/-- The reference keeps its arguments; it declares no semaphore. -/
theorem frame_reference : Cert.quiescent_ReferenceProjIdeal := fun m ρ _ =>
  (θ_run Cert.ReferenceProjIdeal.defs _ _).mono (fun r h => ⟨fun c => (h c).2.2.2.2.2.2.2.2.2.2.2.2,
      Idealize.ShloMosaic.sem_eq_zero_of_no_sems (by decide) r.2⟩)
    (Cert.ReferenceProjIdeal.Value.run (F := Ideal) m ρ)

/-- Nor is the precondition needed for that. -/
theorem frame_reference_pre : Cert.quiescent_ReferenceProjIdeal_pre_finite_heads := fun m ρ _ => frame_reference m ρ trivial

/-- The scale of the dilated mixer's queries is read as the exact number `1 / (8 log 2)`, whose nearest float the kernel has. -/
theorem preserves : Cert.preserves_KernelProj_KernelProjIdeal :=
  IdealRules.named_const.statement Cert.KernelProjIdeal.κ "qscale" .f32 0x3E38AA3B#32 _ rfl

/-- From arguments that agree, the reference's queries of the axial mixer, are the kernel's. -/
theorem same8 (m : (ℓ : Loc Cert.KernelProjIdeal.nD Cert.KernelProjIdeal.τ Cert.KernelProjIdeal.sig) → Buf (Elt Ideal) ℓ)
    (m' : (ℓ : Loc Cert.ReferenceProjIdeal.nD Cert.ReferenceProjIdeal.τ Cert.ReferenceProjIdeal.sig) → Buf (Elt Ideal) ℓ) (c : Dev Cert.KernelProjIdeal.nD)
    (h0 : m' ((c.tc : Thread Cert.ReferenceProjIdeal.nD Cert.ReferenceProjIdeal.τ).loc Cert.ReferenceProjIdeal.main_arg0) = m ((c.tc : Thread Cert.KernelProjIdeal.nD Cert.KernelProjIdeal.τ).loc Cert.KernelProjIdeal.main_arg0))
    (h1 : m' ((c.tc : Thread Cert.ReferenceProjIdeal.nD Cert.ReferenceProjIdeal.τ).loc Cert.ReferenceProjIdeal.main_arg1) = m ((c.tc : Thread Cert.KernelProjIdeal.nD Cert.KernelProjIdeal.τ).loc Cert.KernelProjIdeal.main_arg1))
    (h2 : m' ((c.tc : Thread Cert.ReferenceProjIdeal.nD Cert.ReferenceProjIdeal.τ).loc Cert.ReferenceProjIdeal.main_arg2) = m ((c.tc : Thread Cert.KernelProjIdeal.nD Cert.KernelProjIdeal.τ).loc Cert.KernelProjIdeal.main_arg2))
    (h3 : m' ((c.tc : Thread Cert.ReferenceProjIdeal.nD Cert.ReferenceProjIdeal.τ).loc Cert.ReferenceProjIdeal.main_arg3) = m ((c.tc : Thread Cert.KernelProjIdeal.nD Cert.KernelProjIdeal.τ).loc Cert.KernelProjIdeal.main_arg3)) :
    Cert.ReferenceProjIdeal.Read.val_main_v192 (F := Ideal) (m' ((c.tc : Thread Cert.ReferenceProjIdeal.nD Cert.ReferenceProjIdeal.τ).loc Cert.ReferenceProjIdeal.main_arg0)) (m' ((c.tc : Thread Cert.ReferenceProjIdeal.nD Cert.ReferenceProjIdeal.τ).loc Cert.ReferenceProjIdeal.main_arg1)) (m' ((c.tc : Thread Cert.ReferenceProjIdeal.nD Cert.ReferenceProjIdeal.τ).loc Cert.ReferenceProjIdeal.main_arg2)) (m' ((c.tc : Thread Cert.ReferenceProjIdeal.nD Cert.ReferenceProjIdeal.τ).loc Cert.ReferenceProjIdeal.main_arg3))
      = Cert.KernelProjIdeal.Arr.G8 m c := by
  rw [h0, h1, h2, h3, Cert.ReferenceProjIdeal.Rows.queries_eq]
  rfl

/-- From arguments that agree, the reference's keys of the axial mixer, are the kernel's. -/
theorem same9 (m : (ℓ : Loc Cert.KernelProjIdeal.nD Cert.KernelProjIdeal.τ Cert.KernelProjIdeal.sig) → Buf (Elt Ideal) ℓ)
    (m' : (ℓ : Loc Cert.ReferenceProjIdeal.nD Cert.ReferenceProjIdeal.τ Cert.ReferenceProjIdeal.sig) → Buf (Elt Ideal) ℓ) (c : Dev Cert.KernelProjIdeal.nD)
    (h0 : m' ((c.tc : Thread Cert.ReferenceProjIdeal.nD Cert.ReferenceProjIdeal.τ).loc Cert.ReferenceProjIdeal.main_arg0) = m ((c.tc : Thread Cert.KernelProjIdeal.nD Cert.KernelProjIdeal.τ).loc Cert.KernelProjIdeal.main_arg0))
    (h1 : m' ((c.tc : Thread Cert.ReferenceProjIdeal.nD Cert.ReferenceProjIdeal.τ).loc Cert.ReferenceProjIdeal.main_arg1) = m ((c.tc : Thread Cert.KernelProjIdeal.nD Cert.KernelProjIdeal.τ).loc Cert.KernelProjIdeal.main_arg1))
    (h2 : m' ((c.tc : Thread Cert.ReferenceProjIdeal.nD Cert.ReferenceProjIdeal.τ).loc Cert.ReferenceProjIdeal.main_arg2) = m ((c.tc : Thread Cert.KernelProjIdeal.nD Cert.KernelProjIdeal.τ).loc Cert.KernelProjIdeal.main_arg2))
    (h4 : m' ((c.tc : Thread Cert.ReferenceProjIdeal.nD Cert.ReferenceProjIdeal.τ).loc Cert.ReferenceProjIdeal.main_arg4) = m ((c.tc : Thread Cert.KernelProjIdeal.nD Cert.KernelProjIdeal.τ).loc Cert.KernelProjIdeal.main_arg4)) :
    Cert.ReferenceProjIdeal.Read.val_main_v194 (F := Ideal) (m' ((c.tc : Thread Cert.ReferenceProjIdeal.nD Cert.ReferenceProjIdeal.τ).loc Cert.ReferenceProjIdeal.main_arg0)) (m' ((c.tc : Thread Cert.ReferenceProjIdeal.nD Cert.ReferenceProjIdeal.τ).loc Cert.ReferenceProjIdeal.main_arg1)) (m' ((c.tc : Thread Cert.ReferenceProjIdeal.nD Cert.ReferenceProjIdeal.τ).loc Cert.ReferenceProjIdeal.main_arg2)) (m' ((c.tc : Thread Cert.ReferenceProjIdeal.nD Cert.ReferenceProjIdeal.τ).loc Cert.ReferenceProjIdeal.main_arg4))
      = Cert.KernelProjIdeal.Arr.G9 m c := by
  rw [h0, h1, h2, h4, Cert.ReferenceProjIdeal.Rows.keys_eq]
  rfl

/-- From arguments that agree, the reference's values of the axial mixer, are the kernel's. -/
theorem same10 (m : (ℓ : Loc Cert.KernelProjIdeal.nD Cert.KernelProjIdeal.τ Cert.KernelProjIdeal.sig) → Buf (Elt Ideal) ℓ)
    (m' : (ℓ : Loc Cert.ReferenceProjIdeal.nD Cert.ReferenceProjIdeal.τ Cert.ReferenceProjIdeal.sig) → Buf (Elt Ideal) ℓ) (c : Dev Cert.KernelProjIdeal.nD)
    (h0 : m' ((c.tc : Thread Cert.ReferenceProjIdeal.nD Cert.ReferenceProjIdeal.τ).loc Cert.ReferenceProjIdeal.main_arg0) = m ((c.tc : Thread Cert.KernelProjIdeal.nD Cert.KernelProjIdeal.τ).loc Cert.KernelProjIdeal.main_arg0))
    (h1 : m' ((c.tc : Thread Cert.ReferenceProjIdeal.nD Cert.ReferenceProjIdeal.τ).loc Cert.ReferenceProjIdeal.main_arg1) = m ((c.tc : Thread Cert.KernelProjIdeal.nD Cert.KernelProjIdeal.τ).loc Cert.KernelProjIdeal.main_arg1))
    (h2 : m' ((c.tc : Thread Cert.ReferenceProjIdeal.nD Cert.ReferenceProjIdeal.τ).loc Cert.ReferenceProjIdeal.main_arg2) = m ((c.tc : Thread Cert.KernelProjIdeal.nD Cert.KernelProjIdeal.τ).loc Cert.KernelProjIdeal.main_arg2)) :
    Cert.ReferenceProjIdeal.Read.val_main_v197 (F := Ideal) (m' ((c.tc : Thread Cert.ReferenceProjIdeal.nD Cert.ReferenceProjIdeal.τ).loc Cert.ReferenceProjIdeal.main_arg0)) (m' ((c.tc : Thread Cert.ReferenceProjIdeal.nD Cert.ReferenceProjIdeal.τ).loc Cert.ReferenceProjIdeal.main_arg1)) (m' ((c.tc : Thread Cert.ReferenceProjIdeal.nD Cert.ReferenceProjIdeal.τ).loc Cert.ReferenceProjIdeal.main_arg2))
      = Cert.KernelProjIdeal.Arr.G10 m c := by
  rw [h0, h1, h2, Cert.ReferenceProjIdeal.Rows.values_eq]
  rfl

/-- From arguments that agree, the reference's queries of the dilated mixer, laid out token by token, are the kernel's. -/
theorem same11 (m : (ℓ : Loc Cert.KernelProjIdeal.nD Cert.KernelProjIdeal.τ Cert.KernelProjIdeal.sig) → Buf (Elt Ideal) ℓ)
    (m' : (ℓ : Loc Cert.ReferenceProjIdeal.nD Cert.ReferenceProjIdeal.τ Cert.ReferenceProjIdeal.sig) → Buf (Elt Ideal) ℓ) (c : Dev Cert.KernelProjIdeal.nD)
    (h0 : m' ((c.tc : Thread Cert.ReferenceProjIdeal.nD Cert.ReferenceProjIdeal.τ).loc Cert.ReferenceProjIdeal.main_arg0) = m ((c.tc : Thread Cert.KernelProjIdeal.nD Cert.KernelProjIdeal.τ).loc Cert.KernelProjIdeal.main_arg0))
    (h1 : m' ((c.tc : Thread Cert.ReferenceProjIdeal.nD Cert.ReferenceProjIdeal.τ).loc Cert.ReferenceProjIdeal.main_arg1) = m ((c.tc : Thread Cert.KernelProjIdeal.nD Cert.KernelProjIdeal.τ).loc Cert.KernelProjIdeal.main_arg1))
    (h2 : m' ((c.tc : Thread Cert.ReferenceProjIdeal.nD Cert.ReferenceProjIdeal.τ).loc Cert.ReferenceProjIdeal.main_arg2) = m ((c.tc : Thread Cert.KernelProjIdeal.nD Cert.KernelProjIdeal.τ).loc Cert.KernelProjIdeal.main_arg2)) :
    Cert.ReferenceProjIdeal.Read.val_main_v198 (F := Ideal) (m' ((c.tc : Thread Cert.ReferenceProjIdeal.nD Cert.ReferenceProjIdeal.τ).loc Cert.ReferenceProjIdeal.main_arg0)) (m' ((c.tc : Thread Cert.ReferenceProjIdeal.nD Cert.ReferenceProjIdeal.τ).loc Cert.ReferenceProjIdeal.main_arg1)) (m' ((c.tc : Thread Cert.ReferenceProjIdeal.nD Cert.ReferenceProjIdeal.τ).loc Cert.ReferenceProjIdeal.main_arg2))
      = Cert.KernelProjIdeal.Arr.G11 m c := by
  rw [h0, h1, h2, Cert.ReferenceProjIdeal.Rows.queryB_tokens]
  rfl

/-- From arguments that agree, the reference's queries of the dilated mixer, laid out by residue modulo 4, are the kernel's. -/
theorem same12 (m : (ℓ : Loc Cert.KernelProjIdeal.nD Cert.KernelProjIdeal.τ Cert.KernelProjIdeal.sig) → Buf (Elt Ideal) ℓ)
    (m' : (ℓ : Loc Cert.ReferenceProjIdeal.nD Cert.ReferenceProjIdeal.τ Cert.ReferenceProjIdeal.sig) → Buf (Elt Ideal) ℓ) (c : Dev Cert.KernelProjIdeal.nD)
    (h0 : m' ((c.tc : Thread Cert.ReferenceProjIdeal.nD Cert.ReferenceProjIdeal.τ).loc Cert.ReferenceProjIdeal.main_arg0) = m ((c.tc : Thread Cert.KernelProjIdeal.nD Cert.KernelProjIdeal.τ).loc Cert.KernelProjIdeal.main_arg0))
    (h1 : m' ((c.tc : Thread Cert.ReferenceProjIdeal.nD Cert.ReferenceProjIdeal.τ).loc Cert.ReferenceProjIdeal.main_arg1) = m ((c.tc : Thread Cert.KernelProjIdeal.nD Cert.KernelProjIdeal.τ).loc Cert.KernelProjIdeal.main_arg1))
    (h2 : m' ((c.tc : Thread Cert.ReferenceProjIdeal.nD Cert.ReferenceProjIdeal.τ).loc Cert.ReferenceProjIdeal.main_arg2) = m ((c.tc : Thread Cert.KernelProjIdeal.nD Cert.KernelProjIdeal.τ).loc Cert.KernelProjIdeal.main_arg2)) :
    Cert.ReferenceProjIdeal.Read.val_main_v201 (F := Ideal) (m' ((c.tc : Thread Cert.ReferenceProjIdeal.nD Cert.ReferenceProjIdeal.τ).loc Cert.ReferenceProjIdeal.main_arg0)) (m' ((c.tc : Thread Cert.ReferenceProjIdeal.nD Cert.ReferenceProjIdeal.τ).loc Cert.ReferenceProjIdeal.main_arg1)) (m' ((c.tc : Thread Cert.ReferenceProjIdeal.nD Cert.ReferenceProjIdeal.τ).loc Cert.ReferenceProjIdeal.main_arg2))
      = Cert.KernelProjIdeal.Arr.G12 m c := by
  rw [h0, h1, h2, Cert.ReferenceProjIdeal.Rows.queryB_fine]
  rfl

/-- From arguments that agree, the reference's queries of the dilated mixer, laid out by residue modulo 16, are the kernel's. -/
theorem same13 (m : (ℓ : Loc Cert.KernelProjIdeal.nD Cert.KernelProjIdeal.τ Cert.KernelProjIdeal.sig) → Buf (Elt Ideal) ℓ)
    (m' : (ℓ : Loc Cert.ReferenceProjIdeal.nD Cert.ReferenceProjIdeal.τ Cert.ReferenceProjIdeal.sig) → Buf (Elt Ideal) ℓ) (c : Dev Cert.KernelProjIdeal.nD)
    (h0 : m' ((c.tc : Thread Cert.ReferenceProjIdeal.nD Cert.ReferenceProjIdeal.τ).loc Cert.ReferenceProjIdeal.main_arg0) = m ((c.tc : Thread Cert.KernelProjIdeal.nD Cert.KernelProjIdeal.τ).loc Cert.KernelProjIdeal.main_arg0))
    (h1 : m' ((c.tc : Thread Cert.ReferenceProjIdeal.nD Cert.ReferenceProjIdeal.τ).loc Cert.ReferenceProjIdeal.main_arg1) = m ((c.tc : Thread Cert.KernelProjIdeal.nD Cert.KernelProjIdeal.τ).loc Cert.KernelProjIdeal.main_arg1))
    (h2 : m' ((c.tc : Thread Cert.ReferenceProjIdeal.nD Cert.ReferenceProjIdeal.τ).loc Cert.ReferenceProjIdeal.main_arg2) = m ((c.tc : Thread Cert.KernelProjIdeal.nD Cert.KernelProjIdeal.τ).loc Cert.KernelProjIdeal.main_arg2)) :
    Cert.ReferenceProjIdeal.Read.val_main_v204 (F := Ideal) (m' ((c.tc : Thread Cert.ReferenceProjIdeal.nD Cert.ReferenceProjIdeal.τ).loc Cert.ReferenceProjIdeal.main_arg0)) (m' ((c.tc : Thread Cert.ReferenceProjIdeal.nD Cert.ReferenceProjIdeal.τ).loc Cert.ReferenceProjIdeal.main_arg1)) (m' ((c.tc : Thread Cert.ReferenceProjIdeal.nD Cert.ReferenceProjIdeal.τ).loc Cert.ReferenceProjIdeal.main_arg2))
      = Cert.KernelProjIdeal.Arr.G13 m c := by
  rw [h0, h1, h2, Cert.ReferenceProjIdeal.Rows.queryB_coarse]
  rfl

/-- From arguments that agree, the reference's keys of the dilated mixer, laid out token by token, are the kernel's. -/
theorem same14 (m : (ℓ : Loc Cert.KernelProjIdeal.nD Cert.KernelProjIdeal.τ Cert.KernelProjIdeal.sig) → Buf (Elt Ideal) ℓ)
    (m' : (ℓ : Loc Cert.ReferenceProjIdeal.nD Cert.ReferenceProjIdeal.τ Cert.ReferenceProjIdeal.sig) → Buf (Elt Ideal) ℓ) (c : Dev Cert.KernelProjIdeal.nD)
    (h0 : m' ((c.tc : Thread Cert.ReferenceProjIdeal.nD Cert.ReferenceProjIdeal.τ).loc Cert.ReferenceProjIdeal.main_arg0) = m ((c.tc : Thread Cert.KernelProjIdeal.nD Cert.KernelProjIdeal.τ).loc Cert.KernelProjIdeal.main_arg0))
    (h1 : m' ((c.tc : Thread Cert.ReferenceProjIdeal.nD Cert.ReferenceProjIdeal.τ).loc Cert.ReferenceProjIdeal.main_arg1) = m ((c.tc : Thread Cert.KernelProjIdeal.nD Cert.KernelProjIdeal.τ).loc Cert.KernelProjIdeal.main_arg1))
    (h2 : m' ((c.tc : Thread Cert.ReferenceProjIdeal.nD Cert.ReferenceProjIdeal.τ).loc Cert.ReferenceProjIdeal.main_arg2) = m ((c.tc : Thread Cert.KernelProjIdeal.nD Cert.KernelProjIdeal.τ).loc Cert.KernelProjIdeal.main_arg2)) :
    Cert.ReferenceProjIdeal.Read.val_main_v206 (F := Ideal) (m' ((c.tc : Thread Cert.ReferenceProjIdeal.nD Cert.ReferenceProjIdeal.τ).loc Cert.ReferenceProjIdeal.main_arg0)) (m' ((c.tc : Thread Cert.ReferenceProjIdeal.nD Cert.ReferenceProjIdeal.τ).loc Cert.ReferenceProjIdeal.main_arg1)) (m' ((c.tc : Thread Cert.ReferenceProjIdeal.nD Cert.ReferenceProjIdeal.τ).loc Cert.ReferenceProjIdeal.main_arg2))
      = Cert.KernelProjIdeal.Arr.G14 m c := by
  rw [h0, h1, h2, Cert.ReferenceProjIdeal.Rows.keyB_tokens]
  rfl

/-- From arguments that agree, the reference's keys of the dilated mixer, laid out by residue modulo 4, are the kernel's. -/
theorem same15 (m : (ℓ : Loc Cert.KernelProjIdeal.nD Cert.KernelProjIdeal.τ Cert.KernelProjIdeal.sig) → Buf (Elt Ideal) ℓ)
    (m' : (ℓ : Loc Cert.ReferenceProjIdeal.nD Cert.ReferenceProjIdeal.τ Cert.ReferenceProjIdeal.sig) → Buf (Elt Ideal) ℓ) (c : Dev Cert.KernelProjIdeal.nD)
    (h0 : m' ((c.tc : Thread Cert.ReferenceProjIdeal.nD Cert.ReferenceProjIdeal.τ).loc Cert.ReferenceProjIdeal.main_arg0) = m ((c.tc : Thread Cert.KernelProjIdeal.nD Cert.KernelProjIdeal.τ).loc Cert.KernelProjIdeal.main_arg0))
    (h1 : m' ((c.tc : Thread Cert.ReferenceProjIdeal.nD Cert.ReferenceProjIdeal.τ).loc Cert.ReferenceProjIdeal.main_arg1) = m ((c.tc : Thread Cert.KernelProjIdeal.nD Cert.KernelProjIdeal.τ).loc Cert.KernelProjIdeal.main_arg1))
    (h2 : m' ((c.tc : Thread Cert.ReferenceProjIdeal.nD Cert.ReferenceProjIdeal.τ).loc Cert.ReferenceProjIdeal.main_arg2) = m ((c.tc : Thread Cert.KernelProjIdeal.nD Cert.KernelProjIdeal.τ).loc Cert.KernelProjIdeal.main_arg2)) :
    Cert.ReferenceProjIdeal.Read.val_main_v209 (F := Ideal) (m' ((c.tc : Thread Cert.ReferenceProjIdeal.nD Cert.ReferenceProjIdeal.τ).loc Cert.ReferenceProjIdeal.main_arg0)) (m' ((c.tc : Thread Cert.ReferenceProjIdeal.nD Cert.ReferenceProjIdeal.τ).loc Cert.ReferenceProjIdeal.main_arg1)) (m' ((c.tc : Thread Cert.ReferenceProjIdeal.nD Cert.ReferenceProjIdeal.τ).loc Cert.ReferenceProjIdeal.main_arg2))
      = Cert.KernelProjIdeal.Arr.G15 m c := by
  rw [h0, h1, h2, Cert.ReferenceProjIdeal.Rows.keyB_fine]
  rfl

/-- From arguments that agree, the reference's keys of the dilated mixer, laid out by residue modulo 16, are the kernel's. -/
theorem same16 (m : (ℓ : Loc Cert.KernelProjIdeal.nD Cert.KernelProjIdeal.τ Cert.KernelProjIdeal.sig) → Buf (Elt Ideal) ℓ)
    (m' : (ℓ : Loc Cert.ReferenceProjIdeal.nD Cert.ReferenceProjIdeal.τ Cert.ReferenceProjIdeal.sig) → Buf (Elt Ideal) ℓ) (c : Dev Cert.KernelProjIdeal.nD)
    (h0 : m' ((c.tc : Thread Cert.ReferenceProjIdeal.nD Cert.ReferenceProjIdeal.τ).loc Cert.ReferenceProjIdeal.main_arg0) = m ((c.tc : Thread Cert.KernelProjIdeal.nD Cert.KernelProjIdeal.τ).loc Cert.KernelProjIdeal.main_arg0))
    (h1 : m' ((c.tc : Thread Cert.ReferenceProjIdeal.nD Cert.ReferenceProjIdeal.τ).loc Cert.ReferenceProjIdeal.main_arg1) = m ((c.tc : Thread Cert.KernelProjIdeal.nD Cert.KernelProjIdeal.τ).loc Cert.KernelProjIdeal.main_arg1))
    (h2 : m' ((c.tc : Thread Cert.ReferenceProjIdeal.nD Cert.ReferenceProjIdeal.τ).loc Cert.ReferenceProjIdeal.main_arg2) = m ((c.tc : Thread Cert.KernelProjIdeal.nD Cert.KernelProjIdeal.τ).loc Cert.KernelProjIdeal.main_arg2)) :
    Cert.ReferenceProjIdeal.Read.val_main_v212 (F := Ideal) (m' ((c.tc : Thread Cert.ReferenceProjIdeal.nD Cert.ReferenceProjIdeal.τ).loc Cert.ReferenceProjIdeal.main_arg0)) (m' ((c.tc : Thread Cert.ReferenceProjIdeal.nD Cert.ReferenceProjIdeal.τ).loc Cert.ReferenceProjIdeal.main_arg1)) (m' ((c.tc : Thread Cert.ReferenceProjIdeal.nD Cert.ReferenceProjIdeal.τ).loc Cert.ReferenceProjIdeal.main_arg2))
      = Cert.KernelProjIdeal.Arr.G16 m c := by
  rw [h0, h1, h2, Cert.ReferenceProjIdeal.Rows.keyB_coarse]
  rfl

/-- From arguments that agree, the reference's values of the dilated mixer, laid out token by token, are the kernel's. -/
theorem same17 (m : (ℓ : Loc Cert.KernelProjIdeal.nD Cert.KernelProjIdeal.τ Cert.KernelProjIdeal.sig) → Buf (Elt Ideal) ℓ)
    (m' : (ℓ : Loc Cert.ReferenceProjIdeal.nD Cert.ReferenceProjIdeal.τ Cert.ReferenceProjIdeal.sig) → Buf (Elt Ideal) ℓ) (c : Dev Cert.KernelProjIdeal.nD)
    (h0 : m' ((c.tc : Thread Cert.ReferenceProjIdeal.nD Cert.ReferenceProjIdeal.τ).loc Cert.ReferenceProjIdeal.main_arg0) = m ((c.tc : Thread Cert.KernelProjIdeal.nD Cert.KernelProjIdeal.τ).loc Cert.KernelProjIdeal.main_arg0))
    (h1 : m' ((c.tc : Thread Cert.ReferenceProjIdeal.nD Cert.ReferenceProjIdeal.τ).loc Cert.ReferenceProjIdeal.main_arg1) = m ((c.tc : Thread Cert.KernelProjIdeal.nD Cert.KernelProjIdeal.τ).loc Cert.KernelProjIdeal.main_arg1))
    (h2 : m' ((c.tc : Thread Cert.ReferenceProjIdeal.nD Cert.ReferenceProjIdeal.τ).loc Cert.ReferenceProjIdeal.main_arg2) = m ((c.tc : Thread Cert.KernelProjIdeal.nD Cert.KernelProjIdeal.τ).loc Cert.KernelProjIdeal.main_arg2)) :
    Cert.ReferenceProjIdeal.Read.val_main_v214 (F := Ideal) (m' ((c.tc : Thread Cert.ReferenceProjIdeal.nD Cert.ReferenceProjIdeal.τ).loc Cert.ReferenceProjIdeal.main_arg0)) (m' ((c.tc : Thread Cert.ReferenceProjIdeal.nD Cert.ReferenceProjIdeal.τ).loc Cert.ReferenceProjIdeal.main_arg1)) (m' ((c.tc : Thread Cert.ReferenceProjIdeal.nD Cert.ReferenceProjIdeal.τ).loc Cert.ReferenceProjIdeal.main_arg2))
      = Cert.KernelProjIdeal.Arr.G17 m c := by
  rw [h0, h1, h2, Cert.ReferenceProjIdeal.Rows.valueB_tokens]
  rfl

/-- From arguments that agree, the reference's values of the dilated mixer, laid out by residue modulo 4, are the kernel's. -/
theorem same18 (m : (ℓ : Loc Cert.KernelProjIdeal.nD Cert.KernelProjIdeal.τ Cert.KernelProjIdeal.sig) → Buf (Elt Ideal) ℓ)
    (m' : (ℓ : Loc Cert.ReferenceProjIdeal.nD Cert.ReferenceProjIdeal.τ Cert.ReferenceProjIdeal.sig) → Buf (Elt Ideal) ℓ) (c : Dev Cert.KernelProjIdeal.nD)
    (h0 : m' ((c.tc : Thread Cert.ReferenceProjIdeal.nD Cert.ReferenceProjIdeal.τ).loc Cert.ReferenceProjIdeal.main_arg0) = m ((c.tc : Thread Cert.KernelProjIdeal.nD Cert.KernelProjIdeal.τ).loc Cert.KernelProjIdeal.main_arg0))
    (h1 : m' ((c.tc : Thread Cert.ReferenceProjIdeal.nD Cert.ReferenceProjIdeal.τ).loc Cert.ReferenceProjIdeal.main_arg1) = m ((c.tc : Thread Cert.KernelProjIdeal.nD Cert.KernelProjIdeal.τ).loc Cert.KernelProjIdeal.main_arg1))
    (h2 : m' ((c.tc : Thread Cert.ReferenceProjIdeal.nD Cert.ReferenceProjIdeal.τ).loc Cert.ReferenceProjIdeal.main_arg2) = m ((c.tc : Thread Cert.KernelProjIdeal.nD Cert.KernelProjIdeal.τ).loc Cert.KernelProjIdeal.main_arg2)) :
    Cert.ReferenceProjIdeal.Read.val_main_v217 (F := Ideal) (m' ((c.tc : Thread Cert.ReferenceProjIdeal.nD Cert.ReferenceProjIdeal.τ).loc Cert.ReferenceProjIdeal.main_arg0)) (m' ((c.tc : Thread Cert.ReferenceProjIdeal.nD Cert.ReferenceProjIdeal.τ).loc Cert.ReferenceProjIdeal.main_arg1)) (m' ((c.tc : Thread Cert.ReferenceProjIdeal.nD Cert.ReferenceProjIdeal.τ).loc Cert.ReferenceProjIdeal.main_arg2))
      = Cert.KernelProjIdeal.Arr.G18 m c := by
  rw [h0, h1, h2, Cert.ReferenceProjIdeal.Rows.valueB_fine]
  rfl

/-- From arguments that agree, the reference's values of the dilated mixer, laid out by residue modulo 16, are the kernel's. -/
theorem same19 (m : (ℓ : Loc Cert.KernelProjIdeal.nD Cert.KernelProjIdeal.τ Cert.KernelProjIdeal.sig) → Buf (Elt Ideal) ℓ)
    (m' : (ℓ : Loc Cert.ReferenceProjIdeal.nD Cert.ReferenceProjIdeal.τ Cert.ReferenceProjIdeal.sig) → Buf (Elt Ideal) ℓ) (c : Dev Cert.KernelProjIdeal.nD)
    (h0 : m' ((c.tc : Thread Cert.ReferenceProjIdeal.nD Cert.ReferenceProjIdeal.τ).loc Cert.ReferenceProjIdeal.main_arg0) = m ((c.tc : Thread Cert.KernelProjIdeal.nD Cert.KernelProjIdeal.τ).loc Cert.KernelProjIdeal.main_arg0))
    (h1 : m' ((c.tc : Thread Cert.ReferenceProjIdeal.nD Cert.ReferenceProjIdeal.τ).loc Cert.ReferenceProjIdeal.main_arg1) = m ((c.tc : Thread Cert.KernelProjIdeal.nD Cert.KernelProjIdeal.τ).loc Cert.KernelProjIdeal.main_arg1))
    (h2 : m' ((c.tc : Thread Cert.ReferenceProjIdeal.nD Cert.ReferenceProjIdeal.τ).loc Cert.ReferenceProjIdeal.main_arg2) = m ((c.tc : Thread Cert.KernelProjIdeal.nD Cert.KernelProjIdeal.τ).loc Cert.KernelProjIdeal.main_arg2)) :
    Cert.ReferenceProjIdeal.Read.val_main_v220 (F := Ideal) (m' ((c.tc : Thread Cert.ReferenceProjIdeal.nD Cert.ReferenceProjIdeal.τ).loc Cert.ReferenceProjIdeal.main_arg0)) (m' ((c.tc : Thread Cert.ReferenceProjIdeal.nD Cert.ReferenceProjIdeal.τ).loc Cert.ReferenceProjIdeal.main_arg1)) (m' ((c.tc : Thread Cert.ReferenceProjIdeal.nD Cert.ReferenceProjIdeal.τ).loc Cert.ReferenceProjIdeal.main_arg2))
      = Cert.KernelProjIdeal.Arr.G19 m c := by
  rw [h0, h1, h2, Cert.ReferenceProjIdeal.Rows.valueB_coarse]
  rfl

/-- Where the axial mixer's query and key entries are finite before their norm, kernel and reference give the same
    twelve arrays of extended reals. -/
theorem algebraic : Cert.algebraic_KernelProjIdeal_ReferenceProjIdeal_pre_finite_heads := by
  intro m ρ m' ρ' hpre hag
  refine ⟨fun c => Cert.KernelProjIdeal.Arr.G8 m c, fun c => Cert.KernelProjIdeal.Arr.G9 m c, fun c => Cert.KernelProjIdeal.Arr.G10 m c, fun c => Cert.KernelProjIdeal.Arr.G11 m c, fun c => Cert.KernelProjIdeal.Arr.G12 m c, fun c => Cert.KernelProjIdeal.Arr.G13 m c, fun c => Cert.KernelProjIdeal.Arr.G14 m c, fun c => Cert.KernelProjIdeal.Arr.G15 m c, fun c => Cert.KernelProjIdeal.Arr.G16 m c, fun c => Cert.KernelProjIdeal.Arr.G17 m c, fun c => Cert.KernelProjIdeal.Arr.G18 m c, fun c => Cert.KernelProjIdeal.Arr.G19 m c, ?_, ?_⟩
  · refine (θ_run _ _ _).mono (fun r h c => ?_) (Cert.KernelProjIdeal.Value.run_blocks (F := Ideal) m ρ)
    have hreal := Cert.Pre_finite_heads.head_real _ _ _ _ _ (hpre c)
    exact ⟨(h c).1.trans (Cert.KernelProjIdeal.Arr.final8 m c hreal), (h c).2.1.trans (Cert.KernelProjIdeal.Arr.final9 m c hreal), (h c).2.2.1.trans (Cert.KernelProjIdeal.Arr.final10 m c), (h c).2.2.2.1.trans (Cert.KernelProjIdeal.Arr.final11 m c), (h c).2.2.2.2.1.trans (Cert.KernelProjIdeal.Arr.final12 m c), (h c).2.2.2.2.2.1.trans (Cert.KernelProjIdeal.Arr.final13 m c), (h c).2.2.2.2.2.2.1.trans (Cert.KernelProjIdeal.Arr.final14 m c), (h c).2.2.2.2.2.2.2.1.trans (Cert.KernelProjIdeal.Arr.final15 m c), (h c).2.2.2.2.2.2.2.2.1.trans (Cert.KernelProjIdeal.Arr.final16 m c), (h c).2.2.2.2.2.2.2.2.2.1.trans (Cert.KernelProjIdeal.Arr.final17 m c), (h c).2.2.2.2.2.2.2.2.2.2.1.trans (Cert.KernelProjIdeal.Arr.final18 m c), (h c).2.2.2.2.2.2.2.2.2.2.2.1.trans (Cert.KernelProjIdeal.Arr.final19 m c), (h c).2.2.2.2.2.2.2.2.2.2.2.2⟩
  · refine (θ_run _ _ _).mono (fun r h c => ?_) (Cert.ReferenceProjIdeal.Value.run (F := Ideal) m' ρ')
    obtain ⟨h0, h1, h2, h3, h4⟩ := hag c
    refine ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2.1.trans ?_, (h c).2.2.2.2.2.2.2.2.1.trans ?_, (h c).2.2.2.2.2.2.2.2.2.1.trans ?_, (h c).2.2.2.2.2.2.2.2.2.2.1.trans ?_, (h c).2.2.2.2.2.2.2.2.2.2.2.1.trans ?_, (h c).2.2.2.2.2.2.2.2.2.2.2.2⟩
    · rw [Cert.ReferenceProjIdeal.Read.val_main_v192_eq]
      exact (same8 m m' c h0 h1 h2 h3)
    · rw [Cert.ReferenceProjIdeal.Read.val_main_v194_eq]
      exact (same9 m m' c h0 h1 h2 h4)
    · rw [Cert.ReferenceProjIdeal.Read.val_main_v197_eq]
      exact (same10 m m' c h0 h1 h2)
    · rw [Cert.ReferenceProjIdeal.Read.val_main_v198_eq]
      exact (same11 m m' c h0 h1 h2)
    · rw [Cert.ReferenceProjIdeal.Read.val_main_v201_eq]
      exact (same12 m m' c h0 h1 h2)
    · rw [Cert.ReferenceProjIdeal.Read.val_main_v204_eq]
      exact (same13 m m' c h0 h1 h2)
    · rw [Cert.ReferenceProjIdeal.Read.val_main_v206_eq]
      exact (same14 m m' c h0 h1 h2)
    · rw [Cert.ReferenceProjIdeal.Read.val_main_v209_eq]
      exact (same15 m m' c h0 h1 h2)
    · rw [Cert.ReferenceProjIdeal.Read.val_main_v212_eq]
      exact (same16 m m' c h0 h1 h2)
    · rw [Cert.ReferenceProjIdeal.Read.val_main_v214_eq]
      exact (same17 m m' c h0 h1 h2)
    · rw [Cert.ReferenceProjIdeal.Read.val_main_v217_eq]
      exact (same18 m m' c h0 h1 h2)
    · rw [Cert.ReferenceProjIdeal.Read.val_main_v220_eq]
      exact (same19 m m' c h0 h1 h2)

end Cert.Proof.Proj
end
-- ==== Proof.MlpBlock.lean ====
/- What one grid point of the kernel's closing call computes: every row of its output block is `MlpRow.out` of the same
   row of its input blocks. -/
module
public import proofs.«01_k».proof.Proof.Gen.KernelMlpIdeal.Frame
public import proofs.«01_k».proof.Proof.MlpRow
public import Idealize.ShloMosaic.Lib.Pointwise
public import Idealize.ShloMosaic.Lib.Pipeline.ValueKit
@[expose] public section
set_option maxRecDepth 16384
noncomputable section
namespace Cert.KernelMlpIdeal.Block
open Cert.KernelMlpIdeal Cert.KernelMlpIdeal.Gen Idealize.ShloMosaic

variable (x0 : Vec Ideal S1024x1024 .f32) (x1 x2 : Vec Ideal S1024x512 .bf16) (x3 : Vec Ideal S1024x1024 .bf16)
  (x4 : Vec Ideal S1x1024 .f32) (x5 : Vec Ideal S1024x4096 .bf16) (x6 : Vec Ideal S4096x1024 .bf16) (x7 : Vec Ideal S1x1024 .f32)

/-- The residual row after the output projection, at row `r` of the blocks. -/
theorem pay2_apply (r d : Fin 1024) : k0_pay2 x1 x2 x0 x3 (ix2 r d)
    = MlpRow.mix (fun k => x0 (ix2 r k)) (fun k => x1 (ix2 r k)) (fun k => x2 (ix2 r k)) (fun k e => x3 (ix2 k e)) d := by
  unfold MlpRow.mix
  pointwise [k0_pay2]

/-- The normalized row that the feed-forward part takes. -/
theorem pay3_apply (r d : Fin 1024) : k0_pay3 x1 x2 x0 x3 x4 (ix2 r d)
    = MlpRow.rms (MlpRow.mix (fun k => x0 (ix2 r k)) (fun k => x1 (ix2 r k)) (fun k => x2 (ix2 r k)) (fun k e => x3 (ix2 k e)))
        (fun k => x4 (ix2 0 k)) d := by
  pointwise [k0_pay3]
  simp only [pay2_apply]
  rfl

/-- The row after the first quarter of the hidden units. -/
theorem pay4_apply (w1 w2 : Vec Ideal S1024x1024 .bf16) (r d : Fin 1024) : k0_pay4 x1 x2 x0 x3 x4 w1 w2 (ix2 r d)
    = k0_pay2 x1 x2 x0 x3 (ix2 r d) + ∑ f : Fin 1024,
        (max (∑ k, k0_pay3 x1 x2 x0 x3 x4 (ix2 r k) * w1 (ix2 k f)) 0 * max (∑ k, k0_pay3 x1 x2 x0 x3 x4 (ix2 r k) * w1 (ix2 k f)) 0)
          * w2 (ix2 f d) := by
  pointwise [k0_pay4]

/-- The row after the other three quarters of the hidden units. -/
theorem pay5_apply (n : FVec Ideal S1024x1024 .bf16) (h : FVec Ideal S1024x1024 .f32) (u1 w1 u2 w2 u3 w3 : Vec Ideal S1024x1024 .bf16)
    (r d : Fin 1024) : k0_pay5 n h u1 w1 u2 w2 u3 w3 (ix2 r d)
    = h (ix2 r d)
      + (∑ f : Fin 1024, (max (∑ k, n (ix2 r k) * u1 (ix2 k f)) 0 * max (∑ k, n (ix2 r k) * u1 (ix2 k f)) 0) * w1 (ix2 f d))
      + (∑ f : Fin 1024, (max (∑ k, n (ix2 r k) * u2 (ix2 k f)) 0 * max (∑ k, n (ix2 r k) * u2 (ix2 k f)) 0) * w2 (ix2 f d))
      + (∑ f : Fin 1024, (max (∑ k, n (ix2 r k) * u3 (ix2 k f)) 0 * max (∑ k, n (ix2 r k) * u3 (ix2 k f)) 0) * w3 (ix2 f d)) := by
  pointwise [k0_pay5]

/-- The final norm of a block, at row `r`. -/
theorem pay1_apply (y : FVec Ideal S1024x1024 .f32) (g : FVec Ideal S1x1024 .f32) (s : FVec Ideal S1024 .f32) (r d : Fin 1024)
    (hs : s (ix1 r) = ∑ k, y (ix2 r k) * y (ix2 r k)) :
    k0_pay1 y g s (ix2 r d) = MlpRow.rms (fun k => y (ix2 r k)) (fun k => g (ix2 0 k)) d := by
  pointwise [k0_pay1]
  rw [hs]
  rfl

/-- The row sums of squares. -/
theorem pay7_apply (n : FVec Ideal S1024x1024 .bf16) (h : FVec Ideal S1024x1024 .f32) (u1 w1 u2 w2 u3 w3 : Vec Ideal S1024x1024 .bf16)
    (r : Fin 1024) : k0_pay7 n h u1 w1 u2 w2 u3 w3 (ix1 r)
    = ∑ k, k0_pay5 n h u1 w1 u2 w2 u3 w3 (ix2 r k) * k0_pay5 n h u1 w1 u2 w2 u3 w3 (ix2 r k) := by
  pointwise [k0_pay7]

/-- The quarters of the weights that the body loads. -/
theorem ld_up (q : Nat) (hq : q + 1024 ≤ 4096) (k f : Fin 1024) (inb) :
    View.ld x5 (Rect.unit (s := S1024x4096) ![0, q] S1024x1024.size inb) (ix2 k f) = x5 (ix2 k ⟨q + f.val, by omega⟩) := by
  refine congrArg x5 (funext fun a => Fin.ext ?_)
  match a with
  | ⟨0, _⟩ => show 0 + 1 * k.val = k.val; omega
  | ⟨1, _⟩ => show q + 1 * f.val = q + f.val; omega

theorem ld_down (q : Nat) (hq : q + 1024 ≤ 4096) (f d : Fin 1024) (inb) :
    View.ld x6 (Rect.unit (s := S4096x1024) ![q, 0] S1024x1024.size inb) (ix2 f d) = x6 (ix2 ⟨q + f.val, by omega⟩ d) := by
  refine congrArg x6 (funext fun a => Fin.ext ?_)
  match a with
  | ⟨0, _⟩ => show q + 1 * f.val = q + f.val; omega
  | ⟨1, _⟩ => show 0 + 1 * d.val = d.val; omega

/-- The row of the block after all the hidden units. -/
theorem rows_apply (r d : Fin 1024) :
    k0_pay5 (k0_pay3 x1 x2 x0 x3 x4) (k0_pay4 x1 x2 x0 x3 x4 (View.ld x5 r0_3) (View.ld x6 r0_4)) (View.ld x5 r0_5) (View.ld x6 r0_6) (View.ld x5 r0_7) (View.ld x6 r0_8)
        (View.ld x5 r0_9) (View.ld x6 r0_10) (ix2 r d)
    = MlpRow.mix (fun k => x0 (ix2 r k)) (fun k => x1 (ix2 r k)) (fun k => x2 (ix2 r k)) (fun k e => x3 (ix2 k e)) d
      + MlpRow.ff (MlpRow.rms (MlpRow.mix (fun k => x0 (ix2 r k)) (fun k => x1 (ix2 r k)) (fun k => x2 (ix2 r k)) (fun k e => x3 (ix2 k e)))
        (fun k => x4 (ix2 0 k))) (fun k f => x5 (ix2 k f)) (fun f e => x6 (ix2 f e)) d := by
  rw [pay5_apply, pay4_apply]
  unfold MlpRow.ff
  rw [MlpRow.sum_quarters]
  simp only [pay2_apply, pay3_apply]
  unfold r0_3 r0_4 r0_5 r0_6 r0_7 r0_8 r0_9 r0_10
  simp only [ld_up x5 0 (by omega), ld_up x5 1024 (by omega), ld_up x5 2048 (by omega), ld_up x5 3072 (by omega),
    ld_down x6 0 (by omega), ld_down x6 1024 (by omega), ld_down x6 2048 (by omega), ld_down x6 3072 (by omega), add_assoc, Nat.zero_add]
  rfl

/-- One grid point's output block: row by row the closing part of the layer. -/
theorem block_apply (r d : Fin 1024) : out0_8 x0 x1 x2 x3 x4 x5 x6 x7 (ix2 r d)
    = MlpRow.out (fun k => x0 (ix2 r k)) (fun k => x1 (ix2 r k)) (fun k => x2 (ix2 r k)) (fun k e => x3 (ix2 k e))
        (fun k => x4 (ix2 0 k)) (fun k f => x5 (ix2 k f)) (fun f e => x6 (ix2 f e)) (fun k => x7 (ix2 0 k)) d := by
  have hg : ∀ k : Fin 1024, k0_pay6 x7 (ix2 0 k) = x7 (ix2 0 k) := fun k => by pointwise [k0_pay6]
  unfold_out out0_8
  frame_out
  rw [pay1_apply _ _ _ r d (pay7_apply _ _ _ _ _ _ _ _ r)]
  simp only [rows_apply, hg]
  rfl

end Cert.KernelMlpIdeal.Block
end
-- ==== Proof.MlpArray.lean ====
/- What the closing call's result array holds after the run: row by row `MlpRow.out` of the arguments. -/
module
public import proofs.«01_k».proof.Proof.Gen.KernelMlpIdeal.Value
public import proofs.«01_k».proof.Proof.MlpBlock
public import Idealize.ShloMosaic.Lib.Pointwise
public import Idealize.ShloMosaic.Lib.Pipeline.ValueKit
public import Idealize.ShloMosaic.Lib.Claim
@[expose] public section
set_option maxRecDepth 16384
noncomputable section
namespace Cert.MlpRow
open Idealize.ShloMosaic

/-- The whole result, from the arrays that the closing part takes: row `n` is token `n % 2048` of sequence `n / 2048`. -/
def result (x : FVec Ideal ⟨3, ![16, 2048, 1024]⟩ .f32) (ma mb : FVec Ideal ⟨3, ![16, 2048, 512]⟩ .f32)
    (wo : FVec Ideal ⟨3, ![1, 1024, 1024]⟩ .f32) (gm : FVec Ideal ⟨2, ![1, 1024]⟩ .f32) (wup : FVec Ideal ⟨3, ![1, 1024, 4096]⟩ .f32)
    (wdn : FVec Ideal ⟨3, ![1, 4096, 1024]⟩ .f32) (gf : FVec Ideal ⟨1, ![1024]⟩ .f32) (n : Fin 32768) (d : Fin 1024) : EReal :=
  out (fun k => x (ix3 ⟨n.val / 2048, by omega⟩ ⟨n.val % 2048, by omega⟩ k))
    (fun k => ma (ix3 ⟨n.val / 2048, by omega⟩ ⟨n.val % 2048, by omega⟩ k))
    (fun k => mb (ix3 ⟨n.val / 2048, by omega⟩ ⟨n.val % 2048, by omega⟩ k))
    (fun k e => wo (ix3 0 k e)) (fun k => gm (ix2 0 k)) (fun k f => wup (ix3 0 k f)) (fun f e => wdn (ix3 0 f e)) (fun k => gf (ix1 k)) d

end Cert.MlpRow
namespace Cert.KernelMlpIdeal.Arr
open Cert.KernelMlpIdeal Cert.KernelMlpIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

theorem idx0 : ∀ t : Fin grid0.N, win0_0.index t = ![t.val, 0] := by decide +kernel
theorem idx1 : ∀ t : Fin grid0.N, win0_1.index t = ![t.val, 0] := by decide +kernel
theorem idx2 : ∀ t : Fin grid0.N, win0_2.index t = ![t.val, 0] := by decide +kernel
theorem idx3 : ∀ t : Fin grid0.N, win0_3.index t = ![0, 0] := by decide +kernel
theorem idx4 : ∀ t : Fin grid0.N, win0_4.index t = ![0, 0] := by decide +kernel
theorem idx5 : ∀ t : Fin grid0.N, win0_5.index t = ![0, 0] := by decide +kernel
theorem idx6 : ∀ t : Fin grid0.N, win0_6.index t = ![0, 0] := by decide +kernel
theorem idx7 : ∀ t : Fin grid0.N, win0_7.index t = ![0, 0] := by decide +kernel
theorem idx8 : ∀ t : Fin grid0.N, win0_8.index t = ![t.val, 0] := by decide +kernel

theorem lt32 (t : Fin cfg0.N) : t.val < 32 := lt_of_lt_of_eq t.isLt N_0

/-- The rows that point `t` works on, of the residual stream and of the two mixers. -/
theorem blk0 (c : Dev nD) (t : Fin cfg0.N) (r k : Fin 1024) : iblk m c 0 t (ix2 r k)
    = m ((c.tc : Thread nD τ).loc main_arg0) (ix3 ⟨(t.val * 1024 + r.val) / 2048, by have := lt32 t; omega⟩ ⟨(t.val * 1024 + r.val) % 2048, by omega⟩ k) := by
  blk_simp [iblk, idx0 t]
  entry_read
  pointwise
  blk_ext [idx0 t]

theorem blk1 (c : Dev nD) (t : Fin cfg0.N) (r : Fin 1024) (k : Fin 512) : iblk m c 1 t (ix2 r k)
    = m ((c.tc : Thread nD τ).loc main_arg1) (ix3 ⟨(t.val * 1024 + r.val) / 2048, by have := lt32 t; omega⟩ ⟨(t.val * 1024 + r.val) % 2048, by omega⟩ k) := by
  blk_simp [iblk, idx1 t]
  entry_read
  pointwise
  blk_ext [idx1 t]

theorem blk2 (c : Dev nD) (t : Fin cfg0.N) (r : Fin 1024) (k : Fin 512) : iblk m c 2 t (ix2 r k)
    = m ((c.tc : Thread nD τ).loc main_arg2) (ix3 ⟨(t.val * 1024 + r.val) / 2048, by have := lt32 t; omega⟩ ⟨(t.val * 1024 + r.val) % 2048, by omega⟩ k) := by
  blk_simp [iblk, idx2 t]
  entry_read
  pointwise
  blk_ext [idx2 t]

theorem blk3 (c : Dev nD) (t : Fin cfg0.N) (k e : Fin 1024) : iblk m c 3 t (ix2 k e)
    = m ((c.tc : Thread nD τ).loc main_arg3) (ix3 0 k e) := by
  blk_simp [iblk, idx3 t]
  entry_read
  pointwise
  blk_ext [idx3 t]

theorem blk4 (c : Dev nD) (t : Fin cfg0.N) (k : Fin 1024) : iblk m c 4 t (ix2 0 k)
    = m ((c.tc : Thread nD τ).loc main_arg4) (ix2 0 k) := by
  blk_simp [iblk, idx4 t]
  entry_read
  pointwise
  blk_ext [idx4 t]

theorem blk5 (c : Dev nD) (t : Fin cfg0.N) (k : Fin 1024) (f : Fin 4096) : iblk m c 5 t (ix2 k f)
    = m ((c.tc : Thread nD τ).loc main_arg5) (ix3 0 k f) := by
  blk_simp [iblk, idx5 t]
  entry_read
  pointwise
  blk_ext [idx5 t]

theorem blk6 (c : Dev nD) (t : Fin cfg0.N) (f : Fin 4096) (e : Fin 1024) : iblk m c 6 t (ix2 f e)
    = m ((c.tc : Thread nD τ).loc main_arg6) (ix3 0 f e) := by
  blk_simp [iblk, idx6 t]
  entry_read
  pointwise
  blk_ext [idx6 t]

theorem blk7 (c : Dev nD) (t : Fin cfg0.N) (k : Fin 1024) : iblk m c 7 t (ix2 0 k)
    = m ((c.tc : Thread nD τ).loc main_arg7) (ix1 k) := by
  blk_simp [iblk, idx7 t]
  entry_read
  pointwise
  blk_ext [idx7 t]

/-- The result array, index by index. -/
def G (c : Dev nD) : Buf (Elt Ideal) ((c.tc : Thread nD τ).loc main_v14) := fun i =>
  MlpRow.result (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) ⟨(i 0).val, (i 0).isLt⟩ ⟨(i 1).val, (i 1).isLt⟩

/-- After the run the result array is `G`. -/
theorem final (c : Dev nD) : (dats m 0 c).arrAt 8 cfg0.N = G m c := by
  refine (dats m 0 c).arrAt_eq_of_covers 8 _ (by decide +kernel) fun t hf y => ?_
  blk_simp
  rw [after0_8]
  obtain ⟨r, d, rfl⟩ : ∃ (r d : Fin 1024), y = ix2 r d := ⟨y 0, y 1, eq_ix2 y⟩
  rw [Block.block_apply]
  simp only [blk0, blk1, blk2, blk3, blk4, blk5, blk6, blk7]
  have h0 : ((win0_8.blk t).view.emb (ix2 r d) 0).val = t.val * 1024 + r.val := by
    blk_simp [idx8 t]
    try rfl
  have h1 : ((win0_8.blk t).view.emb (ix2 r d) 1).val = d.val := by
    blk_simp [idx8 t]
    try rfl
  simp only [G, MlpRow.result, h0, h1]

end Cert.KernelMlpIdeal.Arr
end
-- ==== Proof.MlpRef.lean ====
/- The reference's result of the closing part: row by row `MlpRow.out` of the arguments. -/
module
public import proofs.«01_k».proof.Proof.Gen.ReferenceMlpIdeal.Run
public import proofs.«01_k».proof.Proof.Gen.ReferenceMlpIdeal.Read
public import proofs.«01_k».proof.Proof.MlpArray
public import Idealize.ShloMosaic.Lib.Pointwise
@[expose] public section
set_option maxRecDepth 16384
noncomputable section
namespace Cert.ReferenceMlpIdeal.Rows
open Cert.ReferenceMlpIdeal Cert.ReferenceMlpIdeal.Read Idealize.ShloMosaic Idealize.ShloMosaic.TcCoe Idealize.SL.Sem

variable (x0 : (⟨S16x2048x1024, .f32⟩ : BufTy).Contents (Elt Ideal)) (x1 x2 : (⟨S16x2048x512, .f32⟩ : BufTy).Contents (Elt Ideal))
  (x3 : (⟨S1x1024x1024, .f32⟩ : BufTy).Contents (Elt Ideal)) (x4 : (⟨S1x1024, .f32⟩ : BufTy).Contents (Elt Ideal))
  (x5 : (⟨S1x1024x4096, .f32⟩ : BufTy).Contents (Elt Ideal)) (x6 : (⟨S1x4096x1024, .f32⟩ : BufTy).Contents (Elt Ideal))
  (x7 : (⟨S1024, .f32⟩ : BufTy).Contents (Elt Ideal)) (b : Fin 16) (s : Fin 2048)

/-- The residual stream after the mixers' output projection. -/
theorem mix_apply (d : Fin 1024) : val_main_v3 x0 x1 x2 x3 (ix3 b s d)
    = MlpRow.mix (fun k => x0 (ix3 b s k)) (fun k => x1 (ix3 b s k)) (fun k => x2 (ix3 b s k)) (fun k e => x3 (ix3 0 k e)) d := by
  pointwise [val_main_v3, val_main_v2, val_main_v1, val_main_v0]
  rfl

/-- The feed-forward part's input: the normed row. -/
theorem norm_apply (d : Fin 1024) : val_main_v17 x0 x1 x2 x3 x4 (ix3 b s d)
    = MlpRow.rms (fun d => val_main_v3 x0 x1 x2 x3 (ix3 b s d)) (fun k => x4 (ix2 0 k)) d := by
  pointwise [val_main_v17, val_main_v16, val_main_v15, val_main_v14, val_main_v13, val_main_v12, val_main_v11, val_main_v10, val_main_v9, val_main_v8, val_main_v7, val_main_v6, val_main_v5, val_main_v4, val_main_cst, val_main_cst_0, val_main_cst_1]
  rfl

/-- One hidden unit. -/
theorem hidden_apply (f : Fin 4096) : val_main_v21 x0 x1 x2 x3 x4 x5 (ix3 b s f)
    = MlpRow.hidden (fun d => val_main_v17 x0 x1 x2 x3 x4 (ix3 b s d)) (fun k f => x5 (ix3 0 k f)) f := by
  pointwise [val_main_v21, val_main_v20, val_main_v19, val_main_v18, val_main_call0_v0, val_main_call0_cst]
  rfl

/-- The feed-forward part's result. -/
theorem ff_apply (d : Fin 1024) : val_main_v23 x0 x1 x2 x3 x4 x5 x6 (ix3 b s d)
    = ∑ f, val_main_v21 x0 x1 x2 x3 x4 x5 (ix3 b s f) * x6 (ix3 0 f d) := by
  pointwise [val_main_v23, val_main_v22]

/-- The last norm. -/
theorem last_apply (d : Fin 1024) : val_main_v37 x0 x1 x2 x3 x4 x5 x6 x7 (ix3 b s d)
    = MlpRow.rms (fun d => val_main_v24 x0 x1 x2 x3 x4 x5 x6 (ix3 b s d)) (fun k => x7 (ix1 k)) d := by
  pointwise [val_main_v37, val_main_v36, val_main_v35, val_main_v34, val_main_v33, val_main_v32, val_main_v31, val_main_v30, val_main_v29, val_main_v28, val_main_v27, val_main_v26, val_main_v25, val_main_cst_2, val_main_cst_3, val_main_cst_4]
  rfl

/-- One row of the reference's result, before the last reshape. -/
theorem row_apply (d : Fin 1024) : val_main_v37 x0 x1 x2 x3 x4 x5 x6 x7 (ix3 b s d)
    = MlpRow.out (fun k => x0 (ix3 b s k)) (fun k => x1 (ix3 b s k)) (fun k => x2 (ix3 b s k)) (fun k e => x3 (ix3 0 k e))
        (fun k => x4 (ix2 0 k)) (fun k f => x5 (ix3 0 k f)) (fun f e => x6 (ix3 0 f e)) (fun k => x7 (ix1 k)) d := by
  have h24 : ∀ e, val_main_v24 x0 x1 x2 x3 x4 x5 x6 (ix3 b s e)
      = val_main_v3 x0 x1 x2 x3 (ix3 b s e) + val_main_v23 x0 x1 x2 x3 x4 x5 x6 (ix3 b s e) := fun _ => rfl
  rw [last_apply]
  simp only [h24, ff_apply, hidden_apply, norm_apply, mix_apply]
  rfl

/-- The reference's result, index by index. -/
theorem result_apply (n : Fin 32768) (d : Fin 1024) : val_main_v38 x0 x1 x2 x3 x4 x5 x6 x7 (ix2 n d)
    = MlpRow.result x0 x1 x2 x3 x4 x5 x6 x7 n d := by
  have h : val_main_v38 x0 x1 x2 x3 x4 x5 x6 x7 (ix2 n d)
      = val_main_v37 x0 x1 x2 x3 x4 x5 x6 x7 (ix3 ⟨n.val / 2048, by omega⟩ ⟨n.val % 2048, by omega⟩ d) := by
    pointwise [val_main_v38]
  rw [h, row_apply]
  rfl

end Cert.ReferenceMlpIdeal.Rows
end
-- ==== Proof.MlpClaims.lean ====
/- The claims about the closing part of the layer. -/
module
public import proofs.«01_k».proof.Defs
public import proofs.«01_k».proof.Proof.Gen.KernelMlp.Frame
public import proofs.«01_k».proof.Proof.MlpArray
public import proofs.«01_k».proof.Proof.MlpRef
public import Idealize.ShloMosaic.Lib.Quiescent
@[expose] public section
set_option maxRecDepth 16384
noncomputable section
namespace Cert.Proof.Mlp
open Idealize.ShloMosaic Idealize.ShloMosaic.TcCoe Idealize.SL.Sem

/-- The kernel's program keeps its arguments and leaves every semaphore at zero, on any floats. -/
theorem frame_kernel : Cert.quiescent_KernelMlp := fun m ρ _ => Cert.KernelMlp.Gen.frame m ρ

/-- The same of the program read over the extended reals. -/
theorem frame_ideal : Cert.quiescent_KernelMlpIdeal := fun m ρ _ => Cert.KernelMlpIdeal.Gen.frame m ρ

/-- The reference keeps its arguments; it declares no semaphore. -/
theorem frame_reference : Cert.quiescent_ReferenceMlpIdeal := fun m ρ _ =>
  (θ_run Cert.ReferenceMlpIdeal.defs _ _).mono (fun r h => ⟨fun c => (h c).2,
      Idealize.ShloMosaic.sem_eq_zero_of_no_sems (by decide) r.2⟩)
    (Cert.ReferenceMlpIdeal.Value.run (F := Ideal) m ρ)

/-- The program read over the extended reals is the kernel's own text. -/
theorem preserves : Cert.preserves_KernelMlp_KernelMlpIdeal := trivial

/-- Kernel and reference give the same array of extended reals: both are `MlpRow.result` of the arguments. -/
theorem algebraic : Cert.algebraic_KernelMlpIdeal_ReferenceMlpIdeal := by
  intro m ρ m' ρ' _ hag
  refine ⟨fun c => Cert.KernelMlpIdeal.Arr.G m c, ?_, ?_⟩
  · exact (θ_run _ _ _).mono (fun r h c => ⟨(h c).1.trans (Cert.KernelMlpIdeal.Arr.final m c), (h c).2⟩)
      (Cert.KernelMlpIdeal.Value.run_blocks (F := Ideal) m ρ)
  · refine (θ_run _ _ _).mono (fun r h c => ⟨(h c).1.trans ?_, (h c).2⟩) (Cert.ReferenceMlpIdeal.Value.run (F := Ideal) m' ρ')
    rw [Cert.ReferenceMlpIdeal.Read.val_main_v38_eq]
    obtain ⟨h0, h1, h2, h3, h4, h5, h6, h7⟩ := hag c
    rw [h0, h1, h2, h3, h4, h5, h6, h7]
    funext i
    obtain ⟨n, d, rfl⟩ : ∃ (n : Fin 32768) (d : Fin 1024), i = ix2 n d := ⟨i 0, i 1, eq_ix2 i⟩
    exact Cert.ReferenceMlpIdeal.Rows.result_apply _ _ _ _ _ _ _ _ n d

end Cert.Proof.Mlp
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelMlp
public import proofs.«01_k».proof.Proof.Gen.KernelMlp.Skeleton
public import proofs.«01_k».proof.Proof.Gen.KernelMlp.Launch
public import proofs.«01_k».proof.Proof.Gen.KernelMlp.Points
public import proofs.«01_k».proof.Proof.Gen.KernelMlp.Frame
public import proofs.«01_k».proof.Proof.Gen.KernelMlpIdeal
public import proofs.«01_k».proof.Proof.Gen.KernelMlpIdeal.Skeleton
public import proofs.«01_k».proof.Proof.Gen.KernelMlpIdeal.Launch
public import proofs.«01_k».proof.Proof.Gen.KernelMlpIdeal.Points
public import proofs.«01_k».proof.Proof.Gen.KernelMlpIdeal.Frame
public import proofs.«01_k».proof.Proof.Gen.ReferenceMlpIdeal
public import proofs.«01_k».proof.Proof.Gen.Pre_finite_scores
public import proofs.«01_k».proof.Proof.Gen.Pre_finite_heads
public import proofs.«01_k».proof.Proof.AttnFrames
public import proofs.«01_k».proof.Proof.AttnClaims
public import proofs.«01_k».proof.Proof.ProjFrames
public import proofs.«01_k».proof.Proof.ProjClaims
public import proofs.«01_k».proof.Proof.MlpClaims
public import proofs.«01_k».proof.Proof.Gen.KernelIdeal.Value
public import proofs.«01_k».proof.Proof.Gen.KernelMlpIdeal.Value
public import proofs.«01_k».proof.Proof.Gen.ReferenceIdeal.Run
public import proofs.«01_k».proof.Proof.Gen.ReferenceIdeal.Read
public import proofs.«01_k».proof.Proof.Gen.ReferenceMlpIdeal.Run
public import proofs.«01_k».proof.Proof.Gen.ReferenceMlpIdeal.Read
public import Idealize.ShloMosaic.Adequacy
public import Idealize.ShloMosaic.Init

@[expose] public section

noncomputable section

namespace Cert.Proof

open Idealize.ShloMosaic Idealize.SL.Sem Cert.Kernel

/-- Every claim of the certificate. -/
theorem claim : Cert.Claim := ⟨Cert.Kernel.Gen.facts, Cert.KernelIdeal.Gen.facts, Cert.ReferenceIdeal.Gen.facts, Cert.KernelMlp.Gen.facts, Cert.KernelMlpIdeal.Gen.facts, Cert.ReferenceMlpIdeal.Gen.facts, Cert.KernelProj.Gen.facts, Cert.KernelProjIdeal.Gen.facts, Cert.ReferenceProjIdeal.Gen.facts, Cert.Pre_finite_scores.Gen.facts, Cert.Pre_finite_heads.Gen.facts,
  Attn.frame_kernel, Attn.frame_ideal, Attn.frame_ideal_pre, Attn.frame_reference, Attn.frame_reference_pre,
  Mlp.frame_kernel, Mlp.frame_ideal, Mlp.frame_reference,
  Proj.frame_kernel, Proj.frame_ideal, Proj.frame_ideal_pre, Proj.frame_reference, Proj.frame_reference_pre,
  Attn.preserves, Attn.algebraic, Mlp.preserves, Mlp.algebraic, Proj.preserves, Proj.algebraic⟩

end Cert.Proof

end
